-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruReferenceIdeal (m : (ℓ : Loc Cert.LruReferenceIdeal.nD Cert.LruReferenceIdeal.τ Cert.LruReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9)
      ∧ r.2.mem ((c.tc : Thread Cert.Lru.nD Cert.Lru.τ).loc Cert.Lru.main_arg10) = m ((c.tc : Thread Cert.Lru.nD Cert.Lru.τ).loc Cert.Lru.main_arg10)
      ∧ r.2.mem ((c.tc : Thread Cert.Lru.nD Cert.Lru.τ).loc Cert.Lru.main_arg11) = m ((c.tc : Thread Cert.Lru.nD Cert.Lru.τ).loc Cert.Lru.main_arg11)
      ∧ r.2.mem ((c.tc : Thread Cert.Lru.nD Cert.Lru.τ).loc Cert.Lru.main_arg12) = m ((c.tc : Thread Cert.Lru.nD Cert.Lru.τ).loc Cert.Lru.main_arg12)
      ∧ r.2.mem ((c.tc : Thread Cert.Lru.nD Cert.Lru.τ).loc Cert.Lru.main_arg13) = m ((c.tc : Thread Cert.Lru.nD Cert.Lru.τ).loc Cert.Lru.main_arg13)
      ∧ r.2.mem ((c.tc : Thread Cert.Lru.nD Cert.Lru.τ).loc Cert.Lru.main_arg14) = m ((c.tc : Thread Cert.Lru.nD Cert.Lru.τ).loc Cert.Lru.main_arg14)
      ∧ r.2.mem ((c.tc : Thread Cert.Lru.nD Cert.Lru.τ).loc Cert.Lru.main_arg15) = m ((c.tc : Thread Cert.Lru.nD Cert.Lru.τ).loc Cert.Lru.main_arg15)
      ∧ r.2.mem ((c.tc : Thread Cert.Lru.nD Cert.Lru.τ).loc Cert.Lru.main_arg16) = m ((c.tc : Thread Cert.Lru.nD Cert.Lru.τ).loc Cert.Lru.main_arg16)
      ∧ r.2.mem ((c.tc : Thread Cert.Lru.nD Cert.Lru.τ).loc Cert.Lru.main_arg17) = m ((c.tc : Thread Cert.Lru.nD Cert.Lru.τ).loc Cert.Lru.main_arg17))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10)
      ∧ r.2.mem ((c.tc : Thread Cert.LruIdeal.nD Cert.LruIdeal.τ).loc Cert.LruIdeal.main_arg11) = m ((c.tc : Thread Cert.LruIdeal.nD Cert.LruIdeal.τ).loc Cert.LruIdeal.main_arg11)
      ∧ r.2.mem ((c.tc : Thread Cert.LruIdeal.nD Cert.LruIdeal.τ).loc Cert.LruIdeal.main_arg12) = m ((c.tc : Thread Cert.LruIdeal.nD Cert.LruIdeal.τ).loc Cert.LruIdeal.main_arg12)
      ∧ r.2.mem ((c.tc : Thread Cert.LruIdeal.nD Cert.LruIdeal.τ).loc Cert.LruIdeal.main_arg13) = m ((c.tc : Thread Cert.LruIdeal.nD Cert.LruIdeal.τ).loc Cert.LruIdeal.main_arg13)
      ∧ r.2.mem ((c.tc : Thread Cert.LruIdeal.nD Cert.LruIdeal.τ).loc Cert.LruIdeal.main_arg14) = m ((c.tc : Thread Cert.LruIdeal.nD Cert.LruIdeal.τ).loc Cert.LruIdeal.main_arg14)
      ∧ r.2.mem ((c.tc : Thread Cert.LruIdeal.nD Cert.LruIdeal.τ).loc Cert.LruIdeal.main_arg15) = m ((c.tc : Thread Cert.LruIdeal.nD Cert.LruIdeal.τ).loc Cert.LruIdeal.main_arg15)
      ∧ r.2.mem ((c.tc : Thread Cert.LruIdeal.nD Cert.LruIdeal.τ).loc Cert.LruIdeal.main_arg16) = m ((c.tc : Thread Cert.LruIdeal.nD Cert.LruIdeal.τ).loc Cert.LruIdeal.main_arg16)
      ∧ r.2.mem ((c.tc : Thread Cert.LruIdeal.nD Cert.LruIdeal.τ).loc Cert.LruIdeal.main_arg17) = m ((c.tc : Thread Cert.LruIdeal.nD Cert.LruIdeal.τ).loc Cert.LruIdeal.main_arg17))
      ∧ r.2.sem = fun _ => 0)

def quiescent_LruReferenceIdeal [hLruReferenceIdeal : Cert.LruReferenceIdeal.Facts] : Prop :=
  ∀ (m : (ℓ : Loc Cert.LruReferenceIdeal.nD Cert.LruReferenceIdeal.τ Cert.LruReferenceIdeal.sig) → Buf (Elt Ideal) ℓ) (g : Dev Cert.LruReferenceIdeal.nD → PrngReg), Pre_LruReferenceIdeal m →
    θ_run (Cert.LruReferenceIdeal.defs (F := Ideal)) (onTc (τ := Cert.LruReferenceIdeal.τ) (Cert.LruReferenceIdeal.main (F := Ideal))) ⟨m, fun _ => 0, g⟩ (fun r => (∀ c : Dev Cert.LruReferenceIdeal.nD,
      r.2.mem ((c.tc : Thread Cert.LruReferenceIdeal.nD Cert.LruReferenceIdeal.τ).loc Cert.LruReferenceIdeal.main_arg0) = m ((c.tc : Thread Cert.LruReferenceIdeal.nD Cert.LruReferenceIdeal.τ).loc Cert.LruReferenceIdeal.main_arg0)
      ∧ r.2.mem ((c.tc : Thread Cert.LruReferenceIdeal.nD Cert.LruReferenceIdeal.τ).loc Cert.LruReferenceIdeal.main_arg1) = m ((c.tc : Thread Cert.LruReferenceIdeal.nD Cert.LruReferenceIdeal.τ).loc Cert.LruReferenceIdeal.main_arg1)
      ∧ r.2.mem ((c.tc : Thread Cert.LruReferenceIdeal.nD Cert.LruReferenceIdeal.τ).loc Cert.LruReferenceIdeal.main_arg2) = m ((c.tc : Thread Cert.LruReferenceIdeal.nD Cert.LruReferenceIdeal.τ).loc Cert.LruReferenceIdeal.main_arg2)
      ∧ r.2.mem ((c.tc : Thread Cert.LruReferenceIdeal.nD Cert.LruReferenceIdeal.τ).loc Cert.LruReferenceIdeal.main_arg3) = m ((c.tc : Thread Cert.LruReferenceIdeal.nD Cert.LruReferenceIdeal.τ).loc Cert.LruReferenceIdeal.main_arg3)
      ∧ r.2.mem ((c.tc : Thread Cert.LruReferenceIdeal.nD Cert.LruReferenceIdeal.τ).loc Cert.LruReferenceIdeal.main_arg4) = m ((c.tc : Thread Cert.LruReferenceIdeal.nD Cert.LruReferenceIdeal.τ).loc Cert.LruReferenceIdeal.main_arg4)
      ∧ r.2.mem ((c.tc : Thread Cert.LruReferenceIdeal.nD Cert.LruReferenceIdeal.τ).loc Cert.LruReferenceIdeal.main_arg5) = m ((c.tc : Thread Cert.LruReferenceIdeal.nD Cert.LruReferenceIdeal.τ).loc Cert.LruReferenceIdeal.main_arg5)
      ∧ r.2.mem ((c.tc : Thread Cert.LruReferenceIdeal.nD Cert.LruReferenceIdeal.τ).loc Cert.LruReferenceIdeal.main_arg6) = m ((c.tc : Thread Cert.LruReferenceIdeal.nD Cert.LruReferenceIdeal.τ).loc Cert.LruReferenceIdeal.main_arg6)
      ∧ r.2.mem ((c.tc : Thread Cert.LruReferenceIdeal.nD Cert.LruReferenceIdeal.τ).loc Cert.LruReferenceIdeal.main_arg7) = m ((c.tc : Thread Cert.LruReferenceIdeal.nD Cert.LruReferenceIdeal.τ).loc Cert.LruReferenceIdeal.main_arg7)
      ∧ r.2.mem ((c.tc : Thread Cert.LruReferenceIdeal.nD Cert.LruReferenceIdeal.τ).loc Cert.LruReferenceIdeal.main_arg8) = m ((c.tc : Thread Cert.LruReferenceIdeal.nD Cert.LruReferenceIdeal.τ).loc Cert.LruReferenceIdeal.main_arg8)
      ∧ r.2.mem ((c.tc : Thread Cert.LruReferenceIdeal.nD Cert.LruReferenceIdeal.τ).loc Cert.LruReferenceIdeal.main_arg9) = m ((c.tc : Thread Cert.LruReferenceIdeal.nD Cert.LruReferenceIdeal.τ).loc Cert.LruReferenceIdeal.main_arg9)
      ∧ r.2.mem ((c.tc : Thread Cert.LruReferenceIdeal.nD Cert.LruReferenceIdeal.τ).loc Cert.LruReferenceIdeal.main_arg10) = m ((c.tc : Thread Cert.LruReferenceIdeal.nD Cert.LruReferenceIdeal.τ).loc Cert.LruReferenceIdeal.main_arg10)
      ∧ r.2.mem ((c.tc : Thread Cert.LruReferenceIdeal.nD Cert.LruReferenceIdeal.τ).loc Cert.LruReferenceIdeal.main_arg11) = m ((c.tc : Thread Cert.LruReferenceIdeal.nD Cert.LruReferenceIdeal.τ).loc Cert.LruReferenceIdeal.main_arg11)
      ∧ r.2.mem ((c.tc : Thread Cert.LruReferenceIdeal.nD Cert.LruReferenceIdeal.τ).loc Cert.LruReferenceIdeal.main_arg12) = m ((c.tc : Thread Cert.LruReferenceIdeal.nD Cert.LruReferenceIdeal.τ).loc Cert.LruReferenceIdeal.main_arg12)
      ∧ r.2.mem ((c.tc : Thread Cert.LruReferenceIdeal.nD Cert.LruReferenceIdeal.τ).loc Cert.LruReferenceIdeal.main_arg13) = m ((c.tc : Thread Cert.LruReferenceIdeal.nD Cert.LruReferenceIdeal.τ).loc Cert.LruReferenceIdeal.main_arg13)
      ∧ r.2.mem ((c.tc : Thread Cert.LruReferenceIdeal.nD Cert.LruReferenceIdeal.τ).loc Cert.LruReferenceIdeal.main_arg14) = m ((c.tc : Thread Cert.LruReferenceIdeal.nD Cert.LruReferenceIdeal.τ).loc Cert.LruReferenceIdeal.main_arg14)
      ∧ r.2.mem ((c.tc : Thread Cert.LruReferenceIdeal.nD Cert.LruReferenceIdeal.τ).loc Cert.LruReferenceIdeal.main_arg15) = m ((c.tc : Thread Cert.LruReferenceIdeal.nD Cert.LruReferenceIdeal.τ).loc Cert.LruReferenceIdeal.main_arg15)
      ∧ r.2.mem ((c.tc : Thread Cert.LruReferenceIdeal.nD Cert.LruReferenceIdeal.τ).loc Cert.LruReferenceIdeal.main_arg16) = m ((c.tc : Thread Cert.LruReferenceIdeal.nD Cert.LruReferenceIdeal.τ).loc Cert.LruReferenceIdeal.main_arg16)
      ∧ r.2.mem ((c.tc : Thread Cert.LruReferenceIdeal.nD Cert.LruReferenceIdeal.τ).loc Cert.LruReferenceIdeal.main_arg17) = m ((c.tc : Thread Cert.LruReferenceIdeal.nD Cert.LruReferenceIdeal.τ).loc Cert.LruReferenceIdeal.main_arg17))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Lru_LruIdeal : Prop :=
  True

def algebraic_LruIdeal_LruReferenceIdeal [hLruIdeal : Cert.LruIdeal.Facts] [hLruReferenceIdeal : Cert.LruReferenceIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruReferenceIdeal.nD Cert.LruReferenceIdeal.τ Cert.LruReferenceIdeal.sig) → Buf (Elt Ideal) ℓ) (g' : Dev Cert.LruReferenceIdeal.nD → PrngReg), Pre_LruIdeal m →
    (∀ c : Dev Cert.LruIdeal.nD,
      m' ((c.tc : Thread Cert.LruReferenceIdeal.nD Cert.LruReferenceIdeal.τ).loc Cert.LruReferenceIdeal.main_arg0) = m ((c.tc : Thread Cert.LruIdeal.nD Cert.LruIdeal.τ).loc Cert.LruIdeal.main_arg0)
      ∧ m' ((c.tc : Thread Cert.LruReferenceIdeal.nD Cert.LruReferenceIdeal.τ).loc Cert.LruReferenceIdeal.main_arg1) = m ((c.tc : Thread Cert.LruIdeal.nD Cert.LruIdeal.τ).loc Cert.LruIdeal.main_arg1)
      ∧ m' ((c.tc : Thread Cert.LruReferenceIdeal.nD Cert.LruReferenceIdeal.τ).loc Cert.LruReferenceIdeal.main_arg2) = m ((c.tc : Thread Cert.LruIdeal.nD Cert.LruIdeal.τ).loc Cert.LruIdeal.main_arg2)
      ∧ m' ((c.tc : Thread Cert.LruReferenceIdeal.nD Cert.LruReferenceIdeal.τ).loc Cert.LruReferenceIdeal.main_arg3) = m ((c.tc : Thread Cert.LruIdeal.nD Cert.LruIdeal.τ).loc Cert.LruIdeal.main_arg3)
      ∧ m' ((c.tc : Thread Cert.LruReferenceIdeal.nD Cert.LruReferenceIdeal.τ).loc Cert.LruReferenceIdeal.main_arg4) = m ((c.tc : Thread Cert.LruIdeal.nD Cert.LruIdeal.τ).loc Cert.LruIdeal.main_arg4)
      ∧ m' ((c.tc : Thread Cert.LruReferenceIdeal.nD Cert.LruReferenceIdeal.τ).loc Cert.LruReferenceIdeal.main_arg5) = m ((c.tc : Thread Cert.LruIdeal.nD Cert.LruIdeal.τ).loc Cert.LruIdeal.main_arg5)
      ∧ m' ((c.tc : Thread Cert.LruReferenceIdeal.nD Cert.LruReferenceIdeal.τ).loc Cert.LruReferenceIdeal.main_arg6) = m ((c.tc : Thread Cert.LruIdeal.nD Cert.LruIdeal.τ).loc Cert.LruIdeal.main_arg6)
      ∧ m' ((c.tc : Thread Cert.LruReferenceIdeal.nD Cert.LruReferenceIdeal.τ).loc Cert.LruReferenceIdeal.main_arg7) = m ((c.tc : Thread Cert.LruIdeal.nD Cert.LruIdeal.τ).loc Cert.LruIdeal.main_arg7)
      ∧ m' ((c.tc : Thread Cert.LruReferenceIdeal.nD Cert.LruReferenceIdeal.τ).loc Cert.LruReferenceIdeal.main_arg8) = m ((c.tc : Thread Cert.LruIdeal.nD Cert.LruIdeal.τ).loc Cert.LruIdeal.main_arg8)
      ∧ m' ((c.tc : Thread Cert.LruReferenceIdeal.nD Cert.LruReferenceIdeal.τ).loc Cert.LruReferenceIdeal.main_arg9) = m ((c.tc : Thread Cert.LruIdeal.nD Cert.LruIdeal.τ).loc Cert.LruIdeal.main_arg9)
      ∧ m' ((c.tc : Thread Cert.LruReferenceIdeal.nD Cert.LruReferenceIdeal.τ).loc Cert.LruReferenceIdeal.main_arg10) = m ((c.tc : Thread Cert.LruIdeal.nD Cert.LruIdeal.τ).loc Cert.LruIdeal.main_arg10)
      ∧ m' ((c.tc : Thread Cert.LruReferenceIdeal.nD Cert.LruReferenceIdeal.τ).loc Cert.LruReferenceIdeal.main_arg11) = m ((c.tc : Thread Cert.LruIdeal.nD Cert.LruIdeal.τ).loc Cert.LruIdeal.main_arg11)
      ∧ m' ((c.tc : Thread Cert.LruReferenceIdeal.nD Cert.LruReferenceIdeal.τ).loc Cert.LruReferenceIdeal.main_arg12) = m ((c.tc : Thread Cert.LruIdeal.nD Cert.LruIdeal.τ).loc Cert.LruIdeal.main_arg12)
      ∧ m' ((c.tc : Thread Cert.LruReferenceIdeal.nD Cert.LruReferenceIdeal.τ).loc Cert.LruReferenceIdeal.main_arg13) = m ((c.tc : Thread Cert.LruIdeal.nD Cert.LruIdeal.τ).loc Cert.LruIdeal.main_arg13)
      ∧ m' ((c.tc : Thread Cert.LruReferenceIdeal.nD Cert.LruReferenceIdeal.τ).loc Cert.LruReferenceIdeal.main_arg14) = m ((c.tc : Thread Cert.LruIdeal.nD Cert.LruIdeal.τ).loc Cert.LruIdeal.main_arg14)
      ∧ m' ((c.tc : Thread Cert.LruReferenceIdeal.nD Cert.LruReferenceIdeal.τ).loc Cert.LruReferenceIdeal.main_arg15) = m ((c.tc : Thread Cert.LruIdeal.nD Cert.LruIdeal.τ).loc Cert.LruIdeal.main_arg15)
      ∧ m' ((c.tc : Thread Cert.LruReferenceIdeal.nD Cert.LruReferenceIdeal.τ).loc Cert.LruReferenceIdeal.main_arg16) = m ((c.tc : Thread Cert.LruIdeal.nD Cert.LruIdeal.τ).loc Cert.LruIdeal.main_arg16)
      ∧ m' ((c.tc : Thread Cert.LruReferenceIdeal.nD Cert.LruReferenceIdeal.τ).loc Cert.LruReferenceIdeal.main_arg17) = m ((c.tc : Thread Cert.LruIdeal.nD Cert.LruIdeal.τ).loc Cert.LruIdeal.main_arg17)) →
    ∃ (v0 : (c : Dev Cert.LruIdeal.nD) → Buf (Elt Ideal) ((c.tc : Thread Cert.LruIdeal.nD Cert.LruIdeal.τ).loc Cert.LruIdeal.main_v14_0)) (v1 : (c : Dev Cert.LruIdeal.nD) → Buf (Elt Ideal) ((c.tc : Thread Cert.LruIdeal.nD Cert.LruIdeal.τ).loc Cert.LruIdeal.main_v14_5)) (v2 : (c : Dev Cert.LruIdeal.nD) → Buf (Elt Ideal) ((c.tc : Thread Cert.LruIdeal.nD Cert.LruIdeal.τ).loc Cert.LruIdeal.main_v14_3)) (v3 : (c : Dev Cert.LruIdeal.nD) → Buf (Elt Ideal) ((c.tc : Thread Cert.LruIdeal.nD Cert.LruIdeal.τ).loc Cert.LruIdeal.main_v14_4)) (v4 : (c : Dev Cert.LruIdeal.nD) → Buf (Elt Ideal) ((c.tc : Thread Cert.LruIdeal.nD Cert.LruIdeal.τ).loc Cert.LruIdeal.main_v14_1)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v14_0) = v0 c
          ∧ r.2.mem ((c.tc : Thread Cert.LruIdeal.nD Cert.LruIdeal.τ).loc Cert.LruIdeal.main_v14_5) = v1 c
          ∧ r.2.mem ((c.tc : Thread Cert.LruIdeal.nD Cert.LruIdeal.τ).loc Cert.LruIdeal.main_v14_3) = v2 c
          ∧ r.2.mem ((c.tc : Thread Cert.LruIdeal.nD Cert.LruIdeal.τ).loc Cert.LruIdeal.main_v14_4) = v3 c
          ∧ r.2.mem ((c.tc : Thread Cert.LruIdeal.nD Cert.LruIdeal.τ).loc Cert.LruIdeal.main_v14_1) = v4 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
          ∧ r.2.mem ((c.tc : Thread Cert.LruIdeal.nD Cert.LruIdeal.τ).loc Cert.LruIdeal.main_arg10) = m ((c.tc : Thread Cert.LruIdeal.nD Cert.LruIdeal.τ).loc Cert.LruIdeal.main_arg10)
          ∧ r.2.mem ((c.tc : Thread Cert.LruIdeal.nD Cert.LruIdeal.τ).loc Cert.LruIdeal.main_arg11) = m ((c.tc : Thread Cert.LruIdeal.nD Cert.LruIdeal.τ).loc Cert.LruIdeal.main_arg11)
          ∧ r.2.mem ((c.tc : Thread Cert.LruIdeal.nD Cert.LruIdeal.τ).loc Cert.LruIdeal.main_arg12) = m ((c.tc : Thread Cert.LruIdeal.nD Cert.LruIdeal.τ).loc Cert.LruIdeal.main_arg12)
          ∧ r.2.mem ((c.tc : Thread Cert.LruIdeal.nD Cert.LruIdeal.τ).loc Cert.LruIdeal.main_arg13) = m ((c.tc : Thread Cert.LruIdeal.nD Cert.LruIdeal.τ).loc Cert.LruIdeal.main_arg13)
          ∧ r.2.mem ((c.tc : Thread Cert.LruIdeal.nD Cert.LruIdeal.τ).loc Cert.LruIdeal.main_arg14) = m ((c.tc : Thread Cert.LruIdeal.nD Cert.LruIdeal.τ).loc Cert.LruIdeal.main_arg14)
          ∧ r.2.mem ((c.tc : Thread Cert.LruIdeal.nD Cert.LruIdeal.τ).loc Cert.LruIdeal.main_arg15) = m ((c.tc : Thread Cert.LruIdeal.nD Cert.LruIdeal.τ).loc Cert.LruIdeal.main_arg15)
          ∧ r.2.mem ((c.tc : Thread Cert.LruIdeal.nD Cert.LruIdeal.τ).loc Cert.LruIdeal.main_arg16) = m ((c.tc : Thread Cert.LruIdeal.nD Cert.LruIdeal.τ).loc Cert.LruIdeal.main_arg16)
          ∧ r.2.mem ((c.tc : Thread Cert.LruIdeal.nD Cert.LruIdeal.τ).loc Cert.LruIdeal.main_arg17) = m ((c.tc : Thread Cert.LruIdeal.nD Cert.LruIdeal.τ).loc Cert.LruIdeal.main_arg17))
      ∧ θ_run (Cert.LruReferenceIdeal.defs (F := Ideal)) (onTc (τ := Cert.LruReferenceIdeal.τ) (Cert.LruReferenceIdeal.main (F := Ideal))) ⟨m', fun _ => 0, g'⟩ (fun r => ∀ c : Dev Cert.LruReferenceIdeal.nD,
          r.2.mem ((c.tc : Thread Cert.LruReferenceIdeal.nD Cert.LruReferenceIdeal.τ).loc Cert.LruReferenceIdeal.main_v6_0) = v0 c
          ∧ r.2.mem ((c.tc : Thread Cert.LruReferenceIdeal.nD Cert.LruReferenceIdeal.τ).loc Cert.LruReferenceIdeal.main_v6_1) = v1 c
          ∧ r.2.mem ((c.tc : Thread Cert.LruReferenceIdeal.nD Cert.LruReferenceIdeal.τ).loc Cert.LruReferenceIdeal.main_v6_2) = v2 c
          ∧ r.2.mem ((c.tc : Thread Cert.LruReferenceIdeal.nD Cert.LruReferenceIdeal.τ).loc Cert.LruReferenceIdeal.main_v6_3) = v3 c
          ∧ r.2.mem ((c.tc : Thread Cert.LruReferenceIdeal.nD Cert.LruReferenceIdeal.τ).loc Cert.LruReferenceIdeal.main_v6_4) = v4 c
          ∧ r.2.mem ((c.tc : Thread Cert.LruReferenceIdeal.nD Cert.LruReferenceIdeal.τ).loc Cert.LruReferenceIdeal.main_arg0) = m' ((c.tc : Thread Cert.LruReferenceIdeal.nD Cert.LruReferenceIdeal.τ).loc Cert.LruReferenceIdeal.main_arg0)
          ∧ r.2.mem ((c.tc : Thread Cert.LruReferenceIdeal.nD Cert.LruReferenceIdeal.τ).loc Cert.LruReferenceIdeal.main_arg1) = m' ((c.tc : Thread Cert.LruReferenceIdeal.nD Cert.LruReferenceIdeal.τ).loc Cert.LruReferenceIdeal.main_arg1)
          ∧ r.2.mem ((c.tc : Thread Cert.LruReferenceIdeal.nD Cert.LruReferenceIdeal.τ).loc Cert.LruReferenceIdeal.main_arg2) = m' ((c.tc : Thread Cert.LruReferenceIdeal.nD Cert.LruReferenceIdeal.τ).loc Cert.LruReferenceIdeal.main_arg2)
          ∧ r.2.mem ((c.tc : Thread Cert.LruReferenceIdeal.nD Cert.LruReferenceIdeal.τ).loc Cert.LruReferenceIdeal.main_arg3) = m' ((c.tc : Thread Cert.LruReferenceIdeal.nD Cert.LruReferenceIdeal.τ).loc Cert.LruReferenceIdeal.main_arg3)
          ∧ r.2.mem ((c.tc : Thread Cert.LruReferenceIdeal.nD Cert.LruReferenceIdeal.τ).loc Cert.LruReferenceIdeal.main_arg4) = m' ((c.tc : Thread Cert.LruReferenceIdeal.nD Cert.LruReferenceIdeal.τ).loc Cert.LruReferenceIdeal.main_arg4)
          ∧ r.2.mem ((c.tc : Thread Cert.LruReferenceIdeal.nD Cert.LruReferenceIdeal.τ).loc Cert.LruReferenceIdeal.main_arg5) = m' ((c.tc : Thread Cert.LruReferenceIdeal.nD Cert.LruReferenceIdeal.τ).loc Cert.LruReferenceIdeal.main_arg5)
          ∧ r.2.mem ((c.tc : Thread Cert.LruReferenceIdeal.nD Cert.LruReferenceIdeal.τ).loc Cert.LruReferenceIdeal.main_arg6) = m' ((c.tc : Thread Cert.LruReferenceIdeal.nD Cert.LruReferenceIdeal.τ).loc Cert.LruReferenceIdeal.main_arg6)
          ∧ r.2.mem ((c.tc : Thread Cert.LruReferenceIdeal.nD Cert.LruReferenceIdeal.τ).loc Cert.LruReferenceIdeal.main_arg7) = m' ((c.tc : Thread Cert.LruReferenceIdeal.nD Cert.LruReferenceIdeal.τ).loc Cert.LruReferenceIdeal.main_arg7)
          ∧ r.2.mem ((c.tc : Thread Cert.LruReferenceIdeal.nD Cert.LruReferenceIdeal.τ).loc Cert.LruReferenceIdeal.main_arg8) = m' ((c.tc : Thread Cert.LruReferenceIdeal.nD Cert.LruReferenceIdeal.τ).loc Cert.LruReferenceIdeal.main_arg8)
          ∧ r.2.mem ((c.tc : Thread Cert.LruReferenceIdeal.nD Cert.LruReferenceIdeal.τ).loc Cert.LruReferenceIdeal.main_arg9) = m' ((c.tc : Thread Cert.LruReferenceIdeal.nD Cert.LruReferenceIdeal.τ).loc Cert.LruReferenceIdeal.main_arg9)
          ∧ r.2.mem ((c.tc : Thread Cert.LruReferenceIdeal.nD Cert.LruReferenceIdeal.τ).loc Cert.LruReferenceIdeal.main_arg10) = m' ((c.tc : Thread Cert.LruReferenceIdeal.nD Cert.LruReferenceIdeal.τ).loc Cert.LruReferenceIdeal.main_arg10)
          ∧ r.2.mem ((c.tc : Thread Cert.LruReferenceIdeal.nD Cert.LruReferenceIdeal.τ).loc Cert.LruReferenceIdeal.main_arg11) = m' ((c.tc : Thread Cert.LruReferenceIdeal.nD Cert.LruReferenceIdeal.τ).loc Cert.LruReferenceIdeal.main_arg11)
          ∧ r.2.mem ((c.tc : Thread Cert.LruReferenceIdeal.nD Cert.LruReferenceIdeal.τ).loc Cert.LruReferenceIdeal.main_arg12) = m' ((c.tc : Thread Cert.LruReferenceIdeal.nD Cert.LruReferenceIdeal.τ).loc Cert.LruReferenceIdeal.main_arg12)
          ∧ r.2.mem ((c.tc : Thread Cert.LruReferenceIdeal.nD Cert.LruReferenceIdeal.τ).loc Cert.LruReferenceIdeal.main_arg13) = m' ((c.tc : Thread Cert.LruReferenceIdeal.nD Cert.LruReferenceIdeal.τ).loc Cert.LruReferenceIdeal.main_arg13)
          ∧ r.2.mem ((c.tc : Thread Cert.LruReferenceIdeal.nD Cert.LruReferenceIdeal.τ).loc Cert.LruReferenceIdeal.main_arg14) = m' ((c.tc : Thread Cert.LruReferenceIdeal.nD Cert.LruReferenceIdeal.τ).loc Cert.LruReferenceIdeal.main_arg14)
          ∧ r.2.mem ((c.tc : Thread Cert.LruReferenceIdeal.nD Cert.LruReferenceIdeal.τ).loc Cert.LruReferenceIdeal.main_arg15) = m' ((c.tc : Thread Cert.LruReferenceIdeal.nD Cert.LruReferenceIdeal.τ).loc Cert.LruReferenceIdeal.main_arg15)
          ∧ r.2.mem ((c.tc : Thread Cert.LruReferenceIdeal.nD Cert.LruReferenceIdeal.τ).loc Cert.LruReferenceIdeal.main_arg16) = m' ((c.tc : Thread Cert.LruReferenceIdeal.nD Cert.LruReferenceIdeal.τ).loc Cert.LruReferenceIdeal.main_arg16)
          ∧ r.2.mem ((c.tc : Thread Cert.LruReferenceIdeal.nD Cert.LruReferenceIdeal.τ).loc Cert.LruReferenceIdeal.main_arg17) = m' ((c.tc : Thread Cert.LruReferenceIdeal.nD Cert.LruReferenceIdeal.τ).loc Cert.LruReferenceIdeal.main_arg17))

def preserves_Quant_QuantIdeal : Prop :=
  True

def algebraic_QuantIdeal_QuantReferenceIdeal [hQuantIdeal : Cert.QuantIdeal.Facts] [hQuantReferenceIdeal : Cert.QuantReferenceIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v1_0)) (v1 : (c : Dev Cert.QuantIdeal.nD) → Buf (Elt Ideal) ((c.tc : Thread Cert.QuantIdeal.nD Cert.QuantIdeal.τ).loc Cert.QuantIdeal.main_v1_2)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v1_0) = v0 c
          ∧ r.2.mem ((c.tc : Thread Cert.QuantIdeal.nD Cert.QuantIdeal.τ).loc Cert.QuantIdeal.main_v1_2) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1))

def Claim : Prop :=
  ∃ (hKernel : Cert.Kernel.Facts) (hKernelIdeal : Cert.KernelIdeal.Facts) (hReferenceIdeal : Cert.ReferenceIdeal.Facts) (hLru : Cert.Lru.Facts) (hLruIdeal : Cert.LruIdeal.Facts) (hLruReferenceIdeal : Cert.LruReferenceIdeal.Facts) (hQuant : Cert.Quant.Facts) (hQuantIdeal : Cert.QuantIdeal.Facts) (hQuantReferenceIdeal : Cert.QuantReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Lru (hLru := hLru)
    ∧ quiescent_LruIdeal (hLruIdeal := hLruIdeal)
    ∧ quiescent_LruReferenceIdeal (hLruReferenceIdeal := hLruReferenceIdeal)
    ∧ quiescent_Quant (hQuant := hQuant)
    ∧ quiescent_QuantIdeal (hQuantIdeal := hQuantIdeal)
    ∧ quiescent_QuantReferenceIdeal (hQuantReferenceIdeal := hQuantReferenceIdeal)
    ∧ preserves_Kernel_KernelIdeal
    ∧ algebraic_KernelIdeal_ReferenceIdeal (hKernelIdeal := hKernelIdeal) (hReferenceIdeal := hReferenceIdeal)
    ∧ preserves_Lru_LruIdeal
    ∧ algebraic_LruIdeal_LruReferenceIdeal (hLruIdeal := hLruIdeal) (hLruReferenceIdeal := hLruReferenceIdeal)
    ∧ preserves_Quant_QuantIdeal
    ∧ algebraic_QuantIdeal_QuantReferenceIdeal (hQuantIdeal := hQuantIdeal) (hQuantReferenceIdeal := hQuantReferenceIdeal)
-- ==== Kernel.lean ====
abbrev S2x1024x6912 : Shape := ⟨3, ![2, 1024, 6912]⟩
abbrev S6912x5120 : Shape := ⟨2, ![6912, 5120]⟩
abbrev S5120 : Shape := ⟨1, ![5120]⟩
abbrev S2x8x6912 : Shape := ⟨3, ![2, 8, 6912]⟩
abbrev S2048x6912 : Shape := ⟨2, ![2048, 6912]⟩
abbrev S2048x54x128 : Shape := ⟨3, ![2048, 54, 128]⟩
abbrev S_ : Shape := ⟨0, ![]⟩
abbrev S2048x128 : Shape := ⟨2, ![2048, 128]⟩
abbrev S1x5120 : Shape := ⟨2, ![1, 5120]⟩
abbrev S2048x5120 : Shape := ⟨2, ![2048, 5120]⟩
abbrev S2x1024 : Shape := ⟨2, ![2, 1024]⟩
abbrev S2x6912 : Shape := ⟨2, ![2, 6912]⟩
abbrev S2x54 : Shape := ⟨2, ![2, 54]⟩
abbrev S128x6912 : Shape := ⟨2, ![128, 6912]⟩
abbrev S128x128 : Shape := ⟨2, ![128, 128]⟩
abbrev S6912x1280 : Shape := ⟨2, ![6912, 1280]⟩
abbrev S1x1280 : Shape := ⟨2, ![1, 1280]⟩
abbrev S512x1280 : Shape := ⟨2, ![512, 1280]⟩
abbrev S2x512x6912 : Shape := ⟨3, ![2, 512, 6912]⟩
abbrev S2x512x128 : Shape := ⟨3, ![2, 512, 128]⟩
abbrev S32x128 : Shape := ⟨2, ![32, 128]⟩
abbrev S32 : Shape := ⟨1, ![32]⟩
abbrev S32x1 : Shape := ⟨2, ![32, 1]⟩
abbrev S32x6912 : Shape := ⟨2, ![32, 6912]⟩
abbrev S1x32x6912 : Shape := ⟨3, ![1, 32, 6912]⟩
abbrev S1x32x128 : Shape := ⟨3, ![1, 32, 128]⟩
abbrev S1x128x128 : Shape := ⟨3, ![1, 128, 128]⟩
abbrev S1x128 : Shape := ⟨2, ![1, 128]⟩
abbrev S1x512x6912 : Shape := ⟨3, ![1, 512, 6912]⟩
abbrev S512x6912 : Shape := ⟨2, ![512, 6912]⟩
abbrev S512x128 : Shape := ⟨2, ![512, 128]⟩
abbrev S1x512x128 : Shape := ⟨3, ![1, 512, 128]⟩
abbrev S1x1x128 : Shape := ⟨3, ![1, 1, 128]⟩
abbrev S2x128 : Shape := ⟨2, ![2, 128]⟩
abbrev S2 : Shape := ⟨1, ![2]⟩
abbrev S2x1 : Shape := ⟨2, ![2, 1]⟩
abbrev S2x256 : Shape := ⟨2, ![2, 256]⟩

abbrev nBuf : Space → Nat
  | .hbm => 17
  | .vmem => 20
  | .smem => 0
  | _ => 0

abbrev bufTy : (tb : Table) → Fin (tcTables nBuf tb) → BufTy
  | .hbm, ⟨0, _⟩ => ⟨S2x1024x6912, .f32⟩
  | .hbm, ⟨1, _⟩ => ⟨S6912x5120, .i8⟩
  | .hbm, ⟨2, _⟩ => ⟨S5120, .f32⟩
  | .hbm, ⟨3, _⟩ => ⟨S5120, .f32⟩
  | .hbm, ⟨4, _⟩ => ⟨S2x8x6912, .f32⟩
  | .hbm, ⟨5, _⟩ => ⟨S2048x6912, .f32⟩
  | .hbm, ⟨6, _⟩ => ⟨S2048x6912, .f32⟩
  | .hbm, ⟨7, _⟩ => ⟨S2048x54x128, .f32⟩
  | .hbm, ⟨8, _⟩ => ⟨S_, .f32⟩
  | .hbm, ⟨9, _⟩ => ⟨S2048x128, .f32⟩
  | .hbm, ⟨10, _⟩ => ⟨S1x5120, .f32⟩
  | .hbm, ⟨11, _⟩ => ⟨S1x5120, .f32⟩
  | .hbm, ⟨12, _⟩ => ⟨S2048x5120, .bf16⟩
  | .hbm, ⟨13, _⟩ => ⟨S2048x6912, .i8⟩
  | .hbm, ⟨14, _⟩ => ⟨S2x1024, .f32⟩
  | .hbm, ⟨15, _⟩ => ⟨S2x6912, .fp8e4m3⟩
  | .hbm, ⟨16, _⟩ => ⟨S2x54, .f32⟩
  | .local _ .vmem, ⟨0, _⟩ => ⟨S128x6912, .f32⟩
  | .local _ .vmem, ⟨1, _⟩ => ⟨S128x6912, .f32⟩
  | .local _ .vmem, ⟨2, _⟩ => ⟨S128x128, .f32⟩
  | .local _ .vmem, ⟨3, _⟩ => ⟨S128x128, .f32⟩
  | .local _ .vmem, ⟨4, _⟩ => ⟨S6912x1280, .i8⟩
  | .local _ .vmem, ⟨5, _⟩ => ⟨S6912x1280, .i8⟩
  | .local _ .vmem, ⟨6, _⟩ => ⟨S1x1280, .f32⟩
  | .local _ .vmem, ⟨7, _⟩ => ⟨S1x1280, .f32⟩
  | .local _ .vmem, ⟨8, _⟩ => ⟨S1x1280, .f32⟩
  | .local _ .vmem, ⟨9, _⟩ => ⟨S1x1280, .f32⟩
  | .local _ .vmem, ⟨10, _⟩ => ⟨S2x8x6912, .f32⟩
  | .local _ .vmem, ⟨11, _⟩ => ⟨S512x1280, .bf16⟩
  | .local _ .vmem, ⟨12, _⟩ => ⟨S512x1280, .bf16⟩
  | .local _ .vmem, ⟨13, _⟩ => ⟨S128x6912, .i8⟩
  | .local _ .vmem, ⟨14, _⟩ => ⟨S128x6912, .i8⟩
  | .local _ .vmem, ⟨15, _⟩ => ⟨S2x1024, .f32⟩
  | .local _ .vmem, ⟨16, _⟩ => ⟨S2x6912, .fp8e4m3⟩
  | .local _ .vmem, ⟨17, _⟩ => ⟨S2x54, .f32⟩
  | .local _ .vmem, ⟨18, _⟩ => ⟨S2x512x6912, .bf16⟩
  | .local _ .vmem, ⟨19, _⟩ => ⟨S2x512x128, .f32⟩
  | _, _ => ⟨S2x1024x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![5, 4], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c128_i32 : BitVec 32 := 128#32
  let v12 : BitVec 32 := Scalar.muli arg1 c128_i32
  v12
def k0_off1 (i : grid0.Coords) (c0_i32_13 : BitVec 32) : Fin 3 → Nat :=
  let arg0 : BitVec 32 := BitVec.ofNat 32 (i 0).val
  let c2_i32 : BitVec 32 := 2#32
  let v11 : BitVec 32 := Scalar.remsi arg0 c2_i32
  let v39 : Index := Scalar.indexCast v11
  let arg1 : BitVec 32 := BitVec.ofNat 32 (i 1).val
  let c128_i32 : BitVec 32 := 128#32
  let v12 : BitVec 32 := Scalar.muli arg1 c128_i32
  let v13 : BitVec 32 := v12
  let v38 : BitVec 32 := Scalar.addi v13 c0_i32_13
  let v40 : Index := Scalar.indexCast v38
  let c0_14 : Index := 0#32
  ![v39.toNat, v40.toNat, 0]
def k0_off2 (i : grid0.Coords) (c0_i32_15 : BitVec 32) : Fin 3 → Nat :=
  let arg0 : BitVec 32 := BitVec.ofNat 32 (i 0).val
  let c2_i32 : BitVec 32 := 2#32
  let v11 : BitVec 32 := Scalar.remsi arg0 c2_i32
  let v47 : Index := Scalar.indexCast v11
  let arg1 : BitVec 32 := BitVec.ofNat 32 (i 1).val
  let c128_i32 : BitVec 32 := 128#32
  let v12 : BitVec 32 := Scalar.muli arg1 c128_i32
  let v13 : BitVec 32 := v12
  let v46 : BitVec 32 := Scalar.addi v13 c0_i32_15
  let v48 : Index := Scalar.indexCast v46
  let c0_16 : Index := 0#32
  ![v47.toNat, v48.toNat, 0]
def k0_off3 (i : grid0.Coords) : Fin 3 → Nat :=
  let arg0 : BitVec 32 := BitVec.ofNat 32 (i 0).val
  let c2_i32 : BitVec 32 := 2#32
  let v11 : BitVec 32 := Scalar.remsi arg0 c2_i32
  let v168 : Index := Scalar.indexCast v11
  let arg1 : BitVec 32 := BitVec.ofNat 32 (i 1).val
  let c128_i32 : BitVec 32 := 128#32
  let v12 : BitVec 32 := Scalar.muli arg1 c128_i32
  let v13 : BitVec 32 := v12
  let v169 : Index := Scalar.indexCast v13
  let c0_60 : Index := 0#32
  ![v168.toNat, v169.toNat, 0]
def k0_cond2 (i : grid0.Coords) : BitVec 1 :=
  let arg0 : BitVec 32 := BitVec.ofNat 32 (i 0).val
  let c4_i32_59 : BitVec 32 := 4#32
  let v166 : BitVec 32 := Scalar.muli arg0 c4_i32_59
  let arg1 : BitVec 32 := BitVec.ofNat 32 (i 1).val
  let v167 : BitVec 32 := Scalar.addi v166 arg1
  let c0_i32_61 : BitVec 32 := 0#32
  let v175 : BitVec 1 := Scalar.cmpi .sgt v167 c0_i32_61
  let v176 : BitVec 32 := Scalar.extui v175
  let c0_i32_62 : BitVec 32 := 0#32
  let v177 : BitVec 1 := Scalar.cmpi .slt v167 c0_i32_62
  let v178 : BitVec 32 := Scalar.extui v177
  let v179 : BitVec 32 := Scalar.subi v176 v178
  let c8_i32 : BitVec 32 := 8#32
  let c0_i32_63 : BitVec 32 := 0#32
  let v180 : BitVec 1 := Scalar.cmpi .sgt c8_i32 c0_i32_63
  let v181 : BitVec 32 := Scalar.extui v180
  let c0_i32_64 : BitVec 32 := 0#32
  let v182 : BitVec 1 := Scalar.cmpi .slt c8_i32 c0_i32_64
  let v183 : BitVec 32 := Scalar.extui v182
  let v184 : BitVec 32 := Scalar.subi v181 v183
  let v185 : BitVec 1 := Scalar.cmpi .ne v179 v184
  let v186 : BitVec 32 := Scalar.remsi v167 c8_i32
  let c0_i32_65 : BitVec 32 := 0#32
  let v187 : BitVec 1 := Scalar.cmpi .ne v186 c0_i32_65
  let v188 : BitVec 1 := Scalar.andi v185 v187
  let v174 : BitVec 32 := Scalar.divsi v167 c8_i32
  let c1_i32 : BitVec 32 := 1#32
  let v189 : BitVec 32 := Scalar.subi v174 c1_i32
  let v190 : BitVec 32 := Scalar.select v188 v189 v174
  let c0_i32_66 : BitVec 32 := 0#32
  let v191 : BitVec 1 := Scalar.cmpi .eq v190 c0_i32_66
  let v192 : BitVec 32 := Scalar.extui v191
  let c0_i32_67 : BitVec 32 := 0#32
  let v193 : BitVec 1 := Scalar.cmpi .ne v192 c0_i32_67
  v193

def k0_mult2 (i : grid0.Coords) : BitVec 32 :=
  let arg0 : BitVec 32 := BitVec.ofNat 32 (i 0).val
  let c4_i32_59 : BitVec 32 := 4#32
  let v166 : BitVec 32 := Scalar.muli arg0 c4_i32_59
  let arg1 : BitVec 32 := BitVec.ofNat 32 (i 1).val
  let v167 : BitVec 32 := Scalar.addi v166 arg1
  let c8_i32_77 : BitVec 32 := 8#32
  let c0_i32_78 : BitVec 32 := 0#32
  let v214 : BitVec 1 := Scalar.cmpi .eq c8_i32_77 c0_i32_78
  let c1_i32_79 : BitVec 32 := 1#32
  let v215 : BitVec 32 := Scalar.select v214 c1_i32_79 c8_i32_77
  let v216 : BitVec 32 := Scalar.remsi v167 v215
  let c0_i32_81 : BitVec 32 := 0#32
  let v218 : BitVec 1 := Scalar.cmpi .slt v216 c0_i32_81
  let c0_i32_82 : BitVec 32 := 0#32
  let v219 : BitVec 1 := Scalar.cmpi .slt v215 c0_i32_82
  let v220 : BitVec 1 := Scalar.xori v218 v219
  let c0_i32_80 : BitVec 32 := 0#32
  let v217 : BitVec 1 := Scalar.cmpi .ne v216 c0_i32_80
  let v221 : BitVec 1 := Scalar.andi v220 v217
  let v222 : BitVec 32 := Scalar.addi v216 v215
  let v223 : BitVec 32 := Scalar.select v221 v222 v216
  let c128_i32_83 : BitVec 32 := 128#32
  let v224 : BitVec 32 := Scalar.muli v223 c128_i32_83
  v224
def k0_off4 (i : grid0.Coords) : Fin 2 → Nat :=
  let c0_84 : Index := 0#32
  let arg0 : BitVec 32 := BitVec.ofNat 32 (i 0).val
  let c4_i32_59 : BitVec 32 := 4#32
  let v166 : BitVec 32 := Scalar.muli arg0 c4_i32_59
  let arg1 : BitVec 32 := BitVec.ofNat 32 (i 1).val
  let v167 : BitVec 32 := Scalar.addi v166 arg1
  let c8_i32_77 : BitVec 32 := 8#32
  let c0_i32_78 : BitVec 32 := 0#32
  let v214 : BitVec 1 := Scalar.cmpi .eq c8_i32_77 c0_i32_78
  let c1_i32_79 : BitVec 32 := 1#32
  let v215 : BitVec 32 := Scalar.select v214 c1_i32_79 c8_i32_77
  let v216 : BitVec 32 := Scalar.remsi v167 v215
  let c0_i32_81 : BitVec 32 := 0#32
  let v218 : BitVec 1 := Scalar.cmpi .slt v216 c0_i32_81
  let c0_i32_82 : BitVec 32 := 0#32
  let v219 : BitVec 1 := Scalar.cmpi .slt v215 c0_i32_82
  let v220 : BitVec 1 := Scalar.xori v218 v219
  let c0_i32_80 : BitVec 32 := 0#32
  let v217 : BitVec 1 := Scalar.cmpi .ne v216 c0_i32_80
  let v221 : BitVec 1 := Scalar.andi v220 v217
  let v222 : BitVec 32 := Scalar.addi v216 v215
  let v223 : BitVec 32 := Scalar.select v221 v222 v216
  let c128_i32_83 : BitVec 32 := 128#32
  let v224 : BitVec 32 := Scalar.muli v223 c128_i32_83
  let v225 : BitVec 32 := v224
  let v226 : Index := Scalar.indexCast v225
  ![0, v226.toNat]
def k0_cond3 (i : grid0.Coords) : BitVec 1 :=
  let arg0 : BitVec 32 := BitVec.ofNat 32 (i 0).val
  let c4_i32_59 : BitVec 32 := 4#32
  let v166 : BitVec 32 := Scalar.muli arg0 c4_i32_59
  let arg1 : BitVec 32 := BitVec.ofNat 32 (i 1).val
  let v167 : BitVec 32 := Scalar.addi v166 arg1
  let c0_i32_69 : BitVec 32 := 0#32
  let v195 : BitVec 1 := Scalar.cmpi .sgt v167 c0_i32_69
  let v196 : BitVec 32 := Scalar.extui v195
  let c0_i32_70 : BitVec 32 := 0#32
  let v197 : BitVec 1 := Scalar.cmpi .slt v167 c0_i32_70
  let v198 : BitVec 32 := Scalar.extui v197
  let v199 : BitVec 32 := Scalar.subi v196 v198
  let c8_i32_68 : BitVec 32 := 8#32
  let c0_i32_71 : BitVec 32 := 0#32
  let v200 : BitVec 1 := Scalar.cmpi .sgt c8_i32_68 c0_i32_71
  let v201 : BitVec 32 := Scalar.extui v200
  let c0_i32_72 : BitVec 32 := 0#32
  let v202 : BitVec 1 := Scalar.cmpi .slt c8_i32_68 c0_i32_72
  let v203 : BitVec 32 := Scalar.extui v202
  let v204 : BitVec 32 := Scalar.subi v201 v203
  let v205 : BitVec 1 := Scalar.cmpi .ne v199 v204
  let v206 : BitVec 32 := Scalar.remsi v167 c8_i32_68
  let c0_i32_73 : BitVec 32 := 0#32
  let v207 : BitVec 1 := Scalar.cmpi .ne v206 c0_i32_73
  let v208 : BitVec 1 := Scalar.andi v205 v207
  let v194 : BitVec 32 := Scalar.divsi v167 c8_i32_68
  let c1_i32_74 : BitVec 32 := 1#32
  let v209 : BitVec 32 := Scalar.subi v194 c1_i32_74
  let v210 : BitVec 32 := Scalar.select v208 v209 v194
  let c1_i32_75 : BitVec 32 := 1#32
  let v211 : BitVec 1 := Scalar.cmpi .eq v210 c1_i32_75
  let v212 : BitVec 32 := Scalar.extui v211
  let c0_i32_76 : BitVec 32 := 0#32
  let v213 : BitVec 1 := Scalar.cmpi .ne v212 c0_i32_76
  v213

def k0_mult3 (i : grid0.Coords) : BitVec 32 :=
  let arg0 : BitVec 32 := BitVec.ofNat 32 (i 0).val
  let c4_i32_59 : BitVec 32 := 4#32
  let v166 : BitVec 32 := Scalar.muli arg0 c4_i32_59
  let arg1 : BitVec 32 := BitVec.ofNat 32 (i 1).val
  let v167 : BitVec 32 := Scalar.addi v166 arg1
  let c8_i32_77 : BitVec 32 := 8#32
  let c0_i32_78 : BitVec 32 := 0#32
  let v214 : BitVec 1 := Scalar.cmpi .eq c8_i32_77 c0_i32_78
  let c1_i32_79 : BitVec 32 := 1#32
  let v215 : BitVec 32 := Scalar.select v214 c1_i32_79 c8_i32_77
  let v216 : BitVec 32 := Scalar.remsi v167 v215
  let c0_i32_81 : BitVec 32 := 0#32
  let v218 : BitVec 1 := Scalar.cmpi .slt v216 c0_i32_81
  let c0_i32_82 : BitVec 32 := 0#32
  let v219 : BitVec 1 := Scalar.cmpi .slt v215 c0_i32_82
  let v220 : BitVec 1 := Scalar.xori v218 v219
  let c0_i32_80 : BitVec 32 := 0#32
  let v217 : BitVec 1 := Scalar.cmpi .ne v216 c0_i32_80
  let v221 : BitVec 1 := Scalar.andi v220 v217
  let v222 : BitVec 32 := Scalar.addi v216 v215
  let v223 : BitVec 32 := Scalar.select v221 v222 v216
  let c128_i32_83 : BitVec 32 := 128#32
  let v224 : BitVec 32 := Scalar.muli v223 c128_i32_83
  v224
def k0_off5 (i : grid0.Coords) : Fin 2 → Nat :=
  let c1 : Index := 1#32
  let arg0 : BitVec 32 := BitVec.ofNat 32 (i 0).val
  let c4_i32_59 : BitVec 32 := 4#32
  let v166 : BitVec 32 := Scalar.muli arg0 c4_i32_59
  let arg1 : BitVec 32 := BitVec.ofNat 32 (i 1).val
  let v167 : BitVec 32 := Scalar.addi v166 arg1
  let c8_i32_77 : BitVec 32 := 8#32
  let c0_i32_78 : BitVec 32 := 0#32
  let v214 : BitVec 1 := Scalar.cmpi .eq c8_i32_77 c0_i32_78
  let c1_i32_79 : BitVec 32 := 1#32
  let v215 : BitVec 32 := Scalar.select v214 c1_i32_79 c8_i32_77
  let v216 : BitVec 32 := Scalar.remsi v167 v215
  let c0_i32_81 : BitVec 32 := 0#32
  let v218 : BitVec 1 := Scalar.cmpi .slt v216 c0_i32_81
  let c0_i32_82 : BitVec 32 := 0#32
  let v219 : BitVec 1 := Scalar.cmpi .slt v215 c0_i32_82
  let v220 : BitVec 1 := Scalar.xori v218 v219
  let c0_i32_80 : BitVec 32 := 0#32
  let v217 : BitVec 1 := Scalar.cmpi .ne v216 c0_i32_80
  let v221 : BitVec 1 := Scalar.andi v220 v217
  let v222 : BitVec 32 := Scalar.addi v216 v215
  let v223 : BitVec 32 := Scalar.select v221 v222 v216
  let c128_i32_83 : BitVec 32 := 128#32
  let v224 : BitVec 32 := Scalar.muli v223 c128_i32_83
  let v225 : BitVec 32 := v224
  let v226 : Index := Scalar.indexCast v225
  ![1, v226.toNat]
def k0_cond4 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off6 (i : grid0.Coords) : Fin 3 → Nat :=
  let arg0 : BitVec 32 := BitVec.ofNat 32 (i 0).val
  let c1_i32 : BitVec 32 := 1#32
  let v11 : BitVec 32 := Scalar.addi arg0 c1_i32
  let c2_i32 : BitVec 32 := 2#32
  let v12 : BitVec 32 := Scalar.remsi v11 c2_i32
  let v13 : Index := Scalar.indexCast v12
  let c0 : Index := 0#32
  let c0_5 : Index := 0#32
  ![v13.toNat, 0, 0]
def k0_off7 (i : grid0.Coords) : Fin 3 → Nat :=
  let arg0 : BitVec 32 := BitVec.ofNat 32 (i 0).val
  let c1_i32 : BitVec 32 := 1#32
  let v11 : BitVec 32 := Scalar.addi arg0 c1_i32
  let c2_i32 : BitVec 32 := 2#32
  let v12 : BitVec 32 := Scalar.remsi v11 c2_i32
  let v20 : Index := Scalar.indexCast v12
  let c0_8 : Index := 0#32
  let c0_9 : Index := 0#32
  ![v20.toNat, 0, 0]
def k0_cond5 (i : grid0.Coords) : BitVec 1 :=
  let arg0 : BitVec 32 := BitVec.ofNat 32 (i 0).val
  let c0_i32_2 : BitVec 32 := 0#32
  let v6 : BitVec 1 := Scalar.cmpi .eq arg0 c0_i32_2
  let arg1 : BitVec 32 := BitVec.ofNat 32 (i 1).val
  let c0_i32_3 : BitVec 32 := 0#32
  let v7 : BitVec 1 := Scalar.cmpi .eq arg1 c0_i32_3
  let v8 : BitVec 1 := Scalar.andi v6 v7
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x6912 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S6912x1280 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x8x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x6912 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x6912 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x54 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S2x1024x6912 : Shape := ⟨3, ![2, 1024, 6912]⟩
abbrev S6912x5120 : Shape := ⟨2, ![6912, 5120]⟩
abbrev S5120 : Shape := ⟨1, ![5120]⟩
abbrev S2x8x6912 : Shape := ⟨3, ![2, 8, 6912]⟩
abbrev S1x5120 : Shape := ⟨2, ![1, 5120]⟩
abbrev S2048x5120 : Shape := ⟨2, ![2048, 5120]⟩
abbrev S2048x6912 : Shape := ⟨2, ![2048, 6912]⟩
abbrev S2x1024 : Shape := ⟨2, ![2, 1024]⟩
abbrev S2x1024x1 : Shape := ⟨3, ![2, 1024, 1]⟩
abbrev S2x1024x5120 : Shape := ⟨3, ![2, 1024, 5120]⟩
abbrev S1x1x5120 : Shape := ⟨3, ![1, 1, 5120]⟩

abbrev nBuf : Space → Nat
  | .hbm => 10
  | .vmem => 7
  | .smem => 0
  | _ => 0

abbrev bufTy : (tb : Table) → Fin (tcTables nBuf tb) → BufTy
  | .hbm, ⟨0, _⟩ => ⟨S2x1024x6912, .f32⟩
  | .hbm, ⟨1, _⟩ => ⟨S6912x5120, .i8⟩
  | .hbm, ⟨2, _⟩ => ⟨S5120, .f32⟩
  | .hbm, ⟨3, _⟩ => ⟨S5120, .f32⟩
  | .hbm, ⟨4, _⟩ => ⟨S2x8x6912, .f32⟩
  | .hbm, ⟨5, _⟩ => ⟨S1x5120, .f32⟩
  | .hbm, ⟨6, _⟩ => ⟨S1x5120, .f32⟩
  | .hbm, ⟨7, _⟩ => ⟨S2048x5120, .bf16⟩
  | .hbm, ⟨8, _⟩ => ⟨S2048x6912, .i8⟩
  | .hbm, ⟨9, _⟩ => ⟨S2x1024, .f32⟩
  | .local _ .vmem, ⟨0, _⟩ => ⟨S2x1024x6912, .f32⟩
  | .local _ .vmem, ⟨1, _⟩ => ⟨S6912x5120, .i8⟩
  | .local _ .vmem, ⟨2, _⟩ => ⟨S1x5120, .f32⟩
  | .local _ .vmem, ⟨3, _⟩ => ⟨S1x5120, .f32⟩
  | .local _ .vmem, ⟨4, _⟩ => ⟨S2048x5120, .bf16⟩
  | .local _ .vmem, ⟨5, _⟩ => ⟨S2048x6912, .i8⟩
  | .local _ .vmem, ⟨6, _⟩ => ⟨S2x1024, .f32⟩
  | _, _ => ⟨S2x1024x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x1024x6912 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6912x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x6912 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Lru.lean ====
abbrev S2048x5120 : Shape := ⟨2, ![2048, 5120]⟩
abbrev S2x1024 : Shape := ⟨2, ![2, 1024]⟩
abbrev S5120x6912 : Shape := ⟨2, ![5120, 6912]⟩
abbrev S6912 : Shape := ⟨1, ![6912]⟩
abbrev S4x6912 : Shape := ⟨2, ![4, 6912]⟩
abbrev S18x384x384 : Shape := ⟨3, ![18, 384, 384]⟩
abbrev S18x384 : Shape := ⟨2, ![18, 384]⟩
abbrev S2048x1 : Shape := ⟨2, ![2048, 1]⟩
abbrev S2048x128 : Shape := ⟨2, ![2048, 128]⟩
abbrev S1x6912 : Shape := ⟨2, ![1, 6912]⟩
abbrev S2048x6912 : Shape := ⟨2, ![2048, 6912]⟩
abbrev S2048x18 : Shape := ⟨2, ![2048, 18]⟩
abbrev S2x3x6912 : Shape := ⟨3, ![2, 3, 6912]⟩
abbrev S2x8x6912 : Shape := ⟨3, ![2, 8, 6912]⟩
abbrev S5120x384 : Shape := ⟨2, ![5120, 384]⟩
abbrev S1x384x384 : Shape := ⟨3, ![1, 384, 384]⟩
abbrev S512x384 : Shape := ⟨2, ![512, 384]⟩
abbrev S1x3x384 : Shape := ⟨3, ![1, 3, 384]⟩
abbrev S1x8x384 : Shape := ⟨3, ![1, 8, 384]⟩
abbrev S512x768 : Shape := ⟨2, ![512, 768]⟩
abbrev S3x520x128 : Shape := ⟨3, ![3, 520, 128]⟩
abbrev S3x544x128 : Shape := ⟨3, ![3, 544, 128]⟩
abbrev S3x8x128 : Shape := ⟨3, ![3, 8, 128]⟩
abbrev S1x384 : Shape := ⟨2, ![1, 384]⟩
abbrev S1x8x128 : Shape := ⟨3, ![1, 8, 128]⟩
abbrev S8x128 : Shape := ⟨2, ![8, 128]⟩
abbrev S32x128 : Shape := ⟨2, ![32, 128]⟩
abbrev S1x128 : Shape := ⟨2, ![1, 128]⟩
abbrev S1x32x128 : Shape := ⟨3, ![1, 32, 128]⟩
abbrev S512x5120 : Shape := ⟨2, ![512, 5120]⟩
abbrev S5120x768 : Shape := ⟨2, ![5120, 768]⟩
abbrev S32x18 : Shape := ⟨2, ![32, 18]⟩
abbrev S32x384 : Shape := ⟨2, ![32, 384]⟩
abbrev S32 : Shape := ⟨1, ![32]⟩
abbrev S32x1 : Shape := ⟨2, ![32, 1]⟩
abbrev S384x384 : Shape := ⟨2, ![384, 384]⟩
abbrev S384x768 : Shape := ⟨2, ![384, 768]⟩
abbrev S1x544x128 : Shape := ⟨3, ![1, 544, 128]⟩
abbrev S544x128 : Shape := ⟨2, ![544, 128]⟩
abbrev S1x1x128 : Shape := ⟨3, ![1, 1, 128]⟩
abbrev S1x3x128 : Shape := ⟨3, ![1, 3, 128]⟩
abbrev S3x128 : Shape := ⟨2, ![3, 128]⟩

abbrev nBuf : Space → Nat
  | .hbm => 40
  | .vmem => 44
  | .smem => 0
  | _ => 0

abbrev bufTy : (tb : Table) → Fin (tcTables nBuf tb) → BufTy
  | .hbm, ⟨0, _⟩ => ⟨S2048x5120, .bf16⟩
  | .hbm, ⟨1, _⟩ => ⟨S2x1024, .f32⟩
  | .hbm, ⟨2, _⟩ => ⟨S2x1024, .i32⟩
  | .hbm, ⟨3, _⟩ => ⟨S5120x6912, .i8⟩
  | .hbm, ⟨4, _⟩ => ⟨S5120x6912, .i8⟩
  | .hbm, ⟨5, _⟩ => ⟨S6912, .f32⟩
  | .hbm, ⟨6, _⟩ => ⟨S6912, .f32⟩
  | .hbm, ⟨7, _⟩ => ⟨S6912, .f32⟩
  | .hbm, ⟨8, _⟩ => ⟨S6912, .f32⟩
  | .hbm, ⟨9, _⟩ => ⟨S4x6912, .f32⟩
  | .hbm, ⟨10, _⟩ => ⟨S6912, .f32⟩
  | .hbm, ⟨11, _⟩ => ⟨S18x384x384, .i8⟩
  | .hbm, ⟨12, _⟩ => ⟨S18x384x384, .i8⟩
  | .hbm, ⟨13, _⟩ => ⟨S18x384, .f32⟩
  | .hbm, ⟨14, _⟩ => ⟨S18x384, .f32⟩
  | .hbm, ⟨15, _⟩ => ⟨S18x384, .f32⟩
  | .hbm, ⟨16, _⟩ => ⟨S18x384, .f32⟩
  | .hbm, ⟨17, _⟩ => ⟨S6912, .f32⟩
  | .hbm, ⟨18, _⟩ => ⟨S2048x1, .f32⟩
  | .hbm, ⟨19, _⟩ => ⟨S2048x128, .f32⟩
  | .hbm, ⟨20, _⟩ => ⟨S2048x1, .i32⟩
  | .hbm, ⟨21, _⟩ => ⟨S2048x128, .i32⟩
  | .hbm, ⟨22, _⟩ => ⟨S1x6912, .f32⟩
  | .hbm, ⟨23, _⟩ => ⟨S1x6912, .f32⟩
  | .hbm, ⟨24, _⟩ => ⟨S1x6912, .f32⟩
  | .hbm, ⟨25, _⟩ => ⟨S1x6912, .f32⟩
  | .hbm, ⟨26, _⟩ => ⟨S1x6912, .f32⟩
  | .hbm, ⟨27, _⟩ => ⟨S1x6912, .f32⟩
  | .hbm, ⟨28, _⟩ => ⟨S1x6912, .f32⟩
  | .hbm, ⟨29, _⟩ => ⟨S1x6912, .f32⟩
  | .hbm, ⟨30, _⟩ => ⟨S1x6912, .f32⟩
  | .hbm, ⟨31, _⟩ => ⟨S1x6912, .f32⟩
  | .hbm, ⟨32, _⟩ => ⟨S2048x6912, .f32⟩
  | .hbm, ⟨33, _⟩ => ⟨S2048x6912, .f32⟩
  | .hbm, ⟨34, _⟩ => ⟨S2048x6912, .f32⟩
  | .hbm, ⟨35, _⟩ => ⟨S2048x6912, .i8⟩
  | .hbm, ⟨36, _⟩ => ⟨S2048x18, .f32⟩
  | .hbm, ⟨37, _⟩ => ⟨S2x3x6912, .f32⟩
  | .hbm, ⟨38, _⟩ => ⟨S2048x128, .f32⟩
  | .hbm, ⟨39, _⟩ => ⟨S2x8x6912, .f32⟩
  | .local _ .vmem, ⟨0, _⟩ => ⟨S2048x5120, .bf16⟩
  | .local _ .vmem, ⟨1, _⟩ => ⟨S5120x384, .i8⟩
  | .local _ .vmem, ⟨2, _⟩ => ⟨S5120x384, .i8⟩
  | .local _ .vmem, ⟨3, _⟩ => ⟨S5120x384, .i8⟩
  | .local _ .vmem, ⟨4, _⟩ => ⟨S5120x384, .i8⟩
  | .local _ .vmem, ⟨5, _⟩ => ⟨S1x384x384, .i8⟩
  | .local _ .vmem, ⟨6, _⟩ => ⟨S1x384x384, .i8⟩
  | .local _ .vmem, ⟨7, _⟩ => ⟨S1x384x384, .i8⟩
  | .local _ .vmem, ⟨8, _⟩ => ⟨S1x384x384, .i8⟩
  | .local _ .vmem, ⟨9, _⟩ => ⟨S2048x128, .f32⟩
  | .local _ .vmem, ⟨10, _⟩ => ⟨S2048x128, .i32⟩
  | .local _ .vmem, ⟨11, _⟩ => ⟨S1x6912, .f32⟩
  | .local _ .vmem, ⟨12, _⟩ => ⟨S1x6912, .f32⟩
  | .local _ .vmem, ⟨13, _⟩ => ⟨S1x6912, .f32⟩
  | .local _ .vmem, ⟨14, _⟩ => ⟨S1x6912, .f32⟩
  | .local _ .vmem, ⟨15, _⟩ => ⟨S4x6912, .f32⟩
  | .local _ .vmem, ⟨16, _⟩ => ⟨S1x6912, .f32⟩
  | .local _ .vmem, ⟨17, _⟩ => ⟨S1x6912, .f32⟩
  | .local _ .vmem, ⟨18, _⟩ => ⟨S1x6912, .f32⟩
  | .local _ .vmem, ⟨19, _⟩ => ⟨S1x6912, .f32⟩
  | .local _ .vmem, ⟨20, _⟩ => ⟨S1x6912, .f32⟩
  | .local _ .vmem, ⟨21, _⟩ => ⟨S1x6912, .f32⟩
  | .local _ .vmem, ⟨22, _⟩ => ⟨S512x384, .f32⟩
  | .local _ .vmem, ⟨23, _⟩ => ⟨S512x384, .f32⟩
  | .local _ .vmem, ⟨24, _⟩ => ⟨S512x384, .f32⟩
  | .local _ .vmem, ⟨25, _⟩ => ⟨S512x384, .f32⟩
  | .local _ .vmem, ⟨26, _⟩ => ⟨S512x384, .f32⟩
  | .local _ .vmem, ⟨27, _⟩ => ⟨S512x384, .f32⟩
  | .local _ .vmem, ⟨28, _⟩ => ⟨S512x384, .i8⟩
  | .local _ .vmem, ⟨29, _⟩ => ⟨S512x384, .i8⟩
  | .local _ .vmem, ⟨30, _⟩ => ⟨S2048x18, .f32⟩
  | .local _ .vmem, ⟨31, _⟩ => ⟨S1x3x384, .f32⟩
  | .local _ .vmem, ⟨32, _⟩ => ⟨S1x3x384, .f32⟩
  | .local _ .vmem, ⟨33, _⟩ => ⟨S2048x128, .f32⟩
  | .local _ .vmem, ⟨34, _⟩ => ⟨S1x8x384, .f32⟩
  | .local _ .vmem, ⟨35, _⟩ => ⟨S1x8x384, .f32⟩
  | .local _ .vmem, ⟨36, _⟩ => ⟨S512x768, .f32⟩
  | .local _ .vmem, ⟨37, _⟩ => ⟨S3x520x128, .f32⟩
  | .local _ .vmem, ⟨38, _⟩ => ⟨S512x384, .f32⟩
  | .local _ .vmem, ⟨39, _⟩ => ⟨S512x384, .bf16⟩
  | .local _ .vmem, ⟨40, _⟩ => ⟨S512x768, .f32⟩
  | .local _ .vmem, ⟨41, _⟩ => ⟨S3x544x128, .f32⟩
  | .local _ .vmem, ⟨42, _⟩ => ⟨S3x544x128, .f32⟩
  | .local _ .vmem, ⟨43, _⟩ => ⟨S3x8x128, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev main_v14_4 : Ref sig .tc := ⟨.hbm, 36, rfl⟩
abbrev main_v14_5 : Ref sig .tc := ⟨.hbm, 37, rfl⟩
abbrev main_v14_6 : Ref sig .tc := ⟨.hbm, 38, rfl⟩
abbrev main_v14_7 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg25_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem23_0 : DmaSem sig := 31
abbrev cc0_sem23_1 : DmaSem sig := 32
abbrev cc0_sem24_0 : DmaSem sig := 33
abbrev cc0_sem25_0 : DmaSem sig := 34
abbrev cc0_sem25_1 : DmaSem sig := 35

abbrev nD : Nat := 1
abbrev τ : Topo := Topo.v7x

variable {F : FTy → Type} [FloatOps F]

abbrev grid0 : Pipeline.Grid := ⟨1, ![73], ![false]⟩

def k0_mult1 (i : grid0.Coords) : BitVec 32 :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c4_i32_1 : BitVec 32 := 4#32
  let v4 : BitVec 32 := Scalar.divsi v2 c4_i32_1
  let c384_i32 : BitVec 32 := 384#32
  let v5 : BitVec 32 := Scalar.muli v4 c384_i32
  v5
def k0_mult2 (i : grid0.Coords) : BitVec 32 :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c4_i32_0 : BitVec 32 := 4#32
  let v3 : BitVec 32 := Scalar.remsi v2 c4_i32_0
  let c512_i32 : BitVec 32 := 512#32
  let v7 : BitVec 32 := Scalar.muli v3 c512_i32
  v7
def k0_off1 (i : grid0.Coords) : Fin 2 → Nat :=
  let c0 : Index := 0#32
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c4_i32_1 : BitVec 32 := 4#32
  let v4 : BitVec 32 := Scalar.divsi v2 c4_i32_1
  let c384_i32 : BitVec 32 := 384#32
  let v5 : BitVec 32 := Scalar.muli v4 c384_i32
  let v6 : BitVec 32 := v5
  let v11 : Index := Scalar.indexCast v6
  ![0, v11.toNat]
def k0_off2 (i : grid0.Coords) (c0_i32_23 : BitVec 32) : Fin 2 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c4_i32_0 : BitVec 32 := 4#32
  let v3 : BitVec 32 := Scalar.remsi v2 c4_i32_0
  let c512_i32 : BitVec 32 := 512#32
  let v7 : BitVec 32 := Scalar.muli v3 c512_i32
  let v8 : BitVec 32 := v7
  let v44 : BitVec 32 := Scalar.addi v8 c0_i32_23
  let v45 : Index := Scalar.indexCast v44
  let c0_24 : Index := 0#32
  ![v45.toNat, 0]
def k0_mult3 (i : grid0.Coords) : BitVec 32 :=
  let arg0 : BitVec 32 := BitVec.ofNat 32 (i 0).val
  let c4_i32 : BitVec 32 := 4#32
  let v0 : BitVec 32 := Scalar.remsi arg0 c4_i32
  let c512_i32_633 : BitVec 32 := 512#32
  let v1788 : BitVec 32 := Scalar.muli v0 c512_i32_633
  v1788
def k0_off3 (i : grid0.Coords) : Fin 2 → Nat :=
  let arg0 : BitVec 32 := BitVec.ofNat 32 (i 0).val
  let c4_i32 : BitVec 32 := 4#32
  let v0 : BitVec 32 := Scalar.remsi arg0 c4_i32
  let c512_i32_633 : BitVec 32 := 512#32
  let v1788 : BitVec 32 := Scalar.muli v0 c512_i32_633
  let v1789 : BitVec 32 := v1788
  let v1790 : Index := Scalar.indexCast v1789
  let c0_634 : Index := 0#32
  ![v1790.toNat, 0]
def k0_off4 (i : grid0.Coords) : Fin 2 → Nat :=
  let c0_643 : Index := 0#32
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c4_i32_1 : BitVec 32 := 4#32
  let v4 : BitVec 32 := Scalar.divsi v2 c4_i32_1
  let c384_i32 : BitVec 32 := 384#32
  let v5 : BitVec 32 := Scalar.muli v4 c384_i32
  let v6 : BitVec 32 := v5
  let v1803 : Index := Scalar.indexCast v6
  ![0, v1803.toNat]
def k0_off5 (i : grid0.Coords) : Fin 2 → Nat :=
  let c1_644 : Index := 1#32
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c4_i32_1 : BitVec 32 := 4#32
  let v4 : BitVec 32 := Scalar.divsi v2 c4_i32_1
  let c384_i32 : BitVec 32 := 384#32
  let v5 : BitVec 32 := Scalar.muli v4 c384_i32
  let v6 : BitVec 32 := v5
  let v1805 : Index := Scalar.indexCast v6
  ![1, v1805.toNat]
def k0_off6 (i : grid0.Coords) : Fin 2 → Nat :=
  let c2_645 : Index := 2#32
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c4_i32_1 : BitVec 32 := 4#32
  let v4 : BitVec 32 := Scalar.divsi v2 c4_i32_1
  let c384_i32 : BitVec 32 := 384#32
  let v5 : BitVec 32 := Scalar.muli v4 c384_i32
  let v6 : BitVec 32 := v5
  let v1807 : Index := Scalar.indexCast v6
  ![2, v1807.toNat]
def k0_off7 (i : grid0.Coords) : Fin 2 → Nat :=
  let c3 : Index := 3#32
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c4_i32_1 : BitVec 32 := 4#32
  let v4 : BitVec 32 := Scalar.divsi v2 c4_i32_1
  let c384_i32 : BitVec 32 := 384#32
  let v5 : BitVec 32 := Scalar.muli v4 c384_i32
  let v6 : BitVec 32 := v5
  let v1809 : Index := Scalar.indexCast v6
  ![3, v1809.toNat]
def k0_off8 (i : grid0.Coords) (c0_i32_718 : BitVec 32) : Fin 2 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c4_i32_0 : BitVec 32 := 4#32
  let v3 : BitVec 32 := Scalar.remsi v2 c4_i32_0
  let c512_i32 : BitVec 32 := 512#32
  let v7 : BitVec 32 := Scalar.muli v3 c512_i32
  let v8 : BitVec 32 := v7
  let v1972 : BitVec 32 := Scalar.addi v8 c0_i32_718
  let v1973 : Index := Scalar.indexCast v1972
  let c0_719 : Index := 0#32
  ![v1973.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c71_i32 : BitVec 32 := 71#32
  let v0 : BitVec 32 := Scalar.minsi arg0 c71_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_2 (i : grid0.Coords) : Fin 2 → Nat :=
  let arg0 : BitVec 32 := BitVec.ofNat 32 (i 0).val
  let c71_i32 : BitVec 32 := 71#32
  let v0 : BitVec 32 := Scalar.minsi arg0 c71_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, c0_i32_12.toNat, c0_i32_13.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, c0_i32_12.toNat, c0_i32_13.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v28.toNat, v18.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v28.toNat, v18.toNat]

def cc0_transform_20 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v28.toNat, v18.toNat]

def cc0_transform_21 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v28.toNat, v18.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2_i32 : BitVec 32 := 2#32
  let v29 : BitVec 32 := Scalar.divsi v28 c2_i32
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2_i32 c0_i32_14
  let v36 : BitVec 32 := Scalar.extui v35
  let c0_i32_15 : BitVec 32 := 0#32
  let v37 : BitVec 1 := Scalar.cmpi .slt c2_i32 c0_i32_15
  let v38 : BitVec 32 := Scalar.extui v37
  let v39 : BitVec 32 := Scalar.subi v36 v38
  let v40 : BitVec 1 := Scalar.cmpi .ne v34 v39
  let v41 : BitVec 32 := Scalar.remsi v28 c2_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c1_i32_18 : BitVec 32 := 1#32
  let v46 : BitVec 32 := Scalar.subi arg0 c1_i32_18
  let c0_i32_19 : BitVec 32 := 0#32
  let v47 : BitVec 32 := Scalar.maxsi v46 c0_i32_19
  let c4_i32_20 : BitVec 32 := 4#32
  let v48 : BitVec 32 := Scalar.divsi v47 c4_i32_20
  let c0_i32_21 : BitVec 32 := 0#32
  let v49 : BitVec 1 := Scalar.cmpi .sgt v47 c0_i32_21
  let v50 : BitVec 32 := Scalar.extui v49
  let c0_i32_22 : BitVec 32 := 0#32
  let v51 : BitVec 1 := Scalar.cmpi .slt v47 c0_i32_22
  let v52 : BitVec 32 := Scalar.extui v51
  let v53 : BitVec 32 := Scalar.subi v50 v52
  let c0_i32_23 : BitVec 32 := 0#32
  let v54 : BitVec 1 := Scalar.cmpi .sgt c4_i32_20 c0_i32_23
  let v55 : BitVec 32 := Scalar.extui v54
  let c0_i32_24 : BitVec 32 := 0#32
  let v56 : BitVec 1 := Scalar.cmpi .slt c4_i32_20 c0_i32_24
  let v57 : BitVec 32 := Scalar.extui v56
  let v58 : BitVec 32 := Scalar.subi v55 v57
  let v59 : BitVec 1 := Scalar.cmpi .ne v53 v58
  let v60 : BitVec 32 := Scalar.remsi v47 c4_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c4_i32_27 : BitVec 32 := 4#32
  let c0_i32_28 : BitVec 32 := 0#32
  let v65 : BitVec 1 := Scalar.cmpi .eq c4_i32_27 c0_i32_28
  let c1_i32_29 : BitVec 32 := 1#32
  let v66 : BitVec 32 := Scalar.select v65 c1_i32_29 c4_i32_27
  let v67 : BitVec 32 := Scalar.remsi v47 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c0_i32_33 : BitVec 32 := 0#32
  let c0_i32_34 : BitVec 32 := 0#32
  ![v45.toNat, c0_i32_33.toNat, v64.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2_i32 : BitVec 32 := 2#32
  let v29 : BitVec 32 := Scalar.divsi v28 c2_i32
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2_i32 c0_i32_14
  let v36 : BitVec 32 := Scalar.extui v35
  let c0_i32_15 : BitVec 32 := 0#32
  let v37 : BitVec 1 := Scalar.cmpi .slt c2_i32 c0_i32_15
  let v38 : BitVec 32 := Scalar.extui v37
  let v39 : BitVec 32 := Scalar.subi v36 v38
  let v40 : BitVec 1 := Scalar.cmpi .ne v34 v39
  let v41 : BitVec 32 := Scalar.remsi v28 c2_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c1_i32_18 : BitVec 32 := 1#32
  let v46 : BitVec 32 := Scalar.subi arg0 c1_i32_18
  let c0_i32_19 : BitVec 32 := 0#32
  let v47 : BitVec 32 := Scalar.maxsi v46 c0_i32_19
  let c4_i32_20 : BitVec 32 := 4#32
  let v48 : BitVec 32 := Scalar.divsi v47 c4_i32_20
  let c0_i32_21 : BitVec 32 := 0#32
  let v49 : BitVec 1 := Scalar.cmpi .sgt v47 c0_i32_21
  let v50 : BitVec 32 := Scalar.extui v49
  let c0_i32_22 : BitVec 32 := 0#32
  let v51 : BitVec 1 := Scalar.cmpi .slt v47 c0_i32_22
  let v52 : BitVec 32 := Scalar.extui v51
  let v53 : BitVec 32 := Scalar.subi v50 v52
  let c0_i32_23 : BitVec 32 := 0#32
  let v54 : BitVec 1 := Scalar.cmpi .sgt c4_i32_20 c0_i32_23
  let v55 : BitVec 32 := Scalar.extui v54
  let c0_i32_24 : BitVec 32 := 0#32
  let v56 : BitVec 1 := Scalar.cmpi .slt c4_i32_20 c0_i32_24
  let v57 : BitVec 32 := Scalar.extui v56
  let v58 : BitVec 32 := Scalar.subi v55 v57
  let v59 : BitVec 1 := Scalar.cmpi .ne v53 v58
  let v60 : BitVec 32 := Scalar.remsi v47 c4_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c4_i32_27 : BitVec 32 := 4#32
  let c0_i32_28 : BitVec 32 := 0#32
  let v65 : BitVec 1 := Scalar.cmpi .eq c4_i32_27 c0_i32_28
  let c1_i32_29 : BitVec 32 := 1#32
  let v66 : BitVec 32 := Scalar.select v65 c1_i32_29 c4_i32_27
  let v67 : BitVec 32 := Scalar.remsi v47 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c0_i32_33 : BitVec 32 := 0#32
  let c0_i32_34 : BitVec 32 := 0#32
  ![v45.toNat, c0_i32_33.toNat, v64.toNat]

abbrev stage0_0 : Fin 1 → Memref sig .tc .vmem S2048x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384x384 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x384x384 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6912 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6912 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x6912 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x6912 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x6912 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x6912 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x6912 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x6912 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x6912 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x6912 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x6912 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x384 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x384 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x384 .i8 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S2048x18 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x3x384 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S2048x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1x8x384 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== LruReferenceIdeal.lean ====
abbrev S2048x5120 : Shape := ⟨2, ![2048, 5120]⟩
abbrev S2x1024 : Shape := ⟨2, ![2, 1024]⟩
abbrev S5120x6912 : Shape := ⟨2, ![5120, 6912]⟩
abbrev S6912 : Shape := ⟨1, ![6912]⟩
abbrev S4x6912 : Shape := ⟨2, ![4, 6912]⟩
abbrev S18x384x384 : Shape := ⟨3, ![18, 384, 384]⟩
abbrev S18x384 : Shape := ⟨2, ![18, 384]⟩
abbrev S1x6912 : Shape := ⟨2, ![1, 6912]⟩
abbrev S2048x6912 : Shape := ⟨2, ![2048, 6912]⟩
abbrev S2x3x6912 : Shape := ⟨3, ![2, 3, 6912]⟩
abbrev S2048x18 : Shape := ⟨2, ![2048, 18]⟩
abbrev S2x1024x6912 : Shape := ⟨3, ![2, 1024, 6912]⟩
abbrev S2x1024x1 : Shape := ⟨3, ![2, 1024, 1]⟩
abbrev S1x1x6912 : Shape := ⟨3, ![1, 1, 6912]⟩
abbrev S2x1x6912 : Shape := ⟨3, ![2, 1, 6912]⟩
abbrev S2x1023x6912 : Shape := ⟨3, ![2, 1023, 6912]⟩
abbrev S2x2x6912 : Shape := ⟨3, ![2, 2, 6912]⟩
abbrev S2x1022x6912 : Shape := ⟨3, ![2, 1022, 6912]⟩
abbrev S2x1021x6912 : Shape := ⟨3, ![2, 1021, 6912]⟩
abbrev S2x1024x18x384 : Shape := ⟨4, ![2, 1024, 18, 384]⟩
abbrev S2x1024x18 : Shape := ⟨3, ![2, 1024, 18]⟩
abbrev S2x1024x18x1 : Shape := ⟨4, ![2, 1024, 18, 1]⟩
abbrev S2048x18x384 : Shape := ⟨3, ![2048, 18, 384]⟩
abbrev S18x2048x384 : Shape := ⟨3, ![18, 2048, 384]⟩
abbrev S2048x18x1 : Shape := ⟨3, ![2048, 18, 1]⟩

abbrev nBuf : Space → Nat
  | .hbm => 29
  | .vmem => 17
  | .smem => 0
  | _ => 0

abbrev bufTy : (tb : Table) → Fin (tcTables nBuf tb) → BufTy
  | .hbm, ⟨0, _⟩ => ⟨S2048x5120, .bf16⟩
  | .hbm, ⟨1, _⟩ => ⟨S2x1024, .f32⟩
  | .hbm, ⟨2, _⟩ => ⟨S2x1024, .i32⟩
  | .hbm, ⟨3, _⟩ => ⟨S5120x6912, .i8⟩
  | .hbm, ⟨4, _⟩ => ⟨S5120x6912, .i8⟩
  | .hbm, ⟨5, _⟩ => ⟨S6912, .f32⟩
  | .hbm, ⟨6, _⟩ => ⟨S6912, .f32⟩
  | .hbm, ⟨7, _⟩ => ⟨S6912, .f32⟩
  | .hbm, ⟨8, _⟩ => ⟨S6912, .f32⟩
  | .hbm, ⟨9, _⟩ => ⟨S4x6912, .f32⟩
  | .hbm, ⟨10, _⟩ => ⟨S6912, .f32⟩
  | .hbm, ⟨11, _⟩ => ⟨S18x384x384, .i8⟩
  | .hbm, ⟨12, _⟩ => ⟨S18x384x384, .i8⟩
  | .hbm, ⟨13, _⟩ => ⟨S18x384, .f32⟩
  | .hbm, ⟨14, _⟩ => ⟨S18x384, .f32⟩
  | .hbm, ⟨15, _⟩ => ⟨S18x384, .f32⟩
  | .hbm, ⟨16, _⟩ => ⟨S18x384, .f32⟩
  | .hbm, ⟨17, _⟩ => ⟨S6912, .f32⟩
  | .hbm, ⟨18, _⟩ => ⟨S1x6912, .f32⟩
  | .hbm, ⟨19, _⟩ => ⟨S1x6912, .f32⟩
  | .hbm, ⟨20, _⟩ => ⟨S1x6912, .f32⟩
  | .hbm, ⟨21, _⟩ => ⟨S1x6912, .f32⟩
  | .hbm, ⟨22, _⟩ => ⟨S1x6912, .f32⟩
  | .hbm, ⟨23, _⟩ => ⟨S1x6912, .f32⟩
  | .hbm, ⟨24, _⟩ => ⟨S2048x6912, .f32⟩
  | .hbm, ⟨25, _⟩ => ⟨S2x3x6912, .f32⟩
  | .hbm, ⟨26, _⟩ => ⟨S2048x6912, .i8⟩
  | .hbm, ⟨27, _⟩ => ⟨S2048x18, .f32⟩
  | .hbm, ⟨28, _⟩ => ⟨S2048x6912, .f32⟩
  | .local _ .vmem, ⟨0, _⟩ => ⟨S2048x5120, .bf16⟩
  | .local _ .vmem, ⟨1, _⟩ => ⟨S2x1024, .f32⟩
  | .local _ .vmem, ⟨2, _⟩ => ⟨S2x1024, .i32⟩
  | .local _ .vmem, ⟨3, _⟩ => ⟨S5120x6912, .i8⟩
  | .local _ .vmem, ⟨4, _⟩ => ⟨S1x6912, .f32⟩
  | .local _ .vmem, ⟨5, _⟩ => ⟨S1x6912, .f32⟩
  | .local _ .vmem, ⟨6, _⟩ => ⟨S4x6912, .f32⟩
  | .local _ .vmem, ⟨7, _⟩ => ⟨S1x6912, .f32⟩
  | .local _ .vmem, ⟨8, _⟩ => ⟨S18x384x384, .i8⟩
  | .local _ .vmem, ⟨9, _⟩ => ⟨S1x6912, .f32⟩
  | .local _ .vmem, ⟨10, _⟩ => ⟨S1x6912, .f32⟩
  | .local _ .vmem, ⟨11, _⟩ => ⟨S1x6912, .f32⟩
  | .local _ .vmem, ⟨12, _⟩ => ⟨S2048x6912, .f32⟩
  | .local _ .vmem, ⟨13, _⟩ => ⟨S2x3x6912, .f32⟩
  | .local _ .vmem, ⟨14, _⟩ => ⟨S2048x6912, .i8⟩
  | .local _ .vmem, ⟨15, _⟩ => ⟨S2048x18, .f32⟩
  | .local _ .vmem, ⟨16, _⟩ => ⟨S2048x6912, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev main_v6_2 : Ref sig .tc := ⟨.hbm, 26, rfl⟩
abbrev main_v6_3 : Ref sig .tc := ⟨.hbm, 27, rfl⟩
abbrev main_v6_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S2048x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x6912 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x6912 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6912 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S18x384x384 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x6912 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x6912 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x6912 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x6912 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x3x6912 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x6912 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2048x18 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2048x6912 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Quant.lean ====
abbrev S2x1024x5120 : Shape := ⟨3, ![2, 1024, 5120]⟩
abbrev S2x1024 : Shape := ⟨2, ![2, 1024]⟩
abbrev S2048x5120 : Shape := ⟨2, ![2048, 5120]⟩
abbrev S2048x128 : Shape := ⟨2, ![2048, 128]⟩
abbrev S256x5120 : Shape := ⟨2, ![256, 5120]⟩
abbrev S256x128 : Shape := ⟨2, ![256, 128]⟩
abbrev S32x5120 : Shape := ⟨2, ![32, 5120]⟩
abbrev S32 : Shape := ⟨1, ![32]⟩
abbrev S32x1 : Shape := ⟨2, ![32, 1]⟩
abbrev S32x128 : Shape := ⟨2, ![32, 128]⟩
abbrev S128x256 : Shape := ⟨2, ![128, 256]⟩
abbrev S1x256 : Shape := ⟨2, ![1, 256]⟩

abbrev nBuf : Space → Nat
  | .hbm => 8
  | .vmem => 12
  | .smem => 0
  | _ => 0

abbrev bufTy : (tb : Table) → Fin (tcTables nBuf tb) → BufTy
  | .hbm, ⟨0, _⟩ => ⟨S2x1024x5120, .bf16⟩
  | .hbm, ⟨1, _⟩ => ⟨S2x1024, .i32⟩
  | .hbm, ⟨2, _⟩ => ⟨S2048x5120, .bf16⟩
  | .hbm, ⟨3, _⟩ => ⟨S2048x5120, .i8⟩
  | .hbm, ⟨4, _⟩ => ⟨S2048x5120, .bf16⟩
  | .hbm, ⟨5, _⟩ => ⟨S2x1024, .f32⟩
  | .hbm, ⟨6, _⟩ => ⟨S2048x128, .f32⟩
  | .hbm, ⟨7, _⟩ => ⟨S2048x128, .i32⟩
  | .local _ .vmem, ⟨0, _⟩ => ⟨S256x5120, .bf16⟩
  | .local _ .vmem, ⟨1, _⟩ => ⟨S256x5120, .bf16⟩
  | .local _ .vmem, ⟨2, _⟩ => ⟨S2x1024, .i32⟩
  | .local _ .vmem, ⟨3, _⟩ => ⟨S256x5120, .i8⟩
  | .local _ .vmem, ⟨4, _⟩ => ⟨S256x5120, .i8⟩
  | .local _ .vmem, ⟨5, _⟩ => ⟨S256x5120, .bf16⟩
  | .local _ .vmem, ⟨6, _⟩ => ⟨S256x5120, .bf16⟩
  | .local _ .vmem, ⟨7, _⟩ => ⟨S2x1024, .f32⟩
  | .local _ .vmem, ⟨8, _⟩ => ⟨S256x128, .f32⟩
  | .local _ .vmem, ⟨9, _⟩ => ⟨S256x128, .f32⟩
  | .local _ .vmem, ⟨10, _⟩ => ⟨S256x128, .i32⟩
  | .local _ .vmem, ⟨11, _⟩ => ⟨S256x128, .i32⟩
  | _, _ => ⟨S2x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v229 : BitVec 1 := Scalar.cmpi .sgt arg0 c0_i32
  let v230 : BitVec 32 := Scalar.extui v229
  let c0_i32_103 : BitVec 32 := 0#32
  let v231 : BitVec 1 := Scalar.cmpi .slt arg0 c0_i32_103
  let v232 : BitVec 32 := Scalar.extui v231
  let v233 : BitVec 32 := Scalar.subi v230 v232
  let c4_i32 : BitVec 32 := 4#32
  let c0_i32_104 : BitVec 32 := 0#32
  let v234 : BitVec 1 := Scalar.cmpi .sgt c4_i32 c0_i32_104
  let v235 : BitVec 32 := Scalar.extui v234
  let c0_i32_105 : BitVec 32 := 0#32
  let v236 : BitVec 1 := Scalar.cmpi .slt c4_i32 c0_i32_105
  let v237 : BitVec 32 := Scalar.extui v236
  let v238 : BitVec 32 := Scalar.subi v235 v237
  let v239 : BitVec 1 := Scalar.cmpi .ne v233 v238
  let v240 : BitVec 32 := Scalar.remsi arg0 c4_i32
  let c0_i32_106 : BitVec 32 := 0#32
  let v241 : BitVec 1 := Scalar.cmpi .ne v240 c0_i32_106
  let v242 : BitVec 1 := Scalar.andi v239 v241
  let v228 : BitVec 32 := Scalar.divsi arg0 c4_i32
  let c1_i32 : BitVec 32 := 1#32
  let v243 : BitVec 32 := Scalar.subi v228 c1_i32
  let v244 : BitVec 32 := Scalar.select v242 v243 v228
  let c0_i32_107 : BitVec 32 := 0#32
  let v245 : BitVec 1 := Scalar.cmpi .eq v244 c0_i32_107
  let v246 : BitVec 32 := Scalar.extui v245
  let c0_i32_108 : BitVec 32 := 0#32
  let v247 : BitVec 1 := Scalar.cmpi .ne v246 c0_i32_108
  v247

def k0_mult1 (i : grid0.Coords) : BitVec 32 :=
  let arg0 : BitVec 32 := BitVec.ofNat 32 (i 0).val
  let c4_i32_142 : BitVec 32 := 4#32
  let c0_i32_143 : BitVec 32 := 0#32
  let v320 : BitVec 1 := Scalar.cmpi .eq c4_i32_142 c0_i32_143
  let c1_i32_144 : BitVec 32 := 1#32
  let v321 : BitVec 32 := Scalar.select v320 c1_i32_144 c4_i32_142
  let v322 : BitVec 32 := Scalar.remsi arg0 v321
  let c0_i32_146 : BitVec 32 := 0#32
  let v324 : BitVec 1 := Scalar.cmpi .slt v322 c0_i32_146
  let c0_i32_147 : BitVec 32 := 0#32
  let v325 : BitVec 1 := Scalar.cmpi .slt v321 c0_i32_147
  let v326 : BitVec 1 := Scalar.xori v324 v325
  let c0_i32_145 : BitVec 32 := 0#32
  let v323 : BitVec 1 := Scalar.cmpi .ne v322 c0_i32_145
  let v327 : BitVec 1 := Scalar.andi v326 v323
  let v328 : BitVec 32 := Scalar.addi v322 v321
  let v329 : BitVec 32 := Scalar.select v327 v328 v322
  let c256_i32_148 : BitVec 32 := 256#32
  let v330 : BitVec 32 := Scalar.muli v329 c256_i32_148
  v330
def k0_off1 (i : grid0.Coords) : Fin 2 → Nat :=
  let c0_149 : Index := 0#32
  let arg0 : BitVec 32 := BitVec.ofNat 32 (i 0).val
  let c4_i32_142 : BitVec 32 := 4#32
  let c0_i32_143 : BitVec 32 := 0#32
  let v320 : BitVec 1 := Scalar.cmpi .eq c4_i32_142 c0_i32_143
  let c1_i32_144 : BitVec 32 := 1#32
  let v321 : BitVec 32 := Scalar.select v320 c1_i32_144 c4_i32_142
  let v322 : BitVec 32 := Scalar.remsi arg0 v321
  let c0_i32_146 : BitVec 32 := 0#32
  let v324 : BitVec 1 := Scalar.cmpi .slt v322 c0_i32_146
  let c0_i32_147 : BitVec 32 := 0#32
  let v325 : BitVec 1 := Scalar.cmpi .slt v321 c0_i32_147
  let v326 : BitVec 1 := Scalar.xori v324 v325
  let c0_i32_145 : BitVec 32 := 0#32
  let v323 : BitVec 1 := Scalar.cmpi .ne v322 c0_i32_145
  let v327 : BitVec 1 := Scalar.andi v326 v323
  let v328 : BitVec 32 := Scalar.addi v322 v321
  let v329 : BitVec 32 := Scalar.select v327 v328 v322
  let c256_i32_148 : BitVec 32 := 256#32
  let v330 : BitVec 32 := Scalar.muli v329 c256_i32_148
  let v331 : BitVec 32 := v330
  let v332 : Index := Scalar.indexCast v331
  ![0, v332.toNat]
def k0_cond2 (i : grid0.Coords) : BitVec 1 :=
  let arg0 : BitVec 32 := BitVec.ofNat 32 (i 0).val
  let c0_i32_110 : BitVec 32 := 0#32
  let v249 : BitVec 1 := Scalar.cmpi .sgt arg0 c0_i32_110
  let v250 : BitVec 32 := Scalar.extui v249
  let c0_i32_111 : BitVec 32 := 0#32
  let v251 : BitVec 1 := Scalar.cmpi .slt arg0 c0_i32_111
  let v252 : BitVec 32 := Scalar.extui v251
  let v253 : BitVec 32 := Scalar.subi v250 v252
  let c4_i32_109 : BitVec 32 := 4#32
  let c0_i32_112 : BitVec 32 := 0#32
  let v254 : BitVec 1 := Scalar.cmpi .sgt c4_i32_109 c0_i32_112
  let v255 : BitVec 32 := Scalar.extui v254
  let c0_i32_113 : BitVec 32 := 0#32
  let v256 : BitVec 1 := Scalar.cmpi .slt c4_i32_109 c0_i32_113
  let v257 : BitVec 32 := Scalar.extui v256
  let v258 : BitVec 32 := Scalar.subi v255 v257
  let v259 : BitVec 1 := Scalar.cmpi .ne v253 v258
  let v260 : BitVec 32 := Scalar.remsi arg0 c4_i32_109
  let c0_i32_114 : BitVec 32 := 0#32
  let v261 : BitVec 1 := Scalar.cmpi .ne v260 c0_i32_114
  let v262 : BitVec 1 := Scalar.andi v259 v261
  let v248 : BitVec 32 := Scalar.divsi arg0 c4_i32_109
  let c1_i32_115 : BitVec 32 := 1#32
  let v263 : BitVec 32 := Scalar.subi v248 c1_i32_115
  let v264 : BitVec 32 := Scalar.select v262 v263 v248
  let c1_i32_116 : BitVec 32 := 1#32
  let v265 : BitVec 1 := Scalar.cmpi .eq v264 c1_i32_116
  let v266 : BitVec 32 := Scalar.extui v265
  let c0_i32_117 : BitVec 32 := 0#32
  let v267 : BitVec 1 := Scalar.cmpi .ne v266 c0_i32_117
  v267

def k0_mult2 (i : grid0.Coords) : BitVec 32 :=
  let arg0 : BitVec 32 := BitVec.ofNat 32 (i 0).val
  let c4_i32_142 : BitVec 32 := 4#32
  let c0_i32_143 : BitVec 32 := 0#32
  let v320 : BitVec 1 := Scalar.cmpi .eq c4_i32_142 c0_i32_143
  let c1_i32_144 : BitVec 32 := 1#32
  let v321 : BitVec 32 := Scalar.select v320 c1_i32_144 c4_i32_142
  let v322 : BitVec 32 := Scalar.remsi arg0 v321
  let c0_i32_146 : BitVec 32 := 0#32
  let v324 : BitVec 1 := Scalar.cmpi .slt v322 c0_i32_146
  let c0_i32_147 : BitVec 32 := 0#32
  let v325 : BitVec 1 := Scalar.cmpi .slt v321 c0_i32_147
  let v326 : BitVec 1 := Scalar.xori v324 v325
  let c0_i32_145 : BitVec 32 := 0#32
  let v323 : BitVec 1 := Scalar.cmpi .ne v322 c0_i32_145
  let v327 : BitVec 1 := Scalar.andi v326 v323
  let v328 : BitVec 32 := Scalar.addi v322 v321
  let v329 : BitVec 32 := Scalar.select v327 v328 v322
  let c256_i32_148 : BitVec 32 := 256#32
  let v330 : BitVec 32 := Scalar.muli v329 c256_i32_148
  v330
def k0_off2 (i : grid0.Coords) : Fin 2 → Nat :=
  let c1 : Index := 1#32
  let arg0 : BitVec 32 := BitVec.ofNat 32 (i 0).val
  let c4_i32_142 : BitVec 32 := 4#32
  let c0_i32_143 : BitVec 32 := 0#32
  let v320 : BitVec 1 := Scalar.cmpi .eq c4_i32_142 c0_i32_143
  let c1_i32_144 : BitVec 32 := 1#32
  let v321 : BitVec 32 := Scalar.select v320 c1_i32_144 c4_i32_142
  let v322 : BitVec 32 := Scalar.remsi arg0 v321
  let c0_i32_146 : BitVec 32 := 0#32
  let v324 : BitVec 1 := Scalar.cmpi .slt v322 c0_i32_146
  let c0_i32_147 : BitVec 32 := 0#32
  let v325 : BitVec 1 := Scalar.cmpi .slt v321 c0_i32_147
  let v326 : BitVec 1 := Scalar.xori v324 v325
  let c0_i32_145 : BitVec 32 := 0#32
  let v323 : BitVec 1 := Scalar.cmpi .ne v322 c0_i32_145
  let v327 : BitVec 1 := Scalar.andi v326 v323
  let v328 : BitVec 32 := Scalar.addi v322 v321
  let v329 : BitVec 32 := Scalar.select v327 v328 v322
  let c256_i32_148 : BitVec 32 := 256#32
  let v330 : BitVec 32 := Scalar.muli v329 c256_i32_148
  let v331 : BitVec 32 := v330
  let v332 : Index := Scalar.indexCast v331
  ![1, v332.toNat]
def k0_mult3 (i : grid0.Coords) : BitVec 32 :=
  let arg0 : BitVec 32 := BitVec.ofNat 32 (i 0).val
  let c4_i32_118 : BitVec 32 := 4#32
  let c0_i32_119 : BitVec 32 := 0#32
  let v268 : BitVec 1 := Scalar.cmpi .eq c4_i32_118 c0_i32_119
  let c1_i32_120 : BitVec 32 := 1#32
  let v269 : BitVec 32 := Scalar.select v268 c1_i32_120 c4_i32_118
  let v270 : BitVec 32 := Scalar.remsi arg0 v269
  let c0_i32_122 : BitVec 32 := 0#32
  let v272 : BitVec 1 := Scalar.cmpi .slt v270 c0_i32_122
  let c0_i32_123 : BitVec 32 := 0#32
  let v273 : BitVec 1 := Scalar.cmpi .slt v269 c0_i32_123
  let v274 : BitVec 1 := Scalar.xori v272 v273
  let c0_i32_121 : BitVec 32 := 0#32
  let v271 : BitVec 1 := Scalar.cmpi .ne v270 c0_i32_121
  let v275 : BitVec 1 := Scalar.andi v274 v271
  let v276 : BitVec 32 := Scalar.addi v270 v269
  let v277 : BitVec 32 := Scalar.select v275 v276 v270
  let c256_i32 : BitVec 32 := 256#32
  let v278 : BitVec 32 := Scalar.muli v277 c256_i32
  v278
def k0_cond3 (i : grid0.Coords) : BitVec 1 :=
  let arg0 : BitVec 32 := BitVec.ofNat 32 (i 0).val
  let c0_i32_125 : BitVec 32 := 0#32
  let v281 : BitVec 1 := Scalar.cmpi .sgt arg0 c0_i32_125
  let v282 : BitVec 32 := Scalar.extui v281
  let c0_i32_126 : BitVec 32 := 0#32
  let v283 : BitVec 1 := Scalar.cmpi .slt arg0 c0_i32_126
  let v284 : BitVec 32 := Scalar.extui v283
  let v285 : BitVec 32 := Scalar.subi v282 v284
  let c4_i32_124 : BitVec 32 := 4#32
  let c0_i32_127 : BitVec 32 := 0#32
  let v286 : BitVec 1 := Scalar.cmpi .sgt c4_i32_124 c0_i32_127
  let v287 : BitVec 32 := Scalar.extui v286
  let c0_i32_128 : BitVec 32 := 0#32
  let v288 : BitVec 1 := Scalar.cmpi .slt c4_i32_124 c0_i32_128
  let v289 : BitVec 32 := Scalar.extui v288
  let v290 : BitVec 32 := Scalar.subi v287 v289
  let v291 : BitVec 1 := Scalar.cmpi .ne v285 v290
  let v292 : BitVec 32 := Scalar.remsi arg0 c4_i32_124
  let c0_i32_129 : BitVec 32 := 0#32
  let v293 : BitVec 1 := Scalar.cmpi .ne v292 c0_i32_129
  let v294 : BitVec 1 := Scalar.andi v291 v293
  let v280 : BitVec 32 := Scalar.divsi arg0 c4_i32_124
  let c1_i32_130 : BitVec 32 := 1#32
  let v295 : BitVec 32 := Scalar.subi v280 c1_i32_130
  let v296 : BitVec 32 := Scalar.select v294 v295 v280
  let c0_i32_131 : BitVec 32 := 0#32
  let v297 : BitVec 1 := Scalar.cmpi .eq v296 c0_i32_131
  let v298 : BitVec 32 := Scalar.extui v297
  let c0_i32_132 : BitVec 32 := 0#32
  let v299 : BitVec 1 := Scalar.cmpi .ne v298 c0_i32_132
  v299

def k0_off3 (i : grid0.Coords) : Fin 2 → Nat :=
  let c0_142 : Index := 0#32
  let arg0 : BitVec 32 := BitVec.ofNat 32 (i 0).val
  let c4_i32_118 : BitVec 32 := 4#32
  let c0_i32_119 : BitVec 32 := 0#32
  let v268 : BitVec 1 := Scalar.cmpi .eq c4_i32_118 c0_i32_119
  let c1_i32_120 : BitVec 32 := 1#32
  let v269 : BitVec 32 := Scalar.select v268 c1_i32_120 c4_i32_118
  let v270 : BitVec 32 := Scalar.remsi arg0 v269
  let c0_i32_122 : BitVec 32 := 0#32
  let v272 : BitVec 1 := Scalar.cmpi .slt v270 c0_i32_122
  let c0_i32_123 : BitVec 32 := 0#32
  let v273 : BitVec 1 := Scalar.cmpi .slt v269 c0_i32_123
  let v274 : BitVec 1 := Scalar.xori v272 v273
  let c0_i32_121 : BitVec 32 := 0#32
  let v271 : BitVec 1 := Scalar.cmpi .ne v270 c0_i32_121
  let v275 : BitVec 1 := Scalar.andi v274 v271
  let v276 : BitVec 32 := Scalar.addi v270 v269
  let v277 : BitVec 32 := Scalar.select v275 v276 v270
  let c256_i32 : BitVec 32 := 256#32
  let v278 : BitVec 32 := Scalar.muli v277 c256_i32
  let v279 : BitVec 32 := v278
  let v320 : Index := Scalar.indexCast v279
  ![0, v320.toNat]
def k0_cond4 (i : grid0.Coords) : BitVec 1 :=
  let arg0 : BitVec 32 := BitVec.ofNat 32 (i 0).val
  let c0_i32_134 : BitVec 32 := 0#32
  let v301 : BitVec 1 := Scalar.cmpi .sgt arg0 c0_i32_134
  let v302 : BitVec 32 := Scalar.extui v301
  let c0_i32_135 : BitVec 32 := 0#32
  let v303 : BitVec 1 := Scalar.cmpi .slt arg0 c0_i32_135
  let v304 : BitVec 32 := Scalar.extui v303
  let v305 : BitVec 32 := Scalar.subi v302 v304
  let c4_i32_133 : BitVec 32 := 4#32
  let c0_i32_136 : BitVec 32 := 0#32
  let v306 : BitVec 1 := Scalar.cmpi .sgt c4_i32_133 c0_i32_136
  let v307 : BitVec 32 := Scalar.extui v306
  let c0_i32_137 : BitVec 32 := 0#32
  let v308 : BitVec 1 := Scalar.cmpi .slt c4_i32_133 c0_i32_137
  let v309 : BitVec 32 := Scalar.extui v308
  let v310 : BitVec 32 := Scalar.subi v307 v309
  let v311 : BitVec 1 := Scalar.cmpi .ne v305 v310
  let v312 : BitVec 32 := Scalar.remsi arg0 c4_i32_133
  let c0_i32_138 : BitVec 32 := 0#32
  let v313 : BitVec 1 := Scalar.cmpi .ne v312 c0_i32_138
  let v314 : BitVec 1 := Scalar.andi v311 v313
  let v300 : BitVec 32 := Scalar.divsi arg0 c4_i32_133
  let c1_i32_139 : BitVec 32 := 1#32
  let v315 : BitVec 32 := Scalar.subi v300 c1_i32_139
  let v316 : BitVec 32 := Scalar.select v314 v315 v300
  let c1_i32_140 : BitVec 32 := 1#32
  let v317 : BitVec 1 := Scalar.cmpi .eq v316 c1_i32_140
  let v318 : BitVec 32 := Scalar.extui v317
  let c0_i32_141 : BitVec 32 := 0#32
  let v319 : BitVec 1 := Scalar.cmpi .ne v318 c0_i32_141
  v319

def k0_off4 (i : grid0.Coords) : Fin 2 → Nat :=
  let c1 : Index := 1#32
  let arg0 : BitVec 32 := BitVec.ofNat 32 (i 0).val
  let c4_i32_118 : BitVec 32 := 4#32
  let c0_i32_119 : BitVec 32 := 0#32
  let v268 : BitVec 1 := Scalar.cmpi .eq c4_i32_118 c0_i32_119
  let c1_i32_120 : BitVec 32 := 1#32
  let v269 : BitVec 32 := Scalar.select v268 c1_i32_120 c4_i32_118
  let v270 : BitVec 32 := Scalar.remsi arg0 v269
  let c0_i32_122 : BitVec 32 := 0#32
  let v272 : BitVec 1 := Scalar.cmpi .slt v270 c0_i32_122
  let c0_i32_123 : BitVec 32 := 0#32
  let v273 : BitVec 1 := Scalar.cmpi .slt v269 c0_i32_123
  let v274 : BitVec 1 := Scalar.xori v272 v273
  let c0_i32_121 : BitVec 32 := 0#32
  let v271 : BitVec 1 := Scalar.cmpi .ne v270 c0_i32_121
  let v275 : BitVec 1 := Scalar.andi v274 v271
  let v276 : BitVec 32 := Scalar.addi v270 v269
  let v277 : BitVec 32 := Scalar.select v275 v276 v270
  let c256_i32 : BitVec 32 := 256#32
  let v278 : BitVec 32 := Scalar.muli v277 c256_i32
  let v279 : BitVec 32 := v278
  let v320 : Index := Scalar.indexCast v279
  ![1, v320.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5120 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QuantReferenceIdeal.lean ====
abbrev S2x1024x5120 : Shape := ⟨3, ![2, 1024, 5120]⟩
abbrev S2x1024 : Shape := ⟨2, ![2, 1024]⟩
abbrev S2048x5120 : Shape := ⟨2, ![2048, 5120]⟩
abbrev S2x1024x1 : Shape := ⟨3, ![2, 1024, 1]⟩

abbrev nBuf : Space → Nat
  | .hbm => 4
  | .vmem => 3
  | .smem => 0
  | _ => 0

abbrev bufTy : (tb : Table) → Fin (tcTables nBuf tb) → BufTy
  | .hbm, ⟨0, _⟩ => ⟨S2x1024x5120, .bf16⟩
  | .hbm, ⟨1, _⟩ => ⟨S2x1024, .i32⟩
  | .hbm, ⟨2, _⟩ => ⟨S2048x5120, .i8⟩
  | .hbm, ⟨3, _⟩ => ⟨S2x1024, .f32⟩
  | .local _ .vmem, ⟨0, _⟩ => ⟨S2x1024x5120, .bf16⟩
  | .local _ .vmem, ⟨1, _⟩ => ⟨S2048x5120, .i8⟩
  | .local _ .vmem, ⟨2, _⟩ => ⟨S2x1024, .f32⟩
  | _, _ => ⟨S2x1024x5120, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.TileK.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.Frame
public import Idealize.ShloMosaic.Lib.Pipeline.FrameBody
public import Idealize.ShloMosaic.Lib.Tactic
public import Idealize.ShloMosaic.Lib.VecWindow
public import Idealize.ShloMosaic.Lib.WritesUnit
public import Idealize.ShloMosaic.Lib.Pointwise

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The tile functions: what one grid point computes, as functions of the blocks it reads -/

/-- The inclusions of the four chunks of 32 rows in a tile of 128 rows. -/
theorem inb_s (k : Fin 4) : ∀ a, (![32 * k.val, 0] : Fin 2 → ℕ) a + S32x128.size a ≤ S128x128.size a := by
  revert k; decide
theorem inb_o (k : Fin 4) : ∀ a, (![32 * k.val, 0] : Fin 2 → ℕ) a + S32x6912.size a ≤ S128x6912.size a := by
  revert k; decide
/-- Chunk `k` of a tile: its rows `32 k … 32 k + 31`. -/
def chS (x3 : S128x128.Idx → F .f32) (k : Fin 4) : S32x128.Idx → F .f32 :=
  VecWindow.window x3 ![32 * k.val, 0] S32x128.size (inb_s k)
def chO (x2 : S128x6912.Idx → F .f32) (k : Fin 4) : S32x6912.Idx → F .f32 :=
  VecWindow.window x2 ![32 * k.val, 0] S32x6912.size (inb_o k)
/-- The chunk a row of the tile lies in, and its row there. -/
abbrev kOf (r : Fin 128) : Fin 4 := ⟨r.val / 32, by omega⟩
abbrev rOf (r : Fin 128) : Fin 32 := ⟨r.val % 32, by omega⟩

/-- The code of row `r`, column `j` of the tile, as an eight bit integer. -/
def codeT (x3 : S128x128.Idx → F .f32) (x2 : S128x6912.Idx → F .f32) (r : Fin 128) (j : Fin 6912) : BitVec 8 :=
  k0_pay4 (chS x3 (kOf r)) (chO x2 (kOf r)) (ix2 (rOf r) j)
/-- The same code as a bf16 number: the row the matrix product reads. -/
def qT (x3 : S128x128.Idx → F .f32) (x2 : S128x6912.Idx → F .f32) (r : Fin 128) (j : Fin 6912) : F .bf16 :=
  k0_pay5 (chS x3 (kOf r)) (chO x2 (kOf r)) (ix3 (0 : Fin 1) (rOf r) j)
/-- The scale of row `r` of the tile, repeated over the lanes `l`. -/
def sT (x3 : S128x128.Idx → F .f32) (r : Fin 128) (l : Fin 128) : F .f32 :=
  k0_pay7 (k0_pay6 (chS x3 (kOf r))) (ix3 (0 : Fin 1) (rOf r) l)

/-- A piece of 128 columns of the output tile, from column `o`. -/
theorem slices_out (p : Fin 10) : S512x1280.Slices ![0, 128 * p.val] S512x128 := by revert p; decide
theorem inb_out (p : Fin 10) : ∀ a, (![0, 128 * p.val] : Fin 2 → ℕ) a + S512x128.size a ≤ S512x1280.size a := by
  revert p; decide
theorem inb_row (p : Fin 10) : ∀ a, (![0, 128 * p.val] : Fin 2 → ℕ) a + S1x128.size a ≤ S1x1280.size a := by
  revert p; decide
def chR (x : S1x1280.Idx → F .f32) (p : Fin 10) : S1x128.Idx → F .f32 :=
  VecWindow.window x ![0, 128 * p.val] S1x128.size (inb_row p)
def pieceOut (acc : FVec F S512x1280 .f32) (sb : Vec F S1x512x128 .f32) (so bo : Vec F S1x128 .f32) (p : Fin 10) : FVec F S512x128 .bf16 :=
  truncf .bf16
    (addf (mulf (mulf (extractStridedSlice S512x128 ![0, 128 * p.val] acc (slices_out p)) (shapeCast S512x128 sb shapeCasts_S1x512x128_S512x128))
        (broadcastTo S512x128 (shapeCast S1x128 so shapeCasts_S1x128_S1x128) broadcasts_S1x128_S512x128))
      (broadcastTo S512x128 (shapeCast S1x128 bo shapeCasts_S1x128_S1x128) broadcasts_S1x128_S512x128)) bitsLt_bf16_f32
/-- The output tile: the product of the plane of codes with the weights, times the row's scale and the column's, plus
    the column's bias. -/
def outT (xq : Vec F S1x512x6912 .bf16) (xs : Vec F S1x512x128 .f32) (x4 : Vec F S6912x1280 .i8) (x5 x6 : S1x1280.Idx → F .f32)
    (r : Fin 512) (j : Fin 1280) : F .bf16 :=
  pieceOut (k0_pay25 xq x4) xs (chR x5 ⟨j.val / 128, by omega⟩) (chR x6 ⟨j.val / 128, by omega⟩) ⟨j.val / 128, by omega⟩
    (ix2 r (⟨j.val % 128, by omega⟩ : Fin 128))

/-! ## What a grid point leaves -/

/-- The quantise stage at point `i` : the codes and the scales of the tile are put in the two scratch planes, the tile's
    codes in the output window, its scales in the resident scales. -/
structure PostA (i : grid0.Coords) (x2 : S128x6912.Idx → F .f32) (x3 : S128x128.Idx → F .f32)
    (Y13 X13 : S2x512x6912.Idx → F .bf16) (Y14 X14 : S2x512x128.Idx → F .f32) (Y10 X10 : S2x1024.Idx → F .f32)
    (X9 : S128x6912.Idx → BitVec 8) : Prop where
  q_new : ∀ (y : S2x512x6912.Idx) (r : Fin 128), (y 0).val = (i 0).val % 2 → (y 1).val = 128 * (i 1).val + r.val →
    X13 y = qT x3 x2 r (y 2)
  q_old : ∀ y : S2x512x6912.Idx, ((y 0).val ≠ (i 0).val % 2 ∨ (y 1).val < 128 * (i 1).val ∨ 128 * (i 1).val + 128 ≤ (y 1).val) →
    X13 y = Y13 y
  s_new : ∀ (y : S2x512x128.Idx) (r : Fin 128), (y 0).val = (i 0).val % 2 → (y 1).val = 128 * (i 1).val + r.val →
    X14 y = sT x3 r (y 2)
  s_old : ∀ y : S2x512x128.Idx, ((y 0).val ≠ (i 0).val % 2 ∨ (y 1).val < 128 * (i 1).val ∨ 128 * (i 1).val + 128 ≤ (y 1).val) →
    X14 y = Y14 y
  sc_new : ∀ (y : S2x1024.Idx) (r : Fin 128), 1024 * (y 0).val + (y 1).val = 128 * (4 * (i 0).val + (i 1).val) + r.val →
    X10 y = sT x3 r (0 : Fin 128)
  sc_old : ∀ y : S2x1024.Idx, (1024 * (y 0).val + (y 1).val < 128 * (4 * (i 0).val + (i 1).val) ∨
      128 * (4 * (i 0).val + (i 1).val) + 128 ≤ 1024 * (y 0).val + (y 1).val) → X10 y = Y10 y
  code : ∀ y : S128x6912.Idx, X9 y = codeT x3 x2 (y 0) (y 1)

/-- The multiply stage at point `i` : the output tile from the other plane of the scratch. -/
def PostB (i : grid0.Coords) (h4 : k0_cond4 i = 1#1) (X13 : S2x512x6912.Idx → F .bf16) (X14 : S2x512x128.Idx → F .f32)
    (x4 : S6912x1280.Idx → BitVec 8) (x5 x6 : S1x1280.Idx → F .f32) (X8 : S512x1280.Idx → F .bf16) : Prop :=
  ∀ y : S512x1280.Idx, X8 y = outT (VecWindow.window X13 (k0_off6 i) S1x512x6912.size (k0_off6_inb i h4))
    (VecWindow.window X14 (k0_off7 i) S1x512x128.size (k0_off7_inb i h4)) x4 x5 x6 (y 0) (y 1)

/-! ## The lists of writes the body makes, and what they leave -/

section Lists

variable {sp : Space}

def L13 (i : grid0.Coords) (h1 : k0_cond1 i = 1#1) (x3 : S128x128.Idx → F .f32) (x2 : S128x6912.Idx → F .f32) :
    List (View.Piece (Elt F) S2x512x6912 .bf16) :=
  View.tilePieces (s := S2x512x6912) (e := .bf16) (Val := Elt F) S1x32x6912.size
    (fun k : Fin 4 => k0_off1 i (BitVec.ofNat 32 (32 * k.val))) (fun k => k0_off1_inb i h1 k)
    (fun k => k0_pay5 (chS x3 k) (chO x2 k)) 4 le_rfl
def L14 (i : grid0.Coords) (h1 : k0_cond1 i = 1#1) (x3 : S128x128.Idx → F .f32) :
    List (View.Piece (Elt F) S2x512x128 .f32) :=
  View.tilePieces (s := S2x512x128) (e := .f32) (Val := Elt F) S1x32x128.size
    (fun k : Fin 4 => k0_off2 i (BitVec.ofNat 32 (32 * k.val))) (fun k => k0_off2_inb i h1 k)
    (fun k => k0_pay7 (k0_pay6 (chS x3 k))) 4 le_rfl
def L9 (x3 : S128x128.Idx → F .f32) (x2 : S128x6912.Idx → F .f32) : List (View.Piece (Elt F) S128x6912 .i8) :=
  View.tilePieces (s := S128x6912) (e := .i8) (Val := Elt F) S32x6912.size
    (fun k : Fin 4 => ![32 * k.val, 0]) inb_o (fun k => k0_pay4 (chS x3 k) (chO x2 k)) 4 le_rfl
def L8 (xq : Vec F S1x512x6912 .bf16) (xs : Vec F S1x512x128 .f32) (x4 : Vec F S6912x1280 .i8) (x5 x6 : S1x1280.Idx → F .f32) :
    List (View.Piece (Elt F) S512x1280 .bf16) :=
  View.tilePieces (s := S512x1280) (e := .bf16) (Val := Elt F) S512x128.size
    (fun p : Fin 10 => ![0, 128 * p.val]) inb_out (fun p => pieceOut (k0_pay25 xq x4) xs (chR x5 p) (chR x6 p) p) 10 le_rfl

/-- The ten pieces as the body spells them. -/
theorem L8_eq (xq : Vec F S1x512x6912 .bf16) (x4 : Vec F S6912x1280 .i8) (sb : Vec F S1x512x128 .f32) (x5 x6 : S1x1280.Idx → F .f32) : L8 xq sb x4 x5 x6 = [
   ⟨Rect.unit (s := S512x1280) ![0, 1152] S512x128.size inb_S512x1280_S512x128_0_1152, k0_pay1 (k0_pay36 (k0_pay25 xq x4) sb) (chR x5 ⟨9, by omega⟩) (chR x6 ⟨9, by omega⟩)⟩,
   ⟨Rect.unit (s := S512x1280) ![0, 1024] S512x128.size inb_S512x1280_S512x128_0_1024, k0_pay35 (k0_pay25 xq x4) sb (chR x5 ⟨8, by omega⟩) (chR x6 ⟨8, by omega⟩)⟩,
   ⟨Rect.unit (s := S512x1280) ![0, 896] S512x128.size inb_S512x1280_S512x128_0_896, k0_pay34 (k0_pay25 xq x4) sb (chR x5 ⟨7, by omega⟩) (chR x6 ⟨7, by omega⟩)⟩,
   ⟨Rect.unit (s := S512x1280) ![0, 768] S512x128.size inb_S512x1280_S512x128_0_768, k0_pay33 (k0_pay25 xq x4) sb (chR x5 ⟨6, by omega⟩) (chR x6 ⟨6, by omega⟩)⟩,
   ⟨Rect.unit (s := S512x1280) ![0, 640] S512x128.size inb_S512x1280_S512x128_0_640, k0_pay32 (k0_pay25 xq x4) sb (chR x5 ⟨5, by omega⟩) (chR x6 ⟨5, by omega⟩)⟩,
   ⟨Rect.unit (s := S512x1280) ![0, 512] S512x128.size inb_S512x1280_S512x128_0_512, k0_pay31 (k0_pay30 (k0_pay25 xq x4) sb) (chR x5 ⟨4, by omega⟩) (chR x6 ⟨4, by omega⟩)⟩,
   ⟨Rect.unit (s := S512x1280) ![0, 384] S512x128.size inb_S512x1280_S512x128_0_384, k0_pay29 (k0_pay25 xq x4) sb (chR x5 ⟨3, by omega⟩) (chR x6 ⟨3, by omega⟩)⟩,
   ⟨Rect.unit (s := S512x1280) ![0, 256] S512x128.size inb_S512x1280_S512x128_0_256, k0_pay28 (k0_pay25 xq x4) sb (chR x5 ⟨2, by omega⟩) (chR x6 ⟨2, by omega⟩)⟩,
   ⟨Rect.unit (s := S512x1280) ![0, 128] S512x128.size inb_S512x1280_S512x128_0_128, k0_pay27 xq x4 sb (chR x5 ⟨1, by omega⟩) (chR x6 ⟨1, by omega⟩)⟩,
   ⟨Rect.unit (s := S512x1280) ![0, 0] S512x128.size inb_S512x1280_S512x128_0_0, k0_pay26 xq x4 sb (chR x5 ⟨0, by omega⟩) (chR x6 ⟨0, by omega⟩)⟩] := rfl

variable (i : grid0.Coords) (h1 : k0_cond1 i = 1#1) (x3 : S128x128.Idx → F .f32) (x2 : S128x6912.Idx → F .f32)

theorem i1_lt (i : grid0.Coords) : (i 1).val < 4 := (i 1).isLt

theorem read13_new (v : View sig .tc sp S2x512x6912 .bf16) (f : v.ty.Contents (Elt F)) (y : S2x512x6912.Idx) (r : Fin 128)
    (h0 : (y 0).val = (i 0).val % 2) (hr : (y 1).val = 128 * (i 1).val + r.val) :
    v.read (Elt F) (v.writes (Elt F) f (L13 i h1 x3 x2)) y = qT x3 x2 r (y 2) := by
  have hr' := r.isLt
  refine View.read_tilePieces v f _ _ _ _ 4 le_rfl y (kOf r) (kOf r).isLt (ix3 (0 : Fin 1) (rOf r) (y 2)) ?_ 1 ?_
  · intro a
    rw [k0_off1_eq]
    match a with
    | ⟨0, _⟩ => show (y 0).val = (i 0).val % 2 + 0; omega
    | ⟨1, _⟩ => show (y 1).val = 128 * (i 1).val + 32 * (r.val / 32) + r.val % 32; omega
    | ⟨2, _⟩ => show (y 2).val = 0 + (y 2).val; omega
  · intro k hk
    have hk' : k.val ≠ r.val / 32 := fun h => hk (Fin.ext h)
    rw [k0_off1_eq]
    show (y 1).val < 128 * (i 1).val + 32 * k.val ∨ 128 * (i 1).val + 32 * k.val + 32 ≤ (y 1).val
    omega
theorem read13_old (v : View sig .tc sp S2x512x6912 .bf16) (f : v.ty.Contents (Elt F)) (y : S2x512x6912.Idx)
    (h : (y 0).val ≠ (i 0).val % 2 ∨ (y 1).val < 128 * (i 1).val ∨ 128 * (i 1).val + 128 ≤ (y 1).val) :
    v.read (Elt F) (v.writes (Elt F) f (L13 i h1 x3 x2)) y = v.read (Elt F) f y := by
  by_cases h0 : (y 0).val = (i 0).val % 2
  · refine View.read_tilePieces_miss v f _ _ _ _ 4 le_rfl y 1 fun k hk => ?_
    rw [k0_off1_eq]
    show (y 1).val < 128 * (i 1).val + 32 * k.val ∨ 128 * (i 1).val + 32 * k.val + 32 ≤ (y 1).val
    omega
  · refine View.read_tilePieces_miss v f _ _ _ _ 4 le_rfl y 0 fun k hk => ?_
    rw [k0_off1_eq]
    show (y 0).val < (i 0).val % 2 ∨ (i 0).val % 2 + 1 ≤ (y 0).val
    omega
theorem read14_new (v : View sig .tc sp S2x512x128 .f32) (f : v.ty.Contents (Elt F)) (y : S2x512x128.Idx) (r : Fin 128)
    (h0 : (y 0).val = (i 0).val % 2) (hr : (y 1).val = 128 * (i 1).val + r.val) :
    v.read (Elt F) (v.writes (Elt F) f (L14 i h1 x3)) y = sT x3 r (y 2) := by
  have hr' := r.isLt
  refine View.read_tilePieces v f _ _ _ _ 4 le_rfl y (kOf r) (kOf r).isLt (ix3 (0 : Fin 1) (rOf r) (y 2)) ?_ 1 ?_
  · intro a
    rw [k0_off2_eq]
    match a with
    | ⟨0, _⟩ => show (y 0).val = (i 0).val % 2 + 0; omega
    | ⟨1, _⟩ => show (y 1).val = 128 * (i 1).val + 32 * (r.val / 32) + r.val % 32; omega
    | ⟨2, _⟩ => show (y 2).val = 0 + (y 2).val; omega
  · intro k hk
    have hk' : k.val ≠ r.val / 32 := fun h => hk (Fin.ext h)
    rw [k0_off2_eq]
    show (y 1).val < 128 * (i 1).val + 32 * k.val ∨ 128 * (i 1).val + 32 * k.val + 32 ≤ (y 1).val
    omega
theorem read14_old (v : View sig .tc sp S2x512x128 .f32) (f : v.ty.Contents (Elt F)) (y : S2x512x128.Idx)
    (h : (y 0).val ≠ (i 0).val % 2 ∨ (y 1).val < 128 * (i 1).val ∨ 128 * (i 1).val + 128 ≤ (y 1).val) :
    v.read (Elt F) (v.writes (Elt F) f (L14 i h1 x3)) y = v.read (Elt F) f y := by
  by_cases h0 : (y 0).val = (i 0).val % 2
  · refine View.read_tilePieces_miss v f _ _ _ _ 4 le_rfl y 1 fun k hk => ?_
    rw [k0_off2_eq]
    show (y 1).val < 128 * (i 1).val + 32 * k.val ∨ 128 * (i 1).val + 32 * k.val + 32 ≤ (y 1).val
    omega
  · refine View.read_tilePieces_miss v f _ _ _ _ 4 le_rfl y 0 fun k hk => ?_
    rw [k0_off2_eq]
    show (y 0).val < (i 0).val % 2 ∨ (i 0).val % 2 + 1 ≤ (y 0).val
    omega
theorem read9 (v : View sig .tc sp S128x6912 .i8) (f : v.ty.Contents (Elt F)) (y : S128x6912.Idx) :
    v.read (Elt F) (v.writes (Elt F) f (L9 x3 x2)) y = codeT x3 x2 (y 0) (y 1) := by
  have hr' : (y 0).val < 128 := (y 0).isLt
  refine View.read_tilePieces v f _ _ _ _ 4 le_rfl y (kOf (y 0)) (kOf (y 0)).isLt (ix2 (rOf (y 0)) (y 1)) ?_ 0 ?_
  · intro a
    match a with
    | ⟨0, _⟩ => show (y 0).val = 32 * ((y 0).val / 32) + (y 0).val % 32; omega
    | ⟨1, _⟩ => show (y 1).val = 0 + (y 1).val; omega
  · intro k hk
    have hk' : k.val ≠ (y 0).val / 32 := fun h => hk (Fin.ext h)
    show (y 0).val < 32 * k.val ∨ 32 * k.val + 32 ≤ (y 0).val
    omega
theorem read8 (xq : Vec F S1x512x6912 .bf16) (xs : Vec F S1x512x128 .f32) (x4 : Vec F S6912x1280 .i8) (x5 x6 : S1x1280.Idx → F .f32)
    (v : View sig .tc sp S512x1280 .bf16) (f : v.ty.Contents (Elt F)) (y : S512x1280.Idx) :
    v.read (Elt F) (v.writes (Elt F) f (L8 xq xs x4 x5 x6)) y = outT xq xs x4 x5 x6 (y 0) (y 1) := by
  have hr' : (y 1).val < 1280 := (y 1).isLt
  refine View.read_tilePieces v f _ _ _ _ 10 le_rfl y (⟨(y 1).val / 128, by omega⟩ : Fin 10) (by show (y 1).val / 128 < 10; omega)
    (ix2 (y 0) (⟨(y 1).val % 128, by omega⟩ : Fin 128)) ?_ 1 ?_
  · intro a
    match a with
    | ⟨0, _⟩ => show (y 0).val = 0 + (y 0).val; omega
    | ⟨1, _⟩ => show (y 1).val = 128 * ((y 1).val / 128) + (y 1).val % 128; omega
  · intro k hk
    have hk' : k.val ≠ (y 1).val / 128 := fun h => hk (Fin.ext h)
    show (y 1).val < 128 * k.val ∨ 128 * k.val + 128 ≤ (y 1).val
    omega

/-- The row of scales written back: lane 0 of the tile's rows of the scratch, transposed. -/
theorem pay24_apply (v : Vec F S1x128x128 .f32) (l : Fin 128) :
    k0_pay24 v (ix2 (0 : Fin 1) l) = v (ix3 (0 : Fin 1) l (0 : Fin 128)) := by
  unfold k0_pay24
  pointwise

theorem off4_eq : ∀ i : grid0.Coords, k0_cond1 i = 1#1 → k0_cond2 i = 1#1 →
    k0_off4 i = ![(4 * (i 0).val + (i 1).val) / 8, 128 * ((4 * (i 0).val + (i 1).val) % 8)] := by decide +kernel
theorem off5_eq : ∀ i : grid0.Coords, k0_cond1 i = 1#1 → k0_cond3 i = 1#1 →
    k0_off5 i = ![(4 * (i 0).val + (i 1).val) / 8, 128 * ((4 * (i 0).val + (i 1).val) % 8)] := by decide +kernel

theorem readCov14 (v : View sig .tc sp S2x512x128 .f32) [∀ e, Nonempty (Elt F e)] (l : Fin 128) :
    k0_pay24 (v.readCov (L14 i h1 x3) (Rect.unit (s := S2x512x128) (k0_off3 i) S1x128x128.size (k0_off3_inb i h1)).toLoadRect) (ix2 (0 : Fin 1) l)
      = sT x3 l (0 : Fin 128) := by
  rw [pay24_apply]
  unfold View.readCov
  rw [View.readAt_unit v _ (k0_off3_inb i h1) (k0_off3_eq i) (by rw [← k0_off3_eq i]; exact k0_off3_inb i h1)]
  refine read14_new i h1 x3 v _ _ l ?_ ?_
  · show (i 0).val % 2 + 1 * 0 = _; omega
  · show 128 * (i 1).val + 1 * l.val = _; omega

theorem read10_new (v : View sig .tc sp S2x1024 .f32) (f : v.ty.Contents (Elt F)) (off : Fin 2 → ℕ)
    (hoff : off = ![(4 * (i 0).val + (i 1).val) / 8, 128 * ((4 * (i 0).val + (i 1).val) % 8)])
    (inb : ∀ a, off a + S1x128.size a ≤ S2x1024.size a) (w : S1x128.Idx → F .f32)
    (hw : ∀ l : Fin 128, w (ix2 (0 : Fin 1) l) = sT x3 l (0 : Fin 128))
    (y : S2x1024.Idx) (r : Fin 128) (hy : 1024 * (y 0).val + (y 1).val = 128 * (4 * (i 0).val + (i 1).val) + r.val) :
    v.read (Elt F) (v.writes (Elt F) f [⟨Rect.unit off S1x128.size inb, w⟩]) y = sT x3 r (0 : Fin 128) := by
  have hr := r.isLt
  have hy1 : (y 1).val < 1024 := (y 1).isLt
  rw [View.read_writes_cons_unit_of_mem v f inb w [] y (ix2 (0 : Fin 1) r) hoff, hw]
  intro a
  match a with
  | ⟨0, _⟩ => show (y 0).val = (4 * (i 0).val + (i 1).val) / 8 + 0; omega
  | ⟨1, _⟩ => show (y 1).val = 128 * ((4 * (i 0).val + (i 1).val) % 8) + r.val; omega
theorem read10_old (v : View sig .tc sp S2x1024 .f32) (f : v.ty.Contents (Elt F)) (off : Fin 2 → ℕ)
    (hoff : off = ![(4 * (i 0).val + (i 1).val) / 8, 128 * ((4 * (i 0).val + (i 1).val) % 8)])
    (inb : ∀ a, off a + S1x128.size a ≤ S2x1024.size a) (w : S1x128.Idx → F .f32)
    (y : S2x1024.Idx) (hy : 1024 * (y 0).val + (y 1).val < 128 * (4 * (i 0).val + (i 1).val) ∨
      128 * (4 * (i 0).val + (i 1).val) + 128 ≤ 1024 * (y 0).val + (y 1).val) :
    v.read (Elt F) (v.writes (Elt F) f [⟨Rect.unit off S1x128.size inb, w⟩]) y = v.read (Elt F) f y := by
  have hy1 : (y 1).val < 1024 := (y 1).isLt
  by_cases h0 : (y 0).val = (4 * (i 0).val + (i 1).val) / 8
  · refine View.read_writes_cons_unit_of_not_mem v f inb w [] y hoff 1 ?_
    show (y 1).val < 128 * ((4 * (i 0).val + (i 1).val) % 8) ∨ 128 * ((4 * (i 0).val + (i 1).val) % 8) + 128 ≤ (y 1).val
    omega
  · refine View.read_writes_cons_unit_of_not_mem v f inb w [] y hoff 0 ?_
    show (y 0).val < (4 * (i 0).val + (i 1).val) / 8 ∨ (4 * (i 0).val + (i 1).val) / 8 + 1 ≤ (y 0).val
    omega

end Lists

end Cert.Kernel.Hand

end
-- ==== Proof.BodyK.lean ====
module

public import proofs.«01_k».proof.Proof.Gen.Kernel.Frame
public import proofs.«01_k».proof.Proof.Gen.Kernel.Skeleton
public import proofs.«01_k».proof.Proof.Gen.Kernel.Points
public import proofs.«01_k».proof.Proof.TileK
public import Idealize.ShloMosaic.Lib.Pipeline.Frame
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body leaves at point `i`, both stages: what it found in the windows and the scratch is `Y…`, what it leaves
    `X…`. -/
def Post (i : grid0.Coords) (x2 : S128x6912.Idx → F .f32) (x3 : S128x128.Idx → F .f32) (x4 : S6912x1280.Idx → BitVec 8)
    (x5 x6 : S1x1280.Idx → F .f32) (X8 : S512x1280.Idx → F .bf16) (Y9 X9 : S128x6912.Idx → BitVec 8)
    (Y10 X10 : S2x1024.Idx → F .f32) (Y13 X13 : S2x512x6912.Idx → F .bf16) (Y14 X14 : S2x512x128.Idx → F .f32) : Prop :=
  (k0_cond1 i = 1#1 → PostA i x2 x3 Y13 X13 Y14 X14 Y10 X10 X9)
    ∧ (¬ k0_cond1 i = 1#1 → X13 = Y13 ∧ X14 = Y14 ∧ X10 = Y10 ∧ X9 = Y9)
    ∧ ∀ h4 : k0_cond4 i = 1#1, PostB i h4 X13 X14 x4 x5 x6 X8

/-- Which stages run at a point: every combination that happens. -/
theorem cond_cases : ∀ i : grid0.Coords,
    (k0_cond1 i = 1#1 ∧ k0_cond2 i = 1#1 ∧ ¬ k0_cond3 i = 1#1 ∧ ¬ k0_cond4 i = 1#1 ∧ k0_cond5 i = 1#1)
    ∨ (k0_cond1 i = 1#1 ∧ k0_cond2 i = 1#1 ∧ ¬ k0_cond3 i = 1#1 ∧ ¬ k0_cond4 i = 1#1 ∧ ¬ k0_cond5 i = 1#1)
    ∨ (k0_cond1 i = 1#1 ∧ k0_cond2 i = 1#1 ∧ ¬ k0_cond3 i = 1#1 ∧ k0_cond4 i = 1#1 ∧ ¬ k0_cond5 i = 1#1)
    ∨ (k0_cond1 i = 1#1 ∧ ¬ k0_cond2 i = 1#1 ∧ k0_cond3 i = 1#1 ∧ k0_cond4 i = 1#1 ∧ ¬ k0_cond5 i = 1#1)
    ∨ (¬ k0_cond1 i = 1#1 ∧ k0_cond4 i = 1#1 ∧ ¬ k0_cond5 i = 1#1) := by decide +kernel

/-! ## The body, run once for each combination of stages -/

/-- The multiply stage alone: the last points of the grid. -/
theorem run_b (c : Dev nD) (i : grid0.Coords) (h1 : ¬ k0_cond1 i = 1#1) (h4 : k0_cond4 i = 1#1) (h5 : ¬ k0_cond5 i = 1#1)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  simp only [cc0_out_proj_eq_skeleton]; unfold cc0_out_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3 hf4 hf5 hf6 hf7 hf8 hf9 hf10 hf11 hf12 hf13 hf14
  sl_exec_parts (disch := first | exact h1 | exact h4 | exact h5)
  sl_step
  iapply Hk
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H11]
  · iexists _; iexists _; isplitr; swap; · iexact H11
    ipureintro; rfl
  isplitl [H12]
  · iexists _; iexists _; isplitr; swap; · iexact H12
    ipureintro; rfl
  iexists _; iexists _; iexists _; iexists _; iexists _
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H13]
  · iexists _; isplitr; swap; · iexact H13
    ipureintro; rfl
  isplitl [H14]
  · iexists _; isplitr; swap; · iexact H14
    ipureintro; rfl
  ipureintro
  refine ⟨fun h => absurd h h1, fun _ => ⟨rfl, rfl, rfl, rfl⟩, fun h4' => ?_⟩
  intro y
  have h := read8 (VecWindow.window (View.read (Elt F) arg13.view f13) (k0_off6 i) S1x512x6912.size (k0_off6_inb i h4))
      (VecWindow.window (View.read (Elt F) arg14.view f14) (k0_off7 i) S1x512x128.size (k0_off7_inb i h4))
      (View.readAt (Elt F) arg4.view (Rect.unit ![0, 0] S6912x1280.size inb_S6912x1280_S6912x1280_0_0).toLoadRect f4) (View.read (Elt F) arg5.view f5) (View.read (Elt F) arg6.view f6) arg8.view f8 y
  rw [L8_eq] at h
  have e4 : View.readAt (Elt F) arg4.view (Rect.unit ![0, 0] S6912x1280.size inb_S6912x1280_S6912x1280_0_0).toLoadRect f4
      = View.read (Elt F) arg4.view f4 := View.readAt_full arg4.view f4 inb_S6912x1280_S6912x1280_0_0
  refine Eq.trans (Eq.trans ?_ h) (congrArg (fun x => outT _ _ x _ _ _ _) e4)
  rfl

/-- Both stages, the scales of the first batch. -/
theorem run_ab2 (c : Dev nD) (i : grid0.Coords) (h1 : k0_cond1 i = 1#1) (h2 : k0_cond2 i = 1#1) (h3 : ¬ k0_cond3 i = 1#1) (h4 : k0_cond4 i = 1#1) (h5 : ¬ k0_cond5 i = 1#1)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  simp only [cc0_out_proj_eq_skeleton]; unfold cc0_out_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3 hf4 hf5 hf6 hf7 hf8 hf9 hf10 hf11 hf12 hf13 hf14
  sl_exec_parts (disch := first | exact h1 | exact h2 | exact h3 | exact h4 | exact h5)
  sl_step
  iapply Hk
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H11]
  · iexists _; iexists _; isplitr; swap; · iexact H11
    ipureintro; rfl
  isplitl [H12]
  · iexists _; iexists _; isplitr; swap; · iexact H12
    ipureintro; rfl
  iexists _; iexists _; iexists _; iexists _; iexists _
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H13]
  · iexists _; isplitr; swap; · iexact H13
    ipureintro; rfl
  isplitl [H14]
  · iexists _; isplitr; swap; · iexact H14
    ipureintro; rfl
  ipureintro
  refine ⟨fun _ => ⟨?_, ?_, ?_, ?_, ?_, ?_, ?_⟩, fun h => absurd h1 h, fun h4' => ?_⟩
  · exact fun y r h0 hr => read13_new i h1 (View.read (Elt F) arg3.view f3) (View.read (Elt F) arg2.view f2) arg13.view f13 y r h0 hr
  · exact fun y h => read13_old i h1 (View.read (Elt F) arg3.view f3) (View.read (Elt F) arg2.view f2) arg13.view f13 y h
  · exact fun y r h0 hr => read14_new i h1 (View.read (Elt F) arg3.view f3) arg14.view f14 y r h0 hr
  · exact fun y h => read14_old i h1 (View.read (Elt F) arg3.view f3) arg14.view f14 y h
  · exact fun y r hy => read10_new i (View.read (Elt F) arg3.view f3) arg10.view f10 (k0_off4 i) (off4_eq i h1 h2) (k0_off4_inb i h1 h2) _ (fun l => readCov14 i h1 (View.read (Elt F) arg3.view f3) arg14.view l) y r hy
  · exact fun y hy => read10_old i arg10.view f10 (k0_off4 i) (off4_eq i h1 h2) (k0_off4_inb i h1 h2) _ y hy
  · exact fun y => read9 (View.read (Elt F) arg3.view f3) (View.read (Elt F) arg2.view f2) arg9.view f9 y
  intro y
  have h := read8 (VecWindow.window (View.read (Elt F) arg13.view (arg13.view.writes (Elt F) f13 (L13 i h1 (View.read (Elt F) arg3.view f3) (View.read (Elt F) arg2.view f2)))) (k0_off6 i) S1x512x6912.size (k0_off6_inb i h4))
      (VecWindow.window (View.read (Elt F) arg14.view (arg14.view.writes (Elt F) f14 (L14 i h1 (View.read (Elt F) arg3.view f3)))) (k0_off7 i) S1x512x128.size (k0_off7_inb i h4))
      (View.readAt (Elt F) arg4.view (Rect.unit ![0, 0] S6912x1280.size inb_S6912x1280_S6912x1280_0_0).toLoadRect f4) (View.read (Elt F) arg5.view f5) (View.read (Elt F) arg6.view f6) arg8.view f8 y
  rw [L8_eq] at h
  have e4 : View.readAt (Elt F) arg4.view (Rect.unit ![0, 0] S6912x1280.size inb_S6912x1280_S6912x1280_0_0).toLoadRect f4
      = View.read (Elt F) arg4.view f4 := View.readAt_full arg4.view f4 inb_S6912x1280_S6912x1280_0_0
  refine Eq.trans (Eq.trans ?_ h) (congrArg (fun x => outT _ _ x _ _ _ _) e4)
  rfl

/-- Both stages, the scales of the second batch. -/
theorem run_ab3 (c : Dev nD) (i : grid0.Coords) (h1 : k0_cond1 i = 1#1) (h2 : ¬ k0_cond2 i = 1#1) (h3 : k0_cond3 i = 1#1) (h4 : k0_cond4 i = 1#1) (h5 : ¬ k0_cond5 i = 1#1)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  simp only [cc0_out_proj_eq_skeleton]; unfold cc0_out_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3 hf4 hf5 hf6 hf7 hf8 hf9 hf10 hf11 hf12 hf13 hf14
  sl_exec_parts (disch := first | exact h1 | exact h2 | exact h3 | exact h4 | exact h5)
  sl_step
  iapply Hk
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H11]
  · iexists _; iexists _; isplitr; swap; · iexact H11
    ipureintro; rfl
  isplitl [H12]
  · iexists _; iexists _; isplitr; swap; · iexact H12
    ipureintro; rfl
  iexists _; iexists _; iexists _; iexists _; iexists _
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H13]
  · iexists _; isplitr; swap; · iexact H13
    ipureintro; rfl
  isplitl [H14]
  · iexists _; isplitr; swap; · iexact H14
    ipureintro; rfl
  ipureintro
  refine ⟨fun _ => ⟨?_, ?_, ?_, ?_, ?_, ?_, ?_⟩, fun h => absurd h1 h, fun h4' => ?_⟩
  · exact fun y r h0 hr => read13_new i h1 (View.read (Elt F) arg3.view f3) (View.read (Elt F) arg2.view f2) arg13.view f13 y r h0 hr
  · exact fun y h => read13_old i h1 (View.read (Elt F) arg3.view f3) (View.read (Elt F) arg2.view f2) arg13.view f13 y h
  · exact fun y r h0 hr => read14_new i h1 (View.read (Elt F) arg3.view f3) arg14.view f14 y r h0 hr
  · exact fun y h => read14_old i h1 (View.read (Elt F) arg3.view f3) arg14.view f14 y h
  · exact fun y r hy => read10_new i (View.read (Elt F) arg3.view f3) arg10.view f10 (k0_off5 i) (off5_eq i h1 h3) (k0_off5_inb i h1 h3) _ (fun l => readCov14 i h1 (View.read (Elt F) arg3.view f3) arg14.view l) y r hy
  · exact fun y hy => read10_old i arg10.view f10 (k0_off5 i) (off5_eq i h1 h3) (k0_off5_inb i h1 h3) _ y hy
  · exact fun y => read9 (View.read (Elt F) arg3.view f3) (View.read (Elt F) arg2.view f2) arg9.view f9 y
  intro y
  have h := read8 (VecWindow.window (View.read (Elt F) arg13.view (arg13.view.writes (Elt F) f13 (L13 i h1 (View.read (Elt F) arg3.view f3) (View.read (Elt F) arg2.view f2)))) (k0_off6 i) S1x512x6912.size (k0_off6_inb i h4))
      (VecWindow.window (View.read (Elt F) arg14.view (arg14.view.writes (Elt F) f14 (L14 i h1 (View.read (Elt F) arg3.view f3)))) (k0_off7 i) S1x512x128.size (k0_off7_inb i h4))
      (View.readAt (Elt F) arg4.view (Rect.unit ![0, 0] S6912x1280.size inb_S6912x1280_S6912x1280_0_0).toLoadRect f4) (View.read (Elt F) arg5.view f5) (View.read (Elt F) arg6.view f6) arg8.view f8 y
  rw [L8_eq] at h
  have e4 : View.readAt (Elt F) arg4.view (Rect.unit ![0, 0] S6912x1280.size inb_S6912x1280_S6912x1280_0_0).toLoadRect f4
      = View.read (Elt F) arg4.view f4 := View.readAt_full arg4.view f4 inb_S6912x1280_S6912x1280_0_0
  refine Eq.trans (Eq.trans ?_ h) (congrArg (fun x => outT _ _ x _ _ _ _) e4)
  rfl

/-- The quantise stage alone. -/
theorem run_a (c : Dev nD) (i : grid0.Coords) (h1 : k0_cond1 i = 1#1) (h2 : k0_cond2 i = 1#1) (h3 : ¬ k0_cond3 i = 1#1) (h4 : ¬ k0_cond4 i = 1#1) (h5 : ¬ k0_cond5 i = 1#1)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  simp only [cc0_out_proj_eq_skeleton]; unfold cc0_out_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3 hf4 hf5 hf6 hf7 hf8 hf9 hf10 hf11 hf12 hf13 hf14
  sl_exec_parts (disch := first | exact h1 | exact h2 | exact h3 | exact h4 | exact h5)
  sl_step
  iapply Hk
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H11]
  · iexists _; iexists _; isplitr; swap; · iexact H11
    ipureintro; rfl
  isplitl [H12]
  · iexists _; iexists _; isplitr; swap; · iexact H12
    ipureintro; rfl
  iexists _; iexists _; iexists _; iexists _; iexists _
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H13]
  · iexists _; isplitr; swap; · iexact H13
    ipureintro; rfl
  isplitl [H14]
  · iexists _; isplitr; swap; · iexact H14
    ipureintro; rfl
  ipureintro
  refine ⟨fun _ => ⟨?_, ?_, ?_, ?_, ?_, ?_, ?_⟩, fun h => absurd h1 h, fun h => absurd h h4⟩
  · exact fun y r h0 hr => read13_new i h1 (View.read (Elt F) arg3.view f3) (View.read (Elt F) arg2.view f2) arg13.view f13 y r h0 hr
  · exact fun y h => read13_old i h1 (View.read (Elt F) arg3.view f3) (View.read (Elt F) arg2.view f2) arg13.view f13 y h
  · exact fun y r h0 hr => read14_new i h1 (View.read (Elt F) arg3.view f3) arg14.view f14 y r h0 hr
  · exact fun y h => read14_old i h1 (View.read (Elt F) arg3.view f3) arg14.view f14 y h
  · exact fun y r hy => read10_new i (View.read (Elt F) arg3.view f3) arg10.view f10 (k0_off4 i) (off4_eq i h1 h2) (k0_off4_inb i h1 h2) _ (fun l => readCov14 i h1 (View.read (Elt F) arg3.view f3) arg14.view l) y r hy
  · exact fun y hy => read10_old i arg10.view f10 (k0_off4 i) (off4_eq i h1 h2) (k0_off4_inb i h1 h2) _ y hy
  · exact fun y => read9 (View.read (Elt F) arg3.view f3) (View.read (Elt F) arg2.view f2) arg9.view f9 y

/-- The quantise stage and the quantisation of the last state: the first point of the grid. -/
theorem run_ah (c : Dev nD) (i : grid0.Coords) (h1 : k0_cond1 i = 1#1) (h2 : k0_cond2 i = 1#1) (h3 : ¬ k0_cond3 i = 1#1) (h4 : ¬ k0_cond4 i = 1#1) (h5 : k0_cond5 i = 1#1)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  simp only [cc0_out_proj_eq_skeleton]; unfold cc0_out_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3 hf4 hf5 hf6 hf7 hf8 hf9 hf10 hf11 hf12 hf13 hf14
  sl_exec_parts (disch := first | exact h1 | exact h2 | exact h3 | exact h4 | exact h5)
  sl_step
  iapply Hk
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H11]
  · iexists _; iexists _; isplitr; swap; · iexact H11
    ipureintro; rfl
  isplitl [H12]
  · iexists _; iexists _; isplitr; swap; · iexact H12
    ipureintro; rfl
  iexists _; iexists _; iexists _; iexists _; iexists _
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H13]
  · iexists _; isplitr; swap; · iexact H13
    ipureintro; rfl
  isplitl [H14]
  · iexists _; isplitr; swap; · iexact H14
    ipureintro; rfl
  ipureintro
  refine ⟨fun _ => ⟨?_, ?_, ?_, ?_, ?_, ?_, ?_⟩, fun h => absurd h1 h, fun h => absurd h h4⟩
  · exact fun y r h0 hr => read13_new i h1 (View.read (Elt F) arg3.view f3) (View.read (Elt F) arg2.view f2) arg13.view f13 y r h0 hr
  · exact fun y h => read13_old i h1 (View.read (Elt F) arg3.view f3) (View.read (Elt F) arg2.view f2) arg13.view f13 y h
  · exact fun y r h0 hr => read14_new i h1 (View.read (Elt F) arg3.view f3) arg14.view f14 y r h0 hr
  · exact fun y h => read14_old i h1 (View.read (Elt F) arg3.view f3) arg14.view f14 y h
  · exact fun y r hy => read10_new i (View.read (Elt F) arg3.view f3) arg10.view f10 (k0_off4 i) (off4_eq i h1 h2) (k0_off4_inb i h1 h2) _ (fun l => readCov14 i h1 (View.read (Elt F) arg3.view f3) arg14.view l) y r hy
  · exact fun y hy => read10_old i arg10.view f10 (k0_off4 i) (off4_eq i h1 h2) (k0_off4_inb i h1 h2) _ y hy
  · exact fun y => read9 (View.read (Elt F) arg3.view f3) (View.read (Elt F) arg2.view f2) arg9.view f9 y

/-- The body at any point: the case at hand. -/
theorem run_body (c : Dev nD) (i : grid0.Coords)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  rcases cond_cases i with ⟨h1, h2, h3, h4, h5⟩ | ⟨h1, h2, h3, h4, h5⟩ | ⟨h1, h2, h3, h4, h5⟩ | ⟨h1, h2, h3, h4, h5⟩ | ⟨h1, h4, h5⟩
  · exact run_ah c i h1 h2 h3 h4 h5 arg2 harg2 arg3 harg3 arg4 harg4 arg5 harg5 arg6 harg6 arg7 harg7 arg8 harg8 arg9 harg9 arg10 harg10 arg11 harg11 arg12 harg12 arg13 harg13 arg14 harg14 x2 x3 x4 x5 x6 x7 Y8 Y9 Y10 Y11 Y12 Y13 Y14 K
  · exact run_a c i h1 h2 h3 h4 h5 arg2 harg2 arg3 harg3 arg4 harg4 arg5 harg5 arg6 harg6 arg7 harg7 arg8 harg8 arg9 harg9 arg10 harg10 arg11 harg11 arg12 harg12 arg13 harg13 arg14 harg14 x2 x3 x4 x5 x6 x7 Y8 Y9 Y10 Y11 Y12 Y13 Y14 K
  · exact run_ab2 c i h1 h2 h3 h4 h5 arg2 harg2 arg3 harg3 arg4 harg4 arg5 harg5 arg6 harg6 arg7 harg7 arg8 harg8 arg9 harg9 arg10 harg10 arg11 harg11 arg12 harg12 arg13 harg13 arg14 harg14 x2 x3 x4 x5 x6 x7 Y8 Y9 Y10 Y11 Y12 Y13 Y14 K
  · exact run_ab3 c i h1 h2 h3 h4 h5 arg2 harg2 arg3 harg3 arg4 harg4 arg5 harg5 arg6 harg6 arg7 harg7 arg8 harg8 arg9 harg9 arg10 harg10 arg11 harg11 arg12 harg12 arg13 harg13 arg14 harg14 x2 x3 x4 x5 x6 x7 Y8 Y9 Y10 Y11 Y12 Y13 Y14 K
  · exact run_b c i h1 h4 h5 arg2 harg2 arg3 harg3 arg4 harg4 arg5 harg5 arg6 harg6 arg7 harg7 arg8 harg8 arg9 harg9 arg10 harg10 arg11 harg11 arg12 harg12 arg13 harg13 arg14 harg14 x2 x3 x4 x5 x6 x7 Y8 Y9 Y10 Y11 Y12 Y13 Y14 K

end Cert.Kernel.Hand

end
-- ==== Proof.DataK.lean ====
module

public import proofs.«01_k».proof.Proof.Gen.Kernel.Frame
public import proofs.«01_k».proof.Proof.Gen.Kernel.Skeleton
public import proofs.«01_k».proof.Proof.Gen.Kernel.Points
public import proofs.«01_k».proof.Proof.TileK
public import proofs.«01_k».proof.Proof.BodyK
public import Idealize.ShloMosaic.Lib.Pipeline.Frame
public import Idealize.ShloMosaic.Lib.Pipeline.FrameBody
public import Idealize.ShloMosaic.Lib.Pipeline.ArrRel
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The blocks the body reads, and what it leaves as functions of them -/

/-- The tile of rows of `o`, the tile of lane maxima, the weights, the column scales and the bias at point `t`. -/
abbrev bO (c : Dev nD) (t : Fin grid0.N) : S128x6912.Idx → F .f32 := iblk m c 0 t
abbrev bA (c : Dev nD) (t : Fin grid0.N) : S128x128.Idx → F .f32 := iblk m c 1 t
abbrev bW (c : Dev nD) (t : Fin grid0.N) : S6912x1280.Idx → BitVec 8 := iblk m c 2 t
abbrev bS (c : Dev nD) (t : Fin grid0.N) : S1x1280.Idx → F .f32 := iblk m c 3 t
abbrev bB (c : Dev nD) (t : Fin grid0.N) : S1x1280.Idx → F .f32 := iblk m c 4 t

/-- A point of the grid by its number, the number cut to the grid. -/
abbrev pt (n : ℕ) : Fin grid0.N := ⟨min n 19, by rw [N_0]; omega⟩

/-- What the scratch holds before point `n`: the tiles of the last eight points, each in the plane of its group's parity. -/
def Scr (c : Dev nD) (n : ℕ) (X13 : S2x512x6912.Idx → F .bf16) (X14 : S2x512x128.Idx → F .f32) : Prop :=
  ∀ u : ℕ, u < n → u < 16 → n ≤ u + 8 →
    (∀ (y : S2x512x6912.Idx) (r : Fin 128), (y 0).val = u / 4 % 2 → (y 1).val = 128 * (u % 4) + r.val →
      X13 y = qT (bA m c (pt u)) (bO m c (pt u)) r (y 2))
    ∧ (∀ (y : S2x512x128.Idx) (r : Fin 128), (y 0).val = u / 4 % 2 → (y 1).val = 128 * (u % 4) + r.val →
      X14 y = sT (bA m c (pt u)) r (y 2))

/-- What the resident scales hold before point `n`: the scales of every tile so far. -/
def Sc (c : Dev nD) (n : ℕ) (X : S2x1024.Idx → F .f32) : Prop :=
  ∀ u : ℕ, u < n → u < 16 → ∀ (y : S2x1024.Idx) (r : Fin 128), 1024 * (y 0).val + (y 1).val = 128 * u + r.val →
    X y = sT (bA m c (pt u)) r (0 : Fin 128)

/-- The codes' tile of point `u`. -/
def codeB (c : Dev nD) (u : Fin grid0.N) : S128x6912.Idx → BitVec 8 :=
  fun y => codeT (bA m c u) (bO m c u) (y 0) (y 1)

/-- The plane of codes and the plane of scales the multiply stage of group `g` reads: the four tiles of group `g - 1`. -/
def planeQ (c : Dev nD) (g : ℕ) : S1x512x6912.Idx → F .bf16 := fun y =>
  qT (bA m c (pt (4 * (g - 1) + (y 1).val / 128))) (bO m c (pt (4 * (g - 1) + (y 1).val / 128))) ⟨(y 1).val % 128, by omega⟩ (y 2)
def planeS (c : Dev nD) (g : ℕ) : S1x512x128.Idx → F .f32 := fun y =>
  sT (bA m c (pt (4 * (g - 1) + (y 1).val / 128))) ⟨(y 1).val % 128, by omega⟩ (y 2)

/-- The output tile of point `t`. -/
def outB (c : Dev nD) (t : Fin grid0.N) : S512x1280.Idx → F .bf16 := fun y =>
  outT (planeQ m c (t.val / 4)) (planeS m c (t.val / 4)) (bW m c t) (bS m c t) (bB m c t) (y 0) (y 1)

/-! ## The two coordinates of a point, and when each stage runs -/

theorem coords_eq : ∀ t : Fin grid0.N, (grid0.coords t 0).val = t.val / 4 ∧ (grid0.coords t 1).val = t.val % 4 := by decide +kernel
theorem cond1_iff : ∀ t : Fin grid0.N, k0_cond1 (grid0.coords t) = 1#1 ↔ t.val < 16 := by decide +kernel
theorem cond4_iff : ∀ t : Fin grid0.N, k0_cond4 (grid0.coords t) = 1#1 ↔ 4 ≤ t.val := by decide +kernel

theorem pt_val (t : Fin grid0.N) : pt t.val = t := by
  apply Fin.ext
  have : t.val < 20 := lt_of_lt_of_eq t.isLt N_0
  show min t.val 19 = t.val; omega

/-! ## One point's step of the invariant -/

theorem scr_step (c : Dev nD) (t : Fin grid0.N) (h1 : t.val < 16) {Y13 X13 : S2x512x6912.Idx → F .bf16}
    {Y14 X14 : S2x512x128.Idx → F .f32} {Y10 X10 : S2x1024.Idx → F .f32} {X9 : S128x6912.Idx → BitVec 8}
    (hY : Scr m c t.val Y13 Y14) (h : PostA (grid0.coords t) (bO m c t) (bA m c t) Y13 X13 Y14 X14 Y10 X10 X9) :
    Scr m c (t.val + 1) X13 X14 := by
  obtain ⟨e0, e1⟩ := coords_eq t
  intro u hu hu' hn
  by_cases hut : u = t.val
  · subst hut
    rw [pt_val]
    exact ⟨fun y r h0 hr => h.q_new y r (by rw [e0]; exact h0) (by rw [e1]; exact hr),
      fun y r h0 hr => h.s_new y r (by rw [e0]; exact h0) (by rw [e1]; exact hr)⟩
  · obtain ⟨hq, hs⟩ := hY u (by omega) hu' (by omega)
    constructor
    · intro y r h0 hr
      have := r.isLt
      rw [h.q_old y (by rw [e0, e1]; omega)]
      exact hq y r h0 hr
    · intro y r h0 hr
      have := r.isLt
      rw [h.s_old y (by rw [e0, e1]; omega)]
      exact hs y r h0 hr

theorem scr_stay (c : Dev nD) (t : ℕ) (h1 : 16 ≤ t) {X13 : S2x512x6912.Idx → F .bf16} {X14 : S2x512x128.Idx → F .f32}
    (hY : Scr m c t X13 X14) : Scr m c (t + 1) X13 X14 :=
  fun u hu hu' hn => hY u (by omega) hu' (by omega)

theorem sc_step (c : Dev nD) (t : Fin grid0.N) (h1 : t.val < 16) {Y13 X13 : S2x512x6912.Idx → F .bf16}
    {Y14 X14 : S2x512x128.Idx → F .f32} {Y10 X10 : S2x1024.Idx → F .f32} {X9 : S128x6912.Idx → BitVec 8}
    (hY : Sc m c t.val Y10) (h : PostA (grid0.coords t) (bO m c t) (bA m c t) Y13 X13 Y14 X14 Y10 X10 X9) :
    Sc m c (t.val + 1) X10 := by
  obtain ⟨e0, e1⟩ := coords_eq t
  intro u hu hu' y r hy
  have := r.isLt
  by_cases hut : u = t.val
  · subst hut
    rw [pt_val]
    exact h.sc_new y r (by rw [e0, e1]; omega)
  · rw [h.sc_old y (by rw [e0, e1]; omega)]
    exact hY u (by omega) hu' y r hy

theorem sc_stay (c : Dev nD) (t : ℕ) (h1 : 16 ≤ t) {X : S2x1024.Idx → F .f32} (hY : Sc m c t X) : Sc m c (t + 1) X :=
  fun u hu hu' => hY u (by omega) hu'

/-- The multiply stage's tile, its two planes named by the invariant. -/
theorem out_step (c : Dev nD) (t : Fin grid0.N) (h4 : 4 ≤ t.val) {X13 : S2x512x6912.Idx → F .bf16} {X14 : S2x512x128.Idx → F .f32}
    (hX : Scr m c (t.val + 1) X13 X14) {X8 : S512x1280.Idx → F .bf16}
    (h : PostB (grid0.coords t) ((cond4_iff t).2 h4) X13 X14 (bW m c t) (bS m c t) (bB m c t) X8) : X8 = outB m c t := by
  obtain ⟨e0, e1⟩ := coords_eq t
  have ht : t.val < 20 := lt_of_lt_of_eq t.isLt N_0
  have a0 : k0_off6 (grid0.coords t) 0 = (t.val / 4 + 1) % 2 := by
    rw [k0_off6_eq, ← e0]; rfl
  have a1 : k0_off6 (grid0.coords t) 1 = 0 := by rw [k0_off6_eq]; rfl
  have a2 : k0_off6 (grid0.coords t) 2 = 0 := by rw [k0_off6_eq]; rfl
  have b0 : k0_off7 (grid0.coords t) 0 = (t.val / 4 + 1) % 2 := by
    rw [k0_off7_eq, ← e0]; rfl
  have b1 : k0_off7 (grid0.coords t) 1 = 0 := by rw [k0_off7_eq]; rfl
  have b2 : k0_off7 (grid0.coords t) 2 = 0 := by rw [k0_off7_eq]; rfl
  have hq : VecWindow.window X13 (k0_off6 (grid0.coords t)) S1x512x6912.size (k0_off6_inb (grid0.coords t) ((cond4_iff t).2 h4)) = planeQ m c (t.val / 4) := by
    funext y
    have hy0 : (y 0).val < 1 := (y 0).isLt
    have hy1 : (y 1).val < 512 := (y 1).isLt
    refine ((hX (4 * (t.val / 4 - 1) + (y 1).val / 128) (by omega) (by omega) (by omega)).1 _ ⟨(y 1).val % 128, by omega⟩ ?_ ?_).trans ?_
    · show k0_off6 (grid0.coords t) 0 + 1 * (y 0).val = _
      omega
    · show k0_off6 (grid0.coords t) 1 + 1 * (y 1).val = 128 * ((4 * (t.val / 4 - 1) + (y 1).val / 128) % 4) + (y 1).val % 128
      omega
    · refine congrArg (qT _ _ _) (Fin.ext ?_)
      show k0_off6 (grid0.coords t) 2 + 1 * (y 2).val = _
      omega
  have hs : VecWindow.window X14 (k0_off7 (grid0.coords t)) S1x512x128.size (k0_off7_inb (grid0.coords t) ((cond4_iff t).2 h4)) = planeS m c (t.val / 4) := by
    funext y
    have hy0 : (y 0).val < 1 := (y 0).isLt
    have hy1 : (y 1).val < 512 := (y 1).isLt
    refine ((hX (4 * (t.val / 4 - 1) + (y 1).val / 128) (by omega) (by omega) (by omega)).2 _ ⟨(y 1).val % 128, by omega⟩ ?_ ?_).trans ?_
    · show k0_off7 (grid0.coords t) 0 + 1 * (y 0).val = _
      omega
    · show k0_off7 (grid0.coords t) 1 + 1 * (y 1).val = 128 * ((4 * (t.val / 4 - 1) + (y 1).val / 128) % 4) + (y 1).val % 128
      omega
    · refine congrArg (sT _ _) (Fin.ext ?_)
      show k0_off7 (grid0.coords t) 2 + 1 * (y 2).val = _
      omega
  funext y
  refine (h y).trans ?_
  rw [hq, hs]; rfl

/-! ## The proof data -/

/-- The scratch at what the invariant says of it, and the generator register. -/
def Inv (c : Dev nD) (n : ℕ) : sProp 𝕄 :=
  iprop((∃ X13 X14, owns (c : Thread nD τ) (Memref.whole cc0_scratch0) fullShare X13 ∗ owns (c : Thread nD τ) (Memref.whole cc0_scratch1) fullShare X14
    ∗ ⌜Scr m c n X13 X14⌝) ∗ ∃ r, prngReg c r)

/-- The windows read exactly: each input's block is left as found. -/
def dat (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => Dat.unnamed (cfg := cfg0) 6 t | 7 => Dat.unnamed (cfg := cfg0) 7 t | 8 => Dat.unnamed (cfg := cfg0) 8 t
    | 9 => Dat.unnamed (cfg := cfg0) 9 t | 10 => Dat.unnamed (cfg := cfg0) 10 t
    | ⟨_ + 11, h⟩ => absurd h (Nat.not_lt.2 (Nat.le_add_left _ _))
  Φ t := Inv m c t.val
  q _ := fullShare
  owed _ := 0

/-- What is said of the five output windows. -/
def ovr (c : Dev nD) : (w : Fin cfg0.W) → Option (Fin cfg0.N → (Y X : (cfg0.win w).block.Idx → Elt F (cfg0.win w).elt) → Prop)
  | 0 => none | 1 => none | 2 => none | 3 => none | 4 => none | 5 => none
  | 6 => some fun t _ X => 4 ≤ t.val → X = outB m c t
  | 7 => some fun t Y X => (t.val < 16 → X = codeB m c t) ∧ (16 ≤ t.val → X = Y)
  | 8 => some fun t Y X => Sc m c t.val Y → Sc m c (t.val + 1) X
  | 9 => some fun _ _ _ => True
  | 10 => some fun _ _ _ => True
  | ⟨_ + 11, h⟩ => absurd h (Nat.not_lt.2 (Nat.le_add_left _ _))

def rdat (c : Dev nD) : RDat τ (Elt F) Unit ℕ (UR sig nD τ) ℕ cfg0 c := (dat m c).toR.override (ovr m c)

theorem dat_A (c : Dev nD) (w : Fin cfg0.W) : (dat m c).A w = V m c (Pipeline.arrRef spec0 w) := by dsimp only [dat]

theorem dat_after_0 (c : Dev nD) (t : Fin cfg0.N) : (dat m c).after 0 t = iblk m c 0 t := by dsimp only [dat]
theorem dat_after_1 (c : Dev nD) (t : Fin cfg0.N) : (dat m c).after 1 t = iblk m c 1 t := by dsimp only [dat]
theorem dat_after_2 (c : Dev nD) (t : Fin cfg0.N) : (dat m c).after 2 t = iblk m c 2 t := by dsimp only [dat]
theorem dat_after_3 (c : Dev nD) (t : Fin cfg0.N) : (dat m c).after 3 t = iblk m c 3 t := by dsimp only [dat]
theorem dat_after_4 (c : Dev nD) (t : Fin cfg0.N) : (dat m c).after 4 t = iblk m c 4 t := by dsimp only [dat]
theorem dat_after_5 (c : Dev nD) (t : Fin cfg0.N) : (dat m c).after 5 t = iblk m c 5 t := by dsimp only [dat]

/-- What the body finds in an input window is the window's block. -/
theorem finds_0 (c : Dev nD) (t : Fin cfg0.N) (Y) (h : (rdat m c).Finds 0 t Y) : Y = bO m c t := by
  obtain ⟨d, rfl⟩ := (dat m c).toR_finds 0 t Y (((dat m c).toR.override_finds rfl t Y).mp h)
  exact before0_0_of m (dat m c) (dat_A m c 0) (dat_after_0 m c) t d
theorem finds_1 (c : Dev nD) (t : Fin cfg0.N) (Y) (h : (rdat m c).Finds 1 t Y) : Y = bA m c t := by
  obtain ⟨d, rfl⟩ := (dat m c).toR_finds 1 t Y (((dat m c).toR.override_finds rfl t Y).mp h)
  exact before0_1_of m (dat m c) (dat_A m c 1) (dat_after_1 m c) t d
theorem finds_2 (c : Dev nD) (t : Fin cfg0.N) (Y) (h : (rdat m c).Finds 2 t Y) : Y = bW m c t := by
  obtain ⟨d, rfl⟩ := (dat m c).toR_finds 2 t Y (((dat m c).toR.override_finds rfl t Y).mp h)
  exact before0_2_of m (dat m c) (dat_A m c 2) (dat_after_2 m c) t d
theorem finds_3 (c : Dev nD) (t : Fin cfg0.N) (Y) (h : (rdat m c).Finds 3 t Y) : Y = bS m c t := by
  obtain ⟨d, rfl⟩ := (dat m c).toR_finds 3 t Y (((dat m c).toR.override_finds rfl t Y).mp h)
  exact before0_3_of m (dat m c) (dat_A m c 3) (dat_after_3 m c) t d
theorem finds_4 (c : Dev nD) (t : Fin cfg0.N) (Y) (h : (rdat m c).Finds 4 t Y) : Y = bB m c t := by
  obtain ⟨d, rfl⟩ := (dat m c).toR_finds 4 t Y (((dat m c).toR.override_finds rfl t Y).mp h)
  exact before0_4_of m (dat m c) (dat_A m c 4) (dat_after_4 m c) t d
theorem finds_5 (c : Dev nD) (t : Fin cfg0.N) (Y) (h : (rdat m c).Finds 5 t Y) : Y = iblk m c 5 t := by
  obtain ⟨d, rfl⟩ := (dat m c).toR_finds 5 t Y (((dat m c).toR.override_finds rfl t Y).mp h)
  exact before0_5_of m (dat m c) (dat_A m c 5) (dat_after_5 m c) t d

/-- The left contents of an input window, as the data ask for them. -/
theorem after_0 (c : Dev nD) (t : Fin cfg0.N) (Y) : (rdat m c).after 0 t Y (bO m c t) := by
  unfold rdat; rw [RDat.override_after_of_eq_none _ rfl]; exact (dat_after_0 m c t).symm
theorem after_1 (c : Dev nD) (t : Fin cfg0.N) (Y) : (rdat m c).after 1 t Y (bA m c t) := by
  unfold rdat; rw [RDat.override_after_of_eq_none _ rfl]; exact (dat_after_1 m c t).symm
theorem after_2 (c : Dev nD) (t : Fin cfg0.N) (Y) : (rdat m c).after 2 t Y (bW m c t) := by
  unfold rdat; rw [RDat.override_after_of_eq_none _ rfl]; exact (dat_after_2 m c t).symm
theorem after_3 (c : Dev nD) (t : Fin cfg0.N) (Y) : (rdat m c).after 3 t Y (bS m c t) := by
  unfold rdat; rw [RDat.override_after_of_eq_none _ rfl]; exact (dat_after_3 m c t).symm
theorem after_4 (c : Dev nD) (t : Fin cfg0.N) (Y) : (rdat m c).after 4 t Y (bB m c t) := by
  unfold rdat; rw [RDat.override_after_of_eq_none _ rfl]; exact (dat_after_4 m c t).symm
theorem after_5 (c : Dev nD) (t : Fin cfg0.N) (Y) : (rdat m c).after 5 t Y (iblk m c 5 t) := by
  unfold rdat; rw [RDat.override_after_of_eq_none _ rfl]; exact (dat_after_5 m c t).symm

/-- The body's step at point `t`, in the terms of the proof data. -/
theorem post_step (c : Dev nD) (t : Fin grid0.N) {X8 : S512x1280.Idx → F .bf16} {Y9 X9 : S128x6912.Idx → BitVec 8}
    {Y10 X10 : S2x1024.Idx → F .f32} {Y13 X13 : S2x512x6912.Idx → F .bf16} {Y14 X14 : S2x512x128.Idx → F .f32}
    (hY : Scr m c t.val Y13 Y14)
    (h : Post (grid0.coords t) (bO m c t) (bA m c t) (bW m c t) (bS m c t) (bB m c t) X8 Y9 X9 Y10 X10 Y13 X13 Y14 X14) :
    Scr m c (t.val + 1) X13 X14 ∧ (4 ≤ t.val → X8 = outB m c t)
      ∧ ((t.val < 16 → X9 = codeB m c t) ∧ (16 ≤ t.val → X9 = Y9)) ∧ (Sc m c t.val Y10 → Sc m c (t.val + 1) X10) := by
  obtain ⟨hA, hN, hB⟩ := h
  by_cases h1 : t.val < 16
  · have hP := hA ((cond1_iff t).2 h1)
    have hS := scr_step m c t h1 hY hP
    exact ⟨hS, fun h4 => out_step m c t h4 hS (hB _), ⟨fun _ => funext hP.code, fun h => absurd h1 (by omega)⟩,
      fun hc => sc_step m c t h1 hc hP⟩
  · obtain ⟨e13, e14, e10, e9⟩ := hN (fun h => h1 ((cond1_iff t).1 h))
    subst e13 e14 e10 e9
    have hS := scr_stay m c t.val (by omega) hY
    exact ⟨hS, fun h4 => out_step m c t h4 hS (hB _), ⟨fun h => absurd h h1, fun _ => rfl⟩, fun hc => sc_stay m c t.val (by omega) hc⟩

end Cert.Kernel.Hand

end
-- ==== Proof.FrameK.lean ====
module

public import proofs.«01_k».proof.Proof.Gen.Kernel.Frame
public import proofs.«01_k».proof.Proof.Gen.Kernel.Skeleton
public import proofs.«01_k».proof.Proof.Gen.Kernel.Points
public import proofs.«01_k».proof.Proof.TileK
public import proofs.«01_k».proof.Proof.BodyK
public import proofs.«01_k».proof.Proof.DataK
public import Idealize.ShloMosaic.Lib.Pipeline.Frame
public import Idealize.ShloMosaic.Lib.Pipeline.FrameBody
public import Idealize.ShloMosaic.Lib.Pipeline.ArrRel
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The body at a point of the pipeline -/

theorem defs₀_row (t : Fin cfg0.N) : defs₀ (F := F) .tc cfg0.body (cfg0.bodyArgs t (cfg0.slots t)) = bodyAt0 t := by
  unfold defs₀; rw [Defs.onTc_tc]

theorem after_6 (c : Dev nD) (t : Fin cfg0.N) (Y X) (h : 4 ≤ t.val → X = outB m c t) : (rdat m c).after 6 t Y X := by
  unfold rdat; rw [RDat.override_after_of_eq_some _ (R := fun t _ X => 4 ≤ t.val → X = outB m c t) rfl]; exact h
theorem after_7 (c : Dev nD) (t : Fin cfg0.N) (Y X) (h : (t.val < 16 → X = codeB m c t) ∧ (16 ≤ t.val → X = Y)) :
    (rdat m c).after 7 t Y X := by
  unfold rdat; rw [RDat.override_after_of_eq_some _ (R := fun t Y X => (t.val < 16 → X = codeB m c t) ∧ (16 ≤ t.val → X = Y)) rfl]; exact h
theorem after_8 (c : Dev nD) (t : Fin cfg0.N) (Y X) (h : Sc m c t.val Y → Sc m c (t.val + 1) X) : (rdat m c).after 8 t Y X := by
  unfold rdat; rw [RDat.override_after_of_eq_some _ (R := fun t Y X => Sc m c t.val Y → Sc m c (t.val + 1) X) rfl]; exact h
theorem after_9 (c : Dev nD) (t : Fin cfg0.N) (Y X) : (rdat m c).after 9 t Y X := by
  unfold rdat; rw [RDat.override_after_of_eq_some _ (R := fun _ _ _ => True) rfl]; trivial
theorem after_10 (c : Dev nD) (t : Fin cfg0.N) (Y X) : (rdat m c).after 10 t Y X := by
  unfold rdat; rw [RDat.override_after_of_eq_some _ (R := fun _ _ _ => True) rfl]; trivial

/-- The body's step at point `t`: from the invariant, the blocks and any contents of the output windows. -/
theorem sound_body (c : Dev nD) (t : Fin cfg0.N) (Y : (w : Fin cfg0.W) → (cfg0.win w).block.Idx → Elt F (cfg0.win w).elt)
    (h0 : Y 0 = bO m c t) (h1 : Y 1 = bA m c t) (h2 : Y 2 = bW m c t) (h3 : Y 3 = bS m c t) (h4 : Y 4 = bB m c t) (h5 : Y 5 = iblk m c 5 t) :
    iprop(Inv m c t.val ∗ (rdat m c).owesAt () t.castSucc ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9) ∗ owns (c : Thread nD τ) ((cfg0.win 10).stage (cfg0.slots t 10)) fullShare (Y 10))
      ⊢ wp frame (wpE (defs₀ (F := F)) Variants.none c none) Set.univ (bodyAt0 t) (fun _ =>
        iprop(Inv m c (t.val + 1) ∗ (rdat m c).owesAt () t.castSucc ∗ (∃ X, ⌜(rdat m c).after 0 t (Y 0) X⌝ ∗ owns (c : Thread nD τ) ((cfg0.win 0).stage (cfg0.slots t 0)) fullShare X) ∗ (∃ X, ⌜(rdat m c).after 1 t (Y 1) X⌝ ∗ owns (c : Thread nD τ) ((cfg0.win 1).stage (cfg0.slots t 1)) fullShare X) ∗ (∃ X, ⌜(rdat m c).after 2 t (Y 2) X⌝ ∗ owns (c : Thread nD τ) ((cfg0.win 2).stage (cfg0.slots t 2)) fullShare X) ∗ (∃ X, ⌜(rdat m c).after 3 t (Y 3) X⌝ ∗ owns (c : Thread nD τ) ((cfg0.win 3).stage (cfg0.slots t 3)) fullShare X) ∗ (∃ X, ⌜(rdat m c).after 4 t (Y 4) X⌝ ∗ owns (c : Thread nD τ) ((cfg0.win 4).stage (cfg0.slots t 4)) fullShare X) ∗ (∃ X, ⌜(rdat m c).after 5 t (Y 5) X⌝ ∗ owns (c : Thread nD τ) ((cfg0.win 5).stage (cfg0.slots t 5)) fullShare X) ∗ (∃ X, ⌜(rdat m c).after 6 t (Y 6) X⌝ ∗ owns (c : Thread nD τ) ((cfg0.win 6).stage (cfg0.slots t 6)) fullShare X) ∗ (∃ X, ⌜(rdat m c).after 7 t (Y 7) X⌝ ∗ owns (c : Thread nD τ) ((cfg0.win 7).stage (cfg0.slots t 7)) fullShare X) ∗ (∃ X, ⌜(rdat m c).after 8 t (Y 8) X⌝ ∗ owns (c : Thread nD τ) ((cfg0.win 8).stage (cfg0.slots t 8)) fullShare X) ∗ (∃ X, ⌜(rdat m c).after 9 t (Y 9) X⌝ ∗ owns (c : Thread nD τ) ((cfg0.win 9).stage (cfg0.slots t 9)) fullShare X) ∗ (∃ X, ⌜(rdat m c).after 10 t (Y 10) X⌝ ∗ owns (c : Thread nD τ) ((cfg0.win 10).stage (cfg0.slots t 10)) fullShare X))) := by
  unfold bodyAt0 Inv
  rw [h0, h1, h2, h3, h4, h5]
  iintro ⟨⟨⟨%Y13, %Y14, H13, H14, %hS⟩, Hg⟩, HO, H0, H1, H2, H3, H4, H5, H6, H7, H8, H9, H10⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _)
    (bO m c t) (bA m c t) (bW m c t) (bS m c t) (bB m c t) (iblk m c 5 t) (Y 6) (Y 7) (Y 8) (Y 9) (Y 10) Y13 Y14 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H13]; · iexact H13
  isplitl [H14]; · iexact H14
  iintro ⟨H0, H1, H2, H3, H4, H5, ⟨%d9, H9⟩, ⟨%d10, H10⟩, ⟨%X8, %X9, %X10, %X13, %X14, H6, H7, H8, H13, H14, %hP⟩⟩
  obtain ⟨hS', hO, hC, hR⟩ := post_step m c t hS hP
  isplitl [H13 H14 Hg]
  · isplitl [H13 H14]
    · iexists X13; iexists X14
      isplitl [H13]; · iexact H13
      isplitl [H14]; · iexact H14
      ipureintro; exact hS'
    · iexact Hg
  isplitl [HO]; · iexact HO
  isplitl [H0]
  · iexists (bO m c t); isplitr; swap; · iexact H0
    ipureintro; exact after_0 m c t _
  isplitl [H1]
  · iexists (bA m c t); isplitr; swap; · iexact H1
    ipureintro; exact after_1 m c t _
  isplitl [H2]
  · iexists (bW m c t); isplitr; swap; · iexact H2
    ipureintro; exact after_2 m c t _
  isplitl [H3]
  · iexists (bS m c t); isplitr; swap; · iexact H3
    ipureintro; exact after_3 m c t _
  isplitl [H4]
  · iexists (bB m c t); isplitr; swap; · iexact H4
    ipureintro; exact after_4 m c t _
  isplitl [H5]
  · iexists (iblk m c 5 t); isplitr; swap; · iexact H5
    ipureintro; exact after_5 m c t _
  isplitl [H6]
  · iexists (X8); isplitr; swap; · iexact H6
    ipureintro; exact after_6 m c t _ _ hO
  isplitl [H7]
  · iexists (X9); isplitr; swap; · iexact H7
    ipureintro; exact after_7 m c t _ _ hC
  isplitl [H8]
  · iexists (X10); isplitr; swap; · iexact H8
    ipureintro; exact after_8 m c t _ _ hR
  isplitl [H9]
  · iexists (d9); isplitr; swap; · iexact H9
    ipureintro; exact after_9 m c t _ _
  iexists (d10); isplitr; swap; · iexact H10
  ipureintro; exact after_10 m c t _ _

theorem body_obligation (c : Dev nD) : (rdat m c).BodyObligation (defs₀ (F := F)) Variants.none () Set.univ := fun t Y hY => by
  rw [bigSep_W0, bigSep_W0, defs₀_row]
  exact triple_restated (sound_body m c t Y (finds_0 m c t _ (hY 0)) (finds_1 m c t _ (hY 1)) (finds_2 m c t _ (hY 2)) (finds_3 m c t _ (hY 3))
    (finds_4 m c t _ (hY 4)) (finds_5 m c t _ (hY 5))) rfl .rfl fun _ => .rfl

/-! ## The launch -/

theorem inv_in (c : Dev nD) : (Pipeline.ΦA spec0 c : sProp 𝕄) ⊢ Inv m c 0 := by
  unfold Pipeline.ΦA Inv
  rw [scopedRest0_eq]
  simp only [owns_whole]
  iintro ⟨⟨⟨%f, H0⟩, ⟨%g, H1⟩⟩, Hg⟩
  isplitl [H0 H1]
  · iexists f; iexists g
    isplitl [H0]; · iexact H0
    isplitl [H1]; · iexact H1
    ipureintro; exact fun u hu => absurd hu (Nat.not_lt_zero _)
  · iexact Hg
theorem inv_out (c : Dev nD) (n : ℕ) : Inv m c n ⊢ (Pipeline.ΦA spec0 c : sProp 𝕄) := by
  unfold Pipeline.ΦA Inv
  rw [scopedRest0_eq]
  simp only [owns_whole]
  iintro ⟨⟨%f, %g, H0, H1, %h⟩, Hg⟩
  isplitl [H0 H1]
  · isplitl [H0]
    · iexists f; iexact H0
    · iexists g; iexact H1
  · iexact Hg

set_option backward.isDefEq.respectTransparency.types false in
/-- From any memory with zero counters every execution of @main ends, and in every final state the arrays hold what the proof
    data say and every counter is zero. -/
theorem run_main :
    θ_run defs (onTc (τ := τ) (main (F := F))) (s₀ m ρ)
      (fun r => RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c => (dat m c).share_full fun _ => rfl)
    (howed := fun _ _ => rfl) (V := V m) (hmain := hmain m Variants.none) (hA := dat_A m)
    (hin := inv_in m) (hout := fun c => inv_out m c _)

/-- The arguments end as they began. -/
theorem args_kept {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (h.arr_in c 2 rfl).trans ((dat_A m c 2).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 5 rfl).trans ((dat_A m c 5).trans (V_main_arg4 m c))⟩

end Cert.Kernel.Hand

end
-- ==== Proof.TileI.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.VecWindow
public import Idealize.ShloMosaic.Lib.WritesUnit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The tile functions: what one grid point computes, as functions of the blocks it reads -/

/-- The inclusions of the four chunks of 32 rows in a tile of 128 rows. -/
theorem inb_s (k : Fin 4) : ∀ a, (![32 * k.val, 0] : Fin 2 → ℕ) a + S32x128.size a ≤ S128x128.size a := by
  revert k; decide
theorem inb_o (k : Fin 4) : ∀ a, (![32 * k.val, 0] : Fin 2 → ℕ) a + S32x6912.size a ≤ S128x6912.size a := by
  revert k; decide
/-- Chunk `k` of a tile: its rows `32 k … 32 k + 31`. -/
def chS (x3 : S128x128.Idx → F .f32) (k : Fin 4) : S32x128.Idx → F .f32 :=
  VecWindow.window x3 ![32 * k.val, 0] S32x128.size (inb_s k)
def chO (x2 : S128x6912.Idx → F .f32) (k : Fin 4) : S32x6912.Idx → F .f32 :=
  VecWindow.window x2 ![32 * k.val, 0] S32x6912.size (inb_o k)
/-- The chunk a row of the tile lies in, and its row there. -/
abbrev kOf (r : Fin 128) : Fin 4 := ⟨r.val / 32, by omega⟩
abbrev rOf (r : Fin 128) : Fin 32 := ⟨r.val % 32, by omega⟩

/-- The code of row `r`, column `j` of the tile, as an eight bit integer. -/
def codeT (x3 : S128x128.Idx → F .f32) (x2 : S128x6912.Idx → F .f32) (r : Fin 128) (j : Fin 6912) : BitVec 8 :=
  k0_pay4 (chS x3 (kOf r)) (chO x2 (kOf r)) (ix2 (rOf r) j)
/-- The same code as a bf16 number: the row the matrix product reads. -/
def qT (x3 : S128x128.Idx → F .f32) (x2 : S128x6912.Idx → F .f32) (r : Fin 128) (j : Fin 6912) : F .bf16 :=
  k0_pay5 (chS x3 (kOf r)) (chO x2 (kOf r)) (ix3 (0 : Fin 1) (rOf r) j)
/-- The scale of row `r` of the tile, repeated over the lanes `l`. -/
def sT (x3 : S128x128.Idx → F .f32) (r : Fin 128) (l : Fin 128) : F .f32 :=
  k0_pay7 (k0_pay6 (chS x3 (kOf r))) (ix3 (0 : Fin 1) (rOf r) l)

/-- A piece of 128 columns of the output tile, from column `o`. -/
theorem slices_out (p : Fin 10) : S512x1280.Slices ![0, 128 * p.val] S512x128 := by revert p; decide
theorem inb_out (p : Fin 10) : ∀ a, (![0, 128 * p.val] : Fin 2 → ℕ) a + S512x128.size a ≤ S512x1280.size a := by
  revert p; decide
theorem inb_row (p : Fin 10) : ∀ a, (![0, 128 * p.val] : Fin 2 → ℕ) a + S1x128.size a ≤ S1x1280.size a := by
  revert p; decide
def chR (x : S1x1280.Idx → F .f32) (p : Fin 10) : S1x128.Idx → F .f32 :=
  VecWindow.window x ![0, 128 * p.val] S1x128.size (inb_row p)
def pieceOut (acc : FVec F S512x1280 .f32) (sb : Vec F S1x512x128 .f32) (so bo : Vec F S1x128 .f32) (p : Fin 10) : FVec F S512x128 .bf16 :=
  truncf .bf16
    (addf (mulf (mulf (extractStridedSlice S512x128 ![0, 128 * p.val] acc (slices_out p)) (shapeCast S512x128 sb shapeCasts_S1x512x128_S512x128))
        (broadcastTo S512x128 (shapeCast S1x128 so shapeCasts_S1x128_S1x128) broadcasts_S1x128_S512x128))
      (broadcastTo S512x128 (shapeCast S1x128 bo shapeCasts_S1x128_S1x128) broadcasts_S1x128_S512x128)) bitsLt_bf16_f32
/-- The output tile: the product of the plane of codes with the weights, times the row's scale and the column's, plus
    the column's bias. -/
def outT (xq : Vec F S1x512x6912 .bf16) (xs : Vec F S1x512x128 .f32) (x4 : Vec F S6912x1280 .i8) (x5 x6 : S1x1280.Idx → F .f32)
    (r : Fin 512) (j : Fin 1280) : F .bf16 :=
  pieceOut (k0_pay25 xq x4) xs (chR x5 ⟨j.val / 128, by omega⟩) (chR x6 ⟨j.val / 128, by omega⟩) ⟨j.val / 128, by omega⟩
    (ix2 r (⟨j.val % 128, by omega⟩ : Fin 128))

/-! ## What a grid point leaves -/

/-- The quantise stage at point `i` : the codes and the scales of the tile are put in the two scratch planes, the tile's
    codes in the output window, its scales in the resident scales. -/
structure PostA (i : grid0.Coords) (x2 : S128x6912.Idx → F .f32) (x3 : S128x128.Idx → F .f32)
    (Y13 X13 : S2x512x6912.Idx → F .bf16) (Y14 X14 : S2x512x128.Idx → F .f32) (Y10 X10 : S2x1024.Idx → F .f32)
    (X9 : S128x6912.Idx → BitVec 8) : Prop where
  q_new : ∀ (y : S2x512x6912.Idx) (r : Fin 128), (y 0).val = (i 0).val % 2 → (y 1).val = 128 * (i 1).val + r.val →
    X13 y = qT x3 x2 r (y 2)
  q_old : ∀ y : S2x512x6912.Idx, ((y 0).val ≠ (i 0).val % 2 ∨ (y 1).val < 128 * (i 1).val ∨ 128 * (i 1).val + 128 ≤ (y 1).val) →
    X13 y = Y13 y
  s_new : ∀ (y : S2x512x128.Idx) (r : Fin 128), (y 0).val = (i 0).val % 2 → (y 1).val = 128 * (i 1).val + r.val →
    X14 y = sT x3 r (y 2)
  s_old : ∀ y : S2x512x128.Idx, ((y 0).val ≠ (i 0).val % 2 ∨ (y 1).val < 128 * (i 1).val ∨ 128 * (i 1).val + 128 ≤ (y 1).val) →
    X14 y = Y14 y
  sc_new : ∀ (y : S2x1024.Idx) (r : Fin 128), 1024 * (y 0).val + (y 1).val = 128 * (4 * (i 0).val + (i 1).val) + r.val →
    X10 y = sT x3 r (0 : Fin 128)
  sc_old : ∀ y : S2x1024.Idx, (1024 * (y 0).val + (y 1).val < 128 * (4 * (i 0).val + (i 1).val) ∨
      128 * (4 * (i 0).val + (i 1).val) + 128 ≤ 1024 * (y 0).val + (y 1).val) → X10 y = Y10 y
  code : ∀ y : S128x6912.Idx, X9 y = codeT x3 x2 (y 0) (y 1)

/-- The multiply stage at point `i` : the output tile from the other plane of the scratch. -/
def PostB (i : grid0.Coords) (h4 : k0_cond4 i = 1#1) (X13 : S2x512x6912.Idx → F .bf16) (X14 : S2x512x128.Idx → F .f32)
    (x4 : S6912x1280.Idx → BitVec 8) (x5 x6 : S1x1280.Idx → F .f32) (X8 : S512x1280.Idx → F .bf16) : Prop :=
  ∀ y : S512x1280.Idx, X8 y = outT (VecWindow.window X13 (k0_off6 i) S1x512x6912.size (k0_off6_inb i h4))
    (VecWindow.window X14 (k0_off7 i) S1x512x128.size (k0_off7_inb i h4)) x4 x5 x6 (y 0) (y 1)

/-! ## The lists of writes the body makes, and what they leave -/

section Lists

variable {sp : Space}

def L13 (i : grid0.Coords) (h1 : k0_cond1 i = 1#1) (x3 : S128x128.Idx → F .f32) (x2 : S128x6912.Idx → F .f32) :
    List (View.Piece (Elt F) S2x512x6912 .bf16) :=
  View.tilePieces (s := S2x512x6912) (e := .bf16) (Val := Elt F) S1x32x6912.size
    (fun k : Fin 4 => k0_off1 i (BitVec.ofNat 32 (32 * k.val))) (fun k => k0_off1_inb i h1 k)
    (fun k => k0_pay5 (chS x3 k) (chO x2 k)) 4 le_rfl
def L14 (i : grid0.Coords) (h1 : k0_cond1 i = 1#1) (x3 : S128x128.Idx → F .f32) :
    List (View.Piece (Elt F) S2x512x128 .f32) :=
  View.tilePieces (s := S2x512x128) (e := .f32) (Val := Elt F) S1x32x128.size
    (fun k : Fin 4 => k0_off2 i (BitVec.ofNat 32 (32 * k.val))) (fun k => k0_off2_inb i h1 k)
    (fun k => k0_pay7 (k0_pay6 (chS x3 k))) 4 le_rfl
def L9 (x3 : S128x128.Idx → F .f32) (x2 : S128x6912.Idx → F .f32) : List (View.Piece (Elt F) S128x6912 .i8) :=
  View.tilePieces (s := S128x6912) (e := .i8) (Val := Elt F) S32x6912.size
    (fun k : Fin 4 => ![32 * k.val, 0]) inb_o (fun k => k0_pay4 (chS x3 k) (chO x2 k)) 4 le_rfl
def L8 (xq : Vec F S1x512x6912 .bf16) (xs : Vec F S1x512x128 .f32) (x4 : Vec F S6912x1280 .i8) (x5 x6 : S1x1280.Idx → F .f32) :
    List (View.Piece (Elt F) S512x1280 .bf16) :=
  View.tilePieces (s := S512x1280) (e := .bf16) (Val := Elt F) S512x128.size
    (fun p : Fin 10 => ![0, 128 * p.val]) inb_out (fun p => pieceOut (k0_pay25 xq x4) xs (chR x5 p) (chR x6 p) p) 10 le_rfl

/-- The ten pieces as the body spells them. -/
theorem L8_eq (xq : Vec F S1x512x6912 .bf16) (x4 : Vec F S6912x1280 .i8) (sb : Vec F S1x512x128 .f32) (x5 x6 : S1x1280.Idx → F .f32) : L8 xq sb x4 x5 x6 = [
   ⟨Rect.unit (s := S512x1280) ![0, 1152] S512x128.size inb_S512x1280_S512x128_0_1152, k0_pay1 (k0_pay36 (k0_pay25 xq x4) sb) (chR x5 ⟨9, by omega⟩) (chR x6 ⟨9, by omega⟩)⟩,
   ⟨Rect.unit (s := S512x1280) ![0, 1024] S512x128.size inb_S512x1280_S512x128_0_1024, k0_pay35 (k0_pay25 xq x4) sb (chR x5 ⟨8, by omega⟩) (chR x6 ⟨8, by omega⟩)⟩,
   ⟨Rect.unit (s := S512x1280) ![0, 896] S512x128.size inb_S512x1280_S512x128_0_896, k0_pay34 (k0_pay25 xq x4) sb (chR x5 ⟨7, by omega⟩) (chR x6 ⟨7, by omega⟩)⟩,
   ⟨Rect.unit (s := S512x1280) ![0, 768] S512x128.size inb_S512x1280_S512x128_0_768, k0_pay33 (k0_pay25 xq x4) sb (chR x5 ⟨6, by omega⟩) (chR x6 ⟨6, by omega⟩)⟩,
   ⟨Rect.unit (s := S512x1280) ![0, 640] S512x128.size inb_S512x1280_S512x128_0_640, k0_pay32 (k0_pay25 xq x4) sb (chR x5 ⟨5, by omega⟩) (chR x6 ⟨5, by omega⟩)⟩,
   ⟨Rect.unit (s := S512x1280) ![0, 512] S512x128.size inb_S512x1280_S512x128_0_512, k0_pay31 (k0_pay30 (k0_pay25 xq x4) sb) (chR x5 ⟨4, by omega⟩) (chR x6 ⟨4, by omega⟩)⟩,
   ⟨Rect.unit (s := S512x1280) ![0, 384] S512x128.size inb_S512x1280_S512x128_0_384, k0_pay29 (k0_pay25 xq x4) sb (chR x5 ⟨3, by omega⟩) (chR x6 ⟨3, by omega⟩)⟩,
   ⟨Rect.unit (s := S512x1280) ![0, 256] S512x128.size inb_S512x1280_S512x128_0_256, k0_pay28 (k0_pay25 xq x4) sb (chR x5 ⟨2, by omega⟩) (chR x6 ⟨2, by omega⟩)⟩,
   ⟨Rect.unit (s := S512x1280) ![0, 128] S512x128.size inb_S512x1280_S512x128_0_128, k0_pay27 xq x4 sb (chR x5 ⟨1, by omega⟩) (chR x6 ⟨1, by omega⟩)⟩,
   ⟨Rect.unit (s := S512x1280) ![0, 0] S512x128.size inb_S512x1280_S512x128_0_0, k0_pay26 xq x4 sb (chR x5 ⟨0, by omega⟩) (chR x6 ⟨0, by omega⟩)⟩] := rfl

variable (i : grid0.Coords) (h1 : k0_cond1 i = 1#1) (x3 : S128x128.Idx → F .f32) (x2 : S128x6912.Idx → F .f32)

theorem i1_lt (i : grid0.Coords) : (i 1).val < 4 := (i 1).isLt

theorem read13_new (v : View sig .tc sp S2x512x6912 .bf16) (f : v.ty.Contents (Elt F)) (y : S2x512x6912.Idx) (r : Fin 128)
    (h0 : (y 0).val = (i 0).val % 2) (hr : (y 1).val = 128 * (i 1).val + r.val) :
    v.read (Elt F) (v.writes (Elt F) f (L13 i h1 x3 x2)) y = qT x3 x2 r (y 2) := by
  have hr' := r.isLt
  refine View.read_tilePieces v f _ _ _ _ 4 le_rfl y (kOf r) (kOf r).isLt (ix3 (0 : Fin 1) (rOf r) (y 2)) ?_ 1 ?_
  · intro a
    rw [k0_off1_eq]
    match a with
    | ⟨0, _⟩ => show (y 0).val = (i 0).val % 2 + 0; omega
    | ⟨1, _⟩ => show (y 1).val = 128 * (i 1).val + 32 * (r.val / 32) + r.val % 32; omega
    | ⟨2, _⟩ => show (y 2).val = 0 + (y 2).val; omega
  · intro k hk
    have hk' : k.val ≠ r.val / 32 := fun h => hk (Fin.ext h)
    rw [k0_off1_eq]
    show (y 1).val < 128 * (i 1).val + 32 * k.val ∨ 128 * (i 1).val + 32 * k.val + 32 ≤ (y 1).val
    omega
theorem read13_old (v : View sig .tc sp S2x512x6912 .bf16) (f : v.ty.Contents (Elt F)) (y : S2x512x6912.Idx)
    (h : (y 0).val ≠ (i 0).val % 2 ∨ (y 1).val < 128 * (i 1).val ∨ 128 * (i 1).val + 128 ≤ (y 1).val) :
    v.read (Elt F) (v.writes (Elt F) f (L13 i h1 x3 x2)) y = v.read (Elt F) f y := by
  by_cases h0 : (y 0).val = (i 0).val % 2
  · refine View.read_tilePieces_miss v f _ _ _ _ 4 le_rfl y 1 fun k hk => ?_
    rw [k0_off1_eq]
    show (y 1).val < 128 * (i 1).val + 32 * k.val ∨ 128 * (i 1).val + 32 * k.val + 32 ≤ (y 1).val
    omega
  · refine View.read_tilePieces_miss v f _ _ _ _ 4 le_rfl y 0 fun k hk => ?_
    rw [k0_off1_eq]
    show (y 0).val < (i 0).val % 2 ∨ (i 0).val % 2 + 1 ≤ (y 0).val
    omega
theorem read14_new (v : View sig .tc sp S2x512x128 .f32) (f : v.ty.Contents (Elt F)) (y : S2x512x128.Idx) (r : Fin 128)
    (h0 : (y 0).val = (i 0).val % 2) (hr : (y 1).val = 128 * (i 1).val + r.val) :
    v.read (Elt F) (v.writes (Elt F) f (L14 i h1 x3)) y = sT x3 r (y 2) := by
  have hr' := r.isLt
  refine View.read_tilePieces v f _ _ _ _ 4 le_rfl y (kOf r) (kOf r).isLt (ix3 (0 : Fin 1) (rOf r) (y 2)) ?_ 1 ?_
  · intro a
    rw [k0_off2_eq]
    match a with
    | ⟨0, _⟩ => show (y 0).val = (i 0).val % 2 + 0; omega
    | ⟨1, _⟩ => show (y 1).val = 128 * (i 1).val + 32 * (r.val / 32) + r.val % 32; omega
    | ⟨2, _⟩ => show (y 2).val = 0 + (y 2).val; omega
  · intro k hk
    have hk' : k.val ≠ r.val / 32 := fun h => hk (Fin.ext h)
    rw [k0_off2_eq]
    show (y 1).val < 128 * (i 1).val + 32 * k.val ∨ 128 * (i 1).val + 32 * k.val + 32 ≤ (y 1).val
    omega
theorem read14_old (v : View sig .tc sp S2x512x128 .f32) (f : v.ty.Contents (Elt F)) (y : S2x512x128.Idx)
    (h : (y 0).val ≠ (i 0).val % 2 ∨ (y 1).val < 128 * (i 1).val ∨ 128 * (i 1).val + 128 ≤ (y 1).val) :
    v.read (Elt F) (v.writes (Elt F) f (L14 i h1 x3)) y = v.read (Elt F) f y := by
  by_cases h0 : (y 0).val = (i 0).val % 2
  · refine View.read_tilePieces_miss v f _ _ _ _ 4 le_rfl y 1 fun k hk => ?_
    rw [k0_off2_eq]
    show (y 1).val < 128 * (i 1).val + 32 * k.val ∨ 128 * (i 1).val + 32 * k.val + 32 ≤ (y 1).val
    omega
  · refine View.read_tilePieces_miss v f _ _ _ _ 4 le_rfl y 0 fun k hk => ?_
    rw [k0_off2_eq]
    show (y 0).val < (i 0).val % 2 ∨ (i 0).val % 2 + 1 ≤ (y 0).val
    omega
theorem read9 (v : View sig .tc sp S128x6912 .i8) (f : v.ty.Contents (Elt F)) (y : S128x6912.Idx) :
    v.read (Elt F) (v.writes (Elt F) f (L9 x3 x2)) y = codeT x3 x2 (y 0) (y 1) := by
  have hr' : (y 0).val < 128 := (y 0).isLt
  refine View.read_tilePieces v f _ _ _ _ 4 le_rfl y (kOf (y 0)) (kOf (y 0)).isLt (ix2 (rOf (y 0)) (y 1)) ?_ 0 ?_
  · intro a
    match a with
    | ⟨0, _⟩ => show (y 0).val = 32 * ((y 0).val / 32) + (y 0).val % 32; omega
    | ⟨1, _⟩ => show (y 1).val = 0 + (y 1).val; omega
  · intro k hk
    have hk' : k.val ≠ (y 0).val / 32 := fun h => hk (Fin.ext h)
    show (y 0).val < 32 * k.val ∨ 32 * k.val + 32 ≤ (y 0).val
    omega
theorem read8 (xq : Vec F S1x512x6912 .bf16) (xs : Vec F S1x512x128 .f32) (x4 : Vec F S6912x1280 .i8) (x5 x6 : S1x1280.Idx → F .f32)
    (v : View sig .tc sp S512x1280 .bf16) (f : v.ty.Contents (Elt F)) (y : S512x1280.Idx) :
    v.read (Elt F) (v.writes (Elt F) f (L8 xq xs x4 x5 x6)) y = outT xq xs x4 x5 x6 (y 0) (y 1) := by
  have hr' : (y 1).val < 1280 := (y 1).isLt
  refine View.read_tilePieces v f _ _ _ _ 10 le_rfl y (⟨(y 1).val / 128, by omega⟩ : Fin 10) (by show (y 1).val / 128 < 10; omega)
    (ix2 (y 0) (⟨(y 1).val % 128, by omega⟩ : Fin 128)) ?_ 1 ?_
  · intro a
    match a with
    | ⟨0, _⟩ => show (y 0).val = 0 + (y 0).val; omega
    | ⟨1, _⟩ => show (y 1).val = 128 * ((y 1).val / 128) + (y 1).val % 128; omega
  · intro k hk
    have hk' : k.val ≠ (y 1).val / 128 := fun h => hk (Fin.ext h)
    show (y 1).val < 128 * k.val ∨ 128 * k.val + 128 ≤ (y 1).val
    omega

/-- The row of scales written back: lane 0 of the tile's rows of the scratch, transposed. -/
theorem pay24_apply (v : Vec F S1x128x128 .f32) (l : Fin 128) :
    k0_pay24 v (ix2 (0 : Fin 1) l) = v (ix3 (0 : Fin 1) l (0 : Fin 128)) := by
  unfold k0_pay24
  pointwise

theorem off4_eq : ∀ i : grid0.Coords, k0_cond1 i = 1#1 → k0_cond2 i = 1#1 →
    k0_off4 i = ![(4 * (i 0).val + (i 1).val) / 8, 128 * ((4 * (i 0).val + (i 1).val) % 8)] := by decide +kernel
theorem off5_eq : ∀ i : grid0.Coords, k0_cond1 i = 1#1 → k0_cond3 i = 1#1 →
    k0_off5 i = ![(4 * (i 0).val + (i 1).val) / 8, 128 * ((4 * (i 0).val + (i 1).val) % 8)] := by decide +kernel

theorem readCov14 (v : View sig .tc sp S2x512x128 .f32) [∀ e, Nonempty (Elt F e)] (l : Fin 128) :
    k0_pay24 (v.readCov (L14 i h1 x3) (Rect.unit (s := S2x512x128) (k0_off3 i) S1x128x128.size (k0_off3_inb i h1)).toLoadRect) (ix2 (0 : Fin 1) l)
      = sT x3 l (0 : Fin 128) := by
  rw [pay24_apply]
  unfold View.readCov
  rw [View.readAt_unit v _ (k0_off3_inb i h1) (k0_off3_eq i) (by rw [← k0_off3_eq i]; exact k0_off3_inb i h1)]
  refine read14_new i h1 x3 v _ _ l ?_ ?_
  · show (i 0).val % 2 + 1 * 0 = _; omega
  · show 128 * (i 1).val + 1 * l.val = _; omega

theorem read10_new (v : View sig .tc sp S2x1024 .f32) (f : v.ty.Contents (Elt F)) (off : Fin 2 → ℕ)
    (hoff : off = ![(4 * (i 0).val + (i 1).val) / 8, 128 * ((4 * (i 0).val + (i 1).val) % 8)])
    (inb : ∀ a, off a + S1x128.size a ≤ S2x1024.size a) (w : S1x128.Idx → F .f32)
    (hw : ∀ l : Fin 128, w (ix2 (0 : Fin 1) l) = sT x3 l (0 : Fin 128))
    (y : S2x1024.Idx) (r : Fin 128) (hy : 1024 * (y 0).val + (y 1).val = 128 * (4 * (i 0).val + (i 1).val) + r.val) :
    v.read (Elt F) (v.writes (Elt F) f [⟨Rect.unit off S1x128.size inb, w⟩]) y = sT x3 r (0 : Fin 128) := by
  have hr := r.isLt
  have hy1 : (y 1).val < 1024 := (y 1).isLt
  rw [View.read_writes_cons_unit_of_mem v f inb w [] y (ix2 (0 : Fin 1) r) hoff, hw]
  intro a
  match a with
  | ⟨0, _⟩ => show (y 0).val = (4 * (i 0).val + (i 1).val) / 8 + 0; omega
  | ⟨1, _⟩ => show (y 1).val = 128 * ((4 * (i 0).val + (i 1).val) % 8) + r.val; omega
theorem read10_old (v : View sig .tc sp S2x1024 .f32) (f : v.ty.Contents (Elt F)) (off : Fin 2 → ℕ)
    (hoff : off = ![(4 * (i 0).val + (i 1).val) / 8, 128 * ((4 * (i 0).val + (i 1).val) % 8)])
    (inb : ∀ a, off a + S1x128.size a ≤ S2x1024.size a) (w : S1x128.Idx → F .f32)
    (y : S2x1024.Idx) (hy : 1024 * (y 0).val + (y 1).val < 128 * (4 * (i 0).val + (i 1).val) ∨
      128 * (4 * (i 0).val + (i 1).val) + 128 ≤ 1024 * (y 0).val + (y 1).val) :
    v.read (Elt F) (v.writes (Elt F) f [⟨Rect.unit off S1x128.size inb, w⟩]) y = v.read (Elt F) f y := by
  have hy1 : (y 1).val < 1024 := (y 1).isLt
  by_cases h0 : (y 0).val = (4 * (i 0).val + (i 1).val) / 8
  · refine View.read_writes_cons_unit_of_not_mem v f inb w [] y hoff 1 ?_
    show (y 1).val < 128 * ((4 * (i 0).val + (i 1).val) % 8) ∨ 128 * ((4 * (i 0).val + (i 1).val) % 8) + 128 ≤ (y 1).val
    omega
  · refine View.read_writes_cons_unit_of_not_mem v f inb w [] y hoff 0 ?_
    show (y 0).val < (4 * (i 0).val + (i 1).val) / 8 ∨ (4 * (i 0).val + (i 1).val) / 8 + 1 ≤ (y 0).val
    omega

end Lists

end Cert.KernelIdeal.Hand

end
-- ==== Proof.Spec.lean ====
module

public import Idealize.ShloMosaic.PureOps.Ideal
public import Idealize.ShloMosaic.Lib.Pointwise

/-!
  The quantiser over the extended reals: the largest magnitude of a row, its scale, and the codes; and that a code read
  back as a number is the rounded and clipped quotient itself.
-/

@[expose] public section

noncomputable section

namespace Cert.Spec

open Idealize.ShloMosaic

/-- The largest magnitude of a row of 6912 numbers. -/
def amx (f : Fin 6912 → EReal) : EReal :=
  Finset.fold max (Ideal.ofBits .f32 0xFF800000#32) (fun k => max (f k) (-(f k))) Finset.univ
/-- The scale of a row whose largest magnitude is `M`: `M / 127`, and one for a row of zeros. -/
def scl (M : EReal) : EReal := if M = 0 then 1 else Ideal.div M (Ideal.ofBits .f32 0x42FE0000#32)
/-- The number `x` over the scale `s`, rounded half to even and clipped to `-127 … 127`. -/
def qv (x s : EReal) : EReal :=
  min (((127#32 : BitVec 32).toInt : ℝ) : EReal)
    (max (((4294967169#32 : BitVec 32).toInt : ℝ) : EReal) (Ideal.liftRound Ideal.roundHalfEven (Ideal.div x s)))
/-- The same as an eight bit integer. -/
def code (x s : EReal) : BitVec 8 := Ideal.fptosi 8 (qv x s)
/-- The scale of a row. -/
def rowScale (f : Fin 6912 → EReal) : EReal := scl (amx f)

/-- The rounded and clipped quotient is an integer between -127 and 127. -/
theorem qv_int (x s : EReal) : ∃ n : ℤ, -127 ≤ n ∧ n ≤ 127 ∧ qv x s = ((n : ℝ) : EReal) := by
  have h1 : ((127#32 : BitVec 32).toInt : ℝ) = 127 := by
    have : (127#32 : BitVec 32).toInt = 127 := by decide
    rw [this]; norm_num
  have cmin : ∀ a b : ℝ, min (a : EReal) (b : EReal) = ((min a b : ℝ) : EReal) := fun a b =>
    (EReal.coe_strictMono.monotone.map_min).symm
  have cmax : ∀ a b : ℝ, max (a : EReal) (b : EReal) = ((max a b : ℝ) : EReal) := fun a b =>
    (EReal.coe_strictMono.monotone.map_max).symm
  have h2 : ((4294967169#32 : BitVec 32).toInt : ℝ) = -127 := by
    have : (4294967169#32 : BitVec 32).toInt = -127 := by decide
    rw [this]; norm_num
  unfold qv
  rw [h1, h2]
  generalize Ideal.div x s = y
  induction y with
  | bot => exact ⟨-127, by norm_num, by norm_num, by
      rw [Ideal.liftRound_bot, max_eq_left bot_le, cmin]; norm_num⟩
  | top => exact ⟨127, by norm_num, by norm_num, by
      rw [Ideal.liftRound_top, max_eq_right le_top, min_eq_left le_top]; norm_num⟩
  | coe r =>
    refine ⟨min 127 (max (-127) (Ideal.roundHalfEven r)), by omega, by omega, ?_⟩
    rw [Ideal.liftRound_coe, cmax, cmin]
    push_cast
    rfl

/-- A code read back as a number is the rounded and clipped quotient. -/
theorem toInt_code (x s : EReal) : (((code x s).toInt : ℝ) : EReal) = qv x s := by
  obtain ⟨n, h1, h2, h⟩ := qv_int x s
  have hn : (code x s).toInt = n := by
    unfold code Ideal.fptosi
    rw [h, Ideal.toIntClamped_coe]
    have hf : (if (0 : ℝ) ≤ (n : ℝ) then ⌊(n : ℝ)⌋ else ⌈(n : ℝ)⌉) = n := by split <;> simp
    rw [hf]
    have : max (-((2 ^ (8 - 1) : ℕ) : ℤ)) (min (((2 ^ (8 - 1) : ℕ) : ℤ) - 1) n) = n := by norm_num; omega
    rw [this, BitVec.toInt_ofInt]
    exact Int.bmod_eq_of_le (by norm_num; omega) (by norm_num; omega)
  rw [hn, h]

/-- The largest magnitude of a row, taken lane by lane first: over the 54 groups of a lane, then over the 128 lanes. -/
theorem amx_lanes (f : Fin 6912 → EReal) (b : EReal) (hb : b = Ideal.ofBits .f32 0xFF800000#32) :
    Finset.fold max (Ideal.ofBits .f32 0xFF800000#32) (fun l : Fin 128 => Finset.fold max b
      (fun g : Fin 54 => max (f ⟨128 * g.val + l.val, by omega⟩) (-(f ⟨128 * g.val + l.val, by omega⟩))) Finset.univ) Finset.univ = amx f := by
  subst hb
  unfold amx
  apply le_antisymm
  · rw [Finset.fold_max_le]
    have hle : ∀ c, Finset.fold max (Ideal.ofBits .f32 0xFF800000#32) (fun k => max (f k) (-(f k))) Finset.univ ≤ c →
        (Ideal.ofBits .f32 0xFF800000#32 : EReal) ≤ c ∧ ∀ k, max (f k) (-(f k)) ≤ c := fun c h => by
      rw [Finset.fold_max_le] at h
      exact ⟨h.1, fun k => h.2 k (Finset.mem_univ k)⟩
    obtain ⟨h0, hk⟩ := hle _ le_rfl
    refine ⟨h0, fun l _ => ?_⟩
    rw [Finset.fold_max_le]
    exact ⟨h0, fun g _ => hk _⟩
  · rw [Finset.fold_max_le]
    refine ⟨(Finset.fold_max_le _).mp le_rfl |>.1, fun k _ => ?_⟩
    have h1 := ((Finset.fold_max_le _).mp (le_refl (Finset.fold max (Ideal.ofBits .f32 0xFF800000#32 : EReal) (fun l : Fin 128 => Finset.fold max (Ideal.ofBits .f32 0xFF800000#32 : EReal)
      (fun g : Fin 54 => max (f ⟨128 * g.val + l.val, by omega⟩) (-(f ⟨128 * g.val + l.val, by omega⟩))) Finset.univ) Finset.univ))).2
        ⟨k.val % 128, by omega⟩ (Finset.mem_univ _)
    have h2 := ((Finset.fold_max_le _).mp h1).2 ⟨k.val / 128, by omega⟩ (Finset.mem_univ _)
    have e : (⟨128 * (k.val / 128) + k.val % 128, by omega⟩ : Fin 6912) = k := Fin.ext (Nat.div_add_mod _ _)
    simp only [e] at h2
    exact h2

/-! ## The three results, as functions of the rows, the weights, the columns' scales and the biases -/

/-- The codes of the rows. -/
def codesA (o : Fin 2048 → Fin 6912 → EReal) (g : Fin 2048) (j : Fin 6912) : BitVec 8 := code (o g j) (rowScale (o g))
/-- The product of the codes with the weights, times the row's scale and the column's, plus the column's bias. -/
def outA (o : Fin 2048 → Fin 6912 → EReal) (w : Fin 6912 → Fin 5120 → BitVec 8) (so bo : Fin 5120 → EReal) (g : Fin 2048)
    (j : Fin 5120) : EReal :=
  (∑ k, qv (o g k) (rowScale (o g)) * (((w k j).toInt : ℝ) : EReal)) * rowScale (o g) * so j + bo j

end Cert.Spec

end
-- ==== Proof.KerPure.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.VecWindow
public import Idealize.ShloMosaic.Lib.WritesUnit
public import Idealize.ShloMosaic.Lib.Pointwise
public import proofs.«01_k».proof.Proof.TileI

public import proofs.«01_k».proof.Proof.Spec

/-!
  The tile functions at the extended reals, index by index.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The largest number of row `r` of a tile of lanes. -/
def mx (x3 : S128x128.Idx → EReal) (r : Fin 128) : EReal :=
  Finset.fold max (Ideal.ofBits .f32 0xFF800000#32) (fun l => x3 (ix2 r l)) Finset.univ

theorem chS_at (x3 : S128x128.Idx → EReal) (r : Fin 128) (l : Fin 128) :
    chS (F := Ideal) x3 (kOf r) (ix2 (rOf r) l) = x3 (ix2 r l) := by
  unfold chS VecWindow.window
  refine congrArg x3 (funext fun a => Fin.ext ?_)
  fin_cases a
  · show 32 * (r.val / 32) + 1 * (r.val % 32) = r.val
    omega
  · show 0 + 1 * l.val = l.val
    omega
theorem chO_at (x2 : S128x6912.Idx → EReal) (r : Fin 128) (l : Fin 6912) :
    chO (F := Ideal) x2 (kOf r) (ix2 (rOf r) l) = x2 (ix2 r l) := by
  unfold chO VecWindow.window
  refine congrArg x2 (funext fun a => Fin.ext ?_)
  fin_cases a
  · show 32 * (r.val / 32) + 1 * (r.val % 32) = r.val
    omega
  · show 0 + 1 * l.val = l.val
    omega
theorem chR_at (x : S1x1280.Idx → EReal) (j : Fin 1280) :
    chR (F := Ideal) x ⟨j.val / 128, by omega⟩ (ix2 (0 : Fin 1) (⟨j.val % 128, by omega⟩ : Fin 128)) = x (ix2 (0 : Fin 1) j) := by
  unfold chR VecWindow.window
  refine congrArg x (funext fun a => Fin.ext ?_)
  fin_cases a
  · rfl
  · show 128 * (j.val / 128) + 1 * (j.val % 128) = j.val
    omega

/-- The code of a row's number. -/
theorem codeT_eq (x3 : S128x128.Idx → EReal) (x2 : S128x6912.Idx → EReal) (r : Fin 128) (j : Fin 6912) :
    codeT (F := Ideal) x3 x2 r j = Spec.code (x2 (ix2 r j)) (Spec.scl (mx x3 r)) := by
  unfold mx
  simp only [← chS_at x3, ← chO_at x2]
  unfold codeT k0_pay4 k0_pay3 k0_pay2
  generalize chS (F := Ideal) x3 (kOf r) = a
  generalize chO (F := Ideal) x2 (kOf r) = b
  pointwise
  rfl
/-- The same code as a number. -/
theorem qT_eq (x3 : S128x128.Idx → EReal) (x2 : S128x6912.Idx → EReal) (r : Fin 128) (j : Fin 6912) :
    qT (F := Ideal) x3 x2 r j = Spec.qv (x2 (ix2 r j)) (Spec.scl (mx x3 r)) := by
  unfold mx
  simp only [← chS_at x3, ← chO_at x2]
  unfold qT k0_pay5 k0_pay3 k0_pay2
  generalize chS (F := Ideal) x3 (kOf r) = a
  generalize chO (F := Ideal) x2 (kOf r) = b
  pointwise
  rfl
/-- The scale of a row. -/
theorem sT_eq (x3 : S128x128.Idx → EReal) (r : Fin 128) (l : Fin 128) :
    sT (F := Ideal) x3 r l = Spec.scl (mx x3 r) := by
  unfold mx
  simp only [← chS_at x3]
  unfold sT k0_pay7 k0_pay6 k0_pay2
  generalize chS (F := Ideal) x3 (kOf r) = a
  pointwise
  rfl
/-- A number of the output tile. -/
theorem outT_eq (xq : S1x512x6912.Idx → EReal) (xs : S1x512x128.Idx → EReal) (x4 : S6912x1280.Idx → BitVec 8) (x5 x6 : S1x1280.Idx → EReal)
    (r : Fin 512) (j : Fin 1280) : outT (F := Ideal) xq xs x4 x5 x6 r j =
      ((∑ k : Fin 6912, xq (ix3 0 r k) * (((x4 (ix2 k j)).toInt : ℝ) : EReal)) * xs (ix3 0 r ⟨j.val % 128, by omega⟩) * x5 (ix2 0 j) + x6 (ix2 0 j) : EReal) := by
  rw [← chR_at x5 j, ← chR_at x6 j]
  unfold outT pieceOut k0_pay25
  generalize chR (F := Ideal) x5 ⟨j.val / 128, _⟩ = a
  generalize chR (F := Ideal) x6 ⟨j.val / 128, _⟩ = b
  have e : (⟨128 * (j.val / 128) + j.val % 128, by omega⟩ : Fin 1280) = j := Fin.ext (Nat.div_add_mod _ _)
  pointwise
  simp only [e]
  rfl

end Cert.KernelIdeal.Hand

end
-- ==== Proof.BodyI.lean ====
module

public import proofs.«01_k».proof.Proof.Gen.KernelIdeal.Frame
public import proofs.«01_k».proof.Proof.Gen.KernelIdeal.Skeleton
public import proofs.«01_k».proof.Proof.Gen.KernelIdeal.Points
public import proofs.«01_k».proof.Proof.TileI
public import Idealize.ShloMosaic.Lib.Pipeline.Frame
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body leaves at point `i`, both stages: what it found in the windows and the scratch is `Y…`, what it leaves
    `X…`. -/
def Post (i : grid0.Coords) (x2 : S128x6912.Idx → F .f32) (x3 : S128x128.Idx → F .f32) (x4 : S6912x1280.Idx → BitVec 8)
    (x5 x6 : S1x1280.Idx → F .f32) (X8 : S512x1280.Idx → F .bf16) (Y9 X9 : S128x6912.Idx → BitVec 8)
    (Y10 X10 : S2x1024.Idx → F .f32) (Y13 X13 : S2x512x6912.Idx → F .bf16) (Y14 X14 : S2x512x128.Idx → F .f32) : Prop :=
  (k0_cond1 i = 1#1 → PostA i x2 x3 Y13 X13 Y14 X14 Y10 X10 X9)
    ∧ (¬ k0_cond1 i = 1#1 → X13 = Y13 ∧ X14 = Y14 ∧ X10 = Y10 ∧ X9 = Y9)
    ∧ ∀ h4 : k0_cond4 i = 1#1, PostB i h4 X13 X14 x4 x5 x6 X8

/-- Which stages run at a point: every combination that happens. -/
theorem cond_cases : ∀ i : grid0.Coords,
    (k0_cond1 i = 1#1 ∧ k0_cond2 i = 1#1 ∧ ¬ k0_cond3 i = 1#1 ∧ ¬ k0_cond4 i = 1#1 ∧ k0_cond5 i = 1#1)
    ∨ (k0_cond1 i = 1#1 ∧ k0_cond2 i = 1#1 ∧ ¬ k0_cond3 i = 1#1 ∧ ¬ k0_cond4 i = 1#1 ∧ ¬ k0_cond5 i = 1#1)
    ∨ (k0_cond1 i = 1#1 ∧ k0_cond2 i = 1#1 ∧ ¬ k0_cond3 i = 1#1 ∧ k0_cond4 i = 1#1 ∧ ¬ k0_cond5 i = 1#1)
    ∨ (k0_cond1 i = 1#1 ∧ ¬ k0_cond2 i = 1#1 ∧ k0_cond3 i = 1#1 ∧ k0_cond4 i = 1#1 ∧ ¬ k0_cond5 i = 1#1)
    ∨ (¬ k0_cond1 i = 1#1 ∧ k0_cond4 i = 1#1 ∧ ¬ k0_cond5 i = 1#1) := by decide +kernel

/-! ## The body, run once for each combination of stages -/

/-- The multiply stage alone: the last points of the grid. -/
theorem run_b (c : Dev nD) (i : grid0.Coords) (h1 : ¬ k0_cond1 i = 1#1) (h4 : k0_cond4 i = 1#1) (h5 : ¬ k0_cond5 i = 1#1)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  simp only [cc0_out_proj_eq_skeleton]; unfold cc0_out_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3 hf4 hf5 hf6 hf7 hf8 hf9 hf10 hf11 hf12 hf13 hf14
  sl_exec_parts (disch := first | exact h1 | exact h4 | exact h5)
  sl_step
  iapply Hk
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H11]
  · iexists _; iexists _; isplitr; swap; · iexact H11
    ipureintro; rfl
  isplitl [H12]
  · iexists _; iexists _; isplitr; swap; · iexact H12
    ipureintro; rfl
  iexists _; iexists _; iexists _; iexists _; iexists _
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H13]
  · iexists _; isplitr; swap; · iexact H13
    ipureintro; rfl
  isplitl [H14]
  · iexists _; isplitr; swap; · iexact H14
    ipureintro; rfl
  ipureintro
  refine ⟨fun h => absurd h h1, fun _ => ⟨rfl, rfl, rfl, rfl⟩, fun h4' => ?_⟩
  intro y
  have h := read8 (VecWindow.window (View.read (Elt F) arg13.view f13) (k0_off6 i) S1x512x6912.size (k0_off6_inb i h4))
      (VecWindow.window (View.read (Elt F) arg14.view f14) (k0_off7 i) S1x512x128.size (k0_off7_inb i h4))
      (View.readAt (Elt F) arg4.view (Rect.unit ![0, 0] S6912x1280.size inb_S6912x1280_S6912x1280_0_0).toLoadRect f4) (View.read (Elt F) arg5.view f5) (View.read (Elt F) arg6.view f6) arg8.view f8 y
  rw [L8_eq] at h
  have e4 : View.readAt (Elt F) arg4.view (Rect.unit ![0, 0] S6912x1280.size inb_S6912x1280_S6912x1280_0_0).toLoadRect f4
      = View.read (Elt F) arg4.view f4 := View.readAt_full arg4.view f4 inb_S6912x1280_S6912x1280_0_0
  refine Eq.trans (Eq.trans ?_ h) (congrArg (fun x => outT _ _ x _ _ _ _) e4)
  rfl

/-- Both stages, the scales of the first batch. -/
theorem run_ab2 (c : Dev nD) (i : grid0.Coords) (h1 : k0_cond1 i = 1#1) (h2 : k0_cond2 i = 1#1) (h3 : ¬ k0_cond3 i = 1#1) (h4 : k0_cond4 i = 1#1) (h5 : ¬ k0_cond5 i = 1#1)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  simp only [cc0_out_proj_eq_skeleton]; unfold cc0_out_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3 hf4 hf5 hf6 hf7 hf8 hf9 hf10 hf11 hf12 hf13 hf14
  sl_exec_parts (disch := first | exact h1 | exact h2 | exact h3 | exact h4 | exact h5)
  sl_step
  iapply Hk
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H11]
  · iexists _; iexists _; isplitr; swap; · iexact H11
    ipureintro; rfl
  isplitl [H12]
  · iexists _; iexists _; isplitr; swap; · iexact H12
    ipureintro; rfl
  iexists _; iexists _; iexists _; iexists _; iexists _
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H13]
  · iexists _; isplitr; swap; · iexact H13
    ipureintro; rfl
  isplitl [H14]
  · iexists _; isplitr; swap; · iexact H14
    ipureintro; rfl
  ipureintro
  refine ⟨fun _ => ⟨?_, ?_, ?_, ?_, ?_, ?_, ?_⟩, fun h => absurd h1 h, fun h4' => ?_⟩
  · exact fun y r h0 hr => read13_new i h1 (View.read (Elt F) arg3.view f3) (View.read (Elt F) arg2.view f2) arg13.view f13 y r h0 hr
  · exact fun y h => read13_old i h1 (View.read (Elt F) arg3.view f3) (View.read (Elt F) arg2.view f2) arg13.view f13 y h
  · exact fun y r h0 hr => read14_new i h1 (View.read (Elt F) arg3.view f3) arg14.view f14 y r h0 hr
  · exact fun y h => read14_old i h1 (View.read (Elt F) arg3.view f3) arg14.view f14 y h
  · exact fun y r hy => read10_new i (View.read (Elt F) arg3.view f3) arg10.view f10 (k0_off4 i) (off4_eq i h1 h2) (k0_off4_inb i h1 h2) _ (fun l => readCov14 i h1 (View.read (Elt F) arg3.view f3) arg14.view l) y r hy
  · exact fun y hy => read10_old i arg10.view f10 (k0_off4 i) (off4_eq i h1 h2) (k0_off4_inb i h1 h2) _ y hy
  · exact fun y => read9 (View.read (Elt F) arg3.view f3) (View.read (Elt F) arg2.view f2) arg9.view f9 y
  intro y
  have h := read8 (VecWindow.window (View.read (Elt F) arg13.view (arg13.view.writes (Elt F) f13 (L13 i h1 (View.read (Elt F) arg3.view f3) (View.read (Elt F) arg2.view f2)))) (k0_off6 i) S1x512x6912.size (k0_off6_inb i h4))
      (VecWindow.window (View.read (Elt F) arg14.view (arg14.view.writes (Elt F) f14 (L14 i h1 (View.read (Elt F) arg3.view f3)))) (k0_off7 i) S1x512x128.size (k0_off7_inb i h4))
      (View.readAt (Elt F) arg4.view (Rect.unit ![0, 0] S6912x1280.size inb_S6912x1280_S6912x1280_0_0).toLoadRect f4) (View.read (Elt F) arg5.view f5) (View.read (Elt F) arg6.view f6) arg8.view f8 y
  rw [L8_eq] at h
  have e4 : View.readAt (Elt F) arg4.view (Rect.unit ![0, 0] S6912x1280.size inb_S6912x1280_S6912x1280_0_0).toLoadRect f4
      = View.read (Elt F) arg4.view f4 := View.readAt_full arg4.view f4 inb_S6912x1280_S6912x1280_0_0
  refine Eq.trans (Eq.trans ?_ h) (congrArg (fun x => outT _ _ x _ _ _ _) e4)
  rfl

/-- Both stages, the scales of the second batch. -/
theorem run_ab3 (c : Dev nD) (i : grid0.Coords) (h1 : k0_cond1 i = 1#1) (h2 : ¬ k0_cond2 i = 1#1) (h3 : k0_cond3 i = 1#1) (h4 : k0_cond4 i = 1#1) (h5 : ¬ k0_cond5 i = 1#1)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  simp only [cc0_out_proj_eq_skeleton]; unfold cc0_out_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3 hf4 hf5 hf6 hf7 hf8 hf9 hf10 hf11 hf12 hf13 hf14
  sl_exec_parts (disch := first | exact h1 | exact h2 | exact h3 | exact h4 | exact h5)
  sl_step
  iapply Hk
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H11]
  · iexists _; iexists _; isplitr; swap; · iexact H11
    ipureintro; rfl
  isplitl [H12]
  · iexists _; iexists _; isplitr; swap; · iexact H12
    ipureintro; rfl
  iexists _; iexists _; iexists _; iexists _; iexists _
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H13]
  · iexists _; isplitr; swap; · iexact H13
    ipureintro; rfl
  isplitl [H14]
  · iexists _; isplitr; swap; · iexact H14
    ipureintro; rfl
  ipureintro
  refine ⟨fun _ => ⟨?_, ?_, ?_, ?_, ?_, ?_, ?_⟩, fun h => absurd h1 h, fun h4' => ?_⟩
  · exact fun y r h0 hr => read13_new i h1 (View.read (Elt F) arg3.view f3) (View.read (Elt F) arg2.view f2) arg13.view f13 y r h0 hr
  · exact fun y h => read13_old i h1 (View.read (Elt F) arg3.view f3) (View.read (Elt F) arg2.view f2) arg13.view f13 y h
  · exact fun y r h0 hr => read14_new i h1 (View.read (Elt F) arg3.view f3) arg14.view f14 y r h0 hr
  · exact fun y h => read14_old i h1 (View.read (Elt F) arg3.view f3) arg14.view f14 y h
  · exact fun y r hy => read10_new i (View.read (Elt F) arg3.view f3) arg10.view f10 (k0_off5 i) (off5_eq i h1 h3) (k0_off5_inb i h1 h3) _ (fun l => readCov14 i h1 (View.read (Elt F) arg3.view f3) arg14.view l) y r hy
  · exact fun y hy => read10_old i arg10.view f10 (k0_off5 i) (off5_eq i h1 h3) (k0_off5_inb i h1 h3) _ y hy
  · exact fun y => read9 (View.read (Elt F) arg3.view f3) (View.read (Elt F) arg2.view f2) arg9.view f9 y
  intro y
  have h := read8 (VecWindow.window (View.read (Elt F) arg13.view (arg13.view.writes (Elt F) f13 (L13 i h1 (View.read (Elt F) arg3.view f3) (View.read (Elt F) arg2.view f2)))) (k0_off6 i) S1x512x6912.size (k0_off6_inb i h4))
      (VecWindow.window (View.read (Elt F) arg14.view (arg14.view.writes (Elt F) f14 (L14 i h1 (View.read (Elt F) arg3.view f3)))) (k0_off7 i) S1x512x128.size (k0_off7_inb i h4))
      (View.readAt (Elt F) arg4.view (Rect.unit ![0, 0] S6912x1280.size inb_S6912x1280_S6912x1280_0_0).toLoadRect f4) (View.read (Elt F) arg5.view f5) (View.read (Elt F) arg6.view f6) arg8.view f8 y
  rw [L8_eq] at h
  have e4 : View.readAt (Elt F) arg4.view (Rect.unit ![0, 0] S6912x1280.size inb_S6912x1280_S6912x1280_0_0).toLoadRect f4
      = View.read (Elt F) arg4.view f4 := View.readAt_full arg4.view f4 inb_S6912x1280_S6912x1280_0_0
  refine Eq.trans (Eq.trans ?_ h) (congrArg (fun x => outT _ _ x _ _ _ _) e4)
  rfl

/-- The quantise stage alone. -/
theorem run_a (c : Dev nD) (i : grid0.Coords) (h1 : k0_cond1 i = 1#1) (h2 : k0_cond2 i = 1#1) (h3 : ¬ k0_cond3 i = 1#1) (h4 : ¬ k0_cond4 i = 1#1) (h5 : ¬ k0_cond5 i = 1#1)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  simp only [cc0_out_proj_eq_skeleton]; unfold cc0_out_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3 hf4 hf5 hf6 hf7 hf8 hf9 hf10 hf11 hf12 hf13 hf14
  sl_exec_parts (disch := first | exact h1 | exact h2 | exact h3 | exact h4 | exact h5)
  sl_step
  iapply Hk
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H11]
  · iexists _; iexists _; isplitr; swap; · iexact H11
    ipureintro; rfl
  isplitl [H12]
  · iexists _; iexists _; isplitr; swap; · iexact H12
    ipureintro; rfl
  iexists _; iexists _; iexists _; iexists _; iexists _
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H13]
  · iexists _; isplitr; swap; · iexact H13
    ipureintro; rfl
  isplitl [H14]
  · iexists _; isplitr; swap; · iexact H14
    ipureintro; rfl
  ipureintro
  refine ⟨fun _ => ⟨?_, ?_, ?_, ?_, ?_, ?_, ?_⟩, fun h => absurd h1 h, fun h => absurd h h4⟩
  · exact fun y r h0 hr => read13_new i h1 (View.read (Elt F) arg3.view f3) (View.read (Elt F) arg2.view f2) arg13.view f13 y r h0 hr
  · exact fun y h => read13_old i h1 (View.read (Elt F) arg3.view f3) (View.read (Elt F) arg2.view f2) arg13.view f13 y h
  · exact fun y r h0 hr => read14_new i h1 (View.read (Elt F) arg3.view f3) arg14.view f14 y r h0 hr
  · exact fun y h => read14_old i h1 (View.read (Elt F) arg3.view f3) arg14.view f14 y h
  · exact fun y r hy => read10_new i (View.read (Elt F) arg3.view f3) arg10.view f10 (k0_off4 i) (off4_eq i h1 h2) (k0_off4_inb i h1 h2) _ (fun l => readCov14 i h1 (View.read (Elt F) arg3.view f3) arg14.view l) y r hy
  · exact fun y hy => read10_old i arg10.view f10 (k0_off4 i) (off4_eq i h1 h2) (k0_off4_inb i h1 h2) _ y hy
  · exact fun y => read9 (View.read (Elt F) arg3.view f3) (View.read (Elt F) arg2.view f2) arg9.view f9 y

/-- The quantise stage and the quantisation of the last state: the first point of the grid. -/
theorem run_ah (c : Dev nD) (i : grid0.Coords) (h1 : k0_cond1 i = 1#1) (h2 : k0_cond2 i = 1#1) (h3 : ¬ k0_cond3 i = 1#1) (h4 : ¬ k0_cond4 i = 1#1) (h5 : k0_cond5 i = 1#1)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  simp only [cc0_out_proj_eq_skeleton]; unfold cc0_out_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3 hf4 hf5 hf6 hf7 hf8 hf9 hf10 hf11 hf12 hf13 hf14
  sl_exec_parts (disch := first | exact h1 | exact h2 | exact h3 | exact h4 | exact h5)
  sl_step
  iapply Hk
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H11]
  · iexists _; iexists _; isplitr; swap; · iexact H11
    ipureintro; rfl
  isplitl [H12]
  · iexists _; iexists _; isplitr; swap; · iexact H12
    ipureintro; rfl
  iexists _; iexists _; iexists _; iexists _; iexists _
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H13]
  · iexists _; isplitr; swap; · iexact H13
    ipureintro; rfl
  isplitl [H14]
  · iexists _; isplitr; swap; · iexact H14
    ipureintro; rfl
  ipureintro
  refine ⟨fun _ => ⟨?_, ?_, ?_, ?_, ?_, ?_, ?_⟩, fun h => absurd h1 h, fun h => absurd h h4⟩
  · exact fun y r h0 hr => read13_new i h1 (View.read (Elt F) arg3.view f3) (View.read (Elt F) arg2.view f2) arg13.view f13 y r h0 hr
  · exact fun y h => read13_old i h1 (View.read (Elt F) arg3.view f3) (View.read (Elt F) arg2.view f2) arg13.view f13 y h
  · exact fun y r h0 hr => read14_new i h1 (View.read (Elt F) arg3.view f3) arg14.view f14 y r h0 hr
  · exact fun y h => read14_old i h1 (View.read (Elt F) arg3.view f3) arg14.view f14 y h
  · exact fun y r hy => read10_new i (View.read (Elt F) arg3.view f3) arg10.view f10 (k0_off4 i) (off4_eq i h1 h2) (k0_off4_inb i h1 h2) _ (fun l => readCov14 i h1 (View.read (Elt F) arg3.view f3) arg14.view l) y r hy
  · exact fun y hy => read10_old i arg10.view f10 (k0_off4 i) (off4_eq i h1 h2) (k0_off4_inb i h1 h2) _ y hy
  · exact fun y => read9 (View.read (Elt F) arg3.view f3) (View.read (Elt F) arg2.view f2) arg9.view f9 y

/-- The body at any point: the case at hand. -/
theorem run_body (c : Dev nD) (i : grid0.Coords)
    (arg2 : Memref sig .tc .vmem S128x6912 .f32) (harg2 : arg2.IsWhole) (arg3 : Memref sig .tc .vmem S128x128 .f32) (harg3 : arg3.IsWhole) (arg4 : Memref sig .tc .vmem S6912x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2x8x6912 .f32) (harg7 : arg7.IsWhole) (arg8 : Memref sig .tc .vmem S512x1280 .bf16) (harg8 : arg8.IsWhole) (arg9 : Memref sig .tc .vmem S128x6912 .i8) (harg9 : arg9.IsWhole) (arg10 : Memref sig .tc .vmem S2x1024 .f32) (harg10 : arg10.IsWhole) (arg11 : Memref sig .tc .vmem S2x6912 .fp8e4m3) (harg11 : arg11.IsWhole) (arg12 : Memref sig .tc .vmem S2x54 .f32) (harg12 : arg12.IsWhole) (arg13 : Memref sig .tc .vmem S2x512x6912 .bf16) (harg13 : arg13.IsWhole) (arg14 : Memref sig .tc .vmem S2x512x128 .f32) (harg14 : arg14.IsWhole)
    (x2 : S128x6912.Idx → F .f32) (x3 : S128x128.Idx → F .f32) (x4 : S6912x1280.Idx → BitVec 8) (x5 : S1x1280.Idx → F .f32) (x6 : S1x1280.Idx → F .f32) (x7 : S2x8x6912.Idx → F .f32) (Y8 : S512x1280.Idx → F .bf16) (Y9 : S128x6912.Idx → BitVec 8) (Y10 : S2x1024.Idx → F .f32) (Y11 : S2x6912.Idx → F .fp8e4m3) (Y12 : S2x54.Idx → F .f32) (Y13 : S2x512x6912.Idx → F .bf16) (Y14 : S2x512x128.Idx → F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ X8 X9 X10 X13 X14, owns (c : Thread nD τ) arg8 fullShare X8 ∗ owns (c : Thread nD τ) arg9 fullShare X9 ∗ owns (c : Thread nD τ) arg10 fullShare X10 ∗ owns (c : Thread nD τ) arg13 fullShare X13 ∗ owns (c : Thread nD τ) arg14 fullShare X14 ∗ ⌜Post i x2 x3 x4 x5 x6 X8 Y9 X9 Y10 X10 Y13 X13 Y14 X14⌝)) -∗ K ⟨⟩))
      ⊢ wp frame (wpE (defs₀ (F := F)) Variants.none c none) Set.univ (cc0_out_proj i arg2 harg2 arg3 harg3 arg4 harg4 arg5 harg5 arg6 harg6 arg7 harg7 arg8 harg8 arg9 harg9 arg10 harg10 arg11 harg11 arg12 harg12 arg13 harg13 arg14 harg14) K := by
  rcases cond_cases i with ⟨h1, h2, h3, h4, h5⟩ | ⟨h1, h2, h3, h4, h5⟩ | ⟨h1, h2, h3, h4, h5⟩ | ⟨h1, h2, h3, h4, h5⟩ | ⟨h1, h4, h5⟩
  · exact run_ah c i h1 h2 h3 h4 h5 arg2 harg2 arg3 harg3 arg4 harg4 arg5 harg5 arg6 harg6 arg7 harg7 arg8 harg8 arg9 harg9 arg10 harg10 arg11 harg11 arg12 harg12 arg13 harg13 arg14 harg14 x2 x3 x4 x5 x6 x7 Y8 Y9 Y10 Y11 Y12 Y13 Y14 K
  · exact run_a c i h1 h2 h3 h4 h5 arg2 harg2 arg3 harg3 arg4 harg4 arg5 harg5 arg6 harg6 arg7 harg7 arg8 harg8 arg9 harg9 arg10 harg10 arg11 harg11 arg12 harg12 arg13 harg13 arg14 harg14 x2 x3 x4 x5 x6 x7 Y8 Y9 Y10 Y11 Y12 Y13 Y14 K
  · exact run_ab2 c i h1 h2 h3 h4 h5 arg2 harg2 arg3 harg3 arg4 harg4 arg5 harg5 arg6 harg6 arg7 harg7 arg8 harg8 arg9 harg9 arg10 harg10 arg11 harg11 arg12 harg12 arg13 harg13 arg14 harg14 x2 x3 x4 x5 x6 x7 Y8 Y9 Y10 Y11 Y12 Y13 Y14 K
  · exact run_ab3 c i h1 h2 h3 h4 h5 arg2 harg2 arg3 harg3 arg4 harg4 arg5 harg5 arg6 harg6 arg7 harg7 arg8 harg8 arg9 harg9 arg10 harg10 arg11 harg11 arg12 harg12 arg13 harg13 arg14 harg14 x2 x3 x4 x5 x6 x7 Y8 Y9 Y10 Y11 Y12 Y13 Y14 K
  · exact run_b c i h1 h4 h5 arg2 harg2 arg3 harg3 arg4 harg4 arg5 harg5 arg6 harg6 arg7 harg7 arg8 harg8 arg9 harg9 arg10 harg10 arg11 harg11 arg12 harg12 arg13 harg13 arg14 harg14 x2 x3 x4 x5 x6 x7 Y8 Y9 Y10 Y11 Y12 Y13 Y14 K

end Cert.KernelIdeal.Hand

end
-- ==== Proof.DataI.lean ====
module

public import proofs.«01_k».proof.Proof.Gen.KernelIdeal.Frame
public import proofs.«01_k».proof.Proof.Gen.KernelIdeal.Skeleton
public import proofs.«01_k».proof.Proof.Gen.KernelIdeal.Points
public import proofs.«01_k».proof.Proof.TileI
public import proofs.«01_k».proof.Proof.BodyI
public import Idealize.ShloMosaic.Lib.Pipeline.Frame
public import Idealize.ShloMosaic.Lib.Pipeline.FrameBody
public import Idealize.ShloMosaic.Lib.Pipeline.ArrRel
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The blocks the body reads, and what it leaves as functions of them -/

/-- The tile of rows of `o`, the tile of lane maxima, the weights, the column scales and the bias at point `t`. -/
abbrev bO (c : Dev nD) (t : Fin grid0.N) : S128x6912.Idx → F .f32 := iblk m c 0 t
abbrev bA (c : Dev nD) (t : Fin grid0.N) : S128x128.Idx → F .f32 := iblk m c 1 t
abbrev bW (c : Dev nD) (t : Fin grid0.N) : S6912x1280.Idx → BitVec 8 := iblk m c 2 t
abbrev bS (c : Dev nD) (t : Fin grid0.N) : S1x1280.Idx → F .f32 := iblk m c 3 t
abbrev bB (c : Dev nD) (t : Fin grid0.N) : S1x1280.Idx → F .f32 := iblk m c 4 t

/-- A point of the grid by its number, the number cut to the grid. -/
abbrev pt (n : ℕ) : Fin grid0.N := ⟨min n 19, by rw [N_0]; omega⟩

/-- What the scratch holds before point `n`: the tiles of the last eight points, each in the plane of its group's parity. -/
def Scr (c : Dev nD) (n : ℕ) (X13 : S2x512x6912.Idx → F .bf16) (X14 : S2x512x128.Idx → F .f32) : Prop :=
  ∀ u : ℕ, u < n → u < 16 → n ≤ u + 8 →
    (∀ (y : S2x512x6912.Idx) (r : Fin 128), (y 0).val = u / 4 % 2 → (y 1).val = 128 * (u % 4) + r.val →
      X13 y = qT (bA m c (pt u)) (bO m c (pt u)) r (y 2))
    ∧ (∀ (y : S2x512x128.Idx) (r : Fin 128), (y 0).val = u / 4 % 2 → (y 1).val = 128 * (u % 4) + r.val →
      X14 y = sT (bA m c (pt u)) r (y 2))

/-- What the resident scales hold before point `n`: the scales of every tile so far. -/
def Sc (c : Dev nD) (n : ℕ) (X : S2x1024.Idx → F .f32) : Prop :=
  ∀ u : ℕ, u < n → u < 16 → ∀ (y : S2x1024.Idx) (r : Fin 128), 1024 * (y 0).val + (y 1).val = 128 * u + r.val →
    X y = sT (bA m c (pt u)) r (0 : Fin 128)

/-- The codes' tile of point `u`. -/
def codeB (c : Dev nD) (u : Fin grid0.N) : S128x6912.Idx → BitVec 8 :=
  fun y => codeT (bA m c u) (bO m c u) (y 0) (y 1)

/-- The plane of codes and the plane of scales the multiply stage of group `g` reads: the four tiles of group `g - 1`. -/
def planeQ (c : Dev nD) (g : ℕ) : S1x512x6912.Idx → F .bf16 := fun y =>
  qT (bA m c (pt (4 * (g - 1) + (y 1).val / 128))) (bO m c (pt (4 * (g - 1) + (y 1).val / 128))) ⟨(y 1).val % 128, by omega⟩ (y 2)
def planeS (c : Dev nD) (g : ℕ) : S1x512x128.Idx → F .f32 := fun y =>
  sT (bA m c (pt (4 * (g - 1) + (y 1).val / 128))) ⟨(y 1).val % 128, by omega⟩ (y 2)

/-- The output tile of point `t`. -/
def outB (c : Dev nD) (t : Fin grid0.N) : S512x1280.Idx → F .bf16 := fun y =>
  outT (planeQ m c (t.val / 4)) (planeS m c (t.val / 4)) (bW m c t) (bS m c t) (bB m c t) (y 0) (y 1)

/-! ## The two coordinates of a point, and when each stage runs -/

theorem coords_eq : ∀ t : Fin grid0.N, (grid0.coords t 0).val = t.val / 4 ∧ (grid0.coords t 1).val = t.val % 4 := by decide +kernel
theorem cond1_iff : ∀ t : Fin grid0.N, k0_cond1 (grid0.coords t) = 1#1 ↔ t.val < 16 := by decide +kernel
theorem cond4_iff : ∀ t : Fin grid0.N, k0_cond4 (grid0.coords t) = 1#1 ↔ 4 ≤ t.val := by decide +kernel

theorem pt_val (t : Fin grid0.N) : pt t.val = t := by
  apply Fin.ext
  have : t.val < 20 := lt_of_lt_of_eq t.isLt N_0
  show min t.val 19 = t.val; omega

/-! ## One point's step of the invariant -/

theorem scr_step (c : Dev nD) (t : Fin grid0.N) (h1 : t.val < 16) {Y13 X13 : S2x512x6912.Idx → F .bf16}
    {Y14 X14 : S2x512x128.Idx → F .f32} {Y10 X10 : S2x1024.Idx → F .f32} {X9 : S128x6912.Idx → BitVec 8}
    (hY : Scr m c t.val Y13 Y14) (h : PostA (grid0.coords t) (bO m c t) (bA m c t) Y13 X13 Y14 X14 Y10 X10 X9) :
    Scr m c (t.val + 1) X13 X14 := by
  obtain ⟨e0, e1⟩ := coords_eq t
  intro u hu hu' hn
  by_cases hut : u = t.val
  · subst hut
    rw [pt_val]
    exact ⟨fun y r h0 hr => h.q_new y r (by rw [e0]; exact h0) (by rw [e1]; exact hr),
      fun y r h0 hr => h.s_new y r (by rw [e0]; exact h0) (by rw [e1]; exact hr)⟩
  · obtain ⟨hq, hs⟩ := hY u (by omega) hu' (by omega)
    constructor
    · intro y r h0 hr
      have := r.isLt
      rw [h.q_old y (by rw [e0, e1]; omega)]
      exact hq y r h0 hr
    · intro y r h0 hr
      have := r.isLt
      rw [h.s_old y (by rw [e0, e1]; omega)]
      exact hs y r h0 hr

theorem scr_stay (c : Dev nD) (t : ℕ) (h1 : 16 ≤ t) {X13 : S2x512x6912.Idx → F .bf16} {X14 : S2x512x128.Idx → F .f32}
    (hY : Scr m c t X13 X14) : Scr m c (t + 1) X13 X14 :=
  fun u hu hu' hn => hY u (by omega) hu' (by omega)

theorem sc_step (c : Dev nD) (t : Fin grid0.N) (h1 : t.val < 16) {Y13 X13 : S2x512x6912.Idx → F .bf16}
    {Y14 X14 : S2x512x128.Idx → F .f32} {Y10 X10 : S2x1024.Idx → F .f32} {X9 : S128x6912.Idx → BitVec 8}
    (hY : Sc m c t.val Y10) (h : PostA (grid0.coords t) (bO m c t) (bA m c t) Y13 X13 Y14 X14 Y10 X10 X9) :
    Sc m c (t.val + 1) X10 := by
  obtain ⟨e0, e1⟩ := coords_eq t
  intro u hu hu' y r hy
  have := r.isLt
  by_cases hut : u = t.val
  · subst hut
    rw [pt_val]
    exact h.sc_new y r (by rw [e0, e1]; omega)
  · rw [h.sc_old y (by rw [e0, e1]; omega)]
    exact hY u (by omega) hu' y r hy

theorem sc_stay (c : Dev nD) (t : ℕ) (h1 : 16 ≤ t) {X : S2x1024.Idx → F .f32} (hY : Sc m c t X) : Sc m c (t + 1) X :=
  fun u hu hu' => hY u (by omega) hu'

/-- The multiply stage's tile, its two planes named by the invariant. -/
theorem out_step (c : Dev nD) (t : Fin grid0.N) (h4 : 4 ≤ t.val) {X13 : S2x512x6912.Idx → F .bf16} {X14 : S2x512x128.Idx → F .f32}
    (hX : Scr m c (t.val + 1) X13 X14) {X8 : S512x1280.Idx → F .bf16}
    (h : PostB (grid0.coords t) ((cond4_iff t).2 h4) X13 X14 (bW m c t) (bS m c t) (bB m c t) X8) : X8 = outB m c t := by
  obtain ⟨e0, e1⟩ := coords_eq t
  have ht : t.val < 20 := lt_of_lt_of_eq t.isLt N_0
  have a0 : k0_off6 (grid0.coords t) 0 = (t.val / 4 + 1) % 2 := by
    rw [k0_off6_eq, ← e0]; rfl
  have a1 : k0_off6 (grid0.coords t) 1 = 0 := by rw [k0_off6_eq]; rfl
  have a2 : k0_off6 (grid0.coords t) 2 = 0 := by rw [k0_off6_eq]; rfl
  have b0 : k0_off7 (grid0.coords t) 0 = (t.val / 4 + 1) % 2 := by
    rw [k0_off7_eq, ← e0]; rfl
  have b1 : k0_off7 (grid0.coords t) 1 = 0 := by rw [k0_off7_eq]; rfl
  have b2 : k0_off7 (grid0.coords t) 2 = 0 := by rw [k0_off7_eq]; rfl
  have hq : VecWindow.window X13 (k0_off6 (grid0.coords t)) S1x512x6912.size (k0_off6_inb (grid0.coords t) ((cond4_iff t).2 h4)) = planeQ m c (t.val / 4) := by
    funext y
    have hy0 : (y 0).val < 1 := (y 0).isLt
    have hy1 : (y 1).val < 512 := (y 1).isLt
    refine ((hX (4 * (t.val / 4 - 1) + (y 1).val / 128) (by omega) (by omega) (by omega)).1 _ ⟨(y 1).val % 128, by omega⟩ ?_ ?_).trans ?_
    · show k0_off6 (grid0.coords t) 0 + 1 * (y 0).val = _
      omega
    · show k0_off6 (grid0.coords t) 1 + 1 * (y 1).val = 128 * ((4 * (t.val / 4 - 1) + (y 1).val / 128) % 4) + (y 1).val % 128
      omega
    · refine congrArg (qT _ _ _) (Fin.ext ?_)
      show k0_off6 (grid0.coords t) 2 + 1 * (y 2).val = _
      omega
  have hs : VecWindow.window X14 (k0_off7 (grid0.coords t)) S1x512x128.size (k0_off7_inb (grid0.coords t) ((cond4_iff t).2 h4)) = planeS m c (t.val / 4) := by
    funext y
    have hy0 : (y 0).val < 1 := (y 0).isLt
    have hy1 : (y 1).val < 512 := (y 1).isLt
    refine ((hX (4 * (t.val / 4 - 1) + (y 1).val / 128) (by omega) (by omega) (by omega)).2 _ ⟨(y 1).val % 128, by omega⟩ ?_ ?_).trans ?_
    · show k0_off7 (grid0.coords t) 0 + 1 * (y 0).val = _
      omega
    · show k0_off7 (grid0.coords t) 1 + 1 * (y 1).val = 128 * ((4 * (t.val / 4 - 1) + (y 1).val / 128) % 4) + (y 1).val % 128
      omega
    · refine congrArg (sT _ _) (Fin.ext ?_)
      show k0_off7 (grid0.coords t) 2 + 1 * (y 2).val = _
      omega
  funext y
  refine (h y).trans ?_
  rw [hq, hs]; rfl

/-! ## The proof data -/

/-- The scratch at what the invariant says of it, and the generator register. -/
def Inv (c : Dev nD) (n : ℕ) : sProp 𝕄 :=
  iprop((∃ X13 X14, owns (c : Thread nD τ) (Memref.whole cc0_scratch0) fullShare X13 ∗ owns (c : Thread nD τ) (Memref.whole cc0_scratch1) fullShare X14
    ∗ ⌜Scr m c n X13 X14⌝) ∗ ∃ r, prngReg c r)

/-- The windows read exactly: each input's block is left as found. -/
def dat (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => Dat.unnamed (cfg := cfg0) 6 t | 7 => Dat.unnamed (cfg := cfg0) 7 t | 8 => Dat.unnamed (cfg := cfg0) 8 t
    | 9 => Dat.unnamed (cfg := cfg0) 9 t | 10 => Dat.unnamed (cfg := cfg0) 10 t
    | ⟨_ + 11, h⟩ => absurd h (Nat.not_lt.2 (Nat.le_add_left _ _))
  Φ t := Inv m c t.val
  q _ := fullShare
  owed _ := 0

/-- What is said of the five output windows. -/
def ovr (c : Dev nD) : (w : Fin cfg0.W) → Option (Fin cfg0.N → (Y X : (cfg0.win w).block.Idx → Elt F (cfg0.win w).elt) → Prop)
  | 0 => none | 1 => none | 2 => none | 3 => none | 4 => none | 5 => none
  | 6 => some fun t _ X => 4 ≤ t.val → X = outB m c t
  | 7 => some fun t Y X => (t.val < 16 → X = codeB m c t) ∧ (16 ≤ t.val → X = Y)
  | 8 => some fun t Y X => Sc m c t.val Y → Sc m c (t.val + 1) X
  | 9 => some fun _ _ _ => True
  | 10 => some fun _ _ _ => True
  | ⟨_ + 11, h⟩ => absurd h (Nat.not_lt.2 (Nat.le_add_left _ _))

def rdat (c : Dev nD) : RDat τ (Elt F) Unit ℕ (UR sig nD τ) ℕ cfg0 c := (dat m c).toR.override (ovr m c)

theorem dat_A (c : Dev nD) (w : Fin cfg0.W) : (dat m c).A w = V m c (Pipeline.arrRef spec0 w) := by dsimp only [dat]

theorem dat_after_0 (c : Dev nD) (t : Fin cfg0.N) : (dat m c).after 0 t = iblk m c 0 t := by dsimp only [dat]
theorem dat_after_1 (c : Dev nD) (t : Fin cfg0.N) : (dat m c).after 1 t = iblk m c 1 t := by dsimp only [dat]
theorem dat_after_2 (c : Dev nD) (t : Fin cfg0.N) : (dat m c).after 2 t = iblk m c 2 t := by dsimp only [dat]
theorem dat_after_3 (c : Dev nD) (t : Fin cfg0.N) : (dat m c).after 3 t = iblk m c 3 t := by dsimp only [dat]
theorem dat_after_4 (c : Dev nD) (t : Fin cfg0.N) : (dat m c).after 4 t = iblk m c 4 t := by dsimp only [dat]
theorem dat_after_5 (c : Dev nD) (t : Fin cfg0.N) : (dat m c).after 5 t = iblk m c 5 t := by dsimp only [dat]

/-- What the body finds in an input window is the window's block. -/
theorem finds_0 (c : Dev nD) (t : Fin cfg0.N) (Y) (h : (rdat m c).Finds 0 t Y) : Y = bO m c t := by
  obtain ⟨d, rfl⟩ := (dat m c).toR_finds 0 t Y (((dat m c).toR.override_finds rfl t Y).mp h)
  exact before0_0_of m (dat m c) (dat_A m c 0) (dat_after_0 m c) t d
theorem finds_1 (c : Dev nD) (t : Fin cfg0.N) (Y) (h : (rdat m c).Finds 1 t Y) : Y = bA m c t := by
  obtain ⟨d, rfl⟩ := (dat m c).toR_finds 1 t Y (((dat m c).toR.override_finds rfl t Y).mp h)
  exact before0_1_of m (dat m c) (dat_A m c 1) (dat_after_1 m c) t d
theorem finds_2 (c : Dev nD) (t : Fin cfg0.N) (Y) (h : (rdat m c).Finds 2 t Y) : Y = bW m c t := by
  obtain ⟨d, rfl⟩ := (dat m c).toR_finds 2 t Y (((dat m c).toR.override_finds rfl t Y).mp h)
  exact before0_2_of m (dat m c) (dat_A m c 2) (dat_after_2 m c) t d
theorem finds_3 (c : Dev nD) (t : Fin cfg0.N) (Y) (h : (rdat m c).Finds 3 t Y) : Y = bS m c t := by
  obtain ⟨d, rfl⟩ := (dat m c).toR_finds 3 t Y (((dat m c).toR.override_finds rfl t Y).mp h)
  exact before0_3_of m (dat m c) (dat_A m c 3) (dat_after_3 m c) t d
theorem finds_4 (c : Dev nD) (t : Fin cfg0.N) (Y) (h : (rdat m c).Finds 4 t Y) : Y = bB m c t := by
  obtain ⟨d, rfl⟩ := (dat m c).toR_finds 4 t Y (((dat m c).toR.override_finds rfl t Y).mp h)
  exact before0_4_of m (dat m c) (dat_A m c 4) (dat_after_4 m c) t d
theorem finds_5 (c : Dev nD) (t : Fin cfg0.N) (Y) (h : (rdat m c).Finds 5 t Y) : Y = iblk m c 5 t := by
  obtain ⟨d, rfl⟩ := (dat m c).toR_finds 5 t Y (((dat m c).toR.override_finds rfl t Y).mp h)
  exact before0_5_of m (dat m c) (dat_A m c 5) (dat_after_5 m c) t d

/-- The left contents of an input window, as the data ask for them. -/
theorem after_0 (c : Dev nD) (t : Fin cfg0.N) (Y) : (rdat m c).after 0 t Y (bO m c t) := by
  unfold rdat; rw [RDat.override_after_of_eq_none _ rfl]; exact (dat_after_0 m c t).symm
theorem after_1 (c : Dev nD) (t : Fin cfg0.N) (Y) : (rdat m c).after 1 t Y (bA m c t) := by
  unfold rdat; rw [RDat.override_after_of_eq_none _ rfl]; exact (dat_after_1 m c t).symm
theorem after_2 (c : Dev nD) (t : Fin cfg0.N) (Y) : (rdat m c).after 2 t Y (bW m c t) := by
  unfold rdat; rw [RDat.override_after_of_eq_none _ rfl]; exact (dat_after_2 m c t).symm
theorem after_3 (c : Dev nD) (t : Fin cfg0.N) (Y) : (rdat m c).after 3 t Y (bS m c t) := by
  unfold rdat; rw [RDat.override_after_of_eq_none _ rfl]; exact (dat_after_3 m c t).symm
theorem after_4 (c : Dev nD) (t : Fin cfg0.N) (Y) : (rdat m c).after 4 t Y (bB m c t) := by
  unfold rdat; rw [RDat.override_after_of_eq_none _ rfl]; exact (dat_after_4 m c t).symm
theorem after_5 (c : Dev nD) (t : Fin cfg0.N) (Y) : (rdat m c).after 5 t Y (iblk m c 5 t) := by
  unfold rdat; rw [RDat.override_after_of_eq_none _ rfl]; exact (dat_after_5 m c t).symm

/-- The body's step at point `t`, in the terms of the proof data. -/
theorem post_step (c : Dev nD) (t : Fin grid0.N) {X8 : S512x1280.Idx → F .bf16} {Y9 X9 : S128x6912.Idx → BitVec 8}
    {Y10 X10 : S2x1024.Idx → F .f32} {Y13 X13 : S2x512x6912.Idx → F .bf16} {Y14 X14 : S2x512x128.Idx → F .f32}
    (hY : Scr m c t.val Y13 Y14)
    (h : Post (grid0.coords t) (bO m c t) (bA m c t) (bW m c t) (bS m c t) (bB m c t) X8 Y9 X9 Y10 X10 Y13 X13 Y14 X14) :
    Scr m c (t.val + 1) X13 X14 ∧ (4 ≤ t.val → X8 = outB m c t)
      ∧ ((t.val < 16 → X9 = codeB m c t) ∧ (16 ≤ t.val → X9 = Y9)) ∧ (Sc m c t.val Y10 → Sc m c (t.val + 1) X10) := by
  obtain ⟨hA, hN, hB⟩ := h
  by_cases h1 : t.val < 16
  · have hP := hA ((cond1_iff t).2 h1)
    have hS := scr_step m c t h1 hY hP
    exact ⟨hS, fun h4 => out_step m c t h4 hS (hB _), ⟨fun _ => funext hP.code, fun h => absurd h1 (by omega)⟩,
      fun hc => sc_step m c t h1 hc hP⟩
  · obtain ⟨e13, e14, e10, e9⟩ := hN (fun h => h1 ((cond1_iff t).1 h))
    subst e13 e14 e10 e9
    have hS := scr_stay m c t.val (by omega) hY
    exact ⟨hS, fun h4 => out_step m c t h4 hS (hB _), ⟨fun h => absurd h h1, fun _ => rfl⟩, fun hc => sc_stay m c t.val (by omega) hc⟩

end Cert.KernelIdeal.Hand

end
-- ==== Proof.KerVal.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.VecWindow
public import Idealize.ShloMosaic.Lib.WritesUnit
public import Idealize.ShloMosaic.Lib.Pointwise
public import proofs.«01_k».proof.Proof.TileI

public import proofs.«01_k».proof.Proof.KerPure
public import proofs.«01_k».proof.Proof.DataI
public import Idealize.ShloMosaic.Lib.Pipeline.ValueKit
public import Idealize.ShloMosaic.Lib.Claim

/-!
  The blocks the kernel reads, and the tiles it leaves, as parts of the whole arrays.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Cfg Dat RDat)
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

/-- Row `g` of the 2048 rows: its batch and its position. -/
abbrev rb (g : Fin 2048) : Fin 2 := ⟨g.val / 1024, by omega⟩
abbrev rs (g : Fin 2048) : Fin 1024 := ⟨g.val % 1024, by omega⟩
/-- The rows, the weights, the columns' scales and the biases of core `c`. -/
def rows (c : Dev nD) (g : Fin 2048) (k : Fin 6912) : EReal :=
  (m ((c.tc : Thread nD τ).loc main_arg0) : S2x1024x6912.Idx → EReal) (ix3 (rb g) (rs g) k)
def wts (c : Dev nD) (k : Fin 6912) (j : Fin 5120) : BitVec 8 :=
  (m ((c.tc : Thread nD τ).loc main_arg1) : S6912x5120.Idx → BitVec 8) (ix2 k j)
def cscale (c : Dev nD) (j : Fin 5120) : EReal := (m ((c.tc : Thread nD τ).loc main_arg2) : S5120.Idx → EReal) (ix1 j)
def cbias (c : Dev nD) (j : Fin 5120) : EReal := (m ((c.tc : Thread nD τ).loc main_arg3) : S5120.Idx → EReal) (ix1 j)

theorem cast1_at (x : S5120.Idx → EReal) (j : Fin 5120) : shapeCast S1x5120 x shapeCasts_S5120_S1x5120 (ix2 (0 : Fin 1) j) = x (ix1 j) := by
  pointwise
theorem cast2_at (x : S2x1024x6912.Idx → EReal) (g : Fin 2048) (k : Fin 6912) :
    shapeCast S2048x6912 x shapeCasts_S2x1024x6912_S2048x6912 (ix2 g k) = x (ix3 (rb g) (rs g) k) := by
  pointwise
theorem entry_so (c : Dev nD) (j : Fin 5120) : (V m c main_v4 : S1x5120.Idx → EReal) (ix2 (0 : Fin 1) j) = cscale m c j := by
  entry_read
  exact cast1_at (m (c, Proc.tc.devRef main_arg2) : S5120.Idx → EReal) j
theorem entry_bo (c : Dev nD) (j : Fin 5120) : (V m c main_v5 : S1x5120.Idx → EReal) (ix2 (0 : Fin 1) j) = cbias m c j := by
  entry_read
  exact cast1_at (m (c, Proc.tc.devRef main_arg3) : S5120.Idx → EReal) j
theorem entry_o (c : Dev nD) (g : Fin 2048) (k : Fin 6912) : (V m c main_v0 : S2048x6912.Idx → EReal) (ix2 g k) = rows m c g k := by
  entry_read
  exact cast2_at (m (c, Proc.tc.devRef main_arg0) : S2x1024x6912.Idx → EReal) g k
theorem entry_w (c : Dev nD) : V m c main_arg1 = m ((c.tc : Thread nD τ).loc main_arg1) := by
  entry_read
  rfl
theorem hred_at (y : S2048x54x128.Idx → EReal) (g : Fin 2048) (l : Fin 128) :
    Host.reduce (FloatOps.maximumf (F := Ideal) (φ := .f32)) y (constant (F := Ideal) S_ .f32 4286578688#32) reducesTo_S2048x54x128_S2048x128_d1 h_S_ (ix2 g l) =
      Finset.fold max (Ideal.ofBits .f32 0xFF800000#32) (fun q : Fin 54 => y (ix3 g q l)) Finset.univ := by
  pointwise
theorem habs_at (x : S2048x6912.Idx → EReal) (g : Fin 2048) (q : Fin 54) (l : Fin 128) :
    shapeCast S2048x54x128 (Host.absf (F := Ideal) (φ := .f32) x) shapeCasts_S2048x6912_S2048x54x128 (ix3 g q l) =
      max (x (ix2 g ⟨128 * q.val + l.val, by omega⟩)) (-(x (ix2 g ⟨128 * q.val + l.val, by omega⟩))) := by
  have e : (⟨q.val * 128 + l.val, by omega⟩ : Fin 6912) = ⟨128 * q.val + l.val, by omega⟩ := Fin.ext (by show q.val * 128 + l.val = 128 * q.val + l.val; omega)
  pointwise
  rw [e]
  rfl
theorem entry_a (c : Dev nD) (g : Fin 2048) (l : Fin 128) : (V m c main_v3 : S2048x128.Idx → EReal) (ix2 g l) =
    Finset.fold max (Ideal.ofBits .f32 0xFF800000#32) (fun q : Fin 54 => max (rows m c g ⟨128 * q.val + l.val, by omega⟩)
      (-(rows m c g ⟨128 * q.val + l.val, by omega⟩))) Finset.univ := by
  entry_read
  refine (hred_at _ g l).trans ?_
  refine congrArg (fun f => Finset.fold max _ f _) (funext fun q => ?_)
  refine (habs_at (shapeCast S2048x6912 (m (c, Proc.tc.devRef main_arg0) : S2x1024x6912.Idx → EReal) shapeCasts_S2x1024x6912_S2048x6912) g q l).trans ?_
  rw [cast2_at]
  rfl

theorem idxI : ∀ t : Fin cfg0.N, win0_0.index t = ![min t.val 15, 0] ∧ win0_1.index t = ![min t.val 15, 0]
    ∧ win0_2.index t = ![0, if t.val < 4 then 0 else t.val % 4] ∧ win0_3.index t = ![0, if t.val < 4 then 0 else t.val % 4]
    ∧ win0_4.index t = ![0, if t.val < 4 then 0 else t.val % 4] :=
  (by decide +kernel : ∀ t : Fin grid0.N, _)
theorem idxO : ∀ t : Fin cfg0.N, win0_6.index t = ![t.val / 4 - 1, if t.val < 4 then 0 else t.val % 4] ∧ win0_7.index t = ![min t.val 15, 0]
    ∧ win0_8.index t = ![0, 0] :=
  (by decide +kernel : ∀ t : Fin grid0.N, _)

theorem lt20 (t : Fin cfg0.N) : t.val < 20 := lt_of_lt_of_eq t.isLt N_0

theorem bO_at (c : Dev nD) (t : Fin cfg0.N) (r : Fin 128) (k : Fin 6912) :
    bO m c t (ix2 r k) = rows m c ⟨128 * min t.val 15 + r.val, by omega⟩ k := by
  rw [← entry_o]
  blk_ext [bO, iblk, idxI t]
theorem rd1 (X : S2048x128.Idx → EReal) (t : Fin cfg0.N) (r : Fin 128) (l : Fin 128) :
    (((cfg0.win 1).blk t).view.read (Elt Ideal) X : S128x128.Idx → EReal) (ix2 r l) = X (ix2 ⟨128 * min t.val 15 + r.val, by omega⟩ l) := by
  blk_ext [idxI t]
theorem bA_at (c : Dev nD) (t : Fin cfg0.N) (r : Fin 128) (l : Fin 128) :
    bA m c t (ix2 r l) = (V m c main_v3 : S2048x128.Idx → EReal) (ix2 ⟨128 * min t.val 15 + r.val, by omega⟩ l) :=
  rd1 (V m c main_v3) t r l
theorem bA_eq (c : Dev nD) (t : Fin cfg0.N) (r : Fin 128) (l : Fin 128) (g : Fin 2048) (hg : g.val = 128 * min t.val 15 + r.val) :
    bA m c t (ix2 r l) = Finset.fold max (Ideal.ofBits .f32 0xFF800000#32) (fun q : Fin 54 => max (rows m c g ⟨128 * q.val + l.val, by omega⟩)
      (-(rows m c g ⟨128 * q.val + l.val, by omega⟩))) Finset.univ := by
  have e : (⟨128 * min t.val 15 + r.val, by omega⟩ : Fin 2048) = g := Fin.ext hg.symm
  exact (bA_at m c t r l).trans (e ▸ entry_a m c _ l)
theorem bW_at (c : Dev nD) (t : Fin cfg0.N) (h : 4 ≤ t.val) (k : Fin 6912) (j : Fin 1280) :
    bW m c t (ix2 k j) = wts m c k ⟨1280 * (t.val % 4) + j.val, by omega⟩ := by
  unfold wts
  rw [← entry_w m c]
  have ht : (if t.val < 4 then 0 else t.val % 4) = t.val % 4 := if_neg (by omega)
  blk_ext [bW, iblk, idxI t, ht]
theorem bS_at (c : Dev nD) (t : Fin cfg0.N) (h : 4 ≤ t.val) (j : Fin 1280) :
    bS m c t (ix2 0 j) = cscale m c ⟨1280 * (t.val % 4) + j.val, by omega⟩ := by
  rw [← entry_so]
  have ht : (if t.val < 4 then 0 else t.val % 4) = t.val % 4 := if_neg (by omega)
  blk_ext [bS, iblk, idxI t, ht]
theorem bB_at (c : Dev nD) (t : Fin cfg0.N) (h : 4 ≤ t.val) (j : Fin 1280) :
    bB m c t (ix2 0 j) = cbias m c ⟨1280 * (t.val % 4) + j.val, by omega⟩ := by
  rw [← entry_bo]
  have ht : (if t.val < 4 then 0 else t.val % 4) = t.val % 4 := if_neg (by omega)
  blk_ext [bB, iblk, idxI t, ht]

/-- The scale of a row of a tile is the row's scale. -/
theorem scl_mx (c : Dev nD) (t : Fin cfg0.N) (r : Fin 128) (g : Fin 2048) (hg : g.val = 128 * min t.val 15 + r.val) :
    Spec.scl (mx (bA m c t) r) = Spec.rowScale (rows m c g) := by
  unfold mx Spec.rowScale
  refine congrArg Spec.scl ?_
  refine (congrArg (fun f => Finset.fold max _ f _) (funext fun l => bA_eq m c t r l g hg)).trans ?_
  exact Spec.amx_lanes _ _ rfl
theorem bO_eq (c : Dev nD) (t : Fin cfg0.N) (r : Fin 128) (k : Fin 6912) (g : Fin 2048) (hg : g.val = 128 * min t.val 15 + r.val) :
    bO m c t (ix2 r k) = rows m c g k :=
  (bO_at m c t r k).trans (congrArg (fun g => rows m c g k) (Fin.ext hg.symm))

/-- The codes of a tile. -/
theorem codeT_at (c : Dev nD) (t : Fin cfg0.N) (r : Fin 128) (k : Fin 6912) (g : Fin 2048) (hg : g.val = 128 * min t.val 15 + r.val) :
    codeT (F := Ideal) (bA m c t) (bO m c t) r k = Spec.codesA (rows m c) g k := by
  refine (codeT_eq _ _ r k).trans ?_
  rw [scl_mx m c t r g hg]
  exact congrArg (fun x => Spec.code x _) (bO_eq m c t r k g hg)

theorem pt_min (u : ℕ) (h : u < 16) : min (pt u).val 15 = u := by
  show min (min u 19) 15 = u
  omega
/-- The scales of tile `u`. -/
theorem sT_at (c : Dev nD) (u : ℕ) (h : u < 16) (r l : Fin 128) (g : Fin 2048) (hg : g.val = 128 * u + r.val) :
    sT (F := Ideal) (bA m c (pt u)) r l = Spec.rowScale (rows m c g) := by
  refine (sT_eq _ r l).trans (scl_mx m c (pt u) r g ?_)
  rw [pt_min u h]; exact hg
/-- The codes of tile `u` as numbers. -/
theorem qT_at (c : Dev nD) (u : ℕ) (h : u < 16) (r : Fin 128) (k : Fin 6912) (g : Fin 2048) (hg : g.val = 128 * u + r.val) :
    qT (F := Ideal) (bA m c (pt u)) (bO m c (pt u)) r k = Spec.qv (rows m c g k) (Spec.rowScale (rows m c g)) := by
  have hg' : g.val = 128 * min (pt u).val 15 + r.val := by rw [pt_min u h]; exact hg
  refine (qT_eq _ _ r k).trans ?_
  rw [scl_mx m c (pt u) r g hg']
  exact congrArg (fun x => Spec.qv x _) (bO_eq m c (pt u) r k g hg')

/-- The output tile of point `t`. -/
theorem outB_at (c : Dev nD) (t : Fin cfg0.N) (h : 4 ≤ t.val) (r : Fin 512) (l : Fin 1280) (g : Fin 2048) (j : Fin 5120)
    (hg : g.val = 512 * (t.val / 4 - 1) + r.val) (hj : j.val = 1280 * (t.val % 4) + l.val) :
    outT (F := Ideal) (planeQ m c (t.val / 4)) (planeS m c (t.val / 4)) (bW m c t) (bS m c t) (bB m c t) r l =
      (Spec.outA (rows m c) (wts m c) (cscale m c) (cbias m c) g j : EReal) := by
  have ht := lt20 t
  have e : (⟨1280 * (t.val % 4) + l.val, by omega⟩ : Fin 5120) = j := Fin.ext hj.symm
  have hq : ∀ k : Fin 6912, planeQ m c (t.val / 4) (ix3 (0 : Fin 1) r k) = (Spec.qv (rows m c g k) (Spec.rowScale (rows m c g)) : EReal) := fun k =>
    qT_at m c (4 * (t.val / 4 - 1) + r.val / 128) (by omega) ⟨r.val % 128, by omega⟩ k g (by show g.val = _ + r.val % 128; omega)
  have hs : planeS m c (t.val / 4) (ix3 (0 : Fin 1) r ⟨l.val % 128, by omega⟩) = (Spec.rowScale (rows m c g) : EReal) :=
    sT_at m c (4 * (t.val / 4 - 1) + r.val / 128) (by omega) ⟨r.val % 128, by omega⟩ _ g (by show g.val = _ + r.val % 128; omega)
  refine (outT_eq _ _ _ _ _ r l).trans ?_
  unfold Spec.outA
  rw [hs, (bS_at m c t h l).trans (congrArg _ e), (bB_at m c t h l).trans (congrArg _ e)]
  refine congrArg (fun x : EReal => x * _ * _ + _) (Finset.sum_congr rfl fun k _ => ?_)
  rw [hq k, (bW_at m c t h k l).trans (congrArg _ e)]

end Cert.KernelIdeal.Hand

end
-- ==== Proof.FrameI.lean ====
module

public import proofs.«01_k».proof.Proof.Gen.KernelIdeal.Frame
public import proofs.«01_k».proof.Proof.Gen.KernelIdeal.Skeleton
public import proofs.«01_k».proof.Proof.Gen.KernelIdeal.Points
public import proofs.«01_k».proof.Proof.TileI
public import proofs.«01_k».proof.Proof.BodyI
public import proofs.«01_k».proof.Proof.DataI
public import Idealize.ShloMosaic.Lib.Pipeline.Frame
public import Idealize.ShloMosaic.Lib.Pipeline.FrameBody
public import Idealize.ShloMosaic.Lib.Pipeline.ArrRel
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The body at a point of the pipeline -/

theorem defs₀_row (t : Fin cfg0.N) : defs₀ (F := F) .tc cfg0.body (cfg0.bodyArgs t (cfg0.slots t)) = bodyAt0 t := by
  unfold defs₀; rw [Defs.onTc_tc]

theorem after_6 (c : Dev nD) (t : Fin cfg0.N) (Y X) (h : 4 ≤ t.val → X = outB m c t) : (rdat m c).after 6 t Y X := by
  unfold rdat; rw [RDat.override_after_of_eq_some _ (R := fun t _ X => 4 ≤ t.val → X = outB m c t) rfl]; exact h
theorem after_7 (c : Dev nD) (t : Fin cfg0.N) (Y X) (h : (t.val < 16 → X = codeB m c t) ∧ (16 ≤ t.val → X = Y)) :
    (rdat m c).after 7 t Y X := by
  unfold rdat; rw [RDat.override_after_of_eq_some _ (R := fun t Y X => (t.val < 16 → X = codeB m c t) ∧ (16 ≤ t.val → X = Y)) rfl]; exact h
theorem after_8 (c : Dev nD) (t : Fin cfg0.N) (Y X) (h : Sc m c t.val Y → Sc m c (t.val + 1) X) : (rdat m c).after 8 t Y X := by
  unfold rdat; rw [RDat.override_after_of_eq_some _ (R := fun t Y X => Sc m c t.val Y → Sc m c (t.val + 1) X) rfl]; exact h
theorem after_9 (c : Dev nD) (t : Fin cfg0.N) (Y X) : (rdat m c).after 9 t Y X := by
  unfold rdat; rw [RDat.override_after_of_eq_some _ (R := fun _ _ _ => True) rfl]; trivial
theorem after_10 (c : Dev nD) (t : Fin cfg0.N) (Y X) : (rdat m c).after 10 t Y X := by
  unfold rdat; rw [RDat.override_after_of_eq_some _ (R := fun _ _ _ => True) rfl]; trivial

/-- The body's step at point `t`: from the invariant, the blocks and any contents of the output windows. -/
theorem sound_body (c : Dev nD) (t : Fin cfg0.N) (Y : (w : Fin cfg0.W) → (cfg0.win w).block.Idx → Elt F (cfg0.win w).elt)
    (h0 : Y 0 = bO m c t) (h1 : Y 1 = bA m c t) (h2 : Y 2 = bW m c t) (h3 : Y 3 = bS m c t) (h4 : Y 4 = bB m c t) (h5 : Y 5 = iblk m c 5 t) :
    iprop(Inv m c t.val ∗ (rdat m c).owesAt () t.castSucc ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9) ∗ owns (c : Thread nD τ) ((cfg0.win 10).stage (cfg0.slots t 10)) fullShare (Y 10))
      ⊢ wp frame (wpE (defs₀ (F := F)) Variants.none c none) Set.univ (bodyAt0 t) (fun _ =>
        iprop(Inv m c (t.val + 1) ∗ (rdat m c).owesAt () t.castSucc ∗ (∃ X, ⌜(rdat m c).after 0 t (Y 0) X⌝ ∗ owns (c : Thread nD τ) ((cfg0.win 0).stage (cfg0.slots t 0)) fullShare X) ∗ (∃ X, ⌜(rdat m c).after 1 t (Y 1) X⌝ ∗ owns (c : Thread nD τ) ((cfg0.win 1).stage (cfg0.slots t 1)) fullShare X) ∗ (∃ X, ⌜(rdat m c).after 2 t (Y 2) X⌝ ∗ owns (c : Thread nD τ) ((cfg0.win 2).stage (cfg0.slots t 2)) fullShare X) ∗ (∃ X, ⌜(rdat m c).after 3 t (Y 3) X⌝ ∗ owns (c : Thread nD τ) ((cfg0.win 3).stage (cfg0.slots t 3)) fullShare X) ∗ (∃ X, ⌜(rdat m c).after 4 t (Y 4) X⌝ ∗ owns (c : Thread nD τ) ((cfg0.win 4).stage (cfg0.slots t 4)) fullShare X) ∗ (∃ X, ⌜(rdat m c).after 5 t (Y 5) X⌝ ∗ owns (c : Thread nD τ) ((cfg0.win 5).stage (cfg0.slots t 5)) fullShare X) ∗ (∃ X, ⌜(rdat m c).after 6 t (Y 6) X⌝ ∗ owns (c : Thread nD τ) ((cfg0.win 6).stage (cfg0.slots t 6)) fullShare X) ∗ (∃ X, ⌜(rdat m c).after 7 t (Y 7) X⌝ ∗ owns (c : Thread nD τ) ((cfg0.win 7).stage (cfg0.slots t 7)) fullShare X) ∗ (∃ X, ⌜(rdat m c).after 8 t (Y 8) X⌝ ∗ owns (c : Thread nD τ) ((cfg0.win 8).stage (cfg0.slots t 8)) fullShare X) ∗ (∃ X, ⌜(rdat m c).after 9 t (Y 9) X⌝ ∗ owns (c : Thread nD τ) ((cfg0.win 9).stage (cfg0.slots t 9)) fullShare X) ∗ (∃ X, ⌜(rdat m c).after 10 t (Y 10) X⌝ ∗ owns (c : Thread nD τ) ((cfg0.win 10).stage (cfg0.slots t 10)) fullShare X))) := by
  unfold bodyAt0 Inv
  rw [h0, h1, h2, h3, h4, h5]
  iintro ⟨⟨⟨%Y13, %Y14, H13, H14, %hS⟩, Hg⟩, HO, H0, H1, H2, H3, H4, H5, H6, H7, H8, H9, H10⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _)
    (bO m c t) (bA m c t) (bW m c t) (bS m c t) (bB m c t) (iblk m c 5 t) (Y 6) (Y 7) (Y 8) (Y 9) (Y 10) Y13 Y14 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H13]; · iexact H13
  isplitl [H14]; · iexact H14
  iintro ⟨H0, H1, H2, H3, H4, H5, ⟨%d9, H9⟩, ⟨%d10, H10⟩, ⟨%X8, %X9, %X10, %X13, %X14, H6, H7, H8, H13, H14, %hP⟩⟩
  obtain ⟨hS', hO, hC, hR⟩ := post_step m c t hS hP
  isplitl [H13 H14 Hg]
  · isplitl [H13 H14]
    · iexists X13; iexists X14
      isplitl [H13]; · iexact H13
      isplitl [H14]; · iexact H14
      ipureintro; exact hS'
    · iexact Hg
  isplitl [HO]; · iexact HO
  isplitl [H0]
  · iexists (bO m c t); isplitr; swap; · iexact H0
    ipureintro; exact after_0 m c t _
  isplitl [H1]
  · iexists (bA m c t); isplitr; swap; · iexact H1
    ipureintro; exact after_1 m c t _
  isplitl [H2]
  · iexists (bW m c t); isplitr; swap; · iexact H2
    ipureintro; exact after_2 m c t _
  isplitl [H3]
  · iexists (bS m c t); isplitr; swap; · iexact H3
    ipureintro; exact after_3 m c t _
  isplitl [H4]
  · iexists (bB m c t); isplitr; swap; · iexact H4
    ipureintro; exact after_4 m c t _
  isplitl [H5]
  · iexists (iblk m c 5 t); isplitr; swap; · iexact H5
    ipureintro; exact after_5 m c t _
  isplitl [H6]
  · iexists (X8); isplitr; swap; · iexact H6
    ipureintro; exact after_6 m c t _ _ hO
  isplitl [H7]
  · iexists (X9); isplitr; swap; · iexact H7
    ipureintro; exact after_7 m c t _ _ hC
  isplitl [H8]
  · iexists (X10); isplitr; swap; · iexact H8
    ipureintro; exact after_8 m c t _ _ hR
  isplitl [H9]
  · iexists (d9); isplitr; swap; · iexact H9
    ipureintro; exact after_9 m c t _ _
  iexists (d10); isplitr; swap; · iexact H10
  ipureintro; exact after_10 m c t _ _

theorem body_obligation (c : Dev nD) : (rdat m c).BodyObligation (defs₀ (F := F)) Variants.none () Set.univ := fun t Y hY => by
  rw [bigSep_W0, bigSep_W0, defs₀_row]
  exact triple_restated (sound_body m c t Y (finds_0 m c t _ (hY 0)) (finds_1 m c t _ (hY 1)) (finds_2 m c t _ (hY 2)) (finds_3 m c t _ (hY 3))
    (finds_4 m c t _ (hY 4)) (finds_5 m c t _ (hY 5))) rfl .rfl fun _ => .rfl

/-! ## The launch -/

theorem inv_in (c : Dev nD) : (Pipeline.ΦA spec0 c : sProp 𝕄) ⊢ Inv m c 0 := by
  unfold Pipeline.ΦA Inv
  rw [scopedRest0_eq]
  simp only [owns_whole]
  iintro ⟨⟨⟨%f, H0⟩, ⟨%g, H1⟩⟩, Hg⟩
  isplitl [H0 H1]
  · iexists f; iexists g
    isplitl [H0]; · iexact H0
    isplitl [H1]; · iexact H1
    ipureintro; exact fun u hu => absurd hu (Nat.not_lt_zero _)
  · iexact Hg
theorem inv_out (c : Dev nD) (n : ℕ) : Inv m c n ⊢ (Pipeline.ΦA spec0 c : sProp 𝕄) := by
  unfold Pipeline.ΦA Inv
  rw [scopedRest0_eq]
  simp only [owns_whole]
  iintro ⟨⟨%f, %g, H0, H1, %h⟩, Hg⟩
  isplitl [H0 H1]
  · isplitl [H0]
    · iexists f; iexact H0
    · iexists g; iexact H1
  · iexact Hg

set_option backward.isDefEq.respectTransparency.types false in
/-- From any memory with zero counters every execution of @main ends, and in every final state the arrays hold what the proof
    data say and every counter is zero. -/
theorem run_main :
    θ_run defs (onTc (τ := τ) (main (F := F))) (s₀ m ρ)
      (fun r => RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c => (dat m c).share_full fun _ => rfl)
    (howed := fun _ _ => rfl) (V := V m) (hmain := hmain m Variants.none) (hA := dat_A m)
    (hin := inv_in m) (hout := fun c => inv_out m c _)

/-- The arguments end as they began. -/
theorem args_kept {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (h.arr_in c 2 rfl).trans ((dat_A m c 2).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 5 rfl).trans ((dat_A m c 5).trans (V_main_arg4 m c))⟩

end Cert.KernelIdeal.Hand

end
-- ==== Proof.WinI.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.VecWindow
public import Idealize.ShloMosaic.Lib.WritesUnit
public import Idealize.ShloMosaic.Lib.Pointwise
public import proofs.«01_k».proof.Proof.TileI

public import proofs.«01_k».proof.Proof.KerVal
public import proofs.«01_k».proof.Proof.FrameI

/-!
  The arrays the kernel leaves.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Cfg Dat RDat)
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

theorem fetch_out : ∀ t : Fin cfg0.N, (cfg0.win 7).fetch t = false ∧ (cfg0.win 8).fetch t = false :=
  (by decide +kernel : ∀ t : Fin grid0.N, _)
theorem flush_6 : ∀ t : Fin cfg0.N, (cfg0.win 6).flush t = true → 4 ≤ t.val := (by decide +kernel : ∀ t : Fin grid0.N, _)
theorem flush_7 : ∀ t : Fin cfg0.N, 15 ≤ t.val → t.val < 19 → (cfg0.win 7).flush t = false := (by decide +kernel : ∀ t : Fin grid0.N, _)
theorem flush_8 : ∀ t : Fin cfg0.N, t.val < 19 → (cfg0.win 8).flush t = false := (by decide +kernel : ∀ t : Fin grid0.N, _)

/-- What the data say of the three output windows, read back. -/
theorem said_6 (c : Dev nD) (t : Fin cfg0.N) (Y X) (h : (rdat m c).after 6 t Y X) : 4 ≤ t.val → X = outB m c t := by
  unfold rdat at h; rw [RDat.override_after_of_eq_some _ (R := fun t _ X => 4 ≤ t.val → X = outB m c t) rfl] at h; exact h
theorem said_7 (c : Dev nD) (t : Fin cfg0.N) (Y X) (h : (rdat m c).after 7 t Y X) :
    (t.val < 16 → X = codeB m c t) ∧ (16 ≤ t.val → X = Y) := by
  unfold rdat at h; rw [RDat.override_after_of_eq_some _ (R := fun t Y X => (t.val < 16 → X = codeB m c t) ∧ (16 ≤ t.val → X = Y)) rfl] at h; exact h
theorem said_8 (c : Dev nD) (t : Fin cfg0.N) (Y X) (h : (rdat m c).after 8 t Y X) : Sc m c t.val Y → Sc m c (t.val + 1) X := by
  unfold rdat at h; rw [RDat.override_after_of_eq_some _ (R := fun t Y X => Sc m c t.val Y → Sc m c (t.val + 1) X) rfl] at h; exact h

theorem leaves_6 (c : Dev nD) (t : Fin cfg0.N) (X) (h : (rdat m c).Leaves 6 t X) : 4 ≤ t.val → X = outB m c t := by
  obtain ⟨Y, _, hY⟩ := h
  exact said_6 m c t Y X hY
/-- After its last quantise point the codes' buffer keeps that point's tile. -/
theorem leaves_7 (c : Dev nD) : ∀ n (hn : n < cfg0.N) (X), (rdat m c).Leaves 7 ⟨n, hn⟩ X → X = codeB m c (pt (min n 15)) := by
  intro n
  induction n with
  | zero =>
    intro hn X h
    obtain ⟨Y, _, hY⟩ := h
    exact (said_7 m c _ Y X hY).1 (by show 0 < 16; omega)
  | succ n ih =>
    intro hn X h
    obtain ⟨Y, hF, hY⟩ := h
    have hs := said_7 m c _ Y X hY
    have hN : n + 1 < 20 := lt_of_lt_of_eq hn N_0
    by_cases h16 : n + 1 < 16
    · refine (hs.1 h16).trans ?_
      have e : (⟨n + 1, hn⟩ : Fin cfg0.N) = pt (min (n + 1) 15) := Fin.ext (by show n + 1 = min (min (n + 1) 15) 19; omega)
      rw [e]
    · rw [hs.2 (by show 16 ≤ n + 1; omega)]
      have hL := ((rdat m c).finds_of_pos (fetch_out _).1 (by show n + 1 ≠ 0; omega) Y).mp hF
      have hfl := flush_7 ⟨n, by omega⟩ (by show 15 ≤ n; omega) (by show n < 19; omega)
      rcases hL with hL | hL
      · exact absurd (hfl.symm.trans hL) Bool.false_ne_true
      · refine (ih (by omega) Y hL).trans ?_
        rw [show min (n + 1) 15 = min n 15 by omega]
/-- The resident scales hold every tile's scales. -/
theorem leaves_8 (c : Dev nD) : ∀ n (hn : n < cfg0.N) (X), (rdat m c).Leaves 8 ⟨n, hn⟩ X → Sc m c (n + 1) X := by
  intro n
  induction n with
  | zero =>
    intro hn X h
    obtain ⟨Y, _, hY⟩ := h
    exact said_8 m c _ Y X hY fun u hu => absurd hu (Nat.not_lt_zero _)
  | succ n ih =>
    intro hn X h
    obtain ⟨Y, hF, hY⟩ := h
    have hN : n + 1 < 20 := lt_of_lt_of_eq hn N_0
    refine said_8 m c _ Y X hY ?_
    have hL := ((rdat m c).finds_of_pos (fetch_out _).2 (by show n + 1 ≠ 0; omega) Y).mp hF
    have hfl := flush_8 ⟨n, by omega⟩ (by show n < 19; omega)
    rcases hL with hL | hL
    · exact absurd (hfl.symm.trans hL) Bool.false_ne_true
    · exact ih (by omega) Y hL

theorem row_lt (y : S2x1024.Idx) : 1024 * (y 0).val + (y 1).val < 2048 := by
  have h0 : (y 0).val < 2 := (y 0).isLt
  have h1 : (y 1).val < 1024 := (y 1).isLt
  omega

/-! The three results, for exact data whose output windows hold what the body leaves. -/

section
variable (c : Dev nD) (d : Dat τ (Elt Ideal) Unit ℕ (UR sig nD τ) ℕ cfg0 c)

theorem arr_6 (h : ∀ t, (cfg0.win 6).flush t = true → d.after 6 t = outB m c t) : d.arrAt 6 cfg0.N =
    fun y : S2048x5120.Idx => (Spec.outA (rows m c) (wts m c) (cscale m c) (cbias m c) (y 0) (y 1) : EReal) := by
  refine d.arrAt_eq_of_covers 6 _ (by decide +kernel) fun t hf y => ?_
  have h4 := flush_6 t hf
  have ht : (if t.val < 4 then 0 else t.val % 4) = t.val % 4 := if_neg (by omega)
  rw [h t hf]
  blk_simp [idxO t, ht]
  refine outB_at m c t h4 (y 0) (y 1) _ _ ?_ ?_
  · blk_simp [idxO t, ht] <;> omega
  · blk_simp [idxO t, ht] <;> omega
theorem arr_7 (h : ∀ t, (cfg0.win 7).flush t = true → d.after 7 t = codeB m c (pt (min t.val 15))) : d.arrAt 7 cfg0.N =
    fun y : S2048x6912.Idx => Spec.codesA (rows m c) (y 0) (y 1) := by
  refine d.arrAt_eq_of_covers 7 _ (by decide +kernel) fun t hf y => ?_
  rw [h t hf]
  have h20 := lt20 t
  blk_simp [idxO t]
  refine (codeT_at m c (pt (min t.val 15)) (y 0) (y 1) ((win0_7.blk t).view.emb y 0) ?_).trans (congrArg (Spec.codesA (rows m c) _) (Fin.ext ?_))
  · have e : min (pt (min t.val 15)).val 15 = min t.val 15 := by show min (min (min t.val 15) 19) 15 = _; omega
    rw [e]
    blk_simp [idxO t] <;> omega
  · blk_simp [idxO t] <;> omega
theorem arr_8 (h : Sc m c 20 (d.after 8 (pt 19))) : d.arrAt 8 cfg0.N =
    fun y : S2x1024.Idx => (Spec.rowScale (rows m c ⟨1024 * (y 0).val + (y 1).val, row_lt y⟩) : EReal) := by
  refine d.arrAt_eq_of_after_last 8 (pt 19) (by decide +kernel) _ fun j => ?_
  blk_simp
  have hr := row_lt j
  refine (h ((1024 * (j 0).val + (j 1).val) / 128) (by omega) (by omega) j ⟨(1024 * (j 0).val + (j 1).val) % 128, by omega⟩ (Nat.div_add_mod _ _).symm).trans ?_
  exact sT_at m c _ (by omega) _ _ _ (Nat.div_add_mod _ _).symm
end

/-- What a run leaves in the three results. -/
theorem results {r : PUnit × MemSt nD τ sig (Elt Ideal)} (h : RDat.FramePost (cfgs 0) (rdat m) (V m) r) (c : Dev nD) :
    r.2.mem ((c.tc : Thread nD τ).loc main_v6_0) = (fun y : S2048x5120.Idx => (Spec.outA (rows m c) (wts m c) (cscale m c) (cbias m c) (y 0) (y 1) : EReal))
      ∧ r.2.mem ((c.tc : Thread nD τ).loc main_v6_1) = (fun y : S2048x6912.Idx => Spec.codesA (rows m c) (y 0) (y 1))
      ∧ r.2.mem ((c.tc : Thread nD τ).loc main_v6_2) =
        (fun y : S2x1024.Idx => (Spec.rowScale (rows m c ⟨1024 * (y 0).val + (y 1).val, row_lt y⟩) : EReal)) := by
  obtain ⟨after, hL, hA⟩ := h.exists_exact c
  refine ⟨(hA 6).trans (arr_6 m c _ fun t hf => ?_), (hA 7).trans (arr_7 m c _ fun t hf => ?_), (hA 8).trans (arr_8 m c _ ?_)⟩
  · exact leaves_6 m c t _ (hL 6 t hf) (flush_6 t hf)
  · exact leaves_7 m c t.val t.isLt _ (hL 7 t hf)
  · exact leaves_8 m c 19 (by rw [show cfg0.N = 20 from N_0]; omega) _ (hL 8 (pt 19) ((flush0_8 _).2 rfl))

end Cert.KernelIdeal.Hand

end
-- ==== Proof.RefPure.lean ====
module

public import proofs.«01_k».proof.Proof.Gen.ReferenceIdeal.Frame
public import proofs.«01_k».proof.Proof.Gen.ReferenceIdeal.Skeleton
public import proofs.«01_k».proof.Proof.Gen.ReferenceIdeal.Points
public import Idealize.ShloMosaic.Lib.Pipeline.Frame
public import Idealize.ShloMosaic.Lib.Pipeline.FrameBody
public import Idealize.ShloMosaic.Lib.Tactic
public import Idealize.ShloMosaic.Lib.Pointwise

public import proofs.«01_k».proof.Proof.Spec

/-!
  What the reference computes, index by index.
-/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The scales of the rows whose largest magnitudes are `M`. -/
def scaleOf (M : FVec Ideal S2x1024 .f32) : FVec Ideal S2x1024 .f32 :=
  select (cmpf .oeq M (broadcast S2x1024 (Scalar.ofBits .f32 0x00000000#32))) (broadcast S2x1024 (Scalar.ofBits .f32 0x3F800000#32))
    (divf M (broadcast S2x1024 (Scalar.ofBits .f32 0x42FE0000#32)))
theorem pay2_fold (x : Vec Ideal S2x1024x6912 .f32) : k0_pay2 x =
    scaleOf (multiReduction .maximumf [2] S2x1024 (absf x) 0xFF800000#32 reduces_S2x1024x6912_S2x1024 (.inl rfl) rfl) := rfl
theorem scaleOf_eq (M : FVec Ideal S2x1024 .f32) (b : Fin 2) (s : Fin 1024) : scaleOf M (ix2 b s) = Spec.scl (M (ix2 b s)) := by
  pointwise [scaleOf]
  rfl
theorem red_eq (y : FVec Ideal S2x1024x6912 .f32) (b : Fin 2) (s : Fin 1024) :
    multiReduction (F := Ideal) .maximumf [2] S2x1024 y 0xFF800000#32 reduces_S2x1024x6912_S2x1024 (.inl rfl) rfl (ix2 b s) =
      Finset.fold max (Ideal.ofBits .f32 0xFF800000#32) (fun k => y (ix3 b s k)) Finset.univ := by
  pointwise
/-- The scales of the rows. -/
theorem pay2_eq (x : Vec Ideal S2x1024x6912 .f32) (b : Fin 2) (s : Fin 1024) :
    k0_pay2 x (ix2 b s) = Spec.rowScale fun k => x (ix3 b s k) := by
  rw [pay2_fold, scaleOf_eq, red_eq]
  rfl

/-- The codes of the rows `x` whose scales are `M`. -/
def codesOf (x : FVec Ideal S2x1024x6912 .f32) (M : FVec Ideal S2x1024 .f32) : IVec S2x1024x6912 8 :=
  fptosi 8 (minimumf (broadcast S2x1024x6912 (Scalar.sitofp .f32 127#32)) (maximumf (broadcast S2x1024x6912 (Scalar.sitofp .f32 4294967169#32))
    (roundeven (divf x (broadcastTo S2x1024x6912 (shapeCast S2x1024x1 M shapeCasts_S2x1024_S2x1024x1) broadcasts_S2x1024x1_S2x1024x6912)))))
theorem pay3_fold (x : Vec Ideal S2x1024x6912 .f32) : k0_pay3 x = codesOf x (k0_pay2 x) := rfl
theorem codesOf_eq (x : FVec Ideal S2x1024x6912 .f32) (M : FVec Ideal S2x1024 .f32) (b : Fin 2) (s : Fin 1024) (j : Fin 6912) :
    codesOf x M (ix3 b s j) = Spec.code (x (ix3 b s j)) (M (ix2 b s)) := by
  pointwise [codesOf]
  rfl
/-- The codes, with batch and position apart. -/
theorem pay3_eq (x : Vec Ideal S2x1024x6912 .f32) (b : Fin 2) (s : Fin 1024) (j : Fin 6912) :
    k0_pay3 x (ix3 b s j) = Spec.code (x (ix3 b s j)) (Spec.rowScale fun k => x (ix3 b s k)) := by
  rw [pay3_fold, codesOf_eq, pay2_eq]

/-- Row `g` of the 2048 rows: its batch and its position. -/
abbrev rb (g : Fin 2048) : Fin 2 := ⟨g.val / 1024, by omega⟩
abbrev rs (g : Fin 2048) : Fin 1024 := ⟨g.val % 1024, by omega⟩

theorem pay1_at (q : IVec S2x1024x6912 8) (g : Fin 2048) (j : Fin 6912) : k0_pay1 q (ix2 g j) = q (ix3 (rb g) (rs g) j) := by
  pointwise [k0_pay1]
/-- The codes, row by row. -/
theorem pay1_eq (x : Vec Ideal S2x1024x6912 .f32) (g : Fin 2048) (j : Fin 6912) :
    k0_pay1 (k0_pay3 x) (ix2 g j) = Spec.code (x (ix3 (rb g) (rs g) j)) (Spec.rowScale fun k => x (ix3 (rb g) (rs g) k)) := by
  rw [pay1_at, pay3_eq]

/-- The product of the codes with the weights. -/
def accOf (Q : IVec S2x1024x6912 8) (w : Vec Ideal S6912x5120 .i8) : FVec Ideal S2048x5120 .f32 :=
  matmul dot_S2048x6912_S6912x5120_S2048x5120_1_0_0_1_n_n none (shapeCast S2048x6912 (sitofp .bf16 Q : FVec Ideal S2x1024x6912 .bf16) shapeCasts_S2x1024x6912_S2048x6912)
    (sitofp .bf16 w : FVec Ideal S6912x5120 .bf16) (constant S2048x5120 .f32 0x00000000#32)
/-- The product `A` times the rows' scales and the columns', plus the columns' biases. -/
def outOf (A : FVec Ideal S2048x5120 .f32) (M : FVec Ideal S2x1024 .f32) (so bo : FVec Ideal S1x5120 .f32) : FVec Ideal S2048x5120 .bf16 :=
  shapeCast S2048x5120 (truncf .bf16 (addf (mulf (mulf (shapeCast S2x1024x5120 A shapeCasts_S2048x5120_S2x1024x5120)
      (broadcastTo S2x1024x5120 (shapeCast S2x1024x1 M shapeCasts_S2x1024_S2x1024x1) broadcasts_S2x1024x1_S2x1024x5120))
      (broadcastTo S2x1024x5120 (shapeCast S1x1x5120 (shapeCast S1x5120 so shapeCasts_S1x5120_S1x5120) shapeCasts_S1x5120_S1x1x5120) broadcasts_S1x1x5120_S2x1024x5120))
      (broadcastTo S2x1024x5120 (shapeCast S1x1x5120 (shapeCast S1x5120 bo shapeCasts_S1x5120_S1x5120) shapeCasts_S1x5120_S1x1x5120) broadcasts_S1x1x5120_S2x1024x5120))
      bitsLt_bf16_f32) shapeCasts_S2x1024x5120_S2048x5120
theorem pay4_fold (x : Vec Ideal S2x1024x6912 .f32) (w : Vec Ideal S6912x5120 .i8) (s b : Vec Ideal S1x5120 .f32) :
    k0_pay4 x w s b = outOf (accOf (k0_pay3 x) w) (k0_pay2 x) s b := rfl
theorem outOf_eq (A : FVec Ideal S2048x5120 .f32) (M : FVec Ideal S2x1024 .f32) (so bo : FVec Ideal S1x5120 .f32) (g : Fin 2048) (j : Fin 5120) :
    outOf A M so bo (ix2 g j) = (A (ix2 g j) * M (ix2 (rb g) (rs g)) * so (ix2 0 j) + bo (ix2 0 j) : EReal) := by
  pointwise [outOf]
theorem accOf_eq (Q : IVec S2x1024x6912 8) (w : Vec Ideal S6912x5120 .i8) (g : Fin 2048) (j : Fin 5120) :
    accOf Q w (ix2 g j) = (∑ x, (((Q (ix3 (rb g) (rs g) x)).toInt : ℝ) : EReal) * (((w (ix2 x j)).toInt : ℝ) : EReal) : EReal) := by
  pointwise [accOf]
  rfl
/-- The output: the product of the codes with the weights, times the two scales, plus the bias. -/
theorem pay4_eq (x : Vec Ideal S2x1024x6912 .f32) (w : Vec Ideal S6912x5120 .i8) (s b : Vec Ideal S1x5120 .f32) (g : Fin 2048) (j : Fin 5120) :
    k0_pay4 x w s b (ix2 g j) = ((∑ k, Spec.qv (x (ix3 (rb g) (rs g) k)) (Spec.rowScale fun k => x (ix3 (rb g) (rs g) k)) *
        (((w (ix2 k j)).toInt : ℝ) : EReal)) * (Spec.rowScale fun k => x (ix3 (rb g) (rs g) k)) * s (ix2 0 j) + b (ix2 0 j) : EReal) := by
  rw [pay4_fold, outOf_eq, accOf_eq, pay2_eq]
  simp only [pay3_eq, Spec.toInt_code]

end Cert.ReferenceIdeal.Hand

end
-- ==== Proof.RefI.lean ====
module

public import proofs.«01_k».proof.Proof.Gen.ReferenceIdeal.Frame
public import proofs.«01_k».proof.Proof.Gen.ReferenceIdeal.Skeleton
public import proofs.«01_k».proof.Proof.Gen.ReferenceIdeal.Points
public import Idealize.ShloMosaic.Lib.Pipeline.Frame
public import Idealize.ShloMosaic.Lib.Pipeline.FrameBody
public import Idealize.ShloMosaic.Lib.Tactic
public import Idealize.ShloMosaic.Lib.Pointwise

public import proofs.«01_k».proof.Proof.RefPure
public import Idealize.ShloMosaic.Lib.Pipeline.ValueKit
public import Idealize.ShloMosaic.Lib.Claim

/-!
  The arrays the reference leaves.
-/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline (Cfg Dat)
open Idealize.SL Idealize.SL.RA Idealize.SL.BI
open scoped Idealize.SL.BI
open Idealize.SL.BI.BIBase Idealize.SL.BI.Laws Idealize.SL.ProofMode Idealize.SL.Sem

theorem row_lt (y : S2x1024.Idx) : 1024 * (y 0).val + (y 1).val < 2048 := by
  have h0 : (y 0).val < 2 := (y 0).isLt
  have h1 : (y 1).val < 1024 := (y 1).isLt
  omega

variable (m : (ℓ : Loc nD τ sig) → Buf (Elt Ideal) ℓ) (ρ : Dev nD → PrngReg)

/-- The rows, the weights, the columns' scales and the biases of core `c`. -/
def rows (c : Dev nD) (g : Fin 2048) (k : Fin 6912) : EReal :=
  (m ((c.tc : Thread nD τ).loc main_arg0) : S2x1024x6912.Idx → EReal) (ix3 (rb g) (rs g) k)
def wts (c : Dev nD) (k : Fin 6912) (j : Fin 5120) : BitVec 8 :=
  (m ((c.tc : Thread nD τ).loc main_arg1) : S6912x5120.Idx → BitVec 8) (ix2 k j)
def cscale (c : Dev nD) (j : Fin 5120) : EReal := (m ((c.tc : Thread nD τ).loc main_arg2) : S5120.Idx → EReal) (ix1 j)
def cbias (c : Dev nD) (j : Fin 5120) : EReal := (m ((c.tc : Thread nD τ).loc main_arg3) : S5120.Idx → EReal) (ix1 j)

theorem shapeCast_at (x : S5120.Idx → EReal) (j : Fin 5120) : shapeCast S1x5120 x shapeCasts_S5120_S1x5120 (ix2 (0 : Fin 1) j) = x (ix1 j) := by
  pointwise
theorem entry_so (c : Dev nD) (j : Fin 5120) : (V m c main_v0 : S1x5120.Idx → EReal) (ix2 (0 : Fin 1) j) = cscale m c j := by
  entry_read
  show _ = (m ((c.tc : Thread nD τ).loc main_arg2) : S5120.Idx → EReal) (ix1 j)
  exact shapeCast_at (m (c, Proc.tc.devRef main_arg2) : S5120.Idx → EReal) j
theorem entry_bo (c : Dev nD) (j : Fin 5120) : (V m c main_v1 : S1x5120.Idx → EReal) (ix2 (0 : Fin 1) j) = cbias m c j := by
  entry_read
  exact shapeCast_at (m (c, Proc.tc.devRef main_arg3) : S5120.Idx → EReal) j
theorem entry_0 (c : Dev nD) : V m c main_arg0 = m ((c.tc : Thread nD τ).loc main_arg0) := by
  entry_read
  rfl
theorem entry_1 (c : Dev nD) : V m c main_arg1 = m ((c.tc : Thread nD τ).loc main_arg1) := by
  entry_read
  rfl
theorem idx : ∀ t : Fin cfg0.N, win0_0.index t = ![0, 0, 0] ∧ win0_1.index t = ![0, 0] ∧ win0_2.index t = ![0, 0] ∧ win0_3.index t = ![0, 0] :=
  (by decide +kernel : ∀ t : Fin grid0.N, _)
theorem blk0 (c : Dev nD) (t : Fin cfg0.N) (y : S2x1024x6912.Idx) : (iblk m c 0 t : S2x1024x6912.Idx → EReal) y = (V m c main_arg0 : S2x1024x6912.Idx → EReal) y := by
  blk_ext [iblk, idx t]
theorem blk1 (c : Dev nD) (t : Fin cfg0.N) (y : S6912x5120.Idx) : (iblk m c 1 t : S6912x5120.Idx → BitVec 8) y = (V m c main_arg1 : S6912x5120.Idx → BitVec 8) y := by
  blk_ext [iblk, idx t]
theorem blk2 (c : Dev nD) (t : Fin cfg0.N) (y : S1x5120.Idx) : (iblk m c 2 t : S1x5120.Idx → EReal) y = (V m c main_v0 : S1x5120.Idx → EReal) y := by
  blk_ext [iblk, idx t]
theorem blk3 (c : Dev nD) (t : Fin cfg0.N) (y : S1x5120.Idx) : (iblk m c 3 t : S1x5120.Idx → EReal) y = (V m c main_v1 : S1x5120.Idx → EReal) y := by
  blk_ext [iblk, idx t]
/-- The blocks are the whole arrays, read at a row, a weight, a column. -/
theorem rd0 (c : Dev nD) (t : Fin cfg0.N) (g : Fin 2048) (k : Fin 6912) :
    (iblk m c 0 t : S2x1024x6912.Idx → EReal) (ix3 (rb g) (rs g) k) = rows m c g k := by rw [blk0, entry_0]; rfl
theorem rd1 (c : Dev nD) (t : Fin cfg0.N) (k : Fin 6912) (j : Fin 5120) :
    (iblk m c 1 t : S6912x5120.Idx → BitVec 8) (ix2 k j) = wts m c k j := by rw [blk1, entry_1]; rfl
theorem rd2 (c : Dev nD) (t : Fin cfg0.N) (j : Fin 5120) :
    (iblk m c 2 t : S1x5120.Idx → EReal) (ix2 0 j) = cscale m c j := by rw [blk2, entry_so]
theorem rd3 (c : Dev nD) (t : Fin cfg0.N) (j : Fin 5120) :
    (iblk m c 3 t : S1x5120.Idx → EReal) (ix2 0 j) = cbias m c j := by rw [blk3, entry_bo]

theorem point_4 (c : Dev nD) (t : Fin cfg0.N) (g : Fin 2048) (j : Fin 5120) :
    k0_pay4 (iblk m c 0 t) (iblk m c 1 t) (iblk m c 2 t) (iblk m c 3 t) (ix2 g j) = (Spec.outA (rows m c) (wts m c) (cscale m c) (cbias m c) g j : EReal) := by
  rw [pay4_eq]
  simp only [rd0, rd1, rd2, rd3]
  rfl
theorem point_5 (c : Dev nD) (t : Fin cfg0.N) (g : Fin 2048) (j : Fin 6912) :
    k0_pay1 (k0_pay3 (iblk m c 0 t)) (ix2 g j) = Spec.codesA (rows m c) g j := by
  rw [pay1_eq]
  simp only [rd0]
  rfl
theorem rd0' (c : Dev nD) (t : Fin cfg0.N) (b : Fin 2) (s : Fin 1024) (k : Fin 6912) :
    (iblk m c 0 t : S2x1024x6912.Idx → EReal) (ix3 b s k) = rows m c ⟨1024 * b.val + s.val, by omega⟩ k := by
  rw [← rd0 m c t]
  congr 2 <;> apply Fin.ext <;> simp only <;> omega
theorem point_6 (c : Dev nD) (t : Fin cfg0.N) (b : Fin 2) (s : Fin 1024) :
    k0_pay2 (iblk m c 0 t) (ix2 b s) = Spec.rowScale (rows m c ⟨1024 * b.val + s.val, by omega⟩) := by
  rw [pay2_eq]
  simp only [rd0']

/-- The output the reference leaves. -/
theorem final_4 (c : Dev nD) : (dats m 0 c).arrAt 4 cfg0.N =
    fun y : S2048x5120.Idx => (Spec.outA (rows m c) (wts m c) (cscale m c) (cbias m c) (y 0) (y 1) : EReal) := by
  refine (dats m 0 c).arrAt_eq_of_after_last 4 t0_0 (by decide +kernel) _ fun j => ?_
  blk_simp
  rw [after0_4]
  frame_out
  exact (congrArg _ (eq_ix2 j)).trans (point_4 m c t0_0 (j 0) (j 1))
/-- The codes the reference leaves. -/
theorem final_5 (c : Dev nD) : (dats m 0 c).arrAt 5 cfg0.N =
    fun y : S2048x6912.Idx => Spec.codesA (rows m c) (y 0) (y 1) := by
  refine (dats m 0 c).arrAt_eq_of_after_last 5 t0_0 (by decide +kernel) _ fun j => ?_
  blk_simp
  rw [after0_5]
  frame_out
  exact (congrArg _ (eq_ix2 j)).trans (point_5 m c t0_0 (j 0) (j 1))
/-- The scales the reference leaves. -/
theorem final_6 (c : Dev nD) : (dats m 0 c).arrAt 6 cfg0.N =
    fun y : S2x1024.Idx => (Spec.rowScale (rows m c ⟨1024 * (y 0).val + (y 1).val, row_lt y⟩) : EReal) := by
  refine (dats m 0 c).arrAt_eq_of_after_last 6 t0_0 (by decide +kernel) _ fun j => ?_
  blk_simp
  rw [after0_6]
  frame_out
  exact (congrArg _ (eq_ix2 j)).trans (point_6 m c t0_0 (j 0) (j 1))

end Cert.ReferenceIdeal.Hand

end
-- ==== Proof.LOffK.lean ====
module

public import proofs.«01_k».proof.Proof.Gen.Lru.Frame
public import proofs.«01_k».proof.Proof.Gen.Lru.Skeleton
public import proofs.«01_k».proof.Proof.Gen.Lru.Points
public import Idealize.ShloMosaic.Lib.Pipeline.Frame
public import Idealize.ShloMosaic.Lib.Pipeline.FrameBody
public import Idealize.ShloMosaic.Lib.VecWindow
public import Idealize.ShloMosaic.Lib.WritesUnit
public import Idealize.ShloMosaic.Lib.Pointwise
public import Idealize.ShloMosaic.Lib.Tactic

@[expose] public section

set_option maxRecDepth 16384

noncomputable section

namespace Cert.Lru.Hand

open Cert.Lru Cert.Lru.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The offsets of a grid point -/

/-- The tile of rows point `i` finishes, and the head it finishes it for. -/
abbrev mT (i : grid0.Coords) : ℕ := ((i 0).val - 1) % 4
abbrev hT (i : grid0.Coords) : ℕ := ((i 0).val - 1) / 4

theorem row_word : ∀ i : grid0.Coords, Scalar.muli (Scalar.remsi (Scalar.maxsi (Scalar.subi (BitVec.ofNat 32 (i 0).val) 1#32) 0#32) 4#32) 512#32
    = BitVec.ofNat 32 (512 * mT i) := by decide +kernel
theorem off1_eq : ∀ i : grid0.Coords, k0_off1 i = ![0, 384 * hT i] := by decide +kernel
theorem off3_eq : ∀ i : grid0.Coords, k0_off3 i = ![512 * ((i 0).val % 4), 0] := by decide +kernel
theorem off4_eq : ∀ i : grid0.Coords, k0_off4 i = ![0, 384 * hT i] := by decide +kernel
theorem off5_eq : ∀ i : grid0.Coords, k0_off5 i = ![1, 384 * hT i] := by decide +kernel
theorem off6_eq : ∀ i : grid0.Coords, k0_off6 i = ![2, 384 * hT i] := by decide +kernel
theorem off7_eq : ∀ i : grid0.Coords, k0_off7 i = ![3, 384 * hT i] := by decide +kernel
theorem off2_eq (i : grid0.Coords) (n : ℕ) : k0_off2 i (BitVec.ofNat 32 n) = ![(512 * mT i + n) % 4294967296, 0] := by
  unfold k0_off2
  dsimp only
  rw [row_word i]
  show ![((BitVec.ofNat 32 (512 * mT i)) + BitVec.ofNat 32 n).toNat, _] = _
  rw [BitVec.toNat_add, BitVec.toNat_ofNat, BitVec.toNat_ofNat, ← Nat.add_mod]
theorem off8_eq (i : grid0.Coords) (n : ℕ) : k0_off8 i (BitVec.ofNat 32 n) = ![(512 * mT i + n) % 4294967296, 0] := off2_eq i n

instance (i : grid0.Coords) (n : ℕ) : ClosedOff (k0_off2 i (BitVec.ofNat 32 n)) := ⟨_, off2_eq i n⟩
instance (i : grid0.Coords) (n : ℕ) : ClosedOff (k0_off8 i (BitVec.ofNat 32 n)) := ⟨_, off8_eq i n⟩

end Cert.Lru.Hand

end
-- ==== Proof.LRunK.lean ====
module

public import proofs.«01_k».proof.Proof.Gen.Lru.Frame
public import proofs.«01_k».proof.Proof.Gen.Lru.Skeleton
public import proofs.«01_k».proof.Proof.Gen.Lru.Points
public import Idealize.ShloMosaic.Lib.Pipeline.Frame
public import Idealize.ShloMosaic.Lib.Pipeline.FrameBody
public import Idealize.ShloMosaic.Lib.VecWindow
public import Idealize.ShloMosaic.Lib.WritesUnit
public import Idealize.ShloMosaic.Lib.Pointwise
public import Idealize.ShloMosaic.Lib.Tactic
public import proofs.«01_k».proof.Proof.LOffK

@[expose] public section

set_option maxRecDepth 16384

noncomputable section

namespace Cert.Lru.Hand

open Cert.Lru Cert.Lru.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]

/-! ## The body, run once -/

set_option sl_exec.squeezeSlice true in
/-- The run of the body from any contents of its buffers: what it writes, piece by piece, to the six buffers the values are read
    from. What it leaves in the others is not said. -/
def kernelRun (c : Dev nD) (i : grid0.Coords)
    (arg1 : Memref sig .tc .vmem S2048x5120 .bf16) (harg1 : arg1.IsWhole) (arg2 : Memref sig .tc .vmem S5120x384 .i8) (harg2 : arg2.IsWhole) (arg3 : Memref sig .tc .vmem S5120x384 .i8) (harg3 : arg3.IsWhole) (arg4 : Memref sig .tc .vmem S1x384x384 .i8) (harg4 : arg4.IsWhole) (arg5 : Memref sig .tc .vmem S1x384x384 .i8) (harg5 : arg5.IsWhole) (arg6 : Memref sig .tc .vmem S2048x128 .f32) (harg6 : arg6.IsWhole) (arg7 : Memref sig .tc .vmem S2048x128 .i32) (harg7 : arg7.IsWhole) (arg8 : Memref sig .tc .vmem S1x6912 .f32) (harg8 : arg8.IsWhole) (arg9 : Memref sig .tc .vmem S1x6912 .f32) (harg9 : arg9.IsWhole) (arg10 : Memref sig .tc .vmem S1x6912 .f32) (harg10 : arg10.IsWhole) (arg11 : Memref sig .tc .vmem S1x6912 .f32) (harg11 : arg11.IsWhole) (arg12 : Memref sig .tc .vmem S4x6912 .f32) (harg12 : arg12.IsWhole) (arg13 : Memref sig .tc .vmem S1x6912 .f32) (harg13 : arg13.IsWhole) (arg14 : Memref sig .tc .vmem S1x6912 .f32) (harg14 : arg14.IsWhole) (arg15 : Memref sig .tc .vmem S1x6912 .f32) (harg15 : arg15.IsWhole) (arg16 : Memref sig .tc .vmem S1x6912 .f32) (harg16 : arg16.IsWhole) (arg17 : Memref sig .tc .vmem S1x6912 .f32) (harg17 : arg17.IsWhole) (arg18 : Memref sig .tc .vmem S1x6912 .f32) (harg18 : arg18.IsWhole) (arg19 : Memref sig .tc .vmem S512x384 .f32) (harg19 : arg19.IsWhole) (arg20 : Memref sig .tc .vmem S512x384 .f32) (harg20 : arg20.IsWhole) (arg21 : Memref sig .tc .vmem S512x384 .f32) (harg21 : arg21.IsWhole) (arg22 : Memref sig .tc .vmem S512x384 .i8) (harg22 : arg22.IsWhole) (arg23 : Memref sig .tc .vmem S2048x18 .f32) (harg23 : arg23.IsWhole) (arg24 : Memref sig .tc .vmem S1x3x384 .f32) (harg24 : arg24.IsWhole) (arg25 : Memref sig .tc .vmem S2048x128 .f32) (harg25 : arg25.IsWhole) (arg26 : Memref sig .tc .vmem S1x8x384 .f32) (harg26 : arg26.IsWhole) (arg27 : Memref sig .tc .vmem S512x768 .f32) (harg27 : arg27.IsWhole) (arg28 : Memref sig .tc .vmem S3x520x128 .f32) (harg28 : arg28.IsWhole) (arg29 : Memref sig .tc .vmem S512x384 .f32) (harg29 : arg29.IsWhole) (arg30 : Memref sig .tc .vmem S512x384 .bf16) (harg30 : arg30.IsWhole) (arg31 : Memref sig .tc .vmem S512x768 .f32) (harg31 : arg31.IsWhole) (arg32 : Memref sig .tc .vmem S3x544x128 .f32) (harg32 : arg32.IsWhole) (arg33 : Memref sig .tc .vmem S3x544x128 .f32) (harg33 : arg33.IsWhole) (arg34 : Memref sig .tc .vmem S3x8x128 .f32) (harg34 : arg34.IsWhole)
    (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) (f28 : arg28.view.ty.Contents (Elt F)) (f29 : arg29.view.ty.Contents (Elt F)) (f30 : arg30.view.ty.Contents (Elt F)) (f31 : arg31.view.ty.Contents (Elt F)) (f32 : arg32.view.ty.Contents (Elt F)) (f33 : arg33.view.ty.Contents (Elt F)) (f34 : arg34.view.ty.Contents (Elt F)) :
    Σ' (L19 : List (View.Piece (Elt F) S512x384 .f32)) (L22 : List (View.Piece (Elt F) S512x384 .i8)) (L23 : List (View.Piece (Elt F) S2048x18 .f32)) (L24 : List (View.Piece (Elt F) S1x3x384 .f32)) (L27 : List (View.Piece (Elt F) S512x768 .f32)), { L28 : List (View.Piece (Elt F) S3x520x128 .f32) // ∀ Q : PUnit → sProp 𝕄,
    iprop(((arg1.view.loc (c : Thread nD τ)) ↦[arg1.view.set]{fullShare} f1) ∗ ((arg2.view.loc (c : Thread nD τ)) ↦[arg2.view.set]{fullShare} f2) ∗ ((arg3.view.loc (c : Thread nD τ)) ↦[arg3.view.set]{fullShare} f3) ∗ ((arg4.view.loc (c : Thread nD τ)) ↦[arg4.view.set]{fullShare} f4) ∗ ((arg5.view.loc (c : Thread nD τ)) ↦[arg5.view.set]{fullShare} f5) ∗ ((arg6.view.loc (c : Thread nD τ)) ↦[arg6.view.set]{fullShare} f6) ∗ ((arg7.view.loc (c : Thread nD τ)) ↦[arg7.view.set]{fullShare} f7) ∗ ((arg8.view.loc (c : Thread nD τ)) ↦[arg8.view.set]{fullShare} f8) ∗ ((arg9.view.loc (c : Thread nD τ)) ↦[arg9.view.set]{fullShare} f9) ∗ ((arg10.view.loc (c : Thread nD τ)) ↦[arg10.view.set]{fullShare} f10) ∗ ((arg11.view.loc (c : Thread nD τ)) ↦[arg11.view.set]{fullShare} f11) ∗ ((arg12.view.loc (c : Thread nD τ)) ↦[arg12.view.set]{fullShare} f12) ∗ ((arg13.view.loc (c : Thread nD τ)) ↦[arg13.view.set]{fullShare} f13) ∗ ((arg14.view.loc (c : Thread nD τ)) ↦[arg14.view.set]{fullShare} f14) ∗ ((arg15.view.loc (c : Thread nD τ)) ↦[arg15.view.set]{fullShare} f15) ∗ ((arg16.view.loc (c : Thread nD τ)) ↦[arg16.view.set]{fullShare} f16) ∗ ((arg17.view.loc (c : Thread nD τ)) ↦[arg17.view.set]{fullShare} f17) ∗ ((arg18.view.loc (c : Thread nD τ)) ↦[arg18.view.set]{fullShare} f18) ∗ ((arg19.view.loc (c : Thread nD τ)) ↦[arg19.view.set]{fullShare} f19) ∗ ((arg20.view.loc (c : Thread nD τ)) ↦[arg20.view.set]{fullShare} f20) ∗ ((arg21.view.loc (c : Thread nD τ)) ↦[arg21.view.set]{fullShare} f21) ∗ ((arg22.view.loc (c : Thread nD τ)) ↦[arg22.view.set]{fullShare} f22) ∗ ((arg23.view.loc (c : Thread nD τ)) ↦[arg23.view.set]{fullShare} f23) ∗ ((arg24.view.loc (c : Thread nD τ)) ↦[arg24.view.set]{fullShare} f24) ∗ ((arg25.view.loc (c : Thread nD τ)) ↦[arg25.view.set]{fullShare} f25) ∗ ((arg26.view.loc (c : Thread nD τ)) ↦[arg26.view.set]{fullShare} f26) ∗ ((arg27.view.loc (c : Thread nD τ)) ↦[arg27.view.set]{fullShare} f27) ∗ ((arg28.view.loc (c : Thread nD τ)) ↦[arg28.view.set]{fullShare} f28) ∗ ((arg29.view.loc (c : Thread nD τ)) ↦[arg29.view.set]{fullShare} f29) ∗ ((arg30.view.loc (c : Thread nD τ)) ↦[arg30.view.set]{fullShare} f30) ∗ ((arg31.view.loc (c : Thread nD τ)) ↦[arg31.view.set]{fullShare} f31) ∗ ((arg32.view.loc (c : Thread nD τ)) ↦[arg32.view.set]{fullShare} f32) ∗ ((arg33.view.loc (c : Thread nD τ)) ↦[arg33.view.set]{fullShare} f33) ∗ ((arg34.view.loc (c : Thread nD τ)) ↦[arg34.view.set]{fullShare} f34) ∗ (iprop(((arg1.view.loc (c : Thread nD τ)) ↦[arg1.view.set]{fullShare} f1) ∗ ((arg2.view.loc (c : Thread nD τ)) ↦[arg2.view.set]{fullShare} f2) ∗ ((arg3.view.loc (c : Thread nD τ)) ↦[arg3.view.set]{fullShare} f3) ∗ ((arg4.view.loc (c : Thread nD τ)) ↦[arg4.view.set]{fullShare} f4) ∗ ((arg5.view.loc (c : Thread nD τ)) ↦[arg5.view.set]{fullShare} f5) ∗ ((arg6.view.loc (c : Thread nD τ)) ↦[arg6.view.set]{fullShare} f6) ∗ ((arg7.view.loc (c : Thread nD τ)) ↦[arg7.view.set]{fullShare} f7) ∗ ((arg8.view.loc (c : Thread nD τ)) ↦[arg8.view.set]{fullShare} f8) ∗ ((arg9.view.loc (c : Thread nD τ)) ↦[arg9.view.set]{fullShare} f9) ∗ ((arg10.view.loc (c : Thread nD τ)) ↦[arg10.view.set]{fullShare} f10) ∗ ((arg11.view.loc (c : Thread nD τ)) ↦[arg11.view.set]{fullShare} f11) ∗ ((arg12.view.loc (c : Thread nD τ)) ↦[arg12.view.set]{fullShare} f12) ∗ ((arg13.view.loc (c : Thread nD τ)) ↦[arg13.view.set]{fullShare} f13) ∗ ((arg14.view.loc (c : Thread nD τ)) ↦[arg14.view.set]{fullShare} f14) ∗ ((arg15.view.loc (c : Thread nD τ)) ↦[arg15.view.set]{fullShare} f15) ∗ ((arg16.view.loc (c : Thread nD τ)) ↦[arg16.view.set]{fullShare} f16) ∗ ((arg17.view.loc (c : Thread nD τ)) ↦[arg17.view.set]{fullShare} f17) ∗ ((arg18.view.loc (c : Thread nD τ)) ↦[arg18.view.set]{fullShare} f18) ∗ ((arg19.view.loc (c : Thread nD τ)) ↦[arg19.view.set]{fullShare} (arg19.view.writes (Elt F) f19 L19)) ∗ (∃ f, ((arg20.view.loc (c : Thread nD τ)) ↦[arg20.view.set]{fullShare} f)) ∗ (∃ f, ((arg21.view.loc (c : Thread nD τ)) ↦[arg21.view.set]{fullShare} f)) ∗ ((arg22.view.loc (c : Thread nD τ)) ↦[arg22.view.set]{fullShare} (arg22.view.writes (Elt F) f22 L22)) ∗ ((arg23.view.loc (c : Thread nD τ)) ↦[arg23.view.set]{fullShare} (arg23.view.writes (Elt F) f23 L23)) ∗ ((arg24.view.loc (c : Thread nD τ)) ↦[arg24.view.set]{fullShare} (arg24.view.writes (Elt F) f24 L24)) ∗ (∃ f, ((arg25.view.loc (c : Thread nD τ)) ↦[arg25.view.set]{fullShare} f)) ∗ (∃ f, ((arg26.view.loc (c : Thread nD τ)) ↦[arg26.view.set]{fullShare} f)) ∗ ((arg27.view.loc (c : Thread nD τ)) ↦[arg27.view.set]{fullShare} (arg27.view.writes (Elt F) f27 L27)) ∗ ((arg28.view.loc (c : Thread nD τ)) ↦[arg28.view.set]{fullShare} (arg28.view.writes (Elt F) f28 L28)) ∗ (∃ f, ((arg29.view.loc (c : Thread nD τ)) ↦[arg29.view.set]{fullShare} f)) ∗ (∃ f, ((arg30.view.loc (c : Thread nD τ)) ↦[arg30.view.set]{fullShare} f)) ∗ (∃ f, ((arg31.view.loc (c : Thread nD τ)) ↦[arg31.view.set]{fullShare} f)) ∗ (∃ f, ((arg32.view.loc (c : Thread nD τ)) ↦[arg32.view.set]{fullShare} f)) ∗ (∃ f, ((arg33.view.loc (c : Thread nD τ)) ↦[arg33.view.set]{fullShare} f)) ∗ (∃ f, ((arg34.view.loc (c : Thread nD τ)) ↦[arg34.view.set]{fullShare} f))) -∗ Q ⟨⟩))
      ⊢ wp frame (wpE (defs₀ (F := F)) Variants.none c none) Set.univ (cc0_rglru i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) Q } := by
  refine ⟨?_, ?_, ?_, ?_, ?_, ?_, fun Q => ?run⟩
  case run =>
    simp only [cc0_rglru_eq_skeleton]; unfold cc0_rglru_skel
    iintro ⟨H1, H2, H3, H4, H5, H6, H7, H8, H9, H10, H11, H12, H13, H14, H15, H16, H17, H18, H19, H20, H21, H22, H23, H24, H25, H26, H27, H28, H29, H30, H31, H32, H33, H34, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexact H22
    isplitl [H23]; · iexact H23
    isplitl [H24]; · iexact H24
    isplitl [H25]; · iexists _; iexact H25
    isplitl [H26]; · iexists _; iexact H26
    isplitl [H27]; · iexact H27
    isplitl [H28]; · iexact H28
    isplitl [H29]; · iexists _; iexact H29
    isplitl [H30]; · iexists _; iexact H30
    isplitl [H31]; · iexists _; iexact H31
    isplitl [H32]; · iexists _; iexact H32
    isplitl [H33]; · iexists _; iexact H33
    iexists _; iexact H34

end Cert.Lru.Hand

end
-- ==== Proof.LBodyK.lean ====
module

public import proofs.«01_k».proof.Proof.Gen.Lru.Frame
public import proofs.«01_k».proof.Proof.Gen.Lru.Skeleton
public import proofs.«01_k».proof.Proof.Gen.Lru.Points
public import Idealize.ShloMosaic.Lib.Pipeline.Frame
public import Idealize.ShloMosaic.Lib.Pipeline.FrameBody
public import Idealize.ShloMosaic.Lib.VecWindow
public import Idealize.ShloMosaic.Lib.WritesUnit
public import Idealize.ShloMosaic.Lib.Pointwise
public import Idealize.ShloMosaic.Lib.Tactic
public import proofs.«01_k».proof.Proof.LOffK
public import proofs.«01_k».proof.Proof.LRunK

@[expose] public section

set_option maxRecDepth 16384

noncomputable section

namespace Cert.Lru.Hand

open Cert.Lru Cert.Lru.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]

variable (c : Dev nD) (i : grid0.Coords)
    (arg1 : Memref sig .tc .vmem S2048x5120 .bf16) (harg1 : arg1.IsWhole) (arg2 : Memref sig .tc .vmem S5120x384 .i8) (harg2 : arg2.IsWhole) (arg3 : Memref sig .tc .vmem S5120x384 .i8) (harg3 : arg3.IsWhole) (arg4 : Memref sig .tc .vmem S1x384x384 .i8) (harg4 : arg4.IsWhole) (arg5 : Memref sig .tc .vmem S1x384x384 .i8) (harg5 : arg5.IsWhole) (arg6 : Memref sig .tc .vmem S2048x128 .f32) (harg6 : arg6.IsWhole) (arg7 : Memref sig .tc .vmem S2048x128 .i32) (harg7 : arg7.IsWhole) (arg8 : Memref sig .tc .vmem S1x6912 .f32) (harg8 : arg8.IsWhole) (arg9 : Memref sig .tc .vmem S1x6912 .f32) (harg9 : arg9.IsWhole) (arg10 : Memref sig .tc .vmem S1x6912 .f32) (harg10 : arg10.IsWhole) (arg11 : Memref sig .tc .vmem S1x6912 .f32) (harg11 : arg11.IsWhole) (arg12 : Memref sig .tc .vmem S4x6912 .f32) (harg12 : arg12.IsWhole) (arg13 : Memref sig .tc .vmem S1x6912 .f32) (harg13 : arg13.IsWhole) (arg14 : Memref sig .tc .vmem S1x6912 .f32) (harg14 : arg14.IsWhole) (arg15 : Memref sig .tc .vmem S1x6912 .f32) (harg15 : arg15.IsWhole) (arg16 : Memref sig .tc .vmem S1x6912 .f32) (harg16 : arg16.IsWhole) (arg17 : Memref sig .tc .vmem S1x6912 .f32) (harg17 : arg17.IsWhole) (arg18 : Memref sig .tc .vmem S1x6912 .f32) (harg18 : arg18.IsWhole) (arg19 : Memref sig .tc .vmem S512x384 .f32) (harg19 : arg19.IsWhole) (arg20 : Memref sig .tc .vmem S512x384 .f32) (harg20 : arg20.IsWhole) (arg21 : Memref sig .tc .vmem S512x384 .f32) (harg21 : arg21.IsWhole) (arg22 : Memref sig .tc .vmem S512x384 .i8) (harg22 : arg22.IsWhole) (arg23 : Memref sig .tc .vmem S2048x18 .f32) (harg23 : arg23.IsWhole) (arg24 : Memref sig .tc .vmem S1x3x384 .f32) (harg24 : arg24.IsWhole) (arg25 : Memref sig .tc .vmem S2048x128 .f32) (harg25 : arg25.IsWhole) (arg26 : Memref sig .tc .vmem S1x8x384 .f32) (harg26 : arg26.IsWhole) (arg27 : Memref sig .tc .vmem S512x768 .f32) (harg27 : arg27.IsWhole) (arg28 : Memref sig .tc .vmem S3x520x128 .f32) (harg28 : arg28.IsWhole) (arg29 : Memref sig .tc .vmem S512x384 .f32) (harg29 : arg29.IsWhole) (arg30 : Memref sig .tc .vmem S512x384 .bf16) (harg30 : arg30.IsWhole) (arg31 : Memref sig .tc .vmem S512x768 .f32) (harg31 : arg31.IsWhole) (arg32 : Memref sig .tc .vmem S3x544x128 .f32) (harg32 : arg32.IsWhole) (arg33 : Memref sig .tc .vmem S3x544x128 .f32) (harg33 : arg33.IsWhole) (arg34 : Memref sig .tc .vmem S3x8x128 .f32) (harg34 : arg34.IsWhole)

set_option maxHeartbeats 4000000 in
/-- The body at point `i`: the inputs kept. -/
theorem run_body
    (x1 : S2048x5120.Idx → F .bf16) (x2 : S5120x384.Idx → BitVec 8) (x3 : S5120x384.Idx → BitVec 8) (x4 : S1x384x384.Idx → BitVec 8) (x5 : S1x384x384.Idx → BitVec 8) (x6 : S2048x128.Idx → F .f32) (x7 : S2048x128.Idx → BitVec 32) (x8 : S1x6912.Idx → F .f32) (x9 : S1x6912.Idx → F .f32) (x10 : S1x6912.Idx → F .f32) (x11 : S1x6912.Idx → F .f32) (x12 : S4x6912.Idx → F .f32) (x13 : S1x6912.Idx → F .f32) (x14 : S1x6912.Idx → F .f32) (x15 : S1x6912.Idx → F .f32) (x16 : S1x6912.Idx → F .f32) (x17 : S1x6912.Idx → F .f32) (x18 : S1x6912.Idx → F .f32) (Y19 : S512x384.Idx → F .f32) (Y20 : S512x384.Idx → F .f32) (Y21 : S512x384.Idx → F .f32) (Y22 : S512x384.Idx → BitVec 8) (Y23 : S2048x18.Idx → F .f32) (Y24 : S1x3x384.Idx → F .f32) (Y25 : S2048x128.Idx → F .f32) (Y26 : S1x8x384.Idx → F .f32) (Y27 : S512x768.Idx → F .f32) (Y28 : S3x520x128.Idx → F .f32) (Y29 : S512x384.Idx → F .f32) (Y30 : S512x384.Idx → F .bf16) (Y31 : S512x768.Idx → F .f32) (Y32 : S3x544x128.Idx → F .f32) (Y33 : S3x544x128.Idx → F .f32) (Y34 : S3x8x128.Idx → F .f32) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare Y19 ∗ owns (c : Thread nD τ) arg20 fullShare Y20 ∗ owns (c : Thread nD τ) arg21 fullShare Y21 ∗ owns (c : Thread nD τ) arg22 fullShare Y22 ∗ owns (c : Thread nD τ) arg23 fullShare Y23 ∗ owns (c : Thread nD τ) arg24 fullShare Y24 ∗ owns (c : Thread nD τ) arg25 fullShare Y25 ∗ owns (c : Thread nD τ) arg26 fullShare Y26 ∗ owns (c : Thread nD τ) arg27 fullShare Y27 ∗ owns (c : Thread nD τ) arg28 fullShare Y28 ∗ owns (c : Thread nD τ) arg29 fullShare Y29 ∗ owns (c : Thread nD τ) arg30 fullShare Y30 ∗ owns (c : Thread nD τ) arg31 fullShare Y31 ∗ owns (c : Thread nD τ) arg32 fullShare Y32 ∗ owns (c : Thread nD τ) arg33 fullShare Y33 ∗ owns (c : Thread nD τ) arg34 fullShare Y34 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) -∗ Q ⟨⟩))
      ⊢ wp frame (wpE (defs₀ (F := F)) Variants.none c none) Set.univ (cc0_rglru i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  generalize kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34 = K
  obtain ⟨l19, l22, l23, l24, l27, l28, hrun⟩ := K
  iapply (hrun Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iintro ⟨H1, H2, H3, H4, H5, H6, H7, H8, H9, H10, H11, H12, H13, H14, H15, H16, H17, H18, H19, ⟨%g20, H20⟩, ⟨%g21, H21⟩, H22, H23, H24, ⟨%g25, H25⟩, ⟨%g26, H26⟩, H27, H28, ⟨%g29, H29⟩, ⟨%g30, H30⟩, ⟨%g31, H31⟩, ⟨%g32, H32⟩, ⟨%g33, H33⟩, ⟨%g34, H34⟩⟩
  iapply Hk
  isplitl [H1]
  · iexists f1; isplitr; swap; · iexact H1
    ipureintro; rfl
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H8]
  · iexists f8; isplitr; swap; · iexact H8
    ipureintro; rfl
  isplitl [H9]
  · iexists f9; isplitr; swap; · iexact H9
    ipureintro; rfl
  isplitl [H10]
  · iexists f10; isplitr; swap; · iexact H10
    ipureintro; rfl
  isplitl [H11]
  · iexists f11; isplitr; swap; · iexact H11
    ipureintro; rfl
  isplitl [H12]
  · iexists f12; isplitr; swap; · iexact H12
    ipureintro; rfl
  isplitl [H13]
  · iexists f13; isplitr; swap; · iexact H13
    ipureintro; rfl
  isplitl [H14]
  · iexists f14; isplitr; swap; · iexact H14
    ipureintro; rfl
  isplitl [H15]
  · iexists f15; isplitr; swap; · iexact H15
    ipureintro; rfl
  isplitl [H16]
  · iexists f16; isplitr; swap; · iexact H16
    ipureintro; rfl
  isplitl [H17]
  · iexists f17; isplitr; swap; · iexact H17
    ipureintro; rfl
  isplitl [H18]
  · iexists f18; isplitr; swap; · iexact H18
    ipureintro; rfl
  isplitl [H19]
  · iexists _; iexists _; isplitr; swap; · iexact H19
    ipureintro; rfl
  isplitl [H20]
  · iexists _; iexists g20; isplitr; swap; · iexact H20
    ipureintro; rfl
  isplitl [H21]
  · iexists _; iexists g21; isplitr; swap; · iexact H21
    ipureintro; rfl
  isplitl [H22]
  · iexists _; iexists _; isplitr; swap; · iexact H22
    ipureintro; rfl
  isplitl [H23]
  · iexists _; iexists _; isplitr; swap; · iexact H23
    ipureintro; rfl
  isplitl [H24]
  · iexists _; iexists _; isplitr; swap; · iexact H24
    ipureintro; rfl
  isplitl [H25]
  · iexists _; iexists g25; isplitr; swap; · iexact H25
    ipureintro; rfl
  isplitl [H26]
  · iexists _; iexists g26; isplitr; swap; · iexact H26
    ipureintro; rfl
  isplitl [H27]
  · iexists _; iexists _; isplitr; swap; · iexact H27
    ipureintro; rfl
  isplitl [H28]
  · iexists _; iexists _; isplitr; swap; · iexact H28
    ipureintro; rfl
  isplitl [H29]
  · iexists _; iexists g29; isplitr; swap; · iexact H29
    ipureintro; rfl
  isplitl [H30]
  · iexists _; iexists g30; isplitr; swap; · iexact H30
    ipureintro; rfl
  isplitl [H31]
  · iexists _; iexists g31; isplitr; swap; · iexact H31
    ipureintro; rfl
  isplitl [H32]
  · iexists _; iexists g32; isplitr; swap; · iexact H32
    ipureintro; rfl
  isplitl [H33]
  · iexists _; iexists g33; isplitr; swap; · iexact H33
    ipureintro; rfl
  iexists _; iexists g34; isplitr; swap; · iexact H34
  ipureintro; rfl

end Cert.Lru.Hand

end
-- ==== Proof.LDataK.lean ====
module

public import proofs.«01_k».proof.Proof.Gen.Lru.Frame
public import proofs.«01_k».proof.Proof.Gen.Lru.Skeleton
public import proofs.«01_k».proof.Proof.Gen.Lru.Points
public import Idealize.ShloMosaic.Lib.Pipeline.Frame
public import Idealize.ShloMosaic.Lib.Pipeline.FrameBody
public import Idealize.ShloMosaic.Lib.Pipeline.ArrRel
public import Idealize.ShloMosaic.Lib.Tactic
public import Idealize.ShloMosaic.Lib.VecWindow
public import Idealize.ShloMosaic.Lib.Pointwise

@[expose] public section

set_option maxRecDepth 16384

noncomputable section

namespace Cert.Lru.Hand

open Cert.Lru Cert.Lru.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The proof data -/

/-- The scratch and the generator register. -/
def Inv (c : Dev nD) (n : ℕ) : sProp 𝕄 :=
  iprop((∃ X27 X28, owns (c : Thread nD τ) (Memref.whole cc0_scratch0) fullShare X27 ∗ owns (c : Thread nD τ) (Memref.whole cc0_scratch1) fullShare X28) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ ∃ r, prngReg c r)

/-- The windows read exactly: each input's block is left as found. -/
def dat (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t | 6 => iblk m c 6 t | 7 => iblk m c 7 t | 8 => iblk m c 8 t | 9 => iblk m c 9 t | 10 => iblk m c 10 t | 11 => iblk m c 11 t | 12 => iblk m c 12 t | 13 => iblk m c 13 t | 14 => iblk m c 14 t | 15 => iblk m c 15 t | 16 => iblk m c 16 t | 17 => iblk m c 17 t
    | 18 => Dat.unnamed (cfg := cfg0) 18 t | 19 => Dat.unnamed (cfg := cfg0) 19 t | 20 => Dat.unnamed (cfg := cfg0) 20 t | 21 => Dat.unnamed (cfg := cfg0) 21 t | 22 => Dat.unnamed (cfg := cfg0) 22 t | 23 => Dat.unnamed (cfg := cfg0) 23 t | 24 => Dat.unnamed (cfg := cfg0) 24 t | 25 => Dat.unnamed (cfg := cfg0) 25 t
    | ⟨_ + 26, h⟩ => absurd h (Nat.not_lt.2 (Nat.le_add_left _ _))
  Φ t := Inv c t.val
  q _ := fullShare
  owed _ := 0

/-- Nothing is said of the eight output windows. -/
def ovr (c : Dev nD) : (w : Fin cfg0.W) → Option (Fin cfg0.N → (Y X : (cfg0.win w).block.Idx → Elt F (cfg0.win w).elt) → Prop)
  | 0 => none | 1 => none | 2 => none | 3 => none | 4 => none | 5 => none | 6 => none | 7 => none | 8 => none | 9 => none | 10 => none | 11 => none | 12 => none | 13 => none | 14 => none | 15 => none | 16 => none | 17 => none
  | 18 => some fun _ _ _ => True
  | 19 => some fun _ _ _ => True
  | 20 => some fun _ _ _ => True
  | 21 => some fun _ _ _ => True
  | 22 => some fun _ _ _ => True
  | 23 => some fun _ _ _ => True
  | 24 => some fun _ _ _ => True
  | 25 => some fun _ _ _ => True
  | ⟨_ + 26, h⟩ => absurd h (Nat.not_lt.2 (Nat.le_add_left _ _))

def rdat (c : Dev nD) : RDat τ (Elt F) Unit ℕ (UR sig nD τ) ℕ cfg0 c := (dat m c).toR.override (ovr c)

theorem dat_A (c : Dev nD) (w : Fin cfg0.W) : (dat m c).A w = V m c (Pipeline.arrRef spec0 w) := by dsimp only [dat]

theorem dat_after_0 (c : Dev nD) (t : Fin cfg0.N) : (dat m c).after 0 t = iblk m c 0 t := by dsimp only [dat]
theorem dat_after_1 (c : Dev nD) (t : Fin cfg0.N) : (dat m c).after 1 t = iblk m c 1 t := by dsimp only [dat]
theorem dat_after_2 (c : Dev nD) (t : Fin cfg0.N) : (dat m c).after 2 t = iblk m c 2 t := by dsimp only [dat]
theorem dat_after_3 (c : Dev nD) (t : Fin cfg0.N) : (dat m c).after 3 t = iblk m c 3 t := by dsimp only [dat]
theorem dat_after_4 (c : Dev nD) (t : Fin cfg0.N) : (dat m c).after 4 t = iblk m c 4 t := by dsimp only [dat]
theorem dat_after_5 (c : Dev nD) (t : Fin cfg0.N) : (dat m c).after 5 t = iblk m c 5 t := by dsimp only [dat]
theorem dat_after_6 (c : Dev nD) (t : Fin cfg0.N) : (dat m c).after 6 t = iblk m c 6 t := by dsimp only [dat]
theorem dat_after_7 (c : Dev nD) (t : Fin cfg0.N) : (dat m c).after 7 t = iblk m c 7 t := by dsimp only [dat]
theorem dat_after_8 (c : Dev nD) (t : Fin cfg0.N) : (dat m c).after 8 t = iblk m c 8 t := by dsimp only [dat]
theorem dat_after_9 (c : Dev nD) (t : Fin cfg0.N) : (dat m c).after 9 t = iblk m c 9 t := by dsimp only [dat]
theorem dat_after_10 (c : Dev nD) (t : Fin cfg0.N) : (dat m c).after 10 t = iblk m c 10 t := by dsimp only [dat]
theorem dat_after_11 (c : Dev nD) (t : Fin cfg0.N) : (dat m c).after 11 t = iblk m c 11 t := by dsimp only [dat]
theorem dat_after_12 (c : Dev nD) (t : Fin cfg0.N) : (dat m c).after 12 t = iblk m c 12 t := by dsimp only [dat]
theorem dat_after_13 (c : Dev nD) (t : Fin cfg0.N) : (dat m c).after 13 t = iblk m c 13 t := by dsimp only [dat]
theorem dat_after_14 (c : Dev nD) (t : Fin cfg0.N) : (dat m c).after 14 t = iblk m c 14 t := by dsimp only [dat]
theorem dat_after_15 (c : Dev nD) (t : Fin cfg0.N) : (dat m c).after 15 t = iblk m c 15 t := by dsimp only [dat]
theorem dat_after_16 (c : Dev nD) (t : Fin cfg0.N) : (dat m c).after 16 t = iblk m c 16 t := by dsimp only [dat]
theorem dat_after_17 (c : Dev nD) (t : Fin cfg0.N) : (dat m c).after 17 t = iblk m c 17 t := by dsimp only [dat]

/-- What the body finds in an input window is the window's block. -/
theorem finds_0 (c : Dev nD) (t : Fin cfg0.N) (Y) (h : (rdat m c).Finds 0 t Y) : Y = iblk m c 0 t := by
  obtain ⟨d, rfl⟩ := (dat m c).toR_finds 0 t Y (((dat m c).toR.override_finds rfl t Y).mp h)
  exact before0_0_of m (dat m c) (dat_A m c 0) (dat_after_0 m c) t d
theorem finds_1 (c : Dev nD) (t : Fin cfg0.N) (Y) (h : (rdat m c).Finds 1 t Y) : Y = iblk m c 1 t := by
  obtain ⟨d, rfl⟩ := (dat m c).toR_finds 1 t Y (((dat m c).toR.override_finds rfl t Y).mp h)
  exact before0_1_of m (dat m c) (dat_A m c 1) (dat_after_1 m c) t d
theorem finds_2 (c : Dev nD) (t : Fin cfg0.N) (Y) (h : (rdat m c).Finds 2 t Y) : Y = iblk m c 2 t := by
  obtain ⟨d, rfl⟩ := (dat m c).toR_finds 2 t Y (((dat m c).toR.override_finds rfl t Y).mp h)
  exact before0_2_of m (dat m c) (dat_A m c 2) (dat_after_2 m c) t d
theorem finds_3 (c : Dev nD) (t : Fin cfg0.N) (Y) (h : (rdat m c).Finds 3 t Y) : Y = iblk m c 3 t := by
  obtain ⟨d, rfl⟩ := (dat m c).toR_finds 3 t Y (((dat m c).toR.override_finds rfl t Y).mp h)
  exact before0_3_of m (dat m c) (dat_A m c 3) (dat_after_3 m c) t d
theorem finds_4 (c : Dev nD) (t : Fin cfg0.N) (Y) (h : (rdat m c).Finds 4 t Y) : Y = iblk m c 4 t := by
  obtain ⟨d, rfl⟩ := (dat m c).toR_finds 4 t Y (((dat m c).toR.override_finds rfl t Y).mp h)
  exact before0_4_of m (dat m c) (dat_A m c 4) (dat_after_4 m c) t d
theorem finds_5 (c : Dev nD) (t : Fin cfg0.N) (Y) (h : (rdat m c).Finds 5 t Y) : Y = iblk m c 5 t := by
  obtain ⟨d, rfl⟩ := (dat m c).toR_finds 5 t Y (((dat m c).toR.override_finds rfl t Y).mp h)
  exact before0_5_of m (dat m c) (dat_A m c 5) (dat_after_5 m c) t d
theorem finds_6 (c : Dev nD) (t : Fin cfg0.N) (Y) (h : (rdat m c).Finds 6 t Y) : Y = iblk m c 6 t := by
  obtain ⟨d, rfl⟩ := (dat m c).toR_finds 6 t Y (((dat m c).toR.override_finds rfl t Y).mp h)
  exact before0_6_of m (dat m c) (dat_A m c 6) (dat_after_6 m c) t d
theorem finds_7 (c : Dev nD) (t : Fin cfg0.N) (Y) (h : (rdat m c).Finds 7 t Y) : Y = iblk m c 7 t := by
  obtain ⟨d, rfl⟩ := (dat m c).toR_finds 7 t Y (((dat m c).toR.override_finds rfl t Y).mp h)
  exact before0_7_of m (dat m c) (dat_A m c 7) (dat_after_7 m c) t d
theorem finds_8 (c : Dev nD) (t : Fin cfg0.N) (Y) (h : (rdat m c).Finds 8 t Y) : Y = iblk m c 8 t := by
  obtain ⟨d, rfl⟩ := (dat m c).toR_finds 8 t Y (((dat m c).toR.override_finds rfl t Y).mp h)
  exact before0_8_of m (dat m c) (dat_A m c 8) (dat_after_8 m c) t d
theorem finds_9 (c : Dev nD) (t : Fin cfg0.N) (Y) (h : (rdat m c).Finds 9 t Y) : Y = iblk m c 9 t := by
  obtain ⟨d, rfl⟩ := (dat m c).toR_finds 9 t Y (((dat m c).toR.override_finds rfl t Y).mp h)
  exact before0_9_of m (dat m c) (dat_A m c 9) (dat_after_9 m c) t d
theorem finds_10 (c : Dev nD) (t : Fin cfg0.N) (Y) (h : (rdat m c).Finds 10 t Y) : Y = iblk m c 10 t := by
  obtain ⟨d, rfl⟩ := (dat m c).toR_finds 10 t Y (((dat m c).toR.override_finds rfl t Y).mp h)
  exact before0_10_of m (dat m c) (dat_A m c 10) (dat_after_10 m c) t d
theorem finds_11 (c : Dev nD) (t : Fin cfg0.N) (Y) (h : (rdat m c).Finds 11 t Y) : Y = iblk m c 11 t := by
  obtain ⟨d, rfl⟩ := (dat m c).toR_finds 11 t Y (((dat m c).toR.override_finds rfl t Y).mp h)
  exact before0_11_of m (dat m c) (dat_A m c 11) (dat_after_11 m c) t d
theorem finds_12 (c : Dev nD) (t : Fin cfg0.N) (Y) (h : (rdat m c).Finds 12 t Y) : Y = iblk m c 12 t := by
  obtain ⟨d, rfl⟩ := (dat m c).toR_finds 12 t Y (((dat m c).toR.override_finds rfl t Y).mp h)
  exact before0_12_of m (dat m c) (dat_A m c 12) (dat_after_12 m c) t d
theorem finds_13 (c : Dev nD) (t : Fin cfg0.N) (Y) (h : (rdat m c).Finds 13 t Y) : Y = iblk m c 13 t := by
  obtain ⟨d, rfl⟩ := (dat m c).toR_finds 13 t Y (((dat m c).toR.override_finds rfl t Y).mp h)
  exact before0_13_of m (dat m c) (dat_A m c 13) (dat_after_13 m c) t d
theorem finds_14 (c : Dev nD) (t : Fin cfg0.N) (Y) (h : (rdat m c).Finds 14 t Y) : Y = iblk m c 14 t := by
  obtain ⟨d, rfl⟩ := (dat m c).toR_finds 14 t Y (((dat m c).toR.override_finds rfl t Y).mp h)
  exact before0_14_of m (dat m c) (dat_A m c 14) (dat_after_14 m c) t d
theorem finds_15 (c : Dev nD) (t : Fin cfg0.N) (Y) (h : (rdat m c).Finds 15 t Y) : Y = iblk m c 15 t := by
  obtain ⟨d, rfl⟩ := (dat m c).toR_finds 15 t Y (((dat m c).toR.override_finds rfl t Y).mp h)
  exact before0_15_of m (dat m c) (dat_A m c 15) (dat_after_15 m c) t d
theorem finds_16 (c : Dev nD) (t : Fin cfg0.N) (Y) (h : (rdat m c).Finds 16 t Y) : Y = iblk m c 16 t := by
  obtain ⟨d, rfl⟩ := (dat m c).toR_finds 16 t Y (((dat m c).toR.override_finds rfl t Y).mp h)
  exact before0_16_of m (dat m c) (dat_A m c 16) (dat_after_16 m c) t d
theorem finds_17 (c : Dev nD) (t : Fin cfg0.N) (Y) (h : (rdat m c).Finds 17 t Y) : Y = iblk m c 17 t := by
  obtain ⟨d, rfl⟩ := (dat m c).toR_finds 17 t Y (((dat m c).toR.override_finds rfl t Y).mp h)
  exact before0_17_of m (dat m c) (dat_A m c 17) (dat_after_17 m c) t d

/-- The left contents of an input window, as the data ask for them. -/
theorem after_0 (c : Dev nD) (t : Fin cfg0.N) (Y) : (rdat m c).after 0 t Y (iblk m c 0 t) := by
  unfold rdat; rw [RDat.override_after_of_eq_none _ rfl]; exact (dat_after_0 m c t).symm
theorem after_1 (c : Dev nD) (t : Fin cfg0.N) (Y) : (rdat m c).after 1 t Y (iblk m c 1 t) := by
  unfold rdat; rw [RDat.override_after_of_eq_none _ rfl]; exact (dat_after_1 m c t).symm
theorem after_2 (c : Dev nD) (t : Fin cfg0.N) (Y) : (rdat m c).after 2 t Y (iblk m c 2 t) := by
  unfold rdat; rw [RDat.override_after_of_eq_none _ rfl]; exact (dat_after_2 m c t).symm
theorem after_3 (c : Dev nD) (t : Fin cfg0.N) (Y) : (rdat m c).after 3 t Y (iblk m c 3 t) := by
  unfold rdat; rw [RDat.override_after_of_eq_none _ rfl]; exact (dat_after_3 m c t).symm
theorem after_4 (c : Dev nD) (t : Fin cfg0.N) (Y) : (rdat m c).after 4 t Y (iblk m c 4 t) := by
  unfold rdat; rw [RDat.override_after_of_eq_none _ rfl]; exact (dat_after_4 m c t).symm
theorem after_5 (c : Dev nD) (t : Fin cfg0.N) (Y) : (rdat m c).after 5 t Y (iblk m c 5 t) := by
  unfold rdat; rw [RDat.override_after_of_eq_none _ rfl]; exact (dat_after_5 m c t).symm
theorem after_6 (c : Dev nD) (t : Fin cfg0.N) (Y) : (rdat m c).after 6 t Y (iblk m c 6 t) := by
  unfold rdat; rw [RDat.override_after_of_eq_none _ rfl]; exact (dat_after_6 m c t).symm
theorem after_7 (c : Dev nD) (t : Fin cfg0.N) (Y) : (rdat m c).after 7 t Y (iblk m c 7 t) := by
  unfold rdat; rw [RDat.override_after_of_eq_none _ rfl]; exact (dat_after_7 m c t).symm
theorem after_8 (c : Dev nD) (t : Fin cfg0.N) (Y) : (rdat m c).after 8 t Y (iblk m c 8 t) := by
  unfold rdat; rw [RDat.override_after_of_eq_none _ rfl]; exact (dat_after_8 m c t).symm
theorem after_9 (c : Dev nD) (t : Fin cfg0.N) (Y) : (rdat m c).after 9 t Y (iblk m c 9 t) := by
  unfold rdat; rw [RDat.override_after_of_eq_none _ rfl]; exact (dat_after_9 m c t).symm
theorem after_10 (c : Dev nD) (t : Fin cfg0.N) (Y) : (rdat m c).after 10 t Y (iblk m c 10 t) := by
  unfold rdat; rw [RDat.override_after_of_eq_none _ rfl]; exact (dat_after_10 m c t).symm
theorem after_11 (c : Dev nD) (t : Fin cfg0.N) (Y) : (rdat m c).after 11 t Y (iblk m c 11 t) := by
  unfold rdat; rw [RDat.override_after_of_eq_none _ rfl]; exact (dat_after_11 m c t).symm
theorem after_12 (c : Dev nD) (t : Fin cfg0.N) (Y) : (rdat m c).after 12 t Y (iblk m c 12 t) := by
  unfold rdat; rw [RDat.override_after_of_eq_none _ rfl]; exact (dat_after_12 m c t).symm
theorem after_13 (c : Dev nD) (t : Fin cfg0.N) (Y) : (rdat m c).after 13 t Y (iblk m c 13 t) := by
  unfold rdat; rw [RDat.override_after_of_eq_none _ rfl]; exact (dat_after_13 m c t).symm
theorem after_14 (c : Dev nD) (t : Fin cfg0.N) (Y) : (rdat m c).after 14 t Y (iblk m c 14 t) := by
  unfold rdat; rw [RDat.override_after_of_eq_none _ rfl]; exact (dat_after_14 m c t).symm
theorem after_15 (c : Dev nD) (t : Fin cfg0.N) (Y) : (rdat m c).after 15 t Y (iblk m c 15 t) := by
  unfold rdat; rw [RDat.override_after_of_eq_none _ rfl]; exact (dat_after_15 m c t).symm
theorem after_16 (c : Dev nD) (t : Fin cfg0.N) (Y) : (rdat m c).after 16 t Y (iblk m c 16 t) := by
  unfold rdat; rw [RDat.override_after_of_eq_none _ rfl]; exact (dat_after_16 m c t).symm
theorem after_17 (c : Dev nD) (t : Fin cfg0.N) (Y) : (rdat m c).after 17 t Y (iblk m c 17 t) := by
  unfold rdat; rw [RDat.override_after_of_eq_none _ rfl]; exact (dat_after_17 m c t).symm

end Cert.Lru.Hand

end
-- ==== Proof.LFrameK.lean ====
module

public import proofs.«01_k».proof.Proof.Gen.Lru.Frame
public import proofs.«01_k».proof.Proof.Gen.Lru.Skeleton
public import proofs.«01_k».proof.Proof.Gen.Lru.Points
public import proofs.«01_k».proof.Proof.LBodyK
public import proofs.«01_k».proof.Proof.LDataK
public import Idealize.ShloMosaic.Lib.Pipeline.Frame
public import Idealize.ShloMosaic.Lib.Pipeline.FrameBody
public import Idealize.ShloMosaic.Lib.Pipeline.ArrRel
public import Idealize.ShloMosaic.Lib.Tactic

@[expose] public section

set_option maxRecDepth 16384

noncomputable section

namespace Cert.Lru.Hand

open Cert.Lru Cert.Lru.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The body at a point of the pipeline -/

theorem defs₀_row (t : Fin cfg0.N) : defs₀ (F := F) .tc cfg0.body (cfg0.bodyArgs t (cfg0.slots t)) = bodyAt0 t := by
  unfold defs₀; rw [Defs.onTc_tc]

theorem after_18 (c : Dev nD) (t : Fin cfg0.N) (Y X) : (rdat m c).after 18 t Y X := by
  unfold rdat; rw [RDat.override_after_of_eq_some _ (R := fun _ _ _ => True) rfl]; trivial
theorem after_19 (c : Dev nD) (t : Fin cfg0.N) (Y X) : (rdat m c).after 19 t Y X := by
  unfold rdat; rw [RDat.override_after_of_eq_some _ (R := fun _ _ _ => True) rfl]; trivial
theorem after_20 (c : Dev nD) (t : Fin cfg0.N) (Y X) : (rdat m c).after 20 t Y X := by
  unfold rdat; rw [RDat.override_after_of_eq_some _ (R := fun _ _ _ => True) rfl]; trivial
theorem after_21 (c : Dev nD) (t : Fin cfg0.N) (Y X) : (rdat m c).after 21 t Y X := by
  unfold rdat; rw [RDat.override_after_of_eq_some _ (R := fun _ _ _ => True) rfl]; trivial
theorem after_22 (c : Dev nD) (t : Fin cfg0.N) (Y X) : (rdat m c).after 22 t Y X := by
  unfold rdat; rw [RDat.override_after_of_eq_some _ (R := fun _ _ _ => True) rfl]; trivial
theorem after_23 (c : Dev nD) (t : Fin cfg0.N) (Y X) : (rdat m c).after 23 t Y X := by
  unfold rdat; rw [RDat.override_after_of_eq_some _ (R := fun _ _ _ => True) rfl]; trivial
theorem after_24 (c : Dev nD) (t : Fin cfg0.N) (Y X) : (rdat m c).after 24 t Y X := by
  unfold rdat; rw [RDat.override_after_of_eq_some _ (R := fun _ _ _ => True) rfl]; trivial
theorem after_25 (c : Dev nD) (t : Fin cfg0.N) (Y X) : (rdat m c).after 25 t Y X := by
  unfold rdat; rw [RDat.override_after_of_eq_some _ (R := fun _ _ _ => True) rfl]; trivial

set_option maxHeartbeats 4000000 in
/-- The body's step at point `t`: from the invariant, the blocks and any contents of the output windows. -/
theorem sound_body (c : Dev nD) (t : Fin cfg0.N) (Y : (w : Fin cfg0.W) → (cfg0.win w).block.Idx → Elt F (cfg0.win w).elt)
    (h0 : Y 0 = iblk m c 0 t) (h1 : Y 1 = iblk m c 1 t) (h2 : Y 2 = iblk m c 2 t) (h3 : Y 3 = iblk m c 3 t) (h4 : Y 4 = iblk m c 4 t) (h5 : Y 5 = iblk m c 5 t) (h6 : Y 6 = iblk m c 6 t) (h7 : Y 7 = iblk m c 7 t) (h8 : Y 8 = iblk m c 8 t) (h9 : Y 9 = iblk m c 9 t) (h10 : Y 10 = iblk m c 10 t) (h11 : Y 11 = iblk m c 11 t) (h12 : Y 12 = iblk m c 12 t) (h13 : Y 13 = iblk m c 13 t) (h14 : Y 14 = iblk m c 14 t) (h15 : Y 15 = iblk m c 15 t) (h16 : Y 16 = iblk m c 16 t) (h17 : Y 17 = iblk m c 17 t) :
    iprop(Inv c t.val ∗ (rdat m c).owesAt () t.castSucc ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9) ∗ owns (c : Thread nD τ) ((cfg0.win 10).stage (cfg0.slots t 10)) fullShare (Y 10) ∗ owns (c : Thread nD τ) ((cfg0.win 11).stage (cfg0.slots t 11)) fullShare (Y 11) ∗ owns (c : Thread nD τ) ((cfg0.win 12).stage (cfg0.slots t 12)) fullShare (Y 12) ∗ owns (c : Thread nD τ) ((cfg0.win 13).stage (cfg0.slots t 13)) fullShare (Y 13) ∗ owns (c : Thread nD τ) ((cfg0.win 14).stage (cfg0.slots t 14)) fullShare (Y 14) ∗ owns (c : Thread nD τ) ((cfg0.win 15).stage (cfg0.slots t 15)) fullShare (Y 15) ∗ owns (c : Thread nD τ) ((cfg0.win 16).stage (cfg0.slots t 16)) fullShare (Y 16) ∗ owns (c : Thread nD τ) ((cfg0.win 17).stage (cfg0.slots t 17)) fullShare (Y 17) ∗ owns (c : Thread nD τ) ((cfg0.win 18).stage (cfg0.slots t 18)) fullShare (Y 18) ∗ owns (c : Thread nD τ) ((cfg0.win 19).stage (cfg0.slots t 19)) fullShare (Y 19) ∗ owns (c : Thread nD τ) ((cfg0.win 20).stage (cfg0.slots t 20)) fullShare (Y 20) ∗ owns (c : Thread nD τ) ((cfg0.win 21).stage (cfg0.slots t 21)) fullShare (Y 21) ∗ owns (c : Thread nD τ) ((cfg0.win 22).stage (cfg0.slots t 22)) fullShare (Y 22) ∗ owns (c : Thread nD τ) ((cfg0.win 23).stage (cfg0.slots t 23)) fullShare (Y 23) ∗ owns (c : Thread nD τ) ((cfg0.win 24).stage (cfg0.slots t 24)) fullShare (Y 24) ∗ owns (c : Thread nD τ) ((cfg0.win 25).stage (cfg0.slots t 25)) fullShare (Y 25))
      ⊢ wp frame (wpE (defs₀ (F := F)) Variants.none c none) Set.univ (bodyAt0 t) (fun _ =>
        iprop(Inv c (t.val + 1) ∗ (rdat m c).owesAt () t.castSucc ∗ (∃ X, ⌜(rdat m c).after 0 t (Y 0) X⌝ ∗ owns (c : Thread nD τ) ((cfg0.win 0).stage (cfg0.slots t 0)) fullShare X) ∗ (∃ X, ⌜(rdat m c).after 1 t (Y 1) X⌝ ∗ owns (c : Thread nD τ) ((cfg0.win 1).stage (cfg0.slots t 1)) fullShare X) ∗ (∃ X, ⌜(rdat m c).after 2 t (Y 2) X⌝ ∗ owns (c : Thread nD τ) ((cfg0.win 2).stage (cfg0.slots t 2)) fullShare X) ∗ (∃ X, ⌜(rdat m c).after 3 t (Y 3) X⌝ ∗ owns (c : Thread nD τ) ((cfg0.win 3).stage (cfg0.slots t 3)) fullShare X) ∗ (∃ X, ⌜(rdat m c).after 4 t (Y 4) X⌝ ∗ owns (c : Thread nD τ) ((cfg0.win 4).stage (cfg0.slots t 4)) fullShare X) ∗ (∃ X, ⌜(rdat m c).after 5 t (Y 5) X⌝ ∗ owns (c : Thread nD τ) ((cfg0.win 5).stage (cfg0.slots t 5)) fullShare X) ∗ (∃ X, ⌜(rdat m c).after 6 t (Y 6) X⌝ ∗ owns (c : Thread nD τ) ((cfg0.win 6).stage (cfg0.slots t 6)) fullShare X) ∗ (∃ X, ⌜(rdat m c).after 7 t (Y 7) X⌝ ∗ owns (c : Thread nD τ) ((cfg0.win 7).stage (cfg0.slots t 7)) fullShare X) ∗ (∃ X, ⌜(rdat m c).after 8 t (Y 8) X⌝ ∗ owns (c : Thread nD τ) ((cfg0.win 8).stage (cfg0.slots t 8)) fullShare X) ∗ (∃ X, ⌜(rdat m c).after 9 t (Y 9) X⌝ ∗ owns (c : Thread nD τ) ((cfg0.win 9).stage (cfg0.slots t 9)) fullShare X) ∗ (∃ X, ⌜(rdat m c).after 10 t (Y 10) X⌝ ∗ owns (c : Thread nD τ) ((cfg0.win 10).stage (cfg0.slots t 10)) fullShare X) ∗ (∃ X, ⌜(rdat m c).after 11 t (Y 11) X⌝ ∗ owns (c : Thread nD τ) ((cfg0.win 11).stage (cfg0.slots t 11)) fullShare X) ∗ (∃ X, ⌜(rdat m c).after 12 t (Y 12) X⌝ ∗ owns (c : Thread nD τ) ((cfg0.win 12).stage (cfg0.slots t 12)) fullShare X) ∗ (∃ X, ⌜(rdat m c).after 13 t (Y 13) X⌝ ∗ owns (c : Thread nD τ) ((cfg0.win 13).stage (cfg0.slots t 13)) fullShare X) ∗ (∃ X, ⌜(rdat m c).after 14 t (Y 14) X⌝ ∗ owns (c : Thread nD τ) ((cfg0.win 14).stage (cfg0.slots t 14)) fullShare X) ∗ (∃ X, ⌜(rdat m c).after 15 t (Y 15) X⌝ ∗ owns (c : Thread nD τ) ((cfg0.win 15).stage (cfg0.slots t 15)) fullShare X) ∗ (∃ X, ⌜(rdat m c).after 16 t (Y 16) X⌝ ∗ owns (c : Thread nD τ) ((cfg0.win 16).stage (cfg0.slots t 16)) fullShare X) ∗ (∃ X, ⌜(rdat m c).after 17 t (Y 17) X⌝ ∗ owns (c : Thread nD τ) ((cfg0.win 17).stage (cfg0.slots t 17)) fullShare X) ∗ (∃ X, ⌜(rdat m c).after 18 t (Y 18) X⌝ ∗ owns (c : Thread nD τ) ((cfg0.win 18).stage (cfg0.slots t 18)) fullShare X) ∗ (∃ X, ⌜(rdat m c).after 19 t (Y 19) X⌝ ∗ owns (c : Thread nD τ) ((cfg0.win 19).stage (cfg0.slots t 19)) fullShare X) ∗ (∃ X, ⌜(rdat m c).after 20 t (Y 20) X⌝ ∗ owns (c : Thread nD τ) ((cfg0.win 20).stage (cfg0.slots t 20)) fullShare X) ∗ (∃ X, ⌜(rdat m c).after 21 t (Y 21) X⌝ ∗ owns (c : Thread nD τ) ((cfg0.win 21).stage (cfg0.slots t 21)) fullShare X) ∗ (∃ X, ⌜(rdat m c).after 22 t (Y 22) X⌝ ∗ owns (c : Thread nD τ) ((cfg0.win 22).stage (cfg0.slots t 22)) fullShare X) ∗ (∃ X, ⌜(rdat m c).after 23 t (Y 23) X⌝ ∗ owns (c : Thread nD τ) ((cfg0.win 23).stage (cfg0.slots t 23)) fullShare X) ∗ (∃ X, ⌜(rdat m c).after 24 t (Y 24) X⌝ ∗ owns (c : Thread nD τ) ((cfg0.win 24).stage (cfg0.slots t 24)) fullShare X) ∗ (∃ X, ⌜(rdat m c).after 25 t (Y 25) X⌝ ∗ owns (c : Thread nD τ) ((cfg0.win 25).stage (cfg0.slots t 25)) fullShare X))) := by
  unfold bodyAt0 Inv
  rw [h0, h1, h2, h3, h4, h5, h6, h7, h8, h9, h10, h11, h12, h13, h14, h15, h16, h17]
  iintro ⟨⟨⟨%Y27, %Y28, S0, S1⟩, ⟨%s2, S2⟩, ⟨%s3, S3⟩, ⟨%s4, S4⟩, ⟨%s5, S5⟩, ⟨%s6, S6⟩, ⟨%s7, S7⟩, Hg⟩, HO, H0, H1, H2, H3, H4, H5, H6, H7, H8, H9, H10, H11, H12, H13, H14, H15, H16, H17, H18, H19, H20, H21, H22, H23, H24, H25⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (Y 18) (Y 19) (Y 20) (Y 21) (Y 22) (Y 23) (Y 24) (Y 25) Y27 Y28 s2 s3 s4 s5 s6 s7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, H10, H11, H12, H13, H14, H15, H16, H17, ⟨%d19, H18⟩, ⟨%d20, H19⟩, ⟨%d21, H20⟩, ⟨%d22, H21⟩, ⟨%d23, H22⟩, ⟨%d24, H23⟩, ⟨%d25, H24⟩, ⟨%d26, H25⟩, ⟨%d27, S0⟩, ⟨%d28, S1⟩, ⟨%d29, S2⟩, ⟨%d30, S3⟩, ⟨%d31, S4⟩, ⟨%d32, S5⟩, ⟨%d33, S6⟩, ⟨%d34, S7⟩⟩
  isplitl [S0 S1 S2 S3 S4 S5 S6 S7 Hg]
  · isplitl [S0 S1]
    · iexists d27; iexists d28
      isplitl [S0]; · iexact S0
      iexact S1
    isplitl [S2]; · iexists d29; iexact S2
    isplitl [S3]; · iexists d30; iexact S3
    isplitl [S4]; · iexists d31; iexact S4
    isplitl [S5]; · iexists d32; iexact S5
    isplitl [S6]; · iexists d33; iexact S6
    isplitl [S7]; · iexists d34; iexact S7
    iexact Hg
  isplitl [HO]; · iexact HO
  isplitl [H0]
  · iexists (iblk m c 0 t); isplitr; swap; · iexact H0
    ipureintro; exact after_0 m c t _
  isplitl [H1]
  · iexists (iblk m c 1 t); isplitr; swap; · iexact H1
    ipureintro; exact after_1 m c t _
  isplitl [H2]
  · iexists (iblk m c 2 t); isplitr; swap; · iexact H2
    ipureintro; exact after_2 m c t _
  isplitl [H3]
  · iexists (iblk m c 3 t); isplitr; swap; · iexact H3
    ipureintro; exact after_3 m c t _
  isplitl [H4]
  · iexists (iblk m c 4 t); isplitr; swap; · iexact H4
    ipureintro; exact after_4 m c t _
  isplitl [H5]
  · iexists (iblk m c 5 t); isplitr; swap; · iexact H5
    ipureintro; exact after_5 m c t _
  isplitl [H6]
  · iexists (iblk m c 6 t); isplitr; swap; · iexact H6
    ipureintro; exact after_6 m c t _
  isplitl [H7]
  · iexists (iblk m c 7 t); isplitr; swap; · iexact H7
    ipureintro; exact after_7 m c t _
  isplitl [H8]
  · iexists (iblk m c 8 t); isplitr; swap; · iexact H8
    ipureintro; exact after_8 m c t _
  isplitl [H9]
  · iexists (iblk m c 9 t); isplitr; swap; · iexact H9
    ipureintro; exact after_9 m c t _
  isplitl [H10]
  · iexists (iblk m c 10 t); isplitr; swap; · iexact H10
    ipureintro; exact after_10 m c t _
  isplitl [H11]
  · iexists (iblk m c 11 t); isplitr; swap; · iexact H11
    ipureintro; exact after_11 m c t _
  isplitl [H12]
  · iexists (iblk m c 12 t); isplitr; swap; · iexact H12
    ipureintro; exact after_12 m c t _
  isplitl [H13]
  · iexists (iblk m c 13 t); isplitr; swap; · iexact H13
    ipureintro; exact after_13 m c t _
  isplitl [H14]
  · iexists (iblk m c 14 t); isplitr; swap; · iexact H14
    ipureintro; exact after_14 m c t _
  isplitl [H15]
  · iexists (iblk m c 15 t); isplitr; swap; · iexact H15
    ipureintro; exact after_15 m c t _
  isplitl [H16]
  · iexists (iblk m c 16 t); isplitr; swap; · iexact H16
    ipureintro; exact after_16 m c t _
  isplitl [H17]
  · iexists (iblk m c 17 t); isplitr; swap; · iexact H17
    ipureintro; exact after_17 m c t _
  isplitl [H18]
  · iexists d19; isplitr; swap; · iexact H18
    ipureintro; exact after_18 m c t _ _
  isplitl [H19]
  · iexists d20; isplitr; swap; · iexact H19
    ipureintro; exact after_19 m c t _ _
  isplitl [H20]
  · iexists d21; isplitr; swap; · iexact H20
    ipureintro; exact after_20 m c t _ _
  isplitl [H21]
  · iexists d22; isplitr; swap; · iexact H21
    ipureintro; exact after_21 m c t _ _
  isplitl [H22]
  · iexists d23; isplitr; swap; · iexact H22
    ipureintro; exact after_22 m c t _ _
  isplitl [H23]
  · iexists d24; isplitr; swap; · iexact H23
    ipureintro; exact after_23 m c t _ _
  isplitl [H24]
  · iexists d25; isplitr; swap; · iexact H24
    ipureintro; exact after_24 m c t _ _
  iexists d26; isplitr; swap; · iexact H25
  ipureintro; exact after_25 m c t _ _

theorem body_obligation (c : Dev nD) : (rdat m c).BodyObligation (defs₀ (F := F)) Variants.none () Set.univ := fun t Y hY => by
  rw [bigSep_W0, bigSep_W0, defs₀_row]
  exact triple_restated (sound_body m c t Y (finds_0 m c t _ (hY 0)) (finds_1 m c t _ (hY 1)) (finds_2 m c t _ (hY 2)) (finds_3 m c t _ (hY 3)) (finds_4 m c t _ (hY 4)) (finds_5 m c t _ (hY 5)) (finds_6 m c t _ (hY 6)) (finds_7 m c t _ (hY 7)) (finds_8 m c t _ (hY 8)) (finds_9 m c t _ (hY 9)) (finds_10 m c t _ (hY 10)) (finds_11 m c t _ (hY 11)) (finds_12 m c t _ (hY 12)) (finds_13 m c t _ (hY 13)) (finds_14 m c t _ (hY 14)) (finds_15 m c t _ (hY 15)) (finds_16 m c t _ (hY 16)) (finds_17 m c t _ (hY 17))) rfl .rfl fun _ => .rfl

/-! ## The launch -/

theorem inv_in (c : Dev nD) : (Pipeline.ΦA spec0 c : sProp 𝕄) ⊢ Inv c 0 := by
  unfold Pipeline.ΦA Inv
  rw [scopedRest0_eq]
  simp only [owns_whole]
  iintro ⟨⟨⟨%f0, S0⟩, ⟨%f1, S1⟩, ⟨%f2, S2⟩, ⟨%f3, S3⟩, ⟨%f4, S4⟩, ⟨%f5, S5⟩, ⟨%f6, S6⟩, ⟨%f7, S7⟩⟩, Hg⟩
  isplitl [S0 S1]
  · iexists f0; iexists f1
    isplitl [S0]; · iexact S0
    iexact S1
  isplitl [S2]; · iexists f2; iexact S2
  isplitl [S3]; · iexists f3; iexact S3
  isplitl [S4]; · iexists f4; iexact S4
  isplitl [S5]; · iexists f5; iexact S5
  isplitl [S6]; · iexists f6; iexact S6
  isplitl [S7]; · iexists f7; iexact S7
  iexact Hg
theorem inv_out (c : Dev nD) (n : ℕ) : Inv c n ⊢ (Pipeline.ΦA spec0 c : sProp 𝕄) := by
  unfold Pipeline.ΦA Inv
  rw [scopedRest0_eq]
  simp only [owns_whole]
  iintro ⟨⟨%f0, %f1, S0, S1⟩, ⟨%f2, S2⟩, ⟨%f3, S3⟩, ⟨%f4, S4⟩, ⟨%f5, S5⟩, ⟨%f6, S6⟩, ⟨%f7, S7⟩, Hg⟩
  isplitl [S0 S1 S2 S3 S4 S5 S6 S7]
  · skip
    isplitl [S0]; · iexists f0; iexact S0
    isplitl [S1]; · iexists f1; iexact S1
    isplitl [S2]; · iexists f2; iexact S2
    isplitl [S3]; · iexists f3; iexact S3
    isplitl [S4]; · iexists f4; iexact S4
    isplitl [S5]; · iexists f5; iexact S5
    isplitl [S6]; · iexists f6; iexact S6
    iexists f7; iexact S7
  · iexact Hg

set_option backward.isDefEq.respectTransparency.types false in
/-- From any memory with zero counters every execution of @main ends, and in every final state the arrays hold what the proof
    data say and every counter is zero. -/
theorem run_main :
    θ_run defs (onTc (τ := τ) (main (F := F))) (s₀ m ρ)
      (fun r => RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c => (dat m c).share_full fun _ => rfl)
    (howed := fun _ _ => rfl) (V := V m) (hmain := hmain m Variants.none) (hA := dat_A m)
    (hin := inv_in) (hout := fun c => inv_out c cfg0.N)

/-- The arguments end as they began. -/
theorem args_kept {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  ⟨(h.arr_in c 0 rfl).trans ((dat_A m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (h.arr_in c 1 rfl).trans ((dat_A m c 1).trans (V_main_arg3 m c)),
    (h.arr_in c 2 rfl).trans ((dat_A m c 2).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    (h.arr_in c 11 rfl).trans ((dat_A m c 11).trans (V_main_arg9 m c)),
    ((h c).2 main_arg10 (Pipeline.mem_restRefs_of main_arg10 (by decide) (by decide))).trans (V_main_arg10 m c),
    (h.arr_in c 3 rfl).trans ((dat_A m c 3).trans (V_main_arg11 m c)),
    (h.arr_in c 4 rfl).trans ((dat_A m c 4).trans (V_main_arg12 m c)),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c)⟩

end Cert.Lru.Hand

end
-- ==== Proof.LOffI.lean ====
module

public import proofs.«01_k».proof.Proof.Gen.LruIdeal.Frame
public import proofs.«01_k».proof.Proof.Gen.LruIdeal.Skeleton
public import proofs.«01_k».proof.Proof.Gen.LruIdeal.Points
public import Idealize.ShloMosaic.Lib.Pipeline.Frame
public import Idealize.ShloMosaic.Lib.Pipeline.FrameBody
public import Idealize.ShloMosaic.Lib.VecWindow
public import Idealize.ShloMosaic.Lib.WritesUnit
public import Idealize.ShloMosaic.Lib.Pointwise
public import Idealize.ShloMosaic.Lib.Tactic

@[expose] public section

set_option maxRecDepth 16384

noncomputable section

namespace Cert.LruIdeal.Hand

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The offsets of a grid point -/

/-- The tile of rows point `i` finishes, and the head it finishes it for. -/
abbrev mT (i : grid0.Coords) : ℕ := ((i 0).val - 1) % 4
abbrev hT (i : grid0.Coords) : ℕ := ((i 0).val - 1) / 4

theorem row_word : ∀ i : grid0.Coords, Scalar.muli (Scalar.remsi (Scalar.maxsi (Scalar.subi (BitVec.ofNat 32 (i 0).val) 1#32) 0#32) 4#32) 512#32
    = BitVec.ofNat 32 (512 * mT i) := by decide +kernel
theorem off1_eq : ∀ i : grid0.Coords, k0_off1 i = ![0, 384 * hT i] := by decide +kernel
theorem off3_eq : ∀ i : grid0.Coords, k0_off3 i = ![512 * ((i 0).val % 4), 0] := by decide +kernel
theorem off4_eq : ∀ i : grid0.Coords, k0_off4 i = ![0, 384 * hT i] := by decide +kernel
theorem off5_eq : ∀ i : grid0.Coords, k0_off5 i = ![1, 384 * hT i] := by decide +kernel
theorem off6_eq : ∀ i : grid0.Coords, k0_off6 i = ![2, 384 * hT i] := by decide +kernel
theorem off7_eq : ∀ i : grid0.Coords, k0_off7 i = ![3, 384 * hT i] := by decide +kernel
theorem off2_eq (i : grid0.Coords) (n : ℕ) : k0_off2 i (BitVec.ofNat 32 n) = ![(512 * mT i + n) % 4294967296, 0] := by
  unfold k0_off2
  dsimp only
  rw [row_word i]
  show ![((BitVec.ofNat 32 (512 * mT i)) + BitVec.ofNat 32 n).toNat, _] = _
  rw [BitVec.toNat_add, BitVec.toNat_ofNat, BitVec.toNat_ofNat, ← Nat.add_mod]
theorem off8_eq (i : grid0.Coords) (n : ℕ) : k0_off8 i (BitVec.ofNat 32 n) = ![(512 * mT i + n) % 4294967296, 0] := off2_eq i n

instance (i : grid0.Coords) (n : ℕ) : ClosedOff (k0_off2 i (BitVec.ofNat 32 n)) := ⟨_, off2_eq i n⟩
instance (i : grid0.Coords) (n : ℕ) : ClosedOff (k0_off8 i (BitVec.ofNat 32 n)) := ⟨_, off8_eq i n⟩

end Cert.LruIdeal.Hand

end
-- ==== Proof.LTileI.lean ====
module

public import proofs.«01_k».proof.Proof.Gen.LruIdeal.Frame
public import proofs.«01_k».proof.Proof.Gen.LruIdeal.Skeleton
public import proofs.«01_k».proof.Proof.Gen.LruIdeal.Points
public import Idealize.ShloMosaic.Lib.Pipeline.Frame
public import Idealize.ShloMosaic.Lib.Pipeline.FrameBody
public import Idealize.ShloMosaic.Lib.VecWindow
public import Idealize.ShloMosaic.Lib.WritesUnit
public import Idealize.ShloMosaic.Lib.Pointwise
public import Idealize.ShloMosaic.Lib.Tactic
public import proofs.«01_k».proof.Proof.LOffI

@[expose] public section

set_option maxRecDepth 16384

noncomputable section

namespace Cert.LruIdeal.Hand

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What one grid point computes, piece by piece -/

theorem slices_k (k : Fin 3) : S1x384.Slices ![0, 128 * k.val] S1x128 := by revert k; decide
/-- The lanes of slab `k` of a row of 384 columns, repeated over 32 rows. -/
def bc (k : Fin 3) (v : FVec F S1x384 .f32) : FVec F S32x128 .f32 :=
  broadcastTo S32x128 (extractStridedSlice S1x128 ![0, 128 * k.val] v (slices_k k)) broadcasts_S1x128_S32x128
/-- 32 rows of slab `k` of the branch that is convolved: the product times the row's scale and the column's, plus the bias. -/
def xbP (k : Fin 3) (sx bx : Vec F S1x384 .f32) (tok acc : Vec F S32x128 .f32) : FVec F S1x32x128 .f32 :=
  shapeCast S1x32x128 (addf (mulf (mulf acc (shapeCast S32x128 tok shapeCasts_S32x128_S32x128))
      (bc k (shapeCast S1x384 sx shapeCasts_S1x384_S1x384))) (bc k (shapeCast S1x384 bx shapeCasts_S1x384_S1x384)))
    shapeCasts_S32x128_S1x32x128
/-- One tap of the convolution: nothing where the tap reaches before the segment's first token. -/
def tapP (j : BitVec 32) (k : Fin 3) (cw : Vec F S1x384 .f32) (pos : Vec F S32x128 .i32) (b : Vec F S1x32x128 .f32) : FVec F S32x128 .f32 :=
  select (cmpi .sge (shapeCast S32x128 pos shapeCasts_S32x128_S32x128) (broadcast S32x128 j))
    (mulf (shapeCast S32x128 b shapeCasts_S1x32x128_S32x128) (bc k cw)) (broadcast S32x128 (Scalar.ofBits .f32 0x00000000#32 : F .f32))
/-- 32 rows of slab `k` of the convolution: the bias plus the four taps. -/
def xcP (k : Fin 3) (cb c0 c1 c2 c3 : Vec F S1x384 .f32) (pos : Vec F S32x128 .i32) (b0 b1 b2 b3 : Vec F S1x32x128 .f32) : FVec F S32x128 .f32 :=
  addf (bc k (shapeCast S1x384 cb shapeCasts_S1x384_S1x384))
    (addf (addf (addf (tapP 0#32 k c3 pos b0) (tapP 1#32 k c2 pos b1)) (tapP 2#32 k c1 pos b2)) (tapP 3#32 k c0 pos b3))
/-- 32 rows of slab `k` of the logarithm of the decay: the gate of the product `g`, scaled by rows and columns, times the head's decay. -/
def laP (k : Fin 3) (sa ba lam : Vec F S1x384 .f32) (x : Vec F S32x384 .f32) (g : Vec F S32x128 .f32) : FVec F S32x128 .f32 :=
  mulf (logistic (addf (mulf (mulf g (broadcastTo S32x128 (k0_pay454 x) broadcasts_S32x1_S32x128)) (bc k (shapeCast S1x384 sa shapeCasts_S1x384_S1x384)))
    (bc k (shapeCast S1x384 ba shapeCasts_S1x384_S1x384)))) (bc k (k0_pay451 lam))
/-- The last three rows of slab `k`. -/
def csP (b : Vec F S1x3x128 .f32) : FVec F S1x3x128 .f32 :=
  shapeCast S1x3x128 (shapeCast S3x128 b shapeCasts_S1x3x128_S3x128) shapeCasts_S3x128_S1x3x128
/-- The head's number as the body computes it. -/
def hW (i : grid0.Coords) : BitVec 32 := Scalar.divsi (Scalar.maxsi (Scalar.subi (BitVec.ofNat 32 (i 0).val) 1#32) 0#32) 4#32

abbrev kP (p : Fin 48) : Fin 3 := ⟨p.val % 3, Nat.mod_lt _ (by decide)⟩
abbrev qP (p : Fin 48) : Fin 16 := ⟨p.val / 3, by omega⟩

theorem inb_xb (p : Fin 48) : ∀ a, (![p.val % 3, 8 + 32 * (p.val / 3), 0] : Fin 3 → ℕ) a + S1x32x128.size a ≤ S3x520x128.size a := by
  revert p; decide
theorem inb_hist (k : Fin 3) : ∀ a, (![k.val, 0, 0] : Fin 3 → ℕ) a + S1x8x128.size a ≤ S3x520x128.size a := by revert k; decide
theorem inb_tail (k : Fin 3) : ∀ a, (![k.val, 512, 0] : Fin 3 → ℕ) a + S1x8x128.size a ≤ S3x520x128.size a := by revert k; decide
theorem inb_last (k : Fin 3) : ∀ a, (![k.val, 517, 0] : Fin 3 → ℕ) a + S1x3x128.size a ≤ S3x520x128.size a := by revert k; decide
theorem inb_tap (j : Fin 4) (p : Fin 48) : ∀ a, (![p.val % 3, 8 + 32 * (p.val / 3) - j.val, 0] : Fin 3 → ℕ) a + S1x32x128.size a ≤ S3x520x128.size a := by
  revert j p; decide
theorem inb_acc (p : Fin 48) : ∀ a, (![32 * (p.val / 3), 384 + 128 * (p.val % 3)] : Fin 2 → ℕ) a + S32x128.size a ≤ S512x768.size a := by
  revert p; decide
theorem inb_xc (p : Fin 48) : ∀ a, (![32 * (p.val / 3), 128 * (p.val % 3)] : Fin 2 → ℕ) a + S32x128.size a ≤ S512x384.size a := by
  revert p; decide
theorem inb_row (p : Fin 48) : ∀ a, (![32 * (p.val / 3), 0] : Fin 2 → ℕ) a + S32x384.size a ≤ S512x384.size a := by revert p; decide
theorem inb_g (p : Fin 48) : ∀ a, (![32 * (p.val / 3), 128 * (p.val % 3)] : Fin 2 → ℕ) a + S32x128.size a ≤ S512x768.size a := by revert p; decide
theorem inb_code (q : Fin 16) : ∀ a, (![32 * q.val, 0] : Fin 2 → ℕ) a + S32x384.size a ≤ S512x384.size a := by revert q; decide
theorem inb_cs (k : Fin 3) : ∀ a, (![0, 0, 128 * k.val] : Fin 3 → ℕ) a + S1x3x128.size a ≤ S1x3x384.size a := by revert k; decide

section Lists
variable (i : grid0.Coords) (x1 : S2048x5120.Idx → F .bf16) (x2 x3 : S5120x384.Idx → BitVec 8) (x6 : S2048x128.Idx → F .f32)
  (x7 : S2048x128.Idx → BitVec 32) (x10 x11 x13 : S1x6912.Idx → F .f32) (x12 : S4x6912.Idx → F .f32)
  (Y23 : S2048x18.Idx → F .f32) (Y27 : S512x768.Idx → F .f32) (Y28 X28 : S3x520x128.Idx → F .f32)

/-- The head's 384 columns of a row of the parameters. -/
def vW (x : S1x6912.Idx → F .f32) : S1x384.Idx → F .f32 := VecWindow.window x (k0_off1 i) S1x384.size (k0_off1_inb i)
/-- 32 rows of the rows' scales, of the positions, of the product. -/
def tokW (q : Fin 16) : S32x128.Idx → F .f32 := VecWindow.window x6 (k0_off2 i (BitVec.ofNat 32 (32 * q.val))) S32x128.size (k0_off2_inb i q)
def posW (q : Fin 16) : S32x128.Idx → BitVec 32 := VecWindow.window x7 (k0_off2 i (BitVec.ofNat 32 (32 * q.val))) S32x128.size (k0_off2_inb i q)
def accW (p : Fin 48) : S32x128.Idx → F .f32 := VecWindow.window Y27 ![32 * (p.val / 3), 384 + 128 * (p.val % 3)] S32x128.size (inb_acc p)
/-- 32 rows of a slab, `j` rows back. -/
def tapW (p : Fin 48) (j : Fin 4) : S1x32x128.Idx → F .f32 :=
  VecWindow.window X28 ![p.val % 3, 8 + 32 * (p.val / 3) - j.val, 0] S1x32x128.size (inb_tap j p)

def xbPiece (p : Fin 48) : FVec F S1x32x128 .f32 := xbP (kP p) (vW i x10) (vW i x11) (tokW i x6 (qP p)) (accW Y27 p)
def xcPiece (p : Fin 48) : FVec F S32x128 .f32 :=
  xcP (kP p) (vW i x13) (VecWindow.window x12 (k0_off4 i) S1x384.size (k0_off4_inb i)) (VecWindow.window x12 (k0_off5 i) S1x384.size (k0_off5_inb i))
    (VecWindow.window x12 (k0_off6 i) S1x384.size (k0_off6_inb i)) (VecWindow.window x12 (k0_off7 i) S1x384.size (k0_off7_inb i))
    (posW i x7 (qP p)) (tapW X28 p 0) (tapW X28 p 1) (tapW X28 p 2) (tapW X28 p 3)
abbrev p3 (q : Fin 16) (k : Fin 3) : Fin 48 := ⟨3 * q.val + k.val, by omega⟩

def L28a : List (View.Piece (Elt F) S3x520x128 .f32) :=
  View.tilePieces (s := S3x520x128) (e := .f32) (Val := Elt F) S1x32x128.size
    (fun p : Fin 48 => ![p.val % 3, 8 + 32 * (p.val / 3), 0]) inb_xb (fun p => xbPiece i x6 x10 x11 Y27 p) 48 le_rfl
def L28b : List (View.Piece (Elt F) S3x520x128 .f32) :=
  View.tilePieces (s := S3x520x128) (e := .f32) (Val := Elt F) S1x8x128.size
    (fun k : Fin 3 => ![k.val, 0, 0]) inb_hist (fun k => k0_pay6 i (VecWindow.window Y28 ![k.val, 512, 0] S1x8x128.size (inb_tail k))) 3 le_rfl
def L28 : List (View.Piece (Elt F) S3x520x128 .f32) := L28a i x6 x10 x11 Y27 ++ L28b i Y28
def L27 : List (View.Piece (Elt F) S512x768 .f32) :=
  [⟨Rect.unit (s := S512x768) ![0, 0] S512x768.size inb_S512x768_S512x768_0_0,
    k0_pay178 (VecWindow.window x1 (k0_off3 i) S512x5120.size (k0_off3_inb i))
      (VecWindow.window x2 ![0, 0] S5120x384.size inb_S5120x384_S5120x384_0_0) (VecWindow.window x3 ![0, 0] S5120x384.size inb_S5120x384_S5120x384_0_0)⟩]
def L19 : List (View.Piece (Elt F) S512x384 .f32) :=
  View.tilePieces (s := S512x384) (e := .f32) (Val := Elt F) S32x128.size
    (fun p : Fin 48 => ![32 * (p.val / 3), 128 * (p.val % 3)]) inb_xc (fun p => xcPiece i x7 x13 x12 X28 p) 48 le_rfl
def L22 : List (View.Piece (Elt F) S512x384 .i8) :=
  View.tilePieces (s := S512x384) (e := .i8) (Val := Elt F) S32x384.size
    (fun q : Fin 16 => ![32 * q.val, 0]) inb_code
    (fun q => k0_pay190 (xcPiece i x7 x13 x12 X28 (p3 q 0)) (xcPiece i x7 x13 x12 X28 (p3 q 1)) (xcPiece i x7 x13 x12 X28 (p3 q 2))) 16 le_rfl
/-- The scales are put in one column of a resident array: each chunk of rows is read, its column replaced, and written back. -/
def L23 (v : View sig .tc .vmem S2048x18 .f32) (f : v.ty.Contents (Elt F)) : (n : ℕ) → n ≤ 16 → List (View.Piece (Elt F) S2048x18 .f32)
  | 0, _ => []
  | q + 1, hq => ⟨Rect.unit (s := S2048x18) (k0_off8 i (BitVec.ofNat 32 (32 * q))) S32x18.size (k0_off8_inb i ⟨q, hq⟩),
      k0_pay192 (k0_pay180 (hW i)) (xcPiece i x7 x13 x12 X28 (p3 ⟨q, hq⟩ 0)) (xcPiece i x7 x13 x12 X28 (p3 ⟨q, hq⟩ 1)) (xcPiece i x7 x13 x12 X28 (p3 ⟨q, hq⟩ 2))
        (View.readAt (Elt F) v (Rect.unit (s := S2048x18) (k0_off8 i (BitVec.ofNat 32 (32 * q))) S32x18.size (k0_off8_inb i ⟨q, hq⟩)).toLoadRect
          (View.writes v (Elt F) f (L23 v f q (Nat.le_of_succ_le hq))))⟩ :: L23 v f q (Nat.le_of_succ_le hq)
def L24 : List (View.Piece (Elt F) S1x3x384 .f32) :=
  View.tilePieces (s := S1x3x384) (e := .f32) (Val := Elt F) S1x3x128.size
    (fun k : Fin 3 => ![0, 0, 128 * k.val]) inb_cs (fun k => csP (VecWindow.window X28 ![k.val, 517, 0] S1x3x128.size (inb_last k))) 3 le_rfl
/-- The codes again, as the gate's product reads them; the product; the logarithm of the decay. -/
def L30 : List (View.Piece (Elt F) S512x384 .bf16) :=
  View.tilePieces (s := S512x384) (e := .bf16) (Val := Elt F) S32x384.size
    (fun q : Fin 16 => ![32 * q.val, 0]) inb_code
    (fun q => k0_pay191 (xcPiece i x7 x13 x12 X28 (p3 q 0)) (xcPiece i x7 x13 x12 X28 (p3 q 1)) (xcPiece i x7 x13 x12 X28 (p3 q 2))) 16 le_rfl
end Lists

section Gate
variable (i : grid0.Coords) (x4 x5 : S1x384x384.Idx → BitVec 8) (x14 x15 x18 : S1x6912.Idx → F .f32)
  (X19 : S512x384.Idx → F .f32) (X30 : S512x384.Idx → F .bf16) (X31 : S512x768.Idx → F .f32)
def L31 : List (View.Piece (Elt F) S512x768 .f32) :=
  [⟨Rect.unit (s := S512x768) ![0, 0] S512x768.size inb_S512x768_S512x768_0_0,
    k0_pay446 (VecWindow.window x4 ![0, 0, 0] S1x384x384.size inb_S1x384x384_S1x384x384_0_0_0) (VecWindow.window x5 ![0, 0, 0] S1x384x384.size inb_S1x384x384_S1x384x384_0_0_0)
      (VecWindow.window X30 ![0, 0] S512x384.size inb_S512x384_S512x384_0_0)⟩]
def laPiece (p : Fin 48) : FVec F S32x128 .f32 :=
  laP (kP p) (vW i x14) (vW i x15) (vW i x18) (VecWindow.window X19 ![32 * (p.val / 3), 0] S32x384.size (inb_row p))
    (VecWindow.window X31 ![32 * (p.val / 3), 128 * (p.val % 3)] S32x128.size (inb_g p))
def L20 : List (View.Piece (Elt F) S512x384 .f32) :=
  View.tilePieces (s := S512x384) (e := .f32) (Val := Elt F) S32x128.size
    (fun p : Fin 48 => ![32 * (p.val / 3), 128 * (p.val % 3)]) inb_xc (fun p => laPiece i x14 x15 x18 X19 X31 p) 48 le_rfl
end Gate

/-! ## Reading a list of writes back -/

/-- Writes listed after others are made first. -/
theorem writes_append {s : Shape} {e : EltTy} (v : View sig .tc .vmem s e) (f : v.ty.Contents (Elt F)) (A B : List (View.Piece (Elt F) s e)) :
    View.writes v (Elt F) f (A ++ B) = View.writes v (Elt F) (View.writes v (Elt F) f B) A := by
  induction A with
  | nil => rfl
  | cons p A ih =>
    show (v.slice p.1).write (Elt F) (View.writes v (Elt F) f (A ++ B)) p.2 Finset.univ = (v.slice p.1).write (Elt F) (View.writes v (Elt F) (View.writes v (Elt F) f B) A) p.2 Finset.univ
    rw [ih]

/-- An index in tile `i`, which every other tile misses on some axis, reads tile `i`. -/
theorem read_tiles {s : Shape} {e : EltTy} {N : ℕ} (v : View sig .tc .vmem s e) (f : v.ty.Contents (Elt F)) (tsz : Fin s.rank → ℕ) (off : Fin N → Fin s.rank → ℕ)
    (inb : ∀ i a, off i a + tsz a ≤ s.size a) (P : Fin N → (⟨s.rank, tsz⟩ : Shape).Idx → Elt F e) (j : ℕ) (hj : j ≤ N) (y : s.Idx)
    (i : Fin N) (hi : i.val < j) (x : (⟨s.rank, tsz⟩ : Shape).Idx) (hx : ∀ a, (y a).val = off i a + (x a).val)
    (hdis : ∀ i' : Fin N, i' ≠ i → ∃ ax, (y ax).val < off i' ax ∨ off i' ax + tsz ax ≤ (y ax).val) :
    v.read (Elt F) (v.writes (Elt F) f (View.tilePieces tsz off inb P j hj)) y = P i x := by
  induction j with
  | zero => exact absurd hi (Nat.not_lt_zero _)
  | succ j ih =>
    rw [View.tilePieces_succ]
    by_cases hn : (⟨j, hj⟩ : Fin N) = i
    · subst hn
      exact View.read_writes_cons_unit_of_mem v f (inb ⟨j, hj⟩) (P ⟨j, hj⟩) _ y x rfl hx
    · obtain ⟨ax, h⟩ := hdis ⟨j, hj⟩ hn
      rw [View.read_writes_cons_unit_of_not_mem v f (inb ⟨j, hj⟩) (P ⟨j, hj⟩) _ y rfl ax h]
      exact ih (Nat.le_of_succ_le hj) (by
        have : i.val ≠ j := fun h => hn (Fin.ext h.symm)
        omega)

/-- An index every tile misses reads what was there. -/
theorem miss_tiles {s : Shape} {e : EltTy} {N : ℕ} (v : View sig .tc .vmem s e) (f : v.ty.Contents (Elt F)) (tsz : Fin s.rank → ℕ) (off : Fin N → Fin s.rank → ℕ)
    (inb : ∀ i a, off i a + tsz a ≤ s.size a) (P : Fin N → (⟨s.rank, tsz⟩ : Shape).Idx → Elt F e) (j : ℕ) (hj : j ≤ N) (y : s.Idx)
    (hdis : ∀ i' : Fin N, ∃ ax, (y ax).val < off i' ax ∨ off i' ax + tsz ax ≤ (y ax).val) :
    v.read (Elt F) (v.writes (Elt F) f (View.tilePieces tsz off inb P j hj)) y = v.read (Elt F) f y := by
  induction j with
  | zero => rfl
  | succ j ih =>
    obtain ⟨ax, h⟩ := hdis ⟨j, hj⟩
    rw [View.tilePieces_succ, View.read_writes_cons_unit_of_not_mem v f (inb ⟨j, hj⟩) (P ⟨j, hj⟩) _ y rfl ax h]
    exact ih (Nat.le_of_succ_le hj)

/-- The piece row `r` of slab `k` lies in. -/
abbrev pOf (r : Fin 512) (k : Fin 3) : Fin 48 := ⟨3 * (r.val / 32) + k.val, by omega⟩
abbrev r32 (r : Fin 512) : Fin 32 := ⟨r.val % 32, Nat.mod_lt _ (by decide)⟩

section Reads
variable (i : grid0.Coords) (x1 : S2048x5120.Idx → F .bf16) (x2 x3 : S5120x384.Idx → BitVec 8) (x6 : S2048x128.Idx → F .f32)
  (x7 : S2048x128.Idx → BitVec 32) (x10 x11 x13 : S1x6912.Idx → F .f32) (x12 : S4x6912.Idx → F .f32)
  (Y27 : S512x768.Idx → F .f32) (Y28 X28 : S3x520x128.Idx → F .f32)

theorem read28_new (v : View sig .tc .vmem S3x520x128 .f32) (f : v.ty.Contents (Elt F)) (k : Fin 3) (r : Fin 512) (l : Fin 128) :
    v.read (Elt F) (v.writes (Elt F) f (L28 i x6 x10 x11 Y27 Y28)) (ix3 k ⟨8 + r.val, by omega⟩ l) = xbPiece i x6 x10 x11 Y27 (pOf r k) (ix3 0 (r32 r) l) := by
  unfold L28 L28a
  rw [writes_append]
  refine read_tiles v _ S1x32x128.size (fun p : Fin 48 => ![p.val % 3, 8 + 32 * (p.val / 3), 0]) inb_xb (fun p => xbPiece i x6 x10 x11 Y27 p) 48 le_rfl _ (pOf r k) (pOf r k).isLt (ix3 0 (r32 r) l) ?_ ?_
  · intro a
    fin_cases a
    · show k.val = (3 * (r.val / 32) + k.val) % 3 + 0
      omega
    · show 8 + r.val = 8 + 32 * ((3 * (r.val / 32) + k.val) / 3) + r.val % 32
      omega
    · show l.val = 0 + l.val
      omega
  · intro p hp
    have hp' : p.val ≠ 3 * (r.val / 32) + k.val := fun h => hp (Fin.ext h)
    by_cases h : p.val % 3 = k.val
    · refine ⟨1, ?_⟩
      show 8 + r.val < 8 + 32 * (p.val / 3) ∨ 8 + 32 * (p.val / 3) + 32 ≤ 8 + r.val
      omega
    · refine ⟨0, ?_⟩
      show k.val < p.val % 3 ∨ p.val % 3 + 1 ≤ k.val
      omega
theorem read28_hist (v : View sig .tc .vmem S3x520x128 .f32) (f : v.ty.Contents (Elt F)) (k : Fin 3) (r : Fin 8) (l : Fin 128) :
    v.read (Elt F) (v.writes (Elt F) f (L28 i x6 x10 x11 Y27 Y28)) (ix3 k ⟨r.val, by omega⟩ l) =
      k0_pay6 i (VecWindow.window Y28 ![k.val, 512, 0] S1x8x128.size (inb_tail k)) (ix3 0 r l) := by
  unfold L28 L28a
  rw [writes_append]
  refine (miss_tiles v _ S1x32x128.size (fun p : Fin 48 => ![p.val % 3, 8 + 32 * (p.val / 3), 0]) inb_xb (fun p => xbPiece i x6 x10 x11 Y27 p) 48 le_rfl _ ?_).trans ?_
  · intro p
    refine ⟨1, Or.inl ?_⟩
    show r.val < 8 + 32 * (p.val / 3)
    omega
  unfold L28b
  refine read_tiles v _ S1x8x128.size (fun k : Fin 3 => ![k.val, 0, 0]) inb_hist (fun k => k0_pay6 i (VecWindow.window Y28 ![k.val, 512, 0] S1x8x128.size (inb_tail k))) 3 le_rfl _ k k.isLt (ix3 0 r l) ?_ ?_
  · intro a
    fin_cases a
    · show k.val = k.val + 0
      omega
    · show r.val = 0 + r.val
      omega
    · show l.val = 0 + l.val
      omega
  · intro p hp
    have hp' : p.val ≠ k.val := fun h => hp (Fin.ext h)
    refine ⟨0, ?_⟩
    show k.val < p.val ∨ p.val + 1 ≤ k.val
    omega
/-- The writes cover the buffer: what was there before them does not matter. -/
theorem read28_any (v : View sig .tc .vmem S3x520x128 .f32) (f g : v.ty.Contents (Elt F)) :
    v.read (Elt F) (v.writes (Elt F) f (L28 i x6 x10 x11 Y27 Y28)) = v.read (Elt F) (v.writes (Elt F) g (L28 i x6 x10 x11 Y27 Y28)) := by
  funext y
  have h1 : (y 1).val < 520 := (y 1).isLt
  by_cases h : (y 1).val < 8
  · have e : y = ix3 (y 0) ⟨(⟨(y 1).val, h⟩ : Fin 8).val, by omega⟩ (y 2) := by
      funext a; fin_cases a <;> rfl
    rw [e]
    exact (read28_hist i x6 x10 x11 Y27 Y28 v f (y 0) ⟨(y 1).val, h⟩ (y 2)).trans (read28_hist i x6 x10 x11 Y27 Y28 v g (y 0) ⟨(y 1).val, h⟩ (y 2)).symm
  · have e : y = ix3 (y 0) ⟨8 + (⟨(y 1).val - 8, by omega⟩ : Fin 512).val, by show 8 + ((y 1).val - 8) < 520; omega⟩ (y 2) := by
      funext a; fin_cases a
      · rfl
      · exact Fin.ext (by show (y 1).val = 8 + ((y 1).val - 8); omega)
      · rfl
    rw [e]
    exact (read28_new i x6 x10 x11 Y27 Y28 v f (y 0) ⟨(y 1).val - 8, by omega⟩ (y 2)).trans (read28_new i x6 x10 x11 Y27 Y28 v g (y 0) ⟨(y 1).val - 8, by omega⟩ (y 2)).symm

/-- The product of a tile of rows with the head's two weights side by side. -/
def accT : S512x768.Idx → F .f32 := k0_pay178 (VecWindow.window x1 (k0_off3 i) S512x5120.size (k0_off3_inb i)) x2 x3

theorem window_zero {α : Type} {s : Shape} (x : s.Idx → α) (off : Fin s.rank → ℕ) (h0 : ∀ a, off a = 0) (inb : ∀ a, off a + s.size a ≤ s.size a) :
    VecWindow.window x off s.size inb = x := by
  funext y
  refine congrArg x (funext fun a => Fin.ext ?_)
  show off a + 1 * (y a).val = _
  rw [h0]; omega

theorem read27 (v : View sig .tc .vmem S512x768 .f32) (f : v.ty.Contents (Elt F)) :
    v.read (Elt F) (v.writes (Elt F) f (L27 i x1 x2 x3)) = accT i x1 x2 x3 := by
  funext y
  unfold L27 accT
  refine (View.read_writes_cons_unit_of_mem v f inb_S512x768_S512x768_0_0 _ [] y y rfl ?_).trans ?_
  · intro a
    fin_cases a <;> exact (Nat.zero_add _).symm
  · rw [window_zero x2 ![0, 0] (by intro a; fin_cases a <;> rfl), window_zero x3 ![0, 0] (by intro a; fin_cases a <;> rfl)]

theorem read19 (v : View sig .tc .vmem S512x384 .f32) (f : v.ty.Contents (Elt F)) (r : Fin 512) (k : Fin 3) (l : Fin 128) :
    v.read (Elt F) (v.writes (Elt F) f (L19 i x7 x13 x12 X28)) (ix2 r ⟨128 * k.val + l.val, by omega⟩) = xcPiece i x7 x13 x12 X28 (pOf r k) (ix2 (r32 r) l) := by
  unfold L19
  refine read_tiles v _ S32x128.size (fun p : Fin 48 => ![32 * (p.val / 3), 128 * (p.val % 3)]) inb_xc (fun p => xcPiece i x7 x13 x12 X28 p) 48 le_rfl _ (pOf r k) (pOf r k).isLt (ix2 (r32 r) l) ?_ ?_
  · intro a
    fin_cases a
    · show r.val = 32 * ((3 * (r.val / 32) + k.val) / 3) + r.val % 32
      omega
    · show 128 * k.val + l.val = 128 * ((3 * (r.val / 32) + k.val) % 3) + l.val
      omega
  · intro p hp
    have hp' : p.val ≠ 3 * (r.val / 32) + k.val := fun h => hp (Fin.ext h)
    by_cases h : p.val % 3 = k.val
    · refine ⟨0, ?_⟩
      show r.val < 32 * (p.val / 3) ∨ 32 * (p.val / 3) + 32 ≤ r.val
      omega
    · refine ⟨1, ?_⟩
      show 128 * k.val + l.val < 128 * (p.val % 3) ∨ 128 * (p.val % 3) + 128 ≤ 128 * k.val + l.val
      omega

theorem read20 (x14 x15 x18 : S1x6912.Idx → F .f32) (X19 : S512x384.Idx → F .f32) (X31 : S512x768.Idx → F .f32)
    (v : View sig .tc .vmem S512x384 .f32) (f : v.ty.Contents (Elt F)) (r : Fin 512) (k : Fin 3) (l : Fin 128) :
    v.read (Elt F) (v.writes (Elt F) f (L20 i x14 x15 x18 X19 X31)) (ix2 r ⟨128 * k.val + l.val, by omega⟩) = laPiece i x14 x15 x18 X19 X31 (pOf r k) (ix2 (r32 r) l) := by
  unfold L20
  refine read_tiles v _ S32x128.size (fun p : Fin 48 => ![32 * (p.val / 3), 128 * (p.val % 3)]) inb_xc (fun p => laPiece i x14 x15 x18 X19 X31 p) 48 le_rfl _ (pOf r k) (pOf r k).isLt (ix2 (r32 r) l) ?_ ?_
  · intro a
    fin_cases a
    · show r.val = 32 * ((3 * (r.val / 32) + k.val) / 3) + r.val % 32
      omega
    · show 128 * k.val + l.val = 128 * ((3 * (r.val / 32) + k.val) % 3) + l.val
      omega
  · intro p hp
    have hp' : p.val ≠ 3 * (r.val / 32) + k.val := fun h => hp (Fin.ext h)
    by_cases h : p.val % 3 = k.val
    · refine ⟨0, ?_⟩
      show r.val < 32 * (p.val / 3) ∨ 32 * (p.val / 3) + 32 ≤ r.val
      omega
    · refine ⟨1, ?_⟩
      show 128 * k.val + l.val < 128 * (p.val % 3) ∨ 128 * (p.val % 3) + 128 ≤ 128 * k.val + l.val
      omega

/-- The codes a point's gate product reads. -/
def cqT : S512x384.Idx → F .bf16 := fun y =>
  k0_pay191 (xcPiece i x7 x13 x12 X28 (pOf (y 0) 0)) (xcPiece i x7 x13 x12 X28 (pOf (y 0) 1)) (xcPiece i x7 x13 x12 X28 (pOf (y 0) 2)) (ix2 (r32 (y 0)) (y 1))
theorem read30 (v : View sig .tc .vmem S512x384 .bf16) (f : v.ty.Contents (Elt F)) :
    v.read (Elt F) (v.writes (Elt F) f (L30 i x7 x13 x12 X28)) = cqT i x7 x13 x12 X28 := by
  funext y
  have hy : (y 0).val < 512 := (y 0).isLt
  unfold L30 cqT
  refine read_tiles v _ S32x384.size (fun q : Fin 16 => ![32 * q.val, 0]) inb_code
    (fun q => k0_pay191 (xcPiece i x7 x13 x12 X28 (p3 q 0)) (xcPiece i x7 x13 x12 X28 (p3 q 1)) (xcPiece i x7 x13 x12 X28 (p3 q 2))) 16 le_rfl y ⟨(y 0).val / 32, by omega⟩ (by show (y 0).val / 32 < 16; omega) (ix2 (r32 (y 0)) (y 1)) ?_ ?_
  · intro a
    fin_cases a
    · show (y 0).val = 32 * ((y 0).val / 32) + (y 0).val % 32
      omega
    · show (y 1).val = 0 + (y 1).val
      omega
  · intro p hp
    have hp' : p.val ≠ (y 0).val / 32 := fun h => hp (Fin.ext h)
    refine ⟨0, ?_⟩
    show (y 0).val < 32 * p.val ∨ 32 * p.val + 32 ≤ (y 0).val
    omega
theorem read31 (x4 x5 : S1x384x384.Idx → BitVec 8) (X30 : S512x384.Idx → F .bf16) (v : View sig .tc .vmem S512x768 .f32) (f : v.ty.Contents (Elt F)) :
    v.read (Elt F) (v.writes (Elt F) f (L31 x4 x5 X30)) = k0_pay446 x4 x5 X30 := by
  funext y
  unfold L31
  refine (View.read_writes_cons_unit_of_mem v f inb_S512x768_S512x768_0_0 _ [] y y rfl ?_).trans ?_
  · intro a
    fin_cases a <;> exact (Nat.zero_add _).symm
  · rw [window_zero x4 ![0, 0, 0] (by intro a; fin_cases a <;> rfl), window_zero x5 ![0, 0, 0] (by intro a; fin_cases a <;> rfl), window_zero X30 ![0, 0] (by intro a; fin_cases a <;> rfl)]
/-- The convolution's tile, whole, does not depend on what was there. -/
theorem read19_any (v : View sig .tc .vmem S512x384 .f32) (f g : v.ty.Contents (Elt F)) :
    v.read (Elt F) (v.writes (Elt F) f (L19 i x7 x13 x12 X28)) = v.read (Elt F) (v.writes (Elt F) g (L19 i x7 x13 x12 X28)) := by
  funext y
  have hy : (y 1).val < 384 := (y 1).isLt
  have e : y = ix2 (y 0) ⟨128 * (⟨(y 1).val / 128, by omega⟩ : Fin 3).val + (⟨(y 1).val % 128, by omega⟩ : Fin 128).val, by show 128 * ((y 1).val / 128) + (y 1).val % 128 < 384; omega⟩ := by
    funext a; fin_cases a
    · rfl
    · exact Fin.ext (by show (y 1).val = 128 * ((y 1).val / 128) + (y 1).val % 128; omega)
  rw [e]
  exact (read19 i x7 x13 x12 X28 v f _ _ _).trans (read19 i x7 x13 x12 X28 v g _ _ _).symm

theorem read22 (v : View sig .tc .vmem S512x384 .i8) (f : v.ty.Contents (Elt F)) (r : Fin 512) (c : Fin 384) :
    v.read (Elt F) (v.writes (Elt F) f (L22 i x7 x13 x12 X28)) (ix2 r c) =
      k0_pay190 (xcPiece i x7 x13 x12 X28 (pOf r 0)) (xcPiece i x7 x13 x12 X28 (pOf r 1)) (xcPiece i x7 x13 x12 X28 (pOf r 2)) (ix2 (r32 r) c) := by
  unfold L22
  refine read_tiles v _ S32x384.size (fun q : Fin 16 => ![32 * q.val, 0]) inb_code
    (fun q => k0_pay190 (xcPiece i x7 x13 x12 X28 (p3 q 0)) (xcPiece i x7 x13 x12 X28 (p3 q 1)) (xcPiece i x7 x13 x12 X28 (p3 q 2))) 16 le_rfl _ ⟨r.val / 32, by omega⟩ (by show r.val / 32 < 16; omega) (ix2 (r32 r) c) ?_ ?_
  · intro a
    fin_cases a
    · show r.val = 32 * (r.val / 32) + r.val % 32
      omega
    · show c.val = 0 + c.val
      omega
  · intro p hp
    have hp' : p.val ≠ r.val / 32 := fun h => hp (Fin.ext h)
    refine ⟨0, ?_⟩
    show r.val < 32 * p.val ∨ 32 * p.val + 32 ≤ r.val
    omega

theorem read24 (v : View sig .tc .vmem S1x3x384 .f32) (f : v.ty.Contents (Elt F)) (j : Fin 3) (k : Fin 3) (l : Fin 128) :
    v.read (Elt F) (v.writes (Elt F) f (L24 X28)) (ix3 0 j ⟨128 * k.val + l.val, by omega⟩) = csP (VecWindow.window X28 ![k.val, 517, 0] S1x3x128.size (inb_last k)) (ix3 0 j l) := by
  unfold L24
  refine read_tiles v _ S1x3x128.size (fun k : Fin 3 => ![0, 0, 128 * k.val]) inb_cs (fun k => csP (VecWindow.window X28 ![k.val, 517, 0] S1x3x128.size (inb_last k))) 3 le_rfl _ k k.isLt (ix3 0 j l) ?_ ?_
  · intro a
    fin_cases a
    · rfl
    · show j.val = 0 + j.val
      omega
    · rfl
  · intro p hp
    have hp' : p.val ≠ k.val := fun h => hp (Fin.ext h)
    refine ⟨2, ?_⟩
    show 128 * k.val + l.val < 128 * p.val ∨ 128 * p.val + 128 ≤ 128 * k.val + l.val
    omega

/-- The scale of row `r`, as the body computes it. -/
def scP (r : Fin 512) : F .f32 :=
  k0_pay188 (xcPiece i x7 x13 x12 X28 (pOf r 0)) (xcPiece i x7 x13 x12 X28 (pOf r 1)) (xcPiece i x7 x13 x12 X28 (pOf r 2)) (ix2 (r32 r) (0 : Fin 1))

theorem pay192_at (g : IVec S32x18 1) (a b c : FVec F S32x128 .f32) (o : Vec F S32x18 .f32) (r : Fin 32) (h : Fin 18) :
    k0_pay192 g a b c o (ix2 r h) = Scalar.select (g (ix2 r h)) (k0_pay188 a b c (ix2 r (0 : Fin 1))) (o (ix2 r h)) := by
  unfold k0_pay192
  generalize k0_pay188 a b c = z
  pointwise

theorem mT_lt (i : grid0.Coords) : mT i < 4 := Nat.mod_lt _ (by decide)
theorem off8_row (n : ℕ) (hn : n < 1000) : k0_off8 i (BitVec.ofNat 32 n) = ![512 * mT i + n, 0] := by
  have := mT_lt i
  rw [off8_eq, Nat.mod_eq_of_lt (by omega)]

/-- The resident scales after the first `n` chunks of rows. -/
theorem read23_aux (v : View sig .tc .vmem S2048x18 .f32) (f : v.ty.Contents (Elt F)) : ∀ (n : ℕ) (hn : n ≤ 16),
    (∀ (g : Fin 2048) (r : Fin 512) (h : Fin 18), g.val = 512 * mT i + r.val → r.val < 32 * n →
      v.read (Elt F) (v.writes (Elt F) f (L23 i x7 x13 x12 X28 v f n hn)) (ix2 g h) =
        Scalar.select (k0_pay180 (hW i) (ix2 (r32 r) h)) (scP i x7 x13 x12 X28 r) (v.read (Elt F) f (ix2 g h)))
    ∧ (∀ (g : Fin 2048) (h : Fin 18), g.val < 512 * mT i ∨ 512 * mT i + 32 * n ≤ g.val →
      v.read (Elt F) (v.writes (Elt F) f (L23 i x7 x13 x12 X28 v f n hn)) (ix2 g h) = v.read (Elt F) f (ix2 g h)) := by
  intro n
  induction n with
  | zero => intro hn; exact ⟨fun g r h _ hr => absurd hr (by omega), fun g h _ => rfl⟩
  | succ q ih =>
    intro hn
    obtain ⟨hN, hO⟩ := ih (Nat.le_of_succ_le hn)
    constructor
    · intro g r h hg hr
      unfold L23
      by_cases hq : r.val < 32 * q
      · refine (View.read_writes_cons_unit_of_not_mem v f (k0_off8_inb i ⟨q, hn⟩) _ _ (ix2 g h) (off8_row i (32 * q) (by omega)) 0 ?_).trans (hN g r h hg hq)
        left
        show g.val < 512 * mT i + 32 * q
        omega
      · refine (View.read_writes_cons_unit_of_mem v f (k0_off8_inb i ⟨q, hn⟩) _ _ (ix2 g h) (ix2 (r32 r) h) (off8_row i (32 * q) (by omega)) ?_).trans ?_
        · intro a
          fin_cases a
          · show g.val = 512 * mT i + 32 * q + r.val % 32
            omega
          · show h.val = 0 + h.val
            omega
        · rw [pay192_at]
          have e : q = r.val / 32 := by omega
          subst e
          refine congrArg (Scalar.select _ _) (Eq.trans ?_ (hO g h (Or.inr (by omega))))
          refine congrArg (v.read (Elt F) _) (funext fun a => Fin.ext ?_)
          fin_cases a
          · show k0_off8 i (BitVec.ofNat 32 (32 * (r.val / 32))) 0 + 1 * (r.val % 32) = g.val
            rw [off8_row i _ (by omega)]
            show 512 * mT i + 32 * (r.val / 32) + 1 * (r.val % 32) = g.val
            omega
          · show k0_off8 i (BitVec.ofNat 32 (32 * (r.val / 32))) 1 + 1 * h.val = h.val
            rw [off8_row i _ (by omega)]
            show 0 + 1 * h.val = h.val
            omega
    · intro g h hg
      unfold L23
      refine (View.read_writes_cons_unit_of_not_mem v f (k0_off8_inb i ⟨q, hn⟩) _ _ (ix2 g h) (off8_row i (32 * q) (by omega)) 0 ?_).trans (hO g h (by omega))
      show g.val < 512 * mT i + 32 * q ∨ 512 * mT i + 32 * q + 32 ≤ g.val
      omega

/-- The body's lane test picks the head's lane. -/
theorem lane_iff : ∀ (i : grid0.Coords) (h : Fin 18), (BitVec.ofNat 32 h.val == hW i) = decide (h.val = hT i) := by decide +kernel
theorem pay180_at (r : Fin 32) (h : Fin 18) : k0_pay180 (hW i) (ix2 r h) = BitVec.ofBool (decide (h.val = hT i)) := by
  rw [← lane_iff]
  unfold k0_pay180
  generalize hW i = w
  pointwise
  rfl

/-- What one point leaves in the buffers the values are read from, given what it found. -/
structure Post (Y23 X23 : S2048x18.Idx → F .f32) (X19 : S512x384.Idx → F .f32) (X22 : S512x384.Idx → BitVec 8)
    (X24 : S1x3x384.Idx → F .f32) (X27 : S512x768.Idx → F .f32) : Prop where
  xb : ∀ (k : Fin 3) (r : Fin 512) (l : Fin 128), X28 (ix3 k ⟨8 + r.val, by omega⟩ l) = xbPiece i x6 x10 x11 Y27 (pOf r k) (ix3 0 (r32 r) l)
  hist : ∀ (k : Fin 3) (r : Fin 8) (l : Fin 128), X28 (ix3 k ⟨r.val, by omega⟩ l) = k0_pay6 i (VecWindow.window Y28 ![k.val, 512, 0] S1x8x128.size (inb_tail k)) (ix3 0 r l)
  acc : X27 = accT i x1 x2 x3
  xc : ∀ (r : Fin 512) (k : Fin 3) (l : Fin 128), X19 (ix2 r ⟨128 * k.val + l.val, by omega⟩) = xcPiece i x7 x13 x12 X28 (pOf r k) (ix2 (r32 r) l)
  code : ∀ (r : Fin 512) (c : Fin 384), X22 (ix2 r c) =
    k0_pay190 (xcPiece i x7 x13 x12 X28 (pOf r 0)) (xcPiece i x7 x13 x12 X28 (pOf r 1)) (xcPiece i x7 x13 x12 X28 (pOf r 2)) (ix2 (r32 r) c)
  sc_new : ∀ (g : Fin 2048) (r : Fin 512) (h : Fin 18), g.val = 512 * mT i + r.val → h.val = hT i → X23 (ix2 g h) = scP i x7 x13 x12 X28 r
  sc_old : ∀ (g : Fin 2048) (h : Fin 18), (g.val < 512 * mT i ∨ 512 * mT i + 512 ≤ g.val ∨ h.val ≠ hT i) → X23 (ix2 g h) = Y23 (ix2 g h)
  cst : ∀ (j : Fin 3) (k : Fin 3) (l : Fin 128), X24 (ix3 0 j ⟨128 * k.val + l.val, by omega⟩) = csP (VecWindow.window X28 ![k.val, 517, 0] S1x3x128.size (inb_last k)) (ix3 0 j l)

/-- What one point leaves of the logarithm of the decay. -/
def LaPost (x4 x5 : S1x384x384.Idx → BitVec 8) (x14 x15 x18 : S1x6912.Idx → F .f32) (X19 X20 : S512x384.Idx → F .f32) : Prop :=
  ∀ (r : Fin 512) (k : Fin 3) (l : Fin 128), X20 (ix2 r ⟨128 * k.val + l.val, by omega⟩) =
    laPiece i x14 x15 x18 X19 (k0_pay446 x4 x5 (cqT i x7 x13 x12 X28)) (pOf r k) (ix2 (r32 r) l)

end Reads

end Cert.LruIdeal.Hand

end
-- ==== Proof.LSpec.lean ====
module

public import proofs.«01_k».proof.Proof.Spec

/-!
  The branch that is convolved, its convolution, and the quantiser of each head of it, over the extended reals.
-/

@[expose] public section

noncomputable section

namespace Cert.LruSpec

open Idealize.ShloMosaic

/-- The branch: the product, times the row's scale and the column's, plus the column's bias. -/
def xbA (x : Fin 2048 → Fin 5120 → EReal) (w : Fin 5120 → Fin 6912 → BitVec 8) (tok : Fin 2048 → EReal) (sx bx : Fin 6912 → EReal)
    (g : Fin 2048) (j : Fin 6912) : EReal :=
  (∑ k, x g k * (((w k j).toInt : ℝ) : EReal)) * tok g * sx j + bx j
/-- The branch `i` rows back: zero before the sequence's first row. -/
def lateA (b : Fin 2048 → Fin 6912 → EReal) (i : Fin 4) (g : Fin 2048) (j : Fin 6912) : EReal :=
  if g.val % 1024 < i.val then 0 else b ⟨g.val - i.val, by omega⟩ j
/-- Tap `i`: nothing where it reaches before the segment's first token. -/
def tapA (b : Fin 2048 → Fin 6912 → EReal) (pos : Fin 2048 → BitVec 32) (cw : Fin 4 → Fin 6912 → EReal) (i : Fin 4) (g : Fin 2048) (j : Fin 6912) : EReal :=
  if (BitVec.ofNat 32 i.val).sle (pos g) then lateA b i g j * cw ⟨3 - i.val, by omega⟩ j else 0
/-- The tap's condition, as a comparison of words. -/
theorem sel_sle (p i : BitVec 32) (a b : EReal) : Scalar.select (IntOp.cmpi .sge p i) a b = if i.sle p then a else b := by
  unfold Scalar.select IntOp.cmpi
  cases h : i.sle p <;> simp [h]
/-- The convolution: the bias and the four taps. -/
def xcA (b : Fin 2048 → Fin 6912 → EReal) (pos : Fin 2048 → BitVec 32) (cw : Fin 4 → Fin 6912 → EReal) (cb : Fin 6912 → EReal) (g : Fin 2048) (j : Fin 6912) : EReal :=
  cb j + (tapA b pos cw 0 g j + tapA b pos cw 1 g j + tapA b pos cw 2 g j + tapA b pos cw 3 g j)
/-- The scale of head `h` of row `g`. -/
def scA (xc : Fin 2048 → Fin 6912 → EReal) (g : Fin 2048) (h : Fin 18) : EReal :=
  Spec.scl (Finset.fold max (Ideal.ofBits .f32 0xFF800000#32)
    (fun k : Fin 384 => max (xc g ⟨h.val * 384 + k.val, by omega⟩) (-(xc g ⟨h.val * 384 + k.val, by omega⟩))) Finset.univ)
/-- The codes. -/
def codeA (xc : Fin 2048 → Fin 6912 → EReal) (g : Fin 2048) (j : Fin 6912) : BitVec 8 :=
  Spec.code (xc g j) (scA xc g ⟨j.val / 384, by omega⟩)

/-- The softplus of each entry of a vector, and of one number. -/
def spV {s : Shape} (x : FVec Ideal s .f32) : FVec Ideal s .f32 :=
  have d : FVec Ideal s .f32 := subf x (broadcast s (Scalar.ofBits .f32 0x00000000#32 : Ideal .f32))
  select (cmpf .one d d) (addf x (broadcast s (Scalar.ofBits .f32 0x00000000#32 : Ideal .f32)))
    (addf (maximumf x (broadcast s (Scalar.ofBits .f32 0x00000000#32 : Ideal .f32))) (log1p (exp (subf (broadcast s (Scalar.ofBits .f32 0x00000000#32 : Ideal .f32)) (absf d)))))
def spA (v : EReal) : EReal := spV (s := ⟨0, ![]⟩) (fun _ => v) (fun a => a.elim0)
theorem spV_at {s : Shape} (x : FVec Ideal s .f32) (i : s.Idx) : spV x i = spA (x i) := rfl
/-- The logistic function of one number. -/
def lgA (v : EReal) : EReal := logistic (F := Ideal) (φ := .f32) (s := ⟨0, ![]⟩) (fun _ => v) (fun a => a.elim0)
theorem lg_at {s : Shape} (x : FVec Ideal s .f32) (i : s.Idx) : logistic x i = lgA (x i) := rfl
/-- The gate's product: the codes of a head times the head's square of weights. -/
def prodA (xc : Fin 2048 → Fin 6912 → EReal) (w : Fin 18 → Fin 384 → Fin 384 → BitVec 8) (g : Fin 2048) (j : Fin 6912) : EReal :=
  ∑ k : Fin 384, (((codeA xc g ⟨j.val / 384 * 384 + k.val, by omega⟩).toInt : ℝ) : EReal) *
    (((w ⟨j.val / 384, by omega⟩ k ⟨j.val % 384, Nat.mod_lt _ (by decide)⟩).toInt : ℝ) : EReal)
/-- The logarithm of the decay. -/
def laA (xc : Fin 2048 → Fin 6912 → EReal) (w : Fin 18 → Fin 384 → Fin 384 → BitVec 8) (sa ba lam : Fin 6912 → EReal) (g : Fin 2048) (j : Fin 6912) : EReal :=
  Ideal.ofBits .f32 0xC1000000#32 * lgA (prodA xc w g j * scA xc g ⟨j.val / 384, by omega⟩ * sa j + ba j) * spA (lam j)

end Cert.LruSpec

end
-- ==== Proof.LKerPure.lean ====
module

public import proofs.«01_k».proof.Proof.Gen.LruIdeal.Frame
public import proofs.«01_k».proof.Proof.Gen.LruIdeal.Skeleton
public import proofs.«01_k».proof.Proof.Gen.LruIdeal.Points
public import Idealize.ShloMosaic.Lib.Pipeline.Frame
public import Idealize.ShloMosaic.Lib.Pipeline.FrameBody
public import Idealize.ShloMosaic.Lib.Tactic
public import Idealize.ShloMosaic.Lib.VecWindow
public import Idealize.ShloMosaic.Lib.WritesUnit
public import Idealize.ShloMosaic.Lib.Pointwise
public import proofs.«01_k».proof.Proof.LTileI
public import proofs.«01_k».proof.Proof.LSpec

/-!
  What the pieces of a grid point of the convolution are, index by index, at the ideal reading.
-/

@[expose] public section

set_option maxRecDepth 16384

noncomputable section

namespace Cert.LruIdeal.Hand

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The two weights' heads side by side. -/
def catW (w1 w2 : IVec S5120x384 8) : IVec S5120x768 8 :=
  concatenate S5120x768 1 [⟨S5120x384, w1⟩, ⟨S5120x384, w2⟩] concatenates_S5120x384_S5120x384_S5120x768_d1
theorem catW_right (w1 w2 : IVec S5120x384 8) (k : Fin 5120) (j : Fin 384) : catW w1 w2 (ix2 k ⟨384 + j.val, by omega⟩) = w2 (ix2 k j) := by
  have e : (⟨384 + j.val - 384, by omega⟩ : Fin 384) = j := Fin.ext (by show 384 + j.val - 384 = j.val; omega)
  pointwise [catW]
def accOf (x : FVec Ideal S512x5120 .bf16) (w : IVec S5120x768 8) : FVec Ideal S512x768 .f32 :=
  shapeCast S512x768 (matmul dot_S512x5120_S5120x768_S512x768_1_0_0_1_n_n none x (sitofp .bf16 w : FVec Ideal S5120x768 .bf16) (constant S512x768 .f32 0x00000000#32)) shapeCasts_S512x768_S512x768
theorem pay178_fold (x : Vec Ideal S512x5120 .bf16) (w1 w2 : Vec Ideal S5120x384 .i8) : k0_pay178 x w1 w2 = accOf x (catW w1 w2) := rfl
theorem accOf_eq (x : FVec Ideal S512x5120 .bf16) (w : IVec S5120x768 8) (r : Fin 512) (j : Fin 768) :
    accOf x w (ix2 r j) = (∑ k, x (ix2 r k) * (((w (ix2 k j)).toInt : ℝ) : EReal) : EReal) := by
  pointwise [accOf]
  rfl
/-- The product's right half: the branch that is convolved. -/
theorem pay178_right (x : Vec Ideal S512x5120 .bf16) (w1 w2 : Vec Ideal S5120x384 .i8) (r : Fin 512) (j : Fin 384) :
    k0_pay178 x w1 w2 (ix2 r ⟨384 + j.val, by omega⟩) = (∑ k, x (ix2 r k) * (((w2 (ix2 k j)).toInt : ℝ) : EReal) : EReal) := by
  rw [pay178_fold, accOf_eq]
  simp only [catW_right]

theorem bc_at (k : Fin 3) (v : FVec Ideal S1x384 .f32) (r : Fin 32) (l : Fin 128) : bc k v (ix2 r l) = v (ix2 0 ⟨128 * k.val + l.val, by omega⟩) := by
  pointwise [bc]
theorem xbP_at (k : Fin 3) (sx bx : FVec Ideal S1x384 .f32) (tok acc : FVec Ideal S32x128 .f32) (r : Fin 32) (l : Fin 128) :
    xbP (F := Ideal) k sx bx tok acc (ix3 0 r l) =
      (acc (ix2 r l) * tok (ix2 r l) * sx (ix2 0 ⟨128 * k.val + l.val, by omega⟩) + bx (ix2 0 ⟨128 * k.val + l.val, by omega⟩) : EReal) := by
  pointwise [xbP, bc]
theorem tapP_at (j : BitVec 32) (k : Fin 3) (cw : FVec Ideal S1x384 .f32) (pos : IVec S32x128 32) (b : FVec Ideal S1x32x128 .f32) (r : Fin 32) (l : Fin 128) :
    tapP (F := Ideal) j k cw pos b (ix2 r l) =
      (if j.sle (pos (ix2 r l)) then b (ix3 0 r l) * cw (ix2 0 ⟨128 * k.val + l.val, by omega⟩) else 0 : EReal) := by
  pointwise [tapP, bc]
  exact LruSpec.sel_sle _ _ _ _
theorem xcP_at (k : Fin 3) (cb c0 c1 c2 c3 : FVec Ideal S1x384 .f32) (pos : IVec S32x128 32) (b0 b1 b2 b3 : FVec Ideal S1x32x128 .f32) (r : Fin 32) (l : Fin 128) :
    xcP (F := Ideal) k cb c0 c1 c2 c3 pos b0 b1 b2 b3 (ix2 r l) =
      (cb (ix2 0 ⟨128 * k.val + l.val, by omega⟩) + (tapP (F := Ideal) 0#32 k c3 pos b0 (ix2 r l) + tapP (F := Ideal) 1#32 k c2 pos b1 (ix2 r l)
        + tapP (F := Ideal) 2#32 k c1 pos b2 (ix2 r l) + tapP (F := Ideal) 3#32 k c0 pos b3 (ix2 r l)) : EReal) := by
  unfold xcP
  generalize tapP (F := Ideal) 0#32 k c3 pos b0 = a0
  generalize tapP (F := Ideal) 1#32 k c2 pos b1 = a1
  generalize tapP (F := Ideal) 2#32 k c1 pos b2 = a2
  generalize tapP (F := Ideal) 3#32 k c0 pos b3 = a3
  pointwise [bc]
theorem csP_at (b : FVec Ideal S1x3x128 .f32) (r : Fin 3) (l : Fin 128) : csP (F := Ideal) b (ix3 0 r l) = b (ix3 0 r l) := by
  pointwise [csP]

/-- The three slabs side by side. -/
theorem pay187_at (f : Fin 3 → FVec Ideal S32x128 .f32) (r : Fin 32) (j : Fin 384) :
    k0_pay187 (f 0) (f 1) (f 2) (ix2 r j) = f ⟨j.val / 128, by omega⟩ (ix2 r (⟨j.val % 128, by omega⟩ : Fin 128)) := by
  have e : (⟨j.val / 128, by omega⟩ : Fin 3) = (if j.val < 128 then 0 else if j.val - 128 < 128 then 1 else 2 : Fin 3) := by
    apply Fin.ext
    by_cases h1 : j.val < 128
    · rw [if_pos h1]; show j.val / 128 = 0; omega
    · rw [if_neg h1]
      by_cases h2 : j.val - 128 < 128
      · rw [if_pos h2]; show j.val / 128 = 1; omega
      · rw [if_neg h2]; show j.val / 128 = 2; omega
  rw [e]
  pointwise [k0_pay187]
  by_cases h1 : j.val < 128
  · rw [dif_pos h1, if_pos h1]
    exact congrArg (fun l => f 0 (ix2 r l)) (Fin.ext (by show j.val = j.val % 128; omega))
  · rw [dif_neg h1, if_neg h1]
    by_cases h2 : j.val - 128 < 128
    · rw [dif_pos h2, if_pos h2]
      exact congrArg (fun l => f 1 (ix2 r l)) (Fin.ext (by show j.val - 128 = j.val % 128; omega))
    · rw [dif_neg h2, if_neg h2]
      exact congrArg (fun l => f 2 (ix2 r l)) (Fin.ext (by show j.val - 128 - 128 = j.val % 128; omega))
def scaleOf (X : FVec Ideal S32x384 .f32) : FVec Ideal S32x1 .f32 :=
  have M : FVec Ideal S32x1 .f32 := shapeCast S32x1 (multiReduction .maximumf [1] S32 (absf X) 0xFF800000#32 reduces_S32x384_S32 (.inl rfl) rfl) shapeCasts_S32_S32x1
  select (cmpf .oeq M (broadcast S32x1 (Scalar.ofBits .f32 0x00000000#32))) (broadcast S32x1 (Scalar.ofBits .f32 0x3F800000#32))
    (divf M (broadcast S32x1 (Scalar.ofBits .f32 0x42FE0000#32)))
theorem pay188_fold (a b c : FVec Ideal S32x128 .f32) : k0_pay188 a b c = scaleOf (k0_pay187 a b c) := rfl
theorem scaleOf_eq (X : FVec Ideal S32x384 .f32) (r : Fin 32) : scaleOf X (ix2 r (0 : Fin 1)) =
    Spec.scl (Finset.fold max (Ideal.ofBits .f32 0xFF800000#32) (fun j : Fin 384 => max (X (ix2 r j)) (-(X (ix2 r j)) : EReal)) Finset.univ) := by
  pointwise [scaleOf]
  rfl
def codesOf (X : FVec Ideal S32x384 .f32) (M : FVec Ideal S32x1 .f32) : IVec S32x384 8 :=
  fptosi 8 (minimumf (broadcast S32x384 (Scalar.sitofp .f32 127#32)) (maximumf (broadcast S32x384 (Scalar.sitofp .f32 4294967169#32))
    (roundeven (divf X (broadcastTo S32x384 M broadcasts_S32x1_S32x384)))))
theorem pay190_fold (a b c : FVec Ideal S32x128 .f32) : k0_pay190 a b c = codesOf (k0_pay187 a b c) (k0_pay188 a b c) := rfl
theorem codesOf_eq (X : FVec Ideal S32x384 .f32) (M : FVec Ideal S32x1 .f32) (r : Fin 32) (j : Fin 384) :
    codesOf X M (ix2 r j) = Spec.code (X (ix2 r j)) (M (ix2 r (0 : Fin 1))) := by
  pointwise [codesOf]
  rfl

/-! ## The gate -/

/-- The codes as the gate's product reads them. -/
def cqOf (X : FVec Ideal S32x384 .f32) (M : FVec Ideal S32x1 .f32) : FVec Ideal S32x384 .bf16 :=
  shapeCast S32x384 (truncf .bf16 (minimumf (broadcast S32x384 (Scalar.sitofp .f32 127#32)) (maximumf (broadcast S32x384 (Scalar.sitofp .f32 4294967169#32))
    (roundeven (divf X (broadcastTo S32x384 M broadcasts_S32x1_S32x384))))) : FVec Ideal S32x384 .bf16) shapeCasts_S32x384_S32x384
theorem pay191_fold (a b c : FVec Ideal S32x128 .f32) : k0_pay191 a b c = cqOf (k0_pay187 a b c) (k0_pay188 a b c) := rfl
theorem cqOf_eq (X : FVec Ideal S32x384 .f32) (M : FVec Ideal S32x1 .f32) (r : Fin 32) (j : Fin 384) :
    cqOf X M (ix2 r j) = ((((codesOf X M (ix2 r j)).toInt : ℝ)) : EReal) := by
  rw [codesOf_eq, Spec.toInt_code]
  pointwise [cqOf]
  rfl
/-- The two gates' heads side by side. -/
def catG (w1 w2 : IVec S1x384x384 8) : IVec S384x768 8 :=
  concatenate S384x768 1 [⟨S384x384, shapeCast S384x384 w1 shapeCasts_S1x384x384_S384x384⟩, ⟨S384x384, shapeCast S384x384 w2 shapeCasts_S1x384x384_S384x384⟩] concatenates_S384x384_S384x384_S384x768_d1
theorem catG_left (w1 w2 : IVec S1x384x384 8) (k : Fin 384) (o : Fin 384) : catG w1 w2 (ix2 k ⟨o.val, by omega⟩) = w1 (ix3 0 k o) := by
  pointwise [catG]
def gateOf (x : FVec Ideal S512x384 .bf16) (w : IVec S384x768 8) : FVec Ideal S512x768 .f32 :=
  shapeCast S512x768 (matmul dot_S512x384_S384x768_S512x768_1_0_0_1_n_n none x (sitofp .bf16 w : FVec Ideal S384x768 .bf16) (constant S512x768 .f32 0x00000000#32)) shapeCasts_S512x768_S512x768
theorem pay446_fold (w1 w2 : Vec Ideal S1x384x384 .i8) (x : Vec Ideal S512x384 .bf16) : k0_pay446 w1 w2 x = gateOf x (catG w1 w2) := rfl
theorem gateOf_eq (x : FVec Ideal S512x384 .bf16) (w : IVec S384x768 8) (r : Fin 512) (j : Fin 768) :
    gateOf x w (ix2 r j) = (∑ k, x (ix2 r k) * (((w (ix2 k j)).toInt : ℝ) : EReal) : EReal) := by
  pointwise [gateOf]
  rfl
/-- The product's left half: the gate of the decay. -/
theorem pay446_left (w1 w2 : Vec Ideal S1x384x384 .i8) (x : Vec Ideal S512x384 .bf16) (r : Fin 512) (o : Fin 384) :
    k0_pay446 w1 w2 x (ix2 r ⟨o.val, by omega⟩) = (∑ k, x (ix2 r k) * (((w1 (ix3 0 k o)).toInt : ℝ) : EReal) : EReal) := by
  rw [pay446_fold, gateOf_eq]
  simp only [catG_left]
theorem rows_at (X : FVec Ideal S32x384 .f32) : shapeCast S32x384 X shapeCasts_S32x384_S32x384 = X := by
  funext y
  rw [eq_ix2 y]
  pointwise
theorem head_at (v : FVec Ideal S1x384 .f32) : shapeCast S1x384 v shapeCasts_S1x384_S1x384 = v := by
  funext y
  rw [eq_ix2 y]
  pointwise
theorem pay454_fold (X : FVec Ideal S32x384 .f32) : k0_pay454 X = scaleOf (shapeCast S32x384 X shapeCasts_S32x384_S32x384) := rfl
theorem col_at (M : FVec Ideal S32x1 .f32) (r : Fin 32) (l : Fin 128) : broadcastTo S32x128 M broadcasts_S32x1_S32x128 (ix2 r l) = M (ix2 r 0) := by
  pointwise
theorem pay451_fold (v : FVec Ideal S1x384 .f32) : k0_pay451 v = mulf (broadcast S1x384 (Scalar.ofBits .f32 0xC1000000#32)) (LruSpec.spV (shapeCast S1x384 v shapeCasts_S1x384_S1x384)) := rfl
theorem laP_at (k : Fin 3) (sa ba lam : FVec Ideal S1x384 .f32) (X : FVec Ideal S32x384 .f32) (g : FVec Ideal S32x128 .f32) (r : Fin 32) (l : Fin 128) :
    laP (F := Ideal) k sa ba lam X g (ix2 r l) =
      (LruSpec.lgA (g (ix2 r l) * scaleOf X (ix2 r 0) * sa (ix2 0 ⟨128 * k.val + l.val, by omega⟩) + ba (ix2 0 ⟨128 * k.val + l.val, by omega⟩)) *
        (Ideal.ofBits .f32 0xC1000000#32 * LruSpec.spA (lam (ix2 0 ⟨128 * k.val + l.val, by omega⟩))) : EReal) := by
  unfold laP
  rw [pay454_fold, pay451_fold, rows_at, head_at, head_at, head_at]
  show (LruSpec.lgA (g (ix2 r l) * broadcastTo S32x128 (scaleOf X) broadcasts_S32x1_S32x128 (ix2 r l) * bc (F := Ideal) k sa (ix2 r l) + bc (F := Ideal) k ba (ix2 r l)) *
    bc (F := Ideal) k (mulf (broadcast S1x384 (Scalar.ofBits .f32 0xC1000000#32)) (LruSpec.spV lam)) (ix2 r l) : EReal) = _
  rw [col_at, bc_at, bc_at, bc_at]
  rfl

/-! ## The windows the pieces read -/

theorem kP_pOf (r : Fin 512) (k : Fin 3) : kP (pOf r k) = k := Fin.ext (by show (3 * (r.val / 32) + k.val) % 3 = k.val; omega)
theorem qP_pOf (r : Fin 512) (k : Fin 3) : (qP (pOf r k)).val = r.val / 32 := by show (3 * (r.val / 32) + k.val) / 3 = r.val / 32; omega
section windows
variable (i : grid0.Coords)
theorem vW_at (x : S1x6912.Idx → EReal) (a : Fin 384) (j : Fin 6912) (h : j.val = 384 * hT i + a.val) : vW (F := Ideal) i x (ix2 0 a) = x (ix2 0 j) := by
  unfold vW VecWindow.window
  refine congrArg x (funext fun b => Fin.ext ?_)
  fin_cases b
  · show k0_off1 i 0 + 1 * 0 = 0
    rw [off1_eq]; rfl
  · show k0_off1 i 1 + 1 * a.val = j.val
    rw [off1_eq, h]; show 384 * hT i + 1 * a.val = _; omega
theorem off2_row (n : ℕ) (hn : n < 1000) : k0_off2 i (BitVec.ofNat 32 n) = ![512 * mT i + n, 0] := by
  have := mT_lt i
  rw [off2_eq, Nat.mod_eq_of_lt (by omega)]
theorem tokW_at (x : S2048x128.Idx → EReal) (r : Fin 512) (k : Fin 3) (l : Fin 128) (g : Fin 2048) (h : g.val = 512 * mT i + r.val) :
    tokW (F := Ideal) i x (qP (pOf r k)) (ix2 (r32 r) l) = x (ix2 g l) := by
  have hq := qP_pOf r k
  unfold tokW VecWindow.window
  refine congrArg x (funext fun b => Fin.ext ?_)
  fin_cases b
  · show k0_off2 i (BitVec.ofNat 32 (32 * (qP (pOf r k)).val)) 0 + 1 * (r.val % 32) = g.val
    rw [off2_row i _ (by omega), h]
    show 512 * mT i + 32 * (qP (pOf r k)).val + 1 * (r.val % 32) = _
    omega
  · show k0_off2 i (BitVec.ofNat 32 (32 * (qP (pOf r k)).val)) 1 + 1 * l.val = l.val
    rw [off2_row i _ (by omega)]
    show 0 + 1 * l.val = l.val
    omega
theorem posW_at (x : S2048x128.Idx → BitVec 32) (r : Fin 512) (k : Fin 3) (l : Fin 128) (g : Fin 2048) (h : g.val = 512 * mT i + r.val) :
    posW i x (qP (pOf r k)) (ix2 (r32 r) l) = x (ix2 g l) := by
  have hq := qP_pOf r k
  unfold posW VecWindow.window
  refine congrArg x (funext fun b => Fin.ext ?_)
  fin_cases b
  · show k0_off2 i (BitVec.ofNat 32 (32 * (qP (pOf r k)).val)) 0 + 1 * (r.val % 32) = g.val
    rw [off2_row i _ (by omega), h]
    show 512 * mT i + 32 * (qP (pOf r k)).val + 1 * (r.val % 32) = _
    omega
  · show k0_off2 i (BitVec.ofNat 32 (32 * (qP (pOf r k)).val)) 1 + 1 * l.val = l.val
    rw [off2_row i _ (by omega)]
    show 0 + 1 * l.val = l.val
    omega
theorem accW_at (Y : S512x768.Idx → EReal) (r : Fin 512) (k : Fin 3) (l : Fin 128) :
    accW (F := Ideal) Y (pOf r k) (ix2 (r32 r) l) = Y (ix2 r ⟨384 + (128 * k.val + l.val), by omega⟩) := by
  unfold accW VecWindow.window
  refine congrArg Y (funext fun b => Fin.ext ?_)
  fin_cases b
  · show 32 * ((3 * (r.val / 32) + k.val) / 3) + 1 * (r.val % 32) = r.val
    omega
  · show 384 + 128 * ((3 * (r.val / 32) + k.val) % 3) + 1 * l.val = 384 + (128 * k.val + l.val)
    omega
theorem tapW_at (X : S3x520x128.Idx → EReal) (r : Fin 512) (k : Fin 3) (l : Fin 128) (j : Fin 4) :
    tapW (F := Ideal) X (pOf r k) j (ix3 0 (r32 r) l) = X (ix3 k ⟨8 + r.val - j.val, by omega⟩ l) := by
  unfold tapW VecWindow.window
  refine congrArg X (funext fun b => Fin.ext ?_)
  fin_cases b
  · show (3 * (r.val / 32) + k.val) % 3 + 1 * 0 = k.val
    omega
  · show 8 + 32 * ((3 * (r.val / 32) + k.val) / 3) - j.val + 1 * (r.val % 32) = 8 + r.val - j.val
    omega
  · show 0 + 1 * l.val = l.val
    omega
theorem cwW_at (x : S4x6912.Idx → EReal) (o : Fin 4) (off : Fin 2 → ℕ) (inb) (ho : off = ![o.val, 384 * hT i]) (a : Fin 384) (j : Fin 6912) (h : j.val = 384 * hT i + a.val) :
    (VecWindow.window x off S1x384.size inb : S1x384.Idx → EReal) (ix2 0 a) = x (ix2 o j) := by
  subst ho
  unfold VecWindow.window
  refine congrArg x (funext fun b => Fin.ext ?_)
  fin_cases b
  · show o.val + 1 * 0 = o.val
    omega
  · show 384 * hT i + 1 * a.val = j.val
    omega
theorem xW_at (x : S2048x5120.Idx → EReal) (r : Fin 512) (k : Fin 5120) (g : Fin 2048) (h : g.val = 512 * ((i 0).val % 4) + r.val) :
    (VecWindow.window x (k0_off3 i) S512x5120.size (k0_off3_inb i) : S512x5120.Idx → EReal) (ix2 r k) = x (ix2 g k) := by
  unfold VecWindow.window
  refine congrArg x (funext fun b => Fin.ext ?_)
  fin_cases b
  · show k0_off3 i 0 + 1 * r.val = g.val
    rw [off3_eq, h]; show 512 * ((i 0).val % 4) + 1 * r.val = _; omega
  · show k0_off3 i 1 + 1 * k.val = k.val
    rw [off3_eq]; show 0 + 1 * k.val = k.val; omega
theorem csW_at (X : S3x520x128.Idx → EReal) (k : Fin 3) (z : Fin 3) (l : Fin 128) :
    (VecWindow.window X ![k.val, 517, 0] S1x3x128.size (inb_last k) : S1x3x128.Idx → EReal) (ix3 0 z l) = X (ix3 k ⟨517 + z.val, by omega⟩ l) := by
  unfold VecWindow.window
  refine congrArg X (funext fun b => Fin.ext ?_)
  fin_cases b
  · show k.val + 1 * 0 = k.val
    omega
  · show 517 + 1 * z.val = 517 + z.val
    omega
  · show 0 + 1 * l.val = l.val
    omega
theorem rowW_at (X : S512x384.Idx → EReal) (r : Fin 512) (k : Fin 3) (a : Fin 384) :
    (VecWindow.window X ![32 * ((pOf r k).val / 3), 0] S32x384.size (inb_row (pOf r k)) : S32x384.Idx → EReal) (ix2 (r32 r) a) = X (ix2 r a) := by
  unfold VecWindow.window
  refine congrArg X (funext fun b => Fin.ext ?_)
  fin_cases b
  · show 32 * ((3 * (r.val / 32) + k.val) / 3) + 1 * (r.val % 32) = r.val
    omega
  · show 0 + 1 * a.val = a.val
    omega
theorem gW_at (X : S512x768.Idx → EReal) (r : Fin 512) (k : Fin 3) (l : Fin 128) :
    (VecWindow.window X ![32 * ((pOf r k).val / 3), 128 * ((pOf r k).val % 3)] S32x128.size (inb_g (pOf r k)) : S32x128.Idx → EReal) (ix2 (r32 r) l) =
      X (ix2 r ⟨(⟨128 * k.val + l.val, by omega⟩ : Fin 384).val, by show 128 * k.val + l.val < 768; omega⟩) := by
  unfold VecWindow.window
  refine congrArg X (funext fun b => Fin.ext ?_)
  fin_cases b
  · show 32 * ((3 * (r.val / 32) + k.val) / 3) + 1 * (r.val % 32) = r.val
    omega
  · show 128 * ((3 * (r.val / 32) + k.val) % 3) + 1 * l.val = 128 * k.val + l.val
    omega
end windows

end Cert.LruIdeal.Hand

end
-- ==== Proof.LDataI.lean ====
module

public import proofs.«01_k».proof.Proof.Gen.LruIdeal.Frame
public import proofs.«01_k».proof.Proof.Gen.LruIdeal.Skeleton
public import proofs.«01_k».proof.Proof.Gen.LruIdeal.Points
public import proofs.«01_k».proof.Proof.LTileI
public import Idealize.ShloMosaic.Lib.Pipeline.Frame
public import Idealize.ShloMosaic.Lib.Pipeline.FrameBody
public import Idealize.ShloMosaic.Lib.Pipeline.ArrRel
public import Idealize.ShloMosaic.Lib.Tactic
public import Idealize.ShloMosaic.Lib.VecWindow
public import Idealize.ShloMosaic.Lib.Pointwise

@[expose] public section

set_option maxRecDepth 16384

noncomputable section

namespace Cert.LruIdeal.Hand

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The blocks the body reads, and what it leaves as functions of them -/

/-- The codes, the two weights' head, the rows' scales and positions, and the head's parameters at point `t`. -/
abbrev bX (c : Dev nD) (t : Fin grid0.N) : S2048x5120.Idx → F .bf16 := iblk m c 0 t
abbrev bWy (c : Dev nD) (t : Fin grid0.N) : S5120x384.Idx → BitVec 8 := iblk m c 1 t
abbrev bWx (c : Dev nD) (t : Fin grid0.N) : S5120x384.Idx → BitVec 8 := iblk m c 2 t
abbrev bWa (c : Dev nD) (t : Fin grid0.N) : S1x384x384.Idx → BitVec 8 := iblk m c 3 t
abbrev bWi (c : Dev nD) (t : Fin grid0.N) : S1x384x384.Idx → BitVec 8 := iblk m c 4 t
abbrev bTok (c : Dev nD) (t : Fin grid0.N) : S2048x128.Idx → F .f32 := iblk m c 5 t
abbrev bPos (c : Dev nD) (t : Fin grid0.N) : S2048x128.Idx → BitVec 32 := iblk m c 6 t
abbrev bSx (c : Dev nD) (t : Fin grid0.N) : S1x6912.Idx → F .f32 := iblk m c 9 t
abbrev bBx (c : Dev nD) (t : Fin grid0.N) : S1x6912.Idx → F .f32 := iblk m c 10 t
abbrev bCw (c : Dev nD) (t : Fin grid0.N) : S4x6912.Idx → F .f32 := iblk m c 11 t
abbrev bCb (c : Dev nD) (t : Fin grid0.N) : S1x6912.Idx → F .f32 := iblk m c 12 t
abbrev bSa (c : Dev nD) (t : Fin grid0.N) : S1x6912.Idx → F .f32 := iblk m c 13 t
abbrev bBa (c : Dev nD) (t : Fin grid0.N) : S1x6912.Idx → F .f32 := iblk m c 14 t
abbrev bLam (c : Dev nD) (t : Fin grid0.N) : S1x6912.Idx → F .f32 := iblk m c 17 t

/-- A point of the grid by its number, the number cut to the grid. -/
abbrev pt (n : ℕ) : Fin grid0.N := ⟨min n 72, by rw [N_0]; omega⟩
theorem pt_val (t : Fin grid0.N) : pt t.val = t := by
  apply Fin.ext
  have : t.val < 73 := lt_of_lt_of_eq t.isLt N_0
  show min t.val 72 = t.val; omega
theorem coord_eq : ∀ t : Fin grid0.N, (grid0.coords t 0).val = t.val := by decide +kernel

/-- The product point `t` leaves for the next point. -/
def accB (c : Dev nD) (t : Fin grid0.N) : S512x768.Idx → F .f32 := accT (grid0.coords t) (bX m c t) (bWy m c t) (bWx m c t)
/-- The rows point `t` convolves, by slab. -/
def xbB (c : Dev nD) (t : Fin grid0.N) (k : Fin 3) (r : Fin 512) (l : Fin 128) : F .f32 :=
  xbPiece (grid0.coords t) (bTok m c t) (bSx m c t) (bBx m c t) (accB m c (pt (t.val - 1))) (pOf r k) (ix3 (0 : Fin 1) (r32 r) l)
/-- The last eight rows the point before convolved. -/
def tailB (c : Dev nD) (t : Fin grid0.N) (k : Fin 3) : S1x8x128.Idx → F .f32 :=
  fun z => xbB m c (pt (t.val - 1)) k ⟨504 + (z 1).val, by have : (z 1).val < 8 := (z 1).isLt; omega⟩ (z 2)
/-- The slabs after point `t`: eight rows of history, then the rows. -/
def slabB (c : Dev nD) (t : Fin grid0.N) : S3x520x128.Idx → F .f32 := fun y =>
  if h : (y 1).val < 8 then k0_pay6 (grid0.coords t) (tailB m c t (y 0)) (ix3 (0 : Fin 1) (⟨(y 1).val, h⟩ : Fin 8) (y 2))
  else xbB m c t (y 0) ⟨(y 1).val - 8, by have : (y 1).val < 520 := (y 1).isLt; omega⟩ (y 2)
/-- A piece of the convolution at point `t`. -/
def pcB (c : Dev nD) (t : Fin grid0.N) (p : Fin 48) : FVec F S32x128 .f32 :=
  xcPiece (grid0.coords t) (bPos m c t) (bCb m c t) (bCw m c t) (slabB m c t) p
/-- What point `t` leaves of the convolution, of its codes, of its scales and of its state. -/
def xcB (c : Dev nD) (t : Fin grid0.N) : S512x384.Idx → F .f32 := fun y =>
  pcB m c t (pOf (y 0) ⟨(y 1).val / 128, by have : (y 1).val < 384 := (y 1).isLt; omega⟩) (ix2 (r32 (y 0)) (⟨(y 1).val % 128, by omega⟩ : Fin 128))
def codeB (c : Dev nD) (t : Fin grid0.N) : S512x384.Idx → BitVec 8 := fun y =>
  k0_pay190 (pcB m c t (pOf (y 0) 0)) (pcB m c t (pOf (y 0) 1)) (pcB m c t (pOf (y 0) 2)) (ix2 (r32 (y 0)) (y 1))
def scB (c : Dev nD) (t : Fin grid0.N) (r : Fin 512) : F .f32 :=
  scP (grid0.coords t) (bPos m c t) (bCb m c t) (bCw m c t) (slabB m c t) r
def cstB (c : Dev nD) (t : Fin grid0.N) : S1x3x384.Idx → F .f32 := fun y =>
  csP (VecWindow.window (slabB m c t) ![(y 2).val / 128, 517, 0] S1x3x128.size (inb_last ⟨(y 2).val / 128, by have : (y 2).val < 384 := (y 2).isLt; omega⟩))
    (ix3 (0 : Fin 1) (y 1) (⟨(y 2).val % 128, by omega⟩ : Fin 128))

/-- What point `t` leaves of the logarithm of the decay. -/
def cqB (c : Dev nD) (t : Fin grid0.N) : S512x384.Idx → F .bf16 := cqT (grid0.coords t) (bPos m c t) (bCb m c t) (bCw m c t) (slabB m c t)
def laB (c : Dev nD) (t : Fin grid0.N) : S512x384.Idx → F .f32 := fun y =>
  laPiece (grid0.coords t) (bSa m c t) (bBa m c t) (bLam m c t) (xcB m c t) (k0_pay446 (bWa m c t) (bWi m c t) (cqB m c t))
    (pOf (y 0) ⟨(y 1).val / 128, by have : (y 1).val < 384 := (y 1).isLt; omega⟩) (ix2 (r32 (y 0)) (⟨(y 1).val % 128, by omega⟩ : Fin 128))

/-- What the scratch holds before point `n`. -/
def Scr (c : Dev nD) (n : ℕ) (X27 : S512x768.Idx → F .f32) (X28 : S3x520x128.Idx → F .f32) : Prop :=
  (1 ≤ n → X27 = accB m c (pt (n - 1))) ∧ (2 ≤ n → X28 = slabB m c (pt (n - 1)))
/-- What the resident scales hold before point `n`: those of every tile so far. -/
def Sc (c : Dev nD) (n : ℕ) (X : S2048x18.Idx → F .f32) : Prop :=
  ∀ u : ℕ, 1 ≤ u → u < n → ∀ (g : Fin 2048) (r : Fin 512) (h : Fin 18), g.val = 512 * ((u - 1) % 4) + r.val → h.val = (u - 1) / 4 →
    X (ix2 g h) = scB m c (pt u) r

/-! ## One point's step -/

theorem first_word : ∀ i : grid0.Coords, Scalar.cmpi .eq (Scalar.remsi (Scalar.remsi (Scalar.maxsi (Scalar.subi (BitVec.ofNat 32 (i 0).val) 1#32) 0#32) 4#32) 2#32) 0#32
    = BitVec.ofBool (decide (mT i % 2 = 0)) := by decide +kernel
/-- At a batch's first tile the history is zero. -/
theorem pay6_first (i : grid0.Coords) (h : mT i % 2 = 0) (v : Vec F S1x8x128 .f32) (r : Fin 8) (l : Fin 128) :
    k0_pay6 i v (ix3 (0 : Fin 1) r l) = (Scalar.ofBits .f32 0x00000000#32 : F .f32) := by
  unfold k0_pay6
  dsimp only
  rw [first_word i, decide_eq_true h]
  have e : ∀ (a b : FVec F S8x128 .f32), Scalar.select (BitVec.ofBool true) a b = a := fun _ _ => rfl
  rw [e]
  pointwise
/-- At the others it is the tail of the tile before. -/
theorem pay6_next (i : grid0.Coords) (h : mT i % 2 ≠ 0) (v : Vec F S1x8x128 .f32) (r : Fin 8) (l : Fin 128) :
    k0_pay6 i v (ix3 (0 : Fin 1) r l) = v (ix3 (0 : Fin 1) r l) := by
  unfold k0_pay6
  dsimp only
  rw [first_word i, decide_eq_false h]
  have e : ∀ (a b : FVec F S8x128 .f32), Scalar.select (BitVec.ofBool false) a b = b := fun _ _ => rfl
  rw [e]
  pointwise

theorem slab_new (c : Dev nD) (t : Fin grid0.N) (k : Fin 3) (r : Fin 512) (l : Fin 128) :
    slabB m c t (ix3 k ⟨8 + r.val, by omega⟩ l) = xbB m c t k r l := by
  unfold slabB
  refine (dif_neg (by show ¬ 8 + r.val < 8; omega)).trans ?_
  exact congrArg (fun r => xbB m c t k r l) (Fin.ext (by show 8 + r.val - 8 = r.val; omega))
theorem slab_hist (c : Dev nD) (t : Fin grid0.N) (k : Fin 3) (r : Fin 8) (l : Fin 128) :
    slabB m c t (ix3 k ⟨r.val, by omega⟩ l) = k0_pay6 (grid0.coords t) (tailB m c t k) (ix3 (0 : Fin 1) r l) := by
  unfold slabB
  exact dif_pos r.isLt

/-- The slabs after a point, from what was there before it. -/
theorem slab_step (c : Dev nD) (t : Fin grid0.N) (h1 : 1 ≤ t.val) {Y28 X28 : S3x520x128.Idx → F .f32}
    (hY : 2 ≤ t.val → Y28 = slabB m c (pt (t.val - 1)))
    (xb : ∀ (k : Fin 3) (r : Fin 512) (l : Fin 128), X28 (ix3 k ⟨8 + r.val, by omega⟩ l) = xbB m c t k r l)
    (hist : ∀ (k : Fin 3) (r : Fin 8) (l : Fin 128), X28 (ix3 k ⟨r.val, by omega⟩ l) =
      k0_pay6 (grid0.coords t) (VecWindow.window Y28 ![k.val, 512, 0] S1x8x128.size (inb_tail k)) (ix3 (0 : Fin 1) r l)) :
    X28 = slabB m c t := by
  funext y
  have hy : (y 1).val < 520 := (y 1).isLt
  by_cases h : (y 1).val < 8
  · have e : y = ix3 (y 0) ⟨(⟨(y 1).val, h⟩ : Fin 8).val, by omega⟩ (y 2) := by
      funext a; fin_cases a <;> rfl
    rw [e]
    refine (hist (y 0) ⟨(y 1).val, h⟩ (y 2)).trans (Eq.trans ?_ (slab_hist m c t (y 0) ⟨(y 1).val, h⟩ (y 2)).symm)
    by_cases hf : mT (grid0.coords t) % 2 = 0
    · exact (pay6_first _ hf _ _ _).trans (pay6_first _ hf _ _ _).symm
    · have ht : 2 ≤ t.val := by
        have := coord_eq t
        unfold mT at hf
        omega
      refine (pay6_next _ hf _ _ _).trans (Eq.trans ?_ (pay6_next _ hf _ _ _).symm)
      rw [hY ht]
      refine Eq.trans ?_ (slab_new m c (pt (t.val - 1)) (y 0) ⟨504 + (y 1).val, by omega⟩ (y 2))
      refine congrArg (slabB m c (pt (t.val - 1))) (funext fun a => Fin.ext ?_)
      fin_cases a
      · show (y 0).val + 1 * 0 = (y 0).val
        omega
      · show 512 + 1 * (y 1).val = 8 + (504 + (y 1).val)
        omega
      · show 0 + 1 * (y 2).val = (y 2).val
        omega
  · have e : y = ix3 (y 0) ⟨8 + (⟨(y 1).val - 8, by omega⟩ : Fin 512).val, by show 8 + ((y 1).val - 8) < 520; omega⟩ (y 2) := by
      funext a; fin_cases a
      · rfl
      · exact Fin.ext (by show (y 1).val = 8 + ((y 1).val - 8); omega)
      · rfl
    rw [e]
    exact (xb (y 0) ⟨(y 1).val - 8, by omega⟩ (y 2)).trans (slab_new m c t (y 0) ⟨(y 1).val - 8, by omega⟩ (y 2)).symm

/-- The body's step at point `t`, in the terms of the proof data. -/
theorem post_step (c : Dev nD) (t : Fin grid0.N) {Y23 X23 : S2048x18.Idx → F .f32} {X19 : S512x384.Idx → F .f32} {X22 : S512x384.Idx → BitVec 8}
    {X24 : S1x3x384.Idx → F .f32} {Y27 X27 : S512x768.Idx → F .f32} {Y28 X28 : S3x520x128.Idx → F .f32}
    (hY : Scr m c t.val Y27 Y28)
    (h : Post (grid0.coords t) (bX m c t) (bWy m c t) (bWx m c t) (bTok m c t) (bPos m c t) (bSx m c t) (bBx m c t) (bCb m c t) (bCw m c t) Y27 Y28 X28 Y23 X23 X19 X22 X24 X27) :
    Scr m c (t.val + 1) X27 X28 ∧ (1 ≤ t.val → X19 = xcB m c t) ∧ (1 ≤ t.val → X22 = codeB m c t)
      ∧ (Sc m c t.val Y23 → Sc m c (t.val + 1) X23) ∧ (1 ≤ t.val → X24 = cstB m c t) := by
  have h28 : 1 ≤ t.val → X28 = slabB m c t := fun h1 => by
    refine slab_step m c t h1 hY.2 (fun k r l => ?_) h.hist
    rw [h.xb k r l, hY.1 h1]; rfl
  have cq := coord_eq t
  refine ⟨⟨fun _ => ?_, fun h2 => ?_⟩, fun h1 => ?_, fun h1 => ?_, fun hs => ?_, fun h1 => ?_⟩
  · rw [show t.val + 1 - 1 = t.val from rfl, pt_val]; exact h.acc
  · rw [show t.val + 1 - 1 = t.val from rfl, pt_val]; exact h28 (by omega)
  · have e28 := h28 h1
    subst e28
    funext y
    have hy : (y 1).val < 384 := (y 1).isLt
    refine Eq.trans (congrArg X19 ?_) (h.xc (y 0) ⟨(y 1).val / 128, by omega⟩ ⟨(y 1).val % 128, by omega⟩)
    funext a; fin_cases a
    · rfl
    · exact Fin.ext (Nat.div_add_mod _ _).symm
  · have e28 := h28 h1
    subst e28
    funext y
    refine Eq.trans (congrArg X22 ?_) (h.code (y 0) (y 1))
    funext a; fin_cases a <;> rfl
  · intro u hu1 hu g r hd hg hh
    have hr := r.isLt
    by_cases hut : u = t.val
    · subst hut
      rw [pt_val]
      have e28 := h28 hu1
      subst e28
      exact h.sc_new g r hd (by unfold mT; omega) (by unfold hT; omega)
    · rw [h.sc_old g hd (by unfold mT hT; omega)]
      exact hs u hu1 (by omega) g r hd hg hh
  · have e28 := h28 h1
    subst e28
    funext y
    have hy : (y 2).val < 384 := (y 2).isLt
    refine Eq.trans (congrArg X24 ?_) (h.cst (y 1) ⟨(y 2).val / 128, by omega⟩ ⟨(y 2).val % 128, by omega⟩)
    funext a; fin_cases a
    · exact Fin.ext (by have : (y 0).val < 1 := (y 0).isLt; show (y 0).val = 0; omega)
    · rfl
    · exact Fin.ext (Nat.div_add_mod _ _).symm

/-- The same of the logarithm of the decay. -/
theorem la_step (c : Dev nD) (t : Fin grid0.N) {X19 X20 : S512x384.Idx → F .f32} {X28 : S3x520x128.Idx → F .f32}
    (h28 : 1 ≤ t.val → X28 = slabB m c t) (h19 : 1 ≤ t.val → X19 = xcB m c t)
    (h : LaPost (grid0.coords t) (bPos m c t) (bCb m c t) (bCw m c t) X28 (bWa m c t) (bWi m c t) (bSa m c t) (bBa m c t) (bLam m c t) X19 X20) :
    1 ≤ t.val → X20 = laB m c t := by
  intro h1
  have e28 := h28 h1
  have e19 := h19 h1
  subst e28 e19
  funext y
  have hy : (y 1).val < 384 := (y 1).isLt
  refine Eq.trans (congrArg X20 ?_) (h (y 0) ⟨(y 1).val / 128, by omega⟩ ⟨(y 1).val % 128, by omega⟩)
  funext a; fin_cases a
  · rfl
  · exact Fin.ext (Nat.div_add_mod _ _).symm

/-! ## The proof data -/

/-- The scratch at what the invariant says of it, and the generator register. -/
def Inv (c : Dev nD) (n : ℕ) : sProp 𝕄 :=
  iprop((∃ X27 X28, owns (c : Thread nD τ) (Memref.whole cc0_scratch0) fullShare X27 ∗ owns (c : Thread nD τ) (Memref.whole cc0_scratch1) fullShare X28
    ∗ ⌜Scr m c n X27 X28⌝) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ ∃ r, prngReg c r)

/-- The windows read exactly: each input's block is left as found. -/
def dat (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t | 6 => iblk m c 6 t | 7 => iblk m c 7 t | 8 => iblk m c 8 t | 9 => iblk m c 9 t | 10 => iblk m c 10 t | 11 => iblk m c 11 t | 12 => iblk m c 12 t | 13 => iblk m c 13 t | 14 => iblk m c 14 t | 15 => iblk m c 15 t | 16 => iblk m c 16 t | 17 => iblk m c 17 t
    | 18 => Dat.unnamed (cfg := cfg0) 18 t | 19 => Dat.unnamed (cfg := cfg0) 19 t | 20 => Dat.unnamed (cfg := cfg0) 20 t | 21 => Dat.unnamed (cfg := cfg0) 21 t | 22 => Dat.unnamed (cfg := cfg0) 22 t | 23 => Dat.unnamed (cfg := cfg0) 23 t | 24 => Dat.unnamed (cfg := cfg0) 24 t | 25 => Dat.unnamed (cfg := cfg0) 25 t
    | ⟨_ + 26, h⟩ => absurd h (Nat.not_lt.2 (Nat.le_add_left _ _))
  Φ t := Inv m c t.val
  q _ := fullShare
  owed _ := 0

/-- What is said of the eight output windows. -/
def ovr (c : Dev nD) : (w : Fin cfg0.W) → Option (Fin cfg0.N → (Y X : (cfg0.win w).block.Idx → Elt F (cfg0.win w).elt) → Prop)
  | 0 => none | 1 => none | 2 => none | 3 => none | 4 => none | 5 => none | 6 => none | 7 => none | 8 => none | 9 => none | 10 => none | 11 => none | 12 => none | 13 => none | 14 => none | 15 => none | 16 => none | 17 => none
  | 18 => some fun t _ X => 1 ≤ t.val → X = xcB m c t
  | 19 => some fun t _ X => 1 ≤ t.val → X = laB m c t
  | 20 => some fun _ _ _ => True
  | 21 => some fun t _ X => 1 ≤ t.val → X = codeB m c t
  | 22 => some fun t Y X => Sc m c t.val Y → Sc m c (t.val + 1) X
  | 23 => some fun t _ X => 1 ≤ t.val → X = cstB m c t
  | 24 => some fun _ _ _ => True
  | 25 => some fun _ _ _ => True
  | ⟨_ + 26, h⟩ => absurd h (Nat.not_lt.2 (Nat.le_add_left _ _))

def rdat (c : Dev nD) : RDat τ (Elt F) Unit ℕ (UR sig nD τ) ℕ cfg0 c := (dat m c).toR.override (ovr m c)

theorem dat_A (c : Dev nD) (w : Fin cfg0.W) : (dat m c).A w = V m c (Pipeline.arrRef spec0 w) := by dsimp only [dat]

theorem dat_after_0 (c : Dev nD) (t : Fin cfg0.N) : (dat m c).after 0 t = iblk m c 0 t := by dsimp only [dat]
theorem dat_after_1 (c : Dev nD) (t : Fin cfg0.N) : (dat m c).after 1 t = iblk m c 1 t := by dsimp only [dat]
theorem dat_after_2 (c : Dev nD) (t : Fin cfg0.N) : (dat m c).after 2 t = iblk m c 2 t := by dsimp only [dat]
theorem dat_after_3 (c : Dev nD) (t : Fin cfg0.N) : (dat m c).after 3 t = iblk m c 3 t := by dsimp only [dat]
theorem dat_after_4 (c : Dev nD) (t : Fin cfg0.N) : (dat m c).after 4 t = iblk m c 4 t := by dsimp only [dat]
theorem dat_after_5 (c : Dev nD) (t : Fin cfg0.N) : (dat m c).after 5 t = iblk m c 5 t := by dsimp only [dat]
theorem dat_after_6 (c : Dev nD) (t : Fin cfg0.N) : (dat m c).after 6 t = iblk m c 6 t := by dsimp only [dat]
theorem dat_after_7 (c : Dev nD) (t : Fin cfg0.N) : (dat m c).after 7 t = iblk m c 7 t := by dsimp only [dat]
theorem dat_after_8 (c : Dev nD) (t : Fin cfg0.N) : (dat m c).after 8 t = iblk m c 8 t := by dsimp only [dat]
theorem dat_after_9 (c : Dev nD) (t : Fin cfg0.N) : (dat m c).after 9 t = iblk m c 9 t := by dsimp only [dat]
theorem dat_after_10 (c : Dev nD) (t : Fin cfg0.N) : (dat m c).after 10 t = iblk m c 10 t := by dsimp only [dat]
theorem dat_after_11 (c : Dev nD) (t : Fin cfg0.N) : (dat m c).after 11 t = iblk m c 11 t := by dsimp only [dat]
theorem dat_after_12 (c : Dev nD) (t : Fin cfg0.N) : (dat m c).after 12 t = iblk m c 12 t := by dsimp only [dat]
theorem dat_after_13 (c : Dev nD) (t : Fin cfg0.N) : (dat m c).after 13 t = iblk m c 13 t := by dsimp only [dat]
theorem dat_after_14 (c : Dev nD) (t : Fin cfg0.N) : (dat m c).after 14 t = iblk m c 14 t := by dsimp only [dat]
theorem dat_after_15 (c : Dev nD) (t : Fin cfg0.N) : (dat m c).after 15 t = iblk m c 15 t := by dsimp only [dat]
theorem dat_after_16 (c : Dev nD) (t : Fin cfg0.N) : (dat m c).after 16 t = iblk m c 16 t := by dsimp only [dat]
theorem dat_after_17 (c : Dev nD) (t : Fin cfg0.N) : (dat m c).after 17 t = iblk m c 17 t := by dsimp only [dat]

/-- What the body finds in an input window is the window's block. -/
theorem finds_0 (c : Dev nD) (t : Fin cfg0.N) (Y) (h : (rdat m c).Finds 0 t Y) : Y = iblk m c 0 t := by
  obtain ⟨d, rfl⟩ := (dat m c).toR_finds 0 t Y (((dat m c).toR.override_finds rfl t Y).mp h)
  exact before0_0_of m (dat m c) (dat_A m c 0) (dat_after_0 m c) t d
theorem finds_1 (c : Dev nD) (t : Fin cfg0.N) (Y) (h : (rdat m c).Finds 1 t Y) : Y = iblk m c 1 t := by
  obtain ⟨d, rfl⟩ := (dat m c).toR_finds 1 t Y (((dat m c).toR.override_finds rfl t Y).mp h)
  exact before0_1_of m (dat m c) (dat_A m c 1) (dat_after_1 m c) t d
theorem finds_2 (c : Dev nD) (t : Fin cfg0.N) (Y) (h : (rdat m c).Finds 2 t Y) : Y = iblk m c 2 t := by
  obtain ⟨d, rfl⟩ := (dat m c).toR_finds 2 t Y (((dat m c).toR.override_finds rfl t Y).mp h)
  exact before0_2_of m (dat m c) (dat_A m c 2) (dat_after_2 m c) t d
theorem finds_3 (c : Dev nD) (t : Fin cfg0.N) (Y) (h : (rdat m c).Finds 3 t Y) : Y = iblk m c 3 t := by
  obtain ⟨d, rfl⟩ := (dat m c).toR_finds 3 t Y (((dat m c).toR.override_finds rfl t Y).mp h)
  exact before0_3_of m (dat m c) (dat_A m c 3) (dat_after_3 m c) t d
theorem finds_4 (c : Dev nD) (t : Fin cfg0.N) (Y) (h : (rdat m c).Finds 4 t Y) : Y = iblk m c 4 t := by
  obtain ⟨d, rfl⟩ := (dat m c).toR_finds 4 t Y (((dat m c).toR.override_finds rfl t Y).mp h)
  exact before0_4_of m (dat m c) (dat_A m c 4) (dat_after_4 m c) t d
theorem finds_5 (c : Dev nD) (t : Fin cfg0.N) (Y) (h : (rdat m c).Finds 5 t Y) : Y = iblk m c 5 t := by
  obtain ⟨d, rfl⟩ := (dat m c).toR_finds 5 t Y (((dat m c).toR.override_finds rfl t Y).mp h)
  exact before0_5_of m (dat m c) (dat_A m c 5) (dat_after_5 m c) t d
theorem finds_6 (c : Dev nD) (t : Fin cfg0.N) (Y) (h : (rdat m c).Finds 6 t Y) : Y = iblk m c 6 t := by
  obtain ⟨d, rfl⟩ := (dat m c).toR_finds 6 t Y (((dat m c).toR.override_finds rfl t Y).mp h)
  exact before0_6_of m (dat m c) (dat_A m c 6) (dat_after_6 m c) t d
theorem finds_7 (c : Dev nD) (t : Fin cfg0.N) (Y) (h : (rdat m c).Finds 7 t Y) : Y = iblk m c 7 t := by
  obtain ⟨d, rfl⟩ := (dat m c).toR_finds 7 t Y (((dat m c).toR.override_finds rfl t Y).mp h)
  exact before0_7_of m (dat m c) (dat_A m c 7) (dat_after_7 m c) t d
theorem finds_8 (c : Dev nD) (t : Fin cfg0.N) (Y) (h : (rdat m c).Finds 8 t Y) : Y = iblk m c 8 t := by
  obtain ⟨d, rfl⟩ := (dat m c).toR_finds 8 t Y (((dat m c).toR.override_finds rfl t Y).mp h)
  exact before0_8_of m (dat m c) (dat_A m c 8) (dat_after_8 m c) t d
theorem finds_9 (c : Dev nD) (t : Fin cfg0.N) (Y) (h : (rdat m c).Finds 9 t Y) : Y = iblk m c 9 t := by
  obtain ⟨d, rfl⟩ := (dat m c).toR_finds 9 t Y (((dat m c).toR.override_finds rfl t Y).mp h)
  exact before0_9_of m (dat m c) (dat_A m c 9) (dat_after_9 m c) t d
theorem finds_10 (c : Dev nD) (t : Fin cfg0.N) (Y) (h : (rdat m c).Finds 10 t Y) : Y = iblk m c 10 t := by
  obtain ⟨d, rfl⟩ := (dat m c).toR_finds 10 t Y (((dat m c).toR.override_finds rfl t Y).mp h)
  exact before0_10_of m (dat m c) (dat_A m c 10) (dat_after_10 m c) t d
theorem finds_11 (c : Dev nD) (t : Fin cfg0.N) (Y) (h : (rdat m c).Finds 11 t Y) : Y = iblk m c 11 t := by
  obtain ⟨d, rfl⟩ := (dat m c).toR_finds 11 t Y (((dat m c).toR.override_finds rfl t Y).mp h)
  exact before0_11_of m (dat m c) (dat_A m c 11) (dat_after_11 m c) t d
theorem finds_12 (c : Dev nD) (t : Fin cfg0.N) (Y) (h : (rdat m c).Finds 12 t Y) : Y = iblk m c 12 t := by
  obtain ⟨d, rfl⟩ := (dat m c).toR_finds 12 t Y (((dat m c).toR.override_finds rfl t Y).mp h)
  exact before0_12_of m (dat m c) (dat_A m c 12) (dat_after_12 m c) t d
theorem finds_13 (c : Dev nD) (t : Fin cfg0.N) (Y) (h : (rdat m c).Finds 13 t Y) : Y = iblk m c 13 t := by
  obtain ⟨d, rfl⟩ := (dat m c).toR_finds 13 t Y (((dat m c).toR.override_finds rfl t Y).mp h)
  exact before0_13_of m (dat m c) (dat_A m c 13) (dat_after_13 m c) t d
theorem finds_14 (c : Dev nD) (t : Fin cfg0.N) (Y) (h : (rdat m c).Finds 14 t Y) : Y = iblk m c 14 t := by
  obtain ⟨d, rfl⟩ := (dat m c).toR_finds 14 t Y (((dat m c).toR.override_finds rfl t Y).mp h)
  exact before0_14_of m (dat m c) (dat_A m c 14) (dat_after_14 m c) t d
theorem finds_15 (c : Dev nD) (t : Fin cfg0.N) (Y) (h : (rdat m c).Finds 15 t Y) : Y = iblk m c 15 t := by
  obtain ⟨d, rfl⟩ := (dat m c).toR_finds 15 t Y (((dat m c).toR.override_finds rfl t Y).mp h)
  exact before0_15_of m (dat m c) (dat_A m c 15) (dat_after_15 m c) t d
theorem finds_16 (c : Dev nD) (t : Fin cfg0.N) (Y) (h : (rdat m c).Finds 16 t Y) : Y = iblk m c 16 t := by
  obtain ⟨d, rfl⟩ := (dat m c).toR_finds 16 t Y (((dat m c).toR.override_finds rfl t Y).mp h)
  exact before0_16_of m (dat m c) (dat_A m c 16) (dat_after_16 m c) t d
theorem finds_17 (c : Dev nD) (t : Fin cfg0.N) (Y) (h : (rdat m c).Finds 17 t Y) : Y = iblk m c 17 t := by
  obtain ⟨d, rfl⟩ := (dat m c).toR_finds 17 t Y (((dat m c).toR.override_finds rfl t Y).mp h)
  exact before0_17_of m (dat m c) (dat_A m c 17) (dat_after_17 m c) t d

/-- The left contents of an input window, as the data ask for them. -/
theorem after_0 (c : Dev nD) (t : Fin cfg0.N) (Y) : (rdat m c).after 0 t Y (iblk m c 0 t) := by
  unfold rdat; rw [RDat.override_after_of_eq_none _ rfl]; exact (dat_after_0 m c t).symm
theorem after_1 (c : Dev nD) (t : Fin cfg0.N) (Y) : (rdat m c).after 1 t Y (iblk m c 1 t) := by
  unfold rdat; rw [RDat.override_after_of_eq_none _ rfl]; exact (dat_after_1 m c t).symm
theorem after_2 (c : Dev nD) (t : Fin cfg0.N) (Y) : (rdat m c).after 2 t Y (iblk m c 2 t) := by
  unfold rdat; rw [RDat.override_after_of_eq_none _ rfl]; exact (dat_after_2 m c t).symm
theorem after_3 (c : Dev nD) (t : Fin cfg0.N) (Y) : (rdat m c).after 3 t Y (iblk m c 3 t) := by
  unfold rdat; rw [RDat.override_after_of_eq_none _ rfl]; exact (dat_after_3 m c t).symm
theorem after_4 (c : Dev nD) (t : Fin cfg0.N) (Y) : (rdat m c).after 4 t Y (iblk m c 4 t) := by
  unfold rdat; rw [RDat.override_after_of_eq_none _ rfl]; exact (dat_after_4 m c t).symm
theorem after_5 (c : Dev nD) (t : Fin cfg0.N) (Y) : (rdat m c).after 5 t Y (iblk m c 5 t) := by
  unfold rdat; rw [RDat.override_after_of_eq_none _ rfl]; exact (dat_after_5 m c t).symm
theorem after_6 (c : Dev nD) (t : Fin cfg0.N) (Y) : (rdat m c).after 6 t Y (iblk m c 6 t) := by
  unfold rdat; rw [RDat.override_after_of_eq_none _ rfl]; exact (dat_after_6 m c t).symm
theorem after_7 (c : Dev nD) (t : Fin cfg0.N) (Y) : (rdat m c).after 7 t Y (iblk m c 7 t) := by
  unfold rdat; rw [RDat.override_after_of_eq_none _ rfl]; exact (dat_after_7 m c t).symm
theorem after_8 (c : Dev nD) (t : Fin cfg0.N) (Y) : (rdat m c).after 8 t Y (iblk m c 8 t) := by
  unfold rdat; rw [RDat.override_after_of_eq_none _ rfl]; exact (dat_after_8 m c t).symm
theorem after_9 (c : Dev nD) (t : Fin cfg0.N) (Y) : (rdat m c).after 9 t Y (iblk m c 9 t) := by
  unfold rdat; rw [RDat.override_after_of_eq_none _ rfl]; exact (dat_after_9 m c t).symm
theorem after_10 (c : Dev nD) (t : Fin cfg0.N) (Y) : (rdat m c).after 10 t Y (iblk m c 10 t) := by
  unfold rdat; rw [RDat.override_after_of_eq_none _ rfl]; exact (dat_after_10 m c t).symm
theorem after_11 (c : Dev nD) (t : Fin cfg0.N) (Y) : (rdat m c).after 11 t Y (iblk m c 11 t) := by
  unfold rdat; rw [RDat.override_after_of_eq_none _ rfl]; exact (dat_after_11 m c t).symm
theorem after_12 (c : Dev nD) (t : Fin cfg0.N) (Y) : (rdat m c).after 12 t Y (iblk m c 12 t) := by
  unfold rdat; rw [RDat.override_after_of_eq_none _ rfl]; exact (dat_after_12 m c t).symm
theorem after_13 (c : Dev nD) (t : Fin cfg0.N) (Y) : (rdat m c).after 13 t Y (iblk m c 13 t) := by
  unfold rdat; rw [RDat.override_after_of_eq_none _ rfl]; exact (dat_after_13 m c t).symm
theorem after_14 (c : Dev nD) (t : Fin cfg0.N) (Y) : (rdat m c).after 14 t Y (iblk m c 14 t) := by
  unfold rdat; rw [RDat.override_after_of_eq_none _ rfl]; exact (dat_after_14 m c t).symm
theorem after_15 (c : Dev nD) (t : Fin cfg0.N) (Y) : (rdat m c).after 15 t Y (iblk m c 15 t) := by
  unfold rdat; rw [RDat.override_after_of_eq_none _ rfl]; exact (dat_after_15 m c t).symm
theorem after_16 (c : Dev nD) (t : Fin cfg0.N) (Y) : (rdat m c).after 16 t Y (iblk m c 16 t) := by
  unfold rdat; rw [RDat.override_after_of_eq_none _ rfl]; exact (dat_after_16 m c t).symm
theorem after_17 (c : Dev nD) (t : Fin cfg0.N) (Y) : (rdat m c).after 17 t Y (iblk m c 17 t) := by
  unfold rdat; rw [RDat.override_after_of_eq_none _ rfl]; exact (dat_after_17 m c t).symm

end Cert.LruIdeal.Hand

end
-- ==== Proof.LKerVal.lean ====
module

public import proofs.«01_k».proof.Proof.Gen.LruIdeal.Frame
public import proofs.«01_k».proof.Proof.Gen.LruIdeal.Skeleton
public import proofs.«01_k».proof.Proof.Gen.LruIdeal.Points
public import Idealize.ShloMosaic.Lib.Pipeline.Frame
public import Idealize.ShloMosaic.Lib.Pipeline.FrameBody
public import Idealize.ShloMosaic.Lib.Tactic
public import Idealize.ShloMosaic.Lib.VecWindow
public import Idealize.ShloMosaic.Lib.WritesUnit
public import Idealize.ShloMosaic.Lib.Pointwise
public import proofs.«01_k».proof.Proof.LKerPure
public import proofs.«01_k».proof.Proof.LDataI
public import Idealize.ShloMosaic.Lib.Pipeline.ValueKit
public import Idealize.ShloMosaic.Lib.Claim
public import proofs.«01_k».proof.Proof.LSpec

/-!
  The blocks the kernel reads, and the tiles it leaves, as parts of the whole arrays.
-/

@[expose] public section

set_option maxRecDepth 16384

noncomputable section

namespace Cert.LruIdeal.Hand

open Cert.LruIdeal Cert.LruIdeal.Gen
open Idealize.ShloMosaic Idealize.ShloMosaic.TcCoe Idealize.ShloMosaic.Tactic
open Idealize.ShloMosaic.Pipeline (Cfg Dat RDat)
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

/-- Row `g` of the 2048 rows: its batch and its position. -/
abbrev rb (g : Fin 2048) : Fin 2 := ⟨g.val / 1024, by omega⟩
abbrev rs (g : Fin 2048) : Fin 1024 := ⟨g.val % 1024, by omega⟩
/-- What core `c` is given: the rows, their scales and positions, the weights, the columns' scales and biases, the taps and the taps' bias. -/
def rows (c : Dev nD) (g : Fin 2048) (k : Fin 5120) : EReal := (m ((c.tc : Thread nD τ).loc main_arg0) : S2048x5120.Idx → EReal) (ix2 g k)
def rscale (c : Dev nD) (g : Fin 2048) : EReal := (m ((c.tc : Thread nD τ).loc main_arg1) : S2x1024.Idx → EReal) (ix2 (rb g) (rs g))
def rpos (c : Dev nD) (g : Fin 2048) : BitVec 32 := (m ((c.tc : Thread nD τ).loc main_arg2) : S2x1024.Idx → BitVec 32) (ix2 (rb g) (rs g))
def wts (c : Dev nD) (k : Fin 5120) (j : Fin 6912) : BitVec 8 := (m ((c.tc : Thread nD τ).loc main_arg4) : S5120x6912.Idx → BitVec 8) (ix2 k j)
def cscale (c : Dev nD) (j : Fin 6912) : EReal := (m ((c.tc : Thread nD τ).loc main_arg6) : S6912.Idx → EReal) (ix1 j)
def cbias (c : Dev nD) (j : Fin 6912) : EReal := (m ((c.tc : Thread nD τ).loc main_arg8) : S6912.Idx → EReal) (ix1 j)
def taps (c : Dev nD) (i : Fin 4) (j : Fin 6912) : EReal := (m ((c.tc : Thread nD τ).loc main_arg9) : S4x6912.Idx → EReal) (ix2 i j)
def tbias (c : Dev nD) (j : Fin 6912) : EReal := (m ((c.tc : Thread nD τ).loc main_arg10) : S6912.Idx → EReal) (ix1 j)
/-- The gate's weights, their scales and biases, and the decay's parameter. -/
def gate (c : Dev nD) (h : Fin 18) (k o : Fin 384) : BitVec 8 := (m ((c.tc : Thread nD τ).loc main_arg11) : S18x384x384.Idx → BitVec 8) (ix3 h k o)
def gscale (c : Dev nD) (j : Fin 6912) : EReal := (m ((c.tc : Thread nD τ).loc main_arg13) : S18x384.Idx → EReal) (ix2 ⟨j.val / 384, by omega⟩ ⟨j.val % 384, Nat.mod_lt _ (by decide)⟩)
def gbias (c : Dev nD) (j : Fin 6912) : EReal := (m ((c.tc : Thread nD τ).loc main_arg15) : S18x384.Idx → EReal) (ix2 ⟨j.val / 384, by omega⟩ ⟨j.val % 384, Nat.mod_lt _ (by decide)⟩)
def decay (c : Dev nD) (j : Fin 6912) : EReal := (m ((c.tc : Thread nD τ).loc main_arg17) : S6912.Idx → EReal) (ix1 j)
/-- The branch and its convolution. -/
def branch (c : Dev nD) : Fin 2048 → Fin 6912 → EReal := LruSpec.xbA (rows m c) (wts m c) (rscale m c) (cscale m c) (cbias m c)
def conv (c : Dev nD) : Fin 2048 → Fin 6912 → EReal := LruSpec.xcA (branch m c) (rpos m c) (taps m c) (tbias m c)

theorem cast_at (x : S6912.Idx → EReal) (j : Fin 6912) : shapeCast S1x6912 x shapeCasts_S6912_S1x6912 (ix2 (0 : Fin 1) j) = x (ix1 j) := by
  pointwise
theorem lanes_at {α : Type} (x : S2x1024.Idx → α) (g : Fin 2048) (l : Fin 128) :
    broadcastInDim S2048x128 ![0, 1] bcast_S2048x1_S2048x128_0_1 (shapeCast S2048x1 x shapeCasts_S2x1024_S2048x1) (ix2 g l) = x (ix2 (rb g) (rs g)) := by
  pointwise
theorem entry_v1 (c : Dev nD) (g : Fin 2048) (l : Fin 128) : (V m c main_v1 : S2048x128.Idx → EReal) (ix2 g l) = rscale m c g := by
  entry_read
  exact lanes_at (m (c, Proc.tc.devRef main_arg1) : S2x1024.Idx → EReal) g l
theorem entry_v3 (c : Dev nD) (g : Fin 2048) (l : Fin 128) : (V m c main_v3 : S2048x128.Idx → BitVec 32) (ix2 g l) = rpos m c g := by
  entry_read
  exact lanes_at (m (c, Proc.tc.devRef main_arg2) : S2x1024.Idx → BitVec 32) g l
theorem entry_v6 (c : Dev nD) (j : Fin 6912) : (V m c main_v6 : S1x6912.Idx → EReal) (ix2 (0 : Fin 1) j) = cscale m c j := by
  entry_read
  exact cast_at (m (c, Proc.tc.devRef main_arg6) : S6912.Idx → EReal) j
theorem entry_v7 (c : Dev nD) (j : Fin 6912) : (V m c main_v7 : S1x6912.Idx → EReal) (ix2 (0 : Fin 1) j) = cbias m c j := by
  entry_read
  exact cast_at (m (c, Proc.tc.devRef main_arg8) : S6912.Idx → EReal) j
theorem entry_v8 (c : Dev nD) (j : Fin 6912) : (V m c main_v8 : S1x6912.Idx → EReal) (ix2 (0 : Fin 1) j) = tbias m c j := by
  entry_read
  exact cast_at (m (c, Proc.tc.devRef main_arg10) : S6912.Idx → EReal) j
theorem cast_at2 (x : S18x384.Idx → EReal) (j : Fin 6912) : shapeCast S1x6912 x shapeCasts_S18x384_S1x6912 (ix2 (0 : Fin 1) j) =
    x (ix2 (⟨j.val / 384, by omega⟩ : Fin 18) (⟨j.val % 384, Nat.mod_lt _ (by decide)⟩ : Fin 384)) := by
  pointwise
theorem entry_v9 (c : Dev nD) (j : Fin 6912) : (V m c main_v9 : S1x6912.Idx → EReal) (ix2 (0 : Fin 1) j) = gscale m c j := by
  entry_read
  exact cast_at2 (m (c, Proc.tc.devRef main_arg13) : S18x384.Idx → EReal) j
theorem entry_v10 (c : Dev nD) (j : Fin 6912) : (V m c main_v10 : S1x6912.Idx → EReal) (ix2 (0 : Fin 1) j) = gbias m c j := by
  entry_read
  exact cast_at2 (m (c, Proc.tc.devRef main_arg15) : S18x384.Idx → EReal) j
theorem entry_v13 (c : Dev nD) (j : Fin 6912) : (V m c main_v13 : S1x6912.Idx → EReal) (ix2 (0 : Fin 1) j) = decay m c j := by
  entry_read
  exact cast_at (m (c, Proc.tc.devRef main_arg17) : S6912.Idx → EReal) j
theorem entry_11 (c : Dev nD) : V m c main_arg11 = m ((c.tc : Thread nD τ).loc main_arg11) := by entry_read; rfl
theorem entry_0 (c : Dev nD) : V m c main_arg0 = m ((c.tc : Thread nD τ).loc main_arg0) := by entry_read; rfl
theorem entry_4 (c : Dev nD) : V m c main_arg4 = m ((c.tc : Thread nD τ).loc main_arg4) := by entry_read; rfl
theorem entry_9 (c : Dev nD) : V m c main_arg9 = m ((c.tc : Thread nD τ).loc main_arg9) := by entry_read; rfl

theorem idxI : ∀ t : Fin cfg0.N, win0_0.index t = ![0, 0] ∧ win0_2.index t = ![0, min t.val 71 / 4] ∧ win0_5.index t = ![0, 0] ∧ win0_6.index t = ![0, 0]
    ∧ win0_9.index t = ![0, 0] ∧ win0_10.index t = ![0, 0] ∧ win0_11.index t = ![0, 0] ∧ win0_12.index t = ![0, 0] :=
  (by decide +kernel : ∀ t : Fin grid0.N, _)
theorem idxO : ∀ t : Fin cfg0.N, win0_18.index t = ![(t.val - 1) % 4, (t.val - 1) / 4] ∧ win0_21.index t = ![(t.val - 1) % 4, (t.val - 1) / 4]
    ∧ win0_22.index t = ![0, 0] ∧ win0_23.index t = ![(t.val - 1) % 4 / 2, 0, (t.val - 1) / 4] :=
  (by decide +kernel : ∀ t : Fin grid0.N, _)

theorem idxG : ∀ t : Fin cfg0.N, win0_3.index t = ![(t.val - 1) / 4, 0, 0] ∧ win0_13.index t = ![0, 0] ∧ win0_14.index t = ![0, 0]
    ∧ win0_17.index t = ![0, 0] ∧ win0_19.index t = ![(t.val - 1) % 4, (t.val - 1) / 4] :=
  (by decide +kernel : ∀ t : Fin grid0.N, _)

theorem bX_at (c : Dev nD) (t : Fin grid0.N) (g : Fin 2048) (k : Fin 5120) : bX m c t (ix2 g k) = rows m c g k := by
  unfold rows
  rw [← entry_0 m c]
  blk_ext [bX, iblk, idxI t]
theorem bWx_at (c : Dev nD) (t : Fin grid0.N) (k : Fin 5120) (a : Fin 384) : bWx m c t (ix2 k a) = wts m c k ⟨384 * (min t.val 71 / 4) + a.val, by omega⟩ := by
  unfold wts
  rw [← entry_4 m c]
  blk_ext [bWx, iblk, idxI t]
theorem rdTok (X : S2048x128.Idx → EReal) (t : Fin cfg0.N) (g : Fin 2048) (l : Fin 128) :
    (((cfg0.win 5).blk t).view.read (Elt Ideal) X : S2048x128.Idx → EReal) (ix2 g l) = X (ix2 g l) := by
  blk_ext [idxI t]
theorem bTok_at (c : Dev nD) (t : Fin grid0.N) (g : Fin 2048) (l : Fin 128) : bTok m c t (ix2 g l) = rscale m c g :=
  (rdTok (V m c main_v1) t g l).trans (entry_v1 m c g l)
theorem rdPos (X : S2048x128.Idx → BitVec 32) (t : Fin cfg0.N) (g : Fin 2048) (l : Fin 128) :
    (((cfg0.win 6).blk t).view.read (Elt Ideal) X : S2048x128.Idx → BitVec 32) (ix2 g l) = X (ix2 g l) := by
  blk_ext [idxI t]
theorem bPos_at (c : Dev nD) (t : Fin grid0.N) (g : Fin 2048) (l : Fin 128) : bPos m c t (ix2 g l) = rpos m c g :=
  (rdPos (V m c main_v3) t g l).trans (entry_v3 m c g l)
theorem bSx_at (c : Dev nD) (t : Fin grid0.N) (j : Fin 6912) : bSx m c t (ix2 0 j) = cscale m c j := by
  rw [← entry_v6]
  blk_ext [bSx, iblk, idxI t]
theorem bBx_at (c : Dev nD) (t : Fin grid0.N) (j : Fin 6912) : bBx m c t (ix2 0 j) = cbias m c j := by
  rw [← entry_v7]
  blk_ext [bBx, iblk, idxI t]
theorem bCw_at (c : Dev nD) (t : Fin grid0.N) (i : Fin 4) (j : Fin 6912) : bCw m c t (ix2 i j) = taps m c i j := by
  unfold taps
  rw [← entry_9 m c]
  blk_ext [bCw, iblk, idxI t]
theorem bCb_at (c : Dev nD) (t : Fin grid0.N) (j : Fin 6912) : bCb m c t (ix2 0 j) = tbias m c j := by
  rw [← entry_v8]
  blk_ext [bCb, iblk, idxI t]

theorem rdWa (X : S18x384x384.Idx → BitVec 8) (t : Fin cfg0.N) (k o : Fin 384) (h : Fin 18) (hh : h.val = (t.val - 1) / 4) :
    (((cfg0.win 3).blk t).view.read (Elt Ideal) X : S1x384x384.Idx → BitVec 8) (ix3 0 k o) = X (ix3 h k o) := by
  blk_ext [idxG t]
theorem bWa_at (c : Dev nD) (t : Fin grid0.N) (k o : Fin 384) (h : Fin 18) (hh : h.val = (t.val - 1) / 4) : bWa m c t (ix3 0 k o) = gate m c h k o := by
  unfold gate
  rw [← entry_11 m c]
  exact rdWa (V m c main_arg11) t k o h hh
theorem bSa_at (c : Dev nD) (t : Fin grid0.N) (j : Fin 6912) : bSa m c t (ix2 0 j) = gscale m c j := by
  rw [← entry_v9]
  blk_ext [bSa, iblk, idxG t]
theorem bBa_at (c : Dev nD) (t : Fin grid0.N) (j : Fin 6912) : bBa m c t (ix2 0 j) = gbias m c j := by
  rw [← entry_v10]
  blk_ext [bBa, iblk, idxG t]
theorem bLam_at (c : Dev nD) (t : Fin grid0.N) (j : Fin 6912) : bLam m c t (ix2 0 j) = decay m c j := by
  rw [← entry_v13]
  blk_ext [bLam, iblk, idxG t]

/-! ## The tiles as parts of the branch and of the convolution -/

theorem lt73 (t : Fin grid0.N) : t.val < 73 := lt_of_lt_of_eq t.isLt N_0
theorem mT_eq (t : Fin grid0.N) : mT (grid0.coords t) = (t.val - 1) % 4 := by show ((grid0.coords t 0).val - 1) % 4 = _; rw [coord_eq]
theorem hT_eq (t : Fin grid0.N) : hT (grid0.coords t) = (t.val - 1) / 4 := by show ((grid0.coords t 0).val - 1) / 4 = _; rw [coord_eq]

/-- The product the point before left: its right half, rows of the tile, columns of the head. -/
theorem acc_val (c : Dev nD) (t : Fin grid0.N) (ht : 1 ≤ t.val) (r : Fin 512) (a : Fin 384) (g : Fin 2048) (j : Fin 6912)
    (hg : g.val = 512 * ((t.val - 1) % 4) + r.val) (hj : j.val = 384 * ((t.val - 1) / 4) + a.val) :
    accB m c (pt (t.val - 1)) (ix2 r ⟨384 + a.val, by omega⟩) = (∑ k, rows m c g k * (((wts m c k j).toInt : ℝ) : EReal) : EReal) := by
  have h73 := lt73 t
  have hp : (pt (t.val - 1)).val = t.val - 1 := by show min (t.val - 1) 72 = t.val - 1; omega
  unfold accB accT
  refine (pay178_right _ _ _ r a).trans (Finset.sum_congr rfl fun k _ => ?_)
  rw [xW_at _ _ r k g (by rw [coord_eq, hp, hg]), bX_at, bWx_at]
  refine congrArg (fun j => rows m c g k * (((wts m c k j).toInt : ℝ) : EReal)) (Fin.ext ?_)
  show 384 * (min (pt (t.val - 1)).val 71 / 4) + a.val = j.val
  rw [hp]; omega
/-- The rows a point convolves are rows of the branch. -/
theorem xb_val (c : Dev nD) (t : Fin grid0.N) (ht : 1 ≤ t.val) (k : Fin 3) (r : Fin 512) (l : Fin 128) (g : Fin 2048) (j : Fin 6912)
    (hg : g.val = 512 * ((t.val - 1) % 4) + r.val) (hj : j.val = 384 * ((t.val - 1) / 4) + (128 * k.val + l.val)) :
    xbB m c t k r l = branch m c g j := by
  unfold xbB xbPiece
  rw [kP_pOf, xbP_at, accW_at, tokW_at (grid0.coords t) _ r k l g (by rw [mT_eq, hg]), vW_at _ _ _ j (by rw [hT_eq, hj]), vW_at _ _ _ j (by rw [hT_eq, hj]),
    bTok_at, bSx_at, bBx_at, acc_val m c t ht r ⟨128 * k.val + l.val, by omega⟩ g j hg hj]
  rfl
/-- A slab's rows, some rows back, are the branch's: zero before the sequence's first row. -/
theorem slab_val (c : Dev nD) (t : Fin grid0.N) (ht : 1 ≤ t.val) (i : Fin 4) (k : Fin 3) (r : Fin 512) (l : Fin 128) (g : Fin 2048) (j : Fin 6912)
    (hg : g.val = 512 * ((t.val - 1) % 4) + r.val) (hj : j.val = 384 * ((t.val - 1) / 4) + (128 * k.val + l.val)) :
    slabB m c t (ix3 k ⟨8 + r.val - i.val, by omega⟩ l) = LruSpec.lateA (branch m c) i g j := by
  have h73 := lt73 t
  unfold slabB LruSpec.lateA
  by_cases hr : i.val ≤ r.val
  · have h1 : ¬ 8 + r.val - i.val < 8 := by omega
    refine (dif_neg h1).trans ?_
    rw [if_neg (by omega)]
    refine xb_val m c t ht k _ l _ j ?_ hj
    show g.val - i.val = 512 * ((t.val - 1) % 4) + (8 + r.val - i.val - 8)
    omega
  · have h1 : 8 + r.val - i.val < 8 := by omega
    refine (dif_pos h1).trans ?_
    by_cases hm : (t.val - 1) % 4 % 2 = 0
    · rw [if_pos (by omega)]
      refine (pay6_first _ (by rw [mT_eq]; exact hm) _ _ _).trans ?_
      exact Ideal.ofBits_zero_f32
    · rw [if_neg (by omega)]
      refine (pay6_next _ (by rw [mT_eq]; exact hm) _ _ _).trans ?_
      have hp : (pt (t.val - 1)).val = t.val - 1 := by show min (t.val - 1) 72 = t.val - 1; omega
      unfold tailB
      refine xb_val m c (pt (t.val - 1)) (by rw [hp]; omega) k _ l _ j ?_ ?_
      · rw [hp]
        show g.val - i.val = 512 * ((t.val - 1 - 1) % 4) + (504 + (8 + r.val - i.val))
        omega
      · rw [hp, hj]
        omega
/-- A piece of the convolution. -/
theorem pc_val (c : Dev nD) (t : Fin grid0.N) (ht : 1 ≤ t.val) (k : Fin 3) (r : Fin 512) (l : Fin 128) (g : Fin 2048) (j : Fin 6912)
    (hg : g.val = 512 * ((t.val - 1) % 4) + r.val) (hj : j.val = 384 * ((t.val - 1) / 4) + (128 * k.val + l.val)) :
    pcB m c t (pOf r k) (ix2 (r32 r) l) = conv m c g j := by
  have hj' : j.val = 384 * hT (grid0.coords t) + (⟨128 * k.val + l.val, by omega⟩ : Fin 384).val := by rw [hT_eq, hj]
  unfold pcB xcPiece
  rw [kP_pOf, xcP_at, tapP_at, tapP_at, tapP_at, tapP_at, posW_at (grid0.coords t) _ r k l g (by rw [mT_eq, hg]), vW_at _ _ _ j hj',
    cwW_at (grid0.coords t) _ 0 _ _ (off4_eq _) _ j hj', cwW_at (grid0.coords t) _ 1 _ _ (off5_eq _) _ j hj', cwW_at (grid0.coords t) _ 2 _ _ (off6_eq _) _ j hj',
    cwW_at (grid0.coords t) _ 3 _ _ (off7_eq _) _ j hj', tapW_at, tapW_at, tapW_at, tapW_at,
    slab_val m c t ht 0 k r l g j hg hj, slab_val m c t ht 1 k r l g j hg hj, slab_val m c t ht 2 k r l g j hg hj, slab_val m c t ht 3 k r l g j hg hj,
    bPos_at, bCb_at, bCw_at, bCw_at, bCw_at, bCw_at]
  rfl
/-- The convolution's tile. -/
theorem xc_val (c : Dev nD) (t : Fin grid0.N) (ht : 1 ≤ t.val) (r : Fin 512) (a : Fin 384) (g : Fin 2048) (j : Fin 6912)
    (hg : g.val = 512 * ((t.val - 1) % 4) + r.val) (hj : j.val = 384 * ((t.val - 1) / 4) + a.val) : xcB m c t (ix2 r a) = conv m c g j := by
  refine pc_val m c t ht ⟨a.val / 128, by omega⟩ r ⟨a.val % 128, by omega⟩ g j hg ?_
  rw [hj]
  show 384 * ((t.val - 1) / 4) + a.val = 384 * ((t.val - 1) / 4) + (128 * (a.val / 128) + a.val % 128)
  omega
/-- The three slabs of a tile of the convolution, side by side. -/
theorem cat_val (c : Dev nD) (t : Fin grid0.N) (ht : 1 ≤ t.val) (r : Fin 512) (a : Fin 384) (g : Fin 2048) (j : Fin 6912)
    (hg : g.val = 512 * ((t.val - 1) % 4) + r.val) (hj : j.val = 384 * ((t.val - 1) / 4) + a.val) :
    k0_pay187 (pcB m c t (pOf r 0)) (pcB m c t (pOf r 1)) (pcB m c t (pOf r 2)) (ix2 (r32 r) a) = conv m c g j :=
  (pay187_at (fun k => pcB m c t (pOf r k)) (r32 r) a).trans (xc_val m c t ht r a g j hg hj)
/-- The scales. -/
theorem sc_val (c : Dev nD) (t : Fin grid0.N) (ht : 1 ≤ t.val) (r : Fin 512) (g : Fin 2048) (h : Fin 18)
    (hg : g.val = 512 * ((t.val - 1) % 4) + r.val) (hh : h.val = (t.val - 1) / 4) : scB m c t r = LruSpec.scA (conv m c) g h := by
  refine (congrFun (pay188_fold (pcB m c t (pOf r 0)) (pcB m c t (pOf r 1)) (pcB m c t (pOf r 2))) _).trans ?_
  refine (scaleOf_eq _ _).trans ?_
  unfold LruSpec.scA
  refine congrArg (fun f => Spec.scl (Finset.fold max _ f _)) (funext fun k => ?_)
  rw [cat_val m c t ht r k g ⟨h.val * 384 + k.val, by omega⟩ hg (by show h.val * 384 + k.val = _; omega)]
/-- The codes' tile. -/
theorem code_val (c : Dev nD) (t : Fin grid0.N) (ht : 1 ≤ t.val) (r : Fin 512) (a : Fin 384) (g : Fin 2048) (j : Fin 6912)
    (hg : g.val = 512 * ((t.val - 1) % 4) + r.val) (hj : j.val = 384 * ((t.val - 1) / 4) + a.val) : codeB m c t (ix2 r a) = LruSpec.codeA (conv m c) g j := by
  refine (congrFun (pay190_fold (pcB m c t (pOf r 0)) (pcB m c t (pOf r 1)) (pcB m c t (pOf r 2))) _).trans ?_
  refine (codesOf_eq _ _ (r32 r) a).trans ?_
  unfold LruSpec.codeA
  rw [cat_val m c t ht r a g j hg hj]
  exact congrArg (Spec.code (conv m c g j)) (sc_val m c t ht r g ⟨j.val / 384, by omega⟩ hg (by show j.val / 384 = _; omega))
/-- The codes as the gate reads them. -/
theorem cq_val (c : Dev nD) (t : Fin grid0.N) (ht : 1 ≤ t.val) (r : Fin 512) (a : Fin 384) (g : Fin 2048) (j : Fin 6912)
    (hg : g.val = 512 * ((t.val - 1) % 4) + r.val) (hj : j.val = 384 * ((t.val - 1) / 4) + a.val) :
    cqB m c t (ix2 r a) = (((LruSpec.codeA (conv m c) g j).toInt : ℝ) : EReal) := by
  refine (congrFun (pay191_fold (pcB m c t (pOf r 0)) (pcB m c t (pOf r 1)) (pcB m c t (pOf r 2))) _).trans ?_
  refine (cqOf_eq _ _ (r32 r) a).trans ?_
  exact congrArg (fun z : BitVec 8 => ((z.toInt : ℝ) : EReal)) (code_val m c t ht r a g j hg hj)
/-- The gate's product. -/
theorem prod_val (c : Dev nD) (t : Fin grid0.N) (ht : 1 ≤ t.val) (r : Fin 512) (a : Fin 384) (g : Fin 2048) (j : Fin 6912)
    (hg : g.val = 512 * ((t.val - 1) % 4) + r.val) (hj : j.val = 384 * ((t.val - 1) / 4) + a.val) :
    k0_pay446 (bWa m c t) (bWi m c t) (cqB m c t) (ix2 r ⟨a.val, by omega⟩) = LruSpec.prodA (conv m c) (gate m c) g j := by
  refine (pay446_left _ _ _ r a).trans (Finset.sum_congr rfl fun k _ => ?_)
  rw [cq_val m c t ht r k g ⟨j.val / 384 * 384 + k.val, by omega⟩ hg (by show j.val / 384 * 384 + k.val = _; omega),
    bWa_at m c t k a ⟨j.val / 384, by omega⟩ (by show j.val / 384 = _; omega)]
  refine congrArg (fun o => (((LruSpec.codeA (conv m c) g _).toInt : ℝ) : EReal) * (((gate m c _ k o).toInt : ℝ) : EReal)) (Fin.ext ?_)
  show a.val = j.val % 384
  omega
/-- The scale a row of the tile has. -/
theorem row_val (c : Dev nD) (t : Fin grid0.N) (ht : 1 ≤ t.val) (k : Fin 3) (r : Fin 512) (g : Fin 2048) (h : Fin 18)
    (hg : g.val = 512 * ((t.val - 1) % 4) + r.val) (hh : h.val = (t.val - 1) / 4) :
    scaleOf (VecWindow.window (xcB m c t) ![32 * ((pOf r k).val / 3), 0] S32x384.size (inb_row (pOf r k))) (ix2 (r32 r) 0) = LruSpec.scA (conv m c) g h := by
  refine (scaleOf_eq _ _).trans ?_
  unfold LruSpec.scA
  refine congrArg (fun f => Spec.scl (Finset.fold max _ f _)) (funext fun a => ?_)
  rw [rowW_at, xc_val m c t ht r a g ⟨h.val * 384 + a.val, by omega⟩ hg (by show h.val * 384 + a.val = _; omega)]
theorem lp_val (c : Dev nD) (t : Fin grid0.N) (ht : 1 ≤ t.val) (k : Fin 3) (r : Fin 512) (l : Fin 128) (g : Fin 2048) (j : Fin 6912)
    (hg : g.val = 512 * ((t.val - 1) % 4) + r.val) (hj : j.val = 384 * ((t.val - 1) / 4) + (128 * k.val + l.val)) :
    laPiece (F := Ideal) (grid0.coords t) (bSa m c t) (bBa m c t) (bLam m c t) (xcB m c t) (k0_pay446 (bWa m c t) (bWi m c t) (cqB m c t)) (pOf r k) (ix2 (r32 r) l) =
      LruSpec.laA (conv m c) (gate m c) (gscale m c) (gbias m c) (decay m c) g j := by
  have hj' : j.val = 384 * hT (grid0.coords t) + (⟨128 * k.val + l.val, by omega⟩ : Fin 384).val := by rw [hT_eq, hj]
  unfold laPiece
  rw [kP_pOf, laP_at, gW_at, prod_val m c t ht r ⟨128 * k.val + l.val, by omega⟩ g j hg hj,
    row_val m c t ht k r g ⟨j.val / 384, by omega⟩ hg (by show j.val / 384 = _; omega),
    vW_at _ _ _ j hj', vW_at _ _ _ j hj', vW_at _ _ _ j hj', bSa_at, bBa_at, bLam_at]
  unfold LruSpec.laA
  rw [← mul_assoc, mul_comm (LruSpec.lgA _) (Ideal.ofBits .f32 0xC1000000#32)]
/-- The tile of the logarithm of the decay. -/
theorem la_val (c : Dev nD) (t : Fin grid0.N) (ht : 1 ≤ t.val) (r : Fin 512) (a : Fin 384) (g : Fin 2048) (j : Fin 6912)
    (hg : g.val = 512 * ((t.val - 1) % 4) + r.val) (hj : j.val = 384 * ((t.val - 1) / 4) + a.val) :
    laB m c t (ix2 r a) = LruSpec.laA (conv m c) (gate m c) (gscale m c) (gbias m c) (decay m c) g j := by
  refine lp_val m c t ht ⟨a.val / 128, by omega⟩ r ⟨a.val % 128, by omega⟩ g j hg ?_
  rw [hj]
  show 384 * ((t.val - 1) / 4) + a.val = 384 * ((t.val - 1) / 4) + (128 * (a.val / 128) + a.val % 128)
  omega
/-- The state's tile: the last three rows of a sequence. -/
theorem cst_val (c : Dev nD) (t : Fin grid0.N) (ht : 1 ≤ t.val) (hm : (t.val - 1) % 4 % 2 = 1) (z : Fin 3) (a : Fin 384) (g : Fin 2048) (j : Fin 6912)
    (hg : g.val = (t.val - 1) % 4 / 2 * 1024 + (1021 + z.val)) (hj : j.val = 384 * ((t.val - 1) / 4) + a.val) :
    cstB m c t (ix3 0 z a) = branch m c g j := by
  refine (csP_at _ z ⟨a.val % 128, by omega⟩).trans ?_
  refine (csW_at (slabB m c t) ⟨a.val / 128, by omega⟩ z ⟨a.val % 128, by omega⟩).trans ?_
  have e := slab_val m c t ht 0 ⟨a.val / 128, by omega⟩ ⟨509 + z.val, by omega⟩ ⟨a.val % 128, by omega⟩ g j
    (by show g.val = 512 * ((t.val - 1) % 4) + (509 + z.val); omega)
    (by show j.val = 384 * ((t.val - 1) / 4) + (128 * (a.val / 128) + a.val % 128); omega)
  refine Eq.trans ?_ (e.trans ?_)
  · refine congrArg (fun q => slabB m c t (ix3 _ q _)) (Fin.ext ?_)
    show 517 + z.val = 8 + (509 + z.val) - 0
    omega
  · unfold LruSpec.lateA
    exact if_neg (by show ¬ g.val % 1024 < 0; omega)

end Cert.LruIdeal.Hand

end
-- ==== Proof.LRunI.lean ====
module

public import proofs.«01_k».proof.Proof.Gen.LruIdeal.Frame
public import proofs.«01_k».proof.Proof.Gen.LruIdeal.Skeleton
public import proofs.«01_k».proof.Proof.Gen.LruIdeal.Points
public import Idealize.ShloMosaic.Lib.Pipeline.Frame
public import Idealize.ShloMosaic.Lib.Pipeline.FrameBody
public import Idealize.ShloMosaic.Lib.VecWindow
public import Idealize.ShloMosaic.Lib.WritesUnit
public import Idealize.ShloMosaic.Lib.Pointwise
public import Idealize.ShloMosaic.Lib.Tactic
public import proofs.«01_k».proof.Proof.LOffI

@[expose] public section

set_option maxRecDepth 16384

noncomputable section

namespace Cert.LruIdeal.Hand

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]

/-! ## The body, run once -/

set_option sl_exec.squeezeSlice true in
/-- The run of the body from any contents of its buffers: what it writes, piece by piece, to the seven buffers the values are read
    from. What it leaves in the others is not said. -/
def kernelRun (c : Dev nD) (i : grid0.Coords)
    (arg1 : Memref sig .tc .vmem S2048x5120 .bf16) (harg1 : arg1.IsWhole) (arg2 : Memref sig .tc .vmem S5120x384 .i8) (harg2 : arg2.IsWhole) (arg3 : Memref sig .tc .vmem S5120x384 .i8) (harg3 : arg3.IsWhole) (arg4 : Memref sig .tc .vmem S1x384x384 .i8) (harg4 : arg4.IsWhole) (arg5 : Memref sig .tc .vmem S1x384x384 .i8) (harg5 : arg5.IsWhole) (arg6 : Memref sig .tc .vmem S2048x128 .f32) (harg6 : arg6.IsWhole) (arg7 : Memref sig .tc .vmem S2048x128 .i32) (harg7 : arg7.IsWhole) (arg8 : Memref sig .tc .vmem S1x6912 .f32) (harg8 : arg8.IsWhole) (arg9 : Memref sig .tc .vmem S1x6912 .f32) (harg9 : arg9.IsWhole) (arg10 : Memref sig .tc .vmem S1x6912 .f32) (harg10 : arg10.IsWhole) (arg11 : Memref sig .tc .vmem S1x6912 .f32) (harg11 : arg11.IsWhole) (arg12 : Memref sig .tc .vmem S4x6912 .f32) (harg12 : arg12.IsWhole) (arg13 : Memref sig .tc .vmem S1x6912 .f32) (harg13 : arg13.IsWhole) (arg14 : Memref sig .tc .vmem S1x6912 .f32) (harg14 : arg14.IsWhole) (arg15 : Memref sig .tc .vmem S1x6912 .f32) (harg15 : arg15.IsWhole) (arg16 : Memref sig .tc .vmem S1x6912 .f32) (harg16 : arg16.IsWhole) (arg17 : Memref sig .tc .vmem S1x6912 .f32) (harg17 : arg17.IsWhole) (arg18 : Memref sig .tc .vmem S1x6912 .f32) (harg18 : arg18.IsWhole) (arg19 : Memref sig .tc .vmem S512x384 .f32) (harg19 : arg19.IsWhole) (arg20 : Memref sig .tc .vmem S512x384 .f32) (harg20 : arg20.IsWhole) (arg21 : Memref sig .tc .vmem S512x384 .f32) (harg21 : arg21.IsWhole) (arg22 : Memref sig .tc .vmem S512x384 .i8) (harg22 : arg22.IsWhole) (arg23 : Memref sig .tc .vmem S2048x18 .f32) (harg23 : arg23.IsWhole) (arg24 : Memref sig .tc .vmem S1x3x384 .f32) (harg24 : arg24.IsWhole) (arg25 : Memref sig .tc .vmem S2048x128 .f32) (harg25 : arg25.IsWhole) (arg26 : Memref sig .tc .vmem S1x8x384 .f32) (harg26 : arg26.IsWhole) (arg27 : Memref sig .tc .vmem S512x768 .f32) (harg27 : arg27.IsWhole) (arg28 : Memref sig .tc .vmem S3x520x128 .f32) (harg28 : arg28.IsWhole) (arg29 : Memref sig .tc .vmem S512x384 .f32) (harg29 : arg29.IsWhole) (arg30 : Memref sig .tc .vmem S512x384 .bf16) (harg30 : arg30.IsWhole) (arg31 : Memref sig .tc .vmem S512x768 .f32) (harg31 : arg31.IsWhole) (arg32 : Memref sig .tc .vmem S3x544x128 .f32) (harg32 : arg32.IsWhole) (arg33 : Memref sig .tc .vmem S3x544x128 .f32) (harg33 : arg33.IsWhole) (arg34 : Memref sig .tc .vmem S3x8x128 .f32) (harg34 : arg34.IsWhole)
    (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) (f28 : arg28.view.ty.Contents (Elt F)) (f29 : arg29.view.ty.Contents (Elt F)) (f30 : arg30.view.ty.Contents (Elt F)) (f31 : arg31.view.ty.Contents (Elt F)) (f32 : arg32.view.ty.Contents (Elt F)) (f33 : arg33.view.ty.Contents (Elt F)) (f34 : arg34.view.ty.Contents (Elt F)) :
    Σ' (L19 : List (View.Piece (Elt F) S512x384 .f32)) (L20 : List (View.Piece (Elt F) S512x384 .f32)) (L22 : List (View.Piece (Elt F) S512x384 .i8)) (L23 : List (View.Piece (Elt F) S2048x18 .f32)) (L24 : List (View.Piece (Elt F) S1x3x384 .f32)) (L27 : List (View.Piece (Elt F) S512x768 .f32)), { L28 : List (View.Piece (Elt F) S3x520x128 .f32) // ∀ Q : PUnit → sProp 𝕄,
    iprop(((arg1.view.loc (c : Thread nD τ)) ↦[arg1.view.set]{fullShare} f1) ∗ ((arg2.view.loc (c : Thread nD τ)) ↦[arg2.view.set]{fullShare} f2) ∗ ((arg3.view.loc (c : Thread nD τ)) ↦[arg3.view.set]{fullShare} f3) ∗ ((arg4.view.loc (c : Thread nD τ)) ↦[arg4.view.set]{fullShare} f4) ∗ ((arg5.view.loc (c : Thread nD τ)) ↦[arg5.view.set]{fullShare} f5) ∗ ((arg6.view.loc (c : Thread nD τ)) ↦[arg6.view.set]{fullShare} f6) ∗ ((arg7.view.loc (c : Thread nD τ)) ↦[arg7.view.set]{fullShare} f7) ∗ ((arg8.view.loc (c : Thread nD τ)) ↦[arg8.view.set]{fullShare} f8) ∗ ((arg9.view.loc (c : Thread nD τ)) ↦[arg9.view.set]{fullShare} f9) ∗ ((arg10.view.loc (c : Thread nD τ)) ↦[arg10.view.set]{fullShare} f10) ∗ ((arg11.view.loc (c : Thread nD τ)) ↦[arg11.view.set]{fullShare} f11) ∗ ((arg12.view.loc (c : Thread nD τ)) ↦[arg12.view.set]{fullShare} f12) ∗ ((arg13.view.loc (c : Thread nD τ)) ↦[arg13.view.set]{fullShare} f13) ∗ ((arg14.view.loc (c : Thread nD τ)) ↦[arg14.view.set]{fullShare} f14) ∗ ((arg15.view.loc (c : Thread nD τ)) ↦[arg15.view.set]{fullShare} f15) ∗ ((arg16.view.loc (c : Thread nD τ)) ↦[arg16.view.set]{fullShare} f16) ∗ ((arg17.view.loc (c : Thread nD τ)) ↦[arg17.view.set]{fullShare} f17) ∗ ((arg18.view.loc (c : Thread nD τ)) ↦[arg18.view.set]{fullShare} f18) ∗ ((arg19.view.loc (c : Thread nD τ)) ↦[arg19.view.set]{fullShare} f19) ∗ ((arg20.view.loc (c : Thread nD τ)) ↦[arg20.view.set]{fullShare} f20) ∗ ((arg21.view.loc (c : Thread nD τ)) ↦[arg21.view.set]{fullShare} f21) ∗ ((arg22.view.loc (c : Thread nD τ)) ↦[arg22.view.set]{fullShare} f22) ∗ ((arg23.view.loc (c : Thread nD τ)) ↦[arg23.view.set]{fullShare} f23) ∗ ((arg24.view.loc (c : Thread nD τ)) ↦[arg24.view.set]{fullShare} f24) ∗ ((arg25.view.loc (c : Thread nD τ)) ↦[arg25.view.set]{fullShare} f25) ∗ ((arg26.view.loc (c : Thread nD τ)) ↦[arg26.view.set]{fullShare} f26) ∗ ((arg27.view.loc (c : Thread nD τ)) ↦[arg27.view.set]{fullShare} f27) ∗ ((arg28.view.loc (c : Thread nD τ)) ↦[arg28.view.set]{fullShare} f28) ∗ ((arg29.view.loc (c : Thread nD τ)) ↦[arg29.view.set]{fullShare} f29) ∗ ((arg30.view.loc (c : Thread nD τ)) ↦[arg30.view.set]{fullShare} f30) ∗ ((arg31.view.loc (c : Thread nD τ)) ↦[arg31.view.set]{fullShare} f31) ∗ ((arg32.view.loc (c : Thread nD τ)) ↦[arg32.view.set]{fullShare} f32) ∗ ((arg33.view.loc (c : Thread nD τ)) ↦[arg33.view.set]{fullShare} f33) ∗ ((arg34.view.loc (c : Thread nD τ)) ↦[arg34.view.set]{fullShare} f34) ∗ (iprop(((arg1.view.loc (c : Thread nD τ)) ↦[arg1.view.set]{fullShare} f1) ∗ ((arg2.view.loc (c : Thread nD τ)) ↦[arg2.view.set]{fullShare} f2) ∗ ((arg3.view.loc (c : Thread nD τ)) ↦[arg3.view.set]{fullShare} f3) ∗ ((arg4.view.loc (c : Thread nD τ)) ↦[arg4.view.set]{fullShare} f4) ∗ ((arg5.view.loc (c : Thread nD τ)) ↦[arg5.view.set]{fullShare} f5) ∗ ((arg6.view.loc (c : Thread nD τ)) ↦[arg6.view.set]{fullShare} f6) ∗ ((arg7.view.loc (c : Thread nD τ)) ↦[arg7.view.set]{fullShare} f7) ∗ ((arg8.view.loc (c : Thread nD τ)) ↦[arg8.view.set]{fullShare} f8) ∗ ((arg9.view.loc (c : Thread nD τ)) ↦[arg9.view.set]{fullShare} f9) ∗ ((arg10.view.loc (c : Thread nD τ)) ↦[arg10.view.set]{fullShare} f10) ∗ ((arg11.view.loc (c : Thread nD τ)) ↦[arg11.view.set]{fullShare} f11) ∗ ((arg12.view.loc (c : Thread nD τ)) ↦[arg12.view.set]{fullShare} f12) ∗ ((arg13.view.loc (c : Thread nD τ)) ↦[arg13.view.set]{fullShare} f13) ∗ ((arg14.view.loc (c : Thread nD τ)) ↦[arg14.view.set]{fullShare} f14) ∗ ((arg15.view.loc (c : Thread nD τ)) ↦[arg15.view.set]{fullShare} f15) ∗ ((arg16.view.loc (c : Thread nD τ)) ↦[arg16.view.set]{fullShare} f16) ∗ ((arg17.view.loc (c : Thread nD τ)) ↦[arg17.view.set]{fullShare} f17) ∗ ((arg18.view.loc (c : Thread nD τ)) ↦[arg18.view.set]{fullShare} f18) ∗ ((arg19.view.loc (c : Thread nD τ)) ↦[arg19.view.set]{fullShare} (arg19.view.writes (Elt F) f19 L19)) ∗ ((arg20.view.loc (c : Thread nD τ)) ↦[arg20.view.set]{fullShare} (arg20.view.writes (Elt F) f20 L20)) ∗ (∃ f, ((arg21.view.loc (c : Thread nD τ)) ↦[arg21.view.set]{fullShare} f)) ∗ ((arg22.view.loc (c : Thread nD τ)) ↦[arg22.view.set]{fullShare} (arg22.view.writes (Elt F) f22 L22)) ∗ ((arg23.view.loc (c : Thread nD τ)) ↦[arg23.view.set]{fullShare} (arg23.view.writes (Elt F) f23 L23)) ∗ ((arg24.view.loc (c : Thread nD τ)) ↦[arg24.view.set]{fullShare} (arg24.view.writes (Elt F) f24 L24)) ∗ (∃ f, ((arg25.view.loc (c : Thread nD τ)) ↦[arg25.view.set]{fullShare} f)) ∗ (∃ f, ((arg26.view.loc (c : Thread nD τ)) ↦[arg26.view.set]{fullShare} f)) ∗ ((arg27.view.loc (c : Thread nD τ)) ↦[arg27.view.set]{fullShare} (arg27.view.writes (Elt F) f27 L27)) ∗ ((arg28.view.loc (c : Thread nD τ)) ↦[arg28.view.set]{fullShare} (arg28.view.writes (Elt F) f28 L28)) ∗ (∃ f, ((arg29.view.loc (c : Thread nD τ)) ↦[arg29.view.set]{fullShare} f)) ∗ (∃ f, ((arg30.view.loc (c : Thread nD τ)) ↦[arg30.view.set]{fullShare} f)) ∗ (∃ f, ((arg31.view.loc (c : Thread nD τ)) ↦[arg31.view.set]{fullShare} f)) ∗ (∃ f, ((arg32.view.loc (c : Thread nD τ)) ↦[arg32.view.set]{fullShare} f)) ∗ (∃ f, ((arg33.view.loc (c : Thread nD τ)) ↦[arg33.view.set]{fullShare} f)) ∗ (∃ f, ((arg34.view.loc (c : Thread nD τ)) ↦[arg34.view.set]{fullShare} f))) -∗ Q ⟨⟩))
      ⊢ wp frame (wpE (defs₀ (F := F)) Variants.none c none) Set.univ (cc0_rglru i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) Q } := by
  refine ⟨?_, ?_, ?_, ?_, ?_, ?_, ?_, fun Q => ?run⟩
  case run =>
    simp only [cc0_rglru_eq_skeleton]; unfold cc0_rglru_skel
    iintro ⟨H1, H2, H3, H4, H5, H6, H7, H8, H9, H10, H11, H12, H13, H14, H15, H16, H17, H18, H19, H20, H21, H22, H23, H24, H25, H26, H27, H28, H29, H30, H31, H32, H33, H34, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexists _; iexact H21
    isplitl [H22]; · iexact H22
    isplitl [H23]; · iexact H23
    isplitl [H24]; · iexact H24
    isplitl [H25]; · iexists _; iexact H25
    isplitl [H26]; · iexists _; iexact H26
    isplitl [H27]; · iexact H27
    isplitl [H28]; · iexact H28
    isplitl [H29]; · iexists _; iexact H29
    isplitl [H30]; · iexists _; iexact H30
    isplitl [H31]; · iexists _; iexact H31
    isplitl [H32]; · iexists _; iexact H32
    isplitl [H33]; · iexists _; iexact H33
    iexists _; iexact H34

end Cert.LruIdeal.Hand

end
-- ==== Proof.LStepI.lean ====
module

public import proofs.«01_k».proof.Proof.Gen.LruIdeal.Frame
public import proofs.«01_k».proof.Proof.Gen.LruIdeal.Skeleton
public import proofs.«01_k».proof.Proof.Gen.LruIdeal.Points
public import Idealize.ShloMosaic.Lib.Pipeline.Frame
public import Idealize.ShloMosaic.Lib.Pipeline.FrameBody
public import Idealize.ShloMosaic.Lib.VecWindow
public import Idealize.ShloMosaic.Lib.WritesUnit
public import Idealize.ShloMosaic.Lib.Pointwise
public import Idealize.ShloMosaic.Lib.Tactic
public import proofs.«01_k».proof.Proof.LOffI
public import proofs.«01_k».proof.Proof.LTileI
public import proofs.«01_k».proof.Proof.LRunI

@[expose] public section

set_option maxRecDepth 16384

noncomputable section

namespace Cert.LruIdeal.Hand

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]

/-! ## What the run writes, as uniform lists -/

variable (c : Dev nD) (i : grid0.Coords)
    (arg1 : Memref sig .tc .vmem S2048x5120 .bf16) (harg1 : arg1.IsWhole) (arg2 : Memref sig .tc .vmem S5120x384 .i8) (harg2 : arg2.IsWhole) (arg3 : Memref sig .tc .vmem S5120x384 .i8) (harg3 : arg3.IsWhole) (arg4 : Memref sig .tc .vmem S1x384x384 .i8) (harg4 : arg4.IsWhole) (arg5 : Memref sig .tc .vmem S1x384x384 .i8) (harg5 : arg5.IsWhole) (arg6 : Memref sig .tc .vmem S2048x128 .f32) (harg6 : arg6.IsWhole) (arg7 : Memref sig .tc .vmem S2048x128 .i32) (harg7 : arg7.IsWhole) (arg8 : Memref sig .tc .vmem S1x6912 .f32) (harg8 : arg8.IsWhole) (arg9 : Memref sig .tc .vmem S1x6912 .f32) (harg9 : arg9.IsWhole) (arg10 : Memref sig .tc .vmem S1x6912 .f32) (harg10 : arg10.IsWhole) (arg11 : Memref sig .tc .vmem S1x6912 .f32) (harg11 : arg11.IsWhole) (arg12 : Memref sig .tc .vmem S4x6912 .f32) (harg12 : arg12.IsWhole) (arg13 : Memref sig .tc .vmem S1x6912 .f32) (harg13 : arg13.IsWhole) (arg14 : Memref sig .tc .vmem S1x6912 .f32) (harg14 : arg14.IsWhole) (arg15 : Memref sig .tc .vmem S1x6912 .f32) (harg15 : arg15.IsWhole) (arg16 : Memref sig .tc .vmem S1x6912 .f32) (harg16 : arg16.IsWhole) (arg17 : Memref sig .tc .vmem S1x6912 .f32) (harg17 : arg17.IsWhole) (arg18 : Memref sig .tc .vmem S1x6912 .f32) (harg18 : arg18.IsWhole) (arg19 : Memref sig .tc .vmem S512x384 .f32) (harg19 : arg19.IsWhole) (arg20 : Memref sig .tc .vmem S512x384 .f32) (harg20 : arg20.IsWhole) (arg21 : Memref sig .tc .vmem S512x384 .f32) (harg21 : arg21.IsWhole) (arg22 : Memref sig .tc .vmem S512x384 .i8) (harg22 : arg22.IsWhole) (arg23 : Memref sig .tc .vmem S2048x18 .f32) (harg23 : arg23.IsWhole) (arg24 : Memref sig .tc .vmem S1x3x384 .f32) (harg24 : arg24.IsWhole) (arg25 : Memref sig .tc .vmem S2048x128 .f32) (harg25 : arg25.IsWhole) (arg26 : Memref sig .tc .vmem S1x8x384 .f32) (harg26 : arg26.IsWhole) (arg27 : Memref sig .tc .vmem S512x768 .f32) (harg27 : arg27.IsWhole) (arg28 : Memref sig .tc .vmem S3x520x128 .f32) (harg28 : arg28.IsWhole) (arg29 : Memref sig .tc .vmem S512x384 .f32) (harg29 : arg29.IsWhole) (arg30 : Memref sig .tc .vmem S512x384 .bf16) (harg30 : arg30.IsWhole) (arg31 : Memref sig .tc .vmem S512x768 .f32) (harg31 : arg31.IsWhole) (arg32 : Memref sig .tc .vmem S3x544x128 .f32) (harg32 : arg32.IsWhole) (arg33 : Memref sig .tc .vmem S3x544x128 .f32) (harg33 : arg33.IsWhole) (arg34 : Memref sig .tc .vmem S3x8x128 .f32) (harg34 : arg34.IsWhole)

section
variable (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) (f28 : arg28.view.ty.Contents (Elt F)) (f29 : arg29.view.ty.Contents (Elt F)) (f30 : arg30.view.ty.Contents (Elt F)) (f31 : arg31.view.ty.Contents (Elt F)) (f32 : arg32.view.ty.Contents (Elt F)) (f33 : arg33.view.ty.Contents (Elt F)) (f34 : arg34.view.ty.Contents (Elt F))

theorem run_LH28 :
    (kernelRun.sl.H28_51 i arg6 arg10 arg11 arg27 arg28 f6 f10 f11 f27 f28) = L28 i (View.read (Elt F) arg6.view f6) (View.read (Elt F) arg10.view f10) (View.read (Elt F) arg11.view f11) (View.read (Elt F) arg27.view f27) (View.read (Elt F) arg28.view f28) := rfl

theorem run_L28 :
    (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34).2.2.2.2.2.2.1 = L28 i (View.read (Elt F) arg6.view f6) (View.read (Elt F) arg10.view f10) (View.read (Elt F) arg11.view f11) (View.read (Elt F) arg27.view f27) (View.read (Elt F) arg28.view f28) := rfl

theorem run_L27 :
    (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34).2.2.2.2.2.1 = L27 i (View.read (Elt F) arg1.view f1) (View.read (Elt F) arg2.view f2) (View.read (Elt F) arg3.view f3) := rfl

attribute [local irreducible] kernelRun.sl.H28_51 in
set_option maxHeartbeats 2000000 in
theorem run_L24 :
    (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34).2.2.2.2.1 = L24 (View.read (Elt F) arg28.view (View.writes arg28.view (Elt F) arg28.view.junk (kernelRun.sl.H28_51 i arg6 arg10 arg11 arg27 arg28 f6 f10 f11 f27 f28))) := rfl

attribute [local irreducible] kernelRun.sl.H28_51 in
set_option maxHeartbeats 2000000 in
theorem run_L23 :
    (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34).2.2.2.1 = L23 i (View.read (Elt F) arg7.view f7) (View.read (Elt F) arg13.view f13) (View.read (Elt F) arg12.view f12) (View.read (Elt F) arg28.view (View.writes arg28.view (Elt F) arg28.view.junk (kernelRun.sl.H28_51 i arg6 arg10 arg11 arg27 arg28 f6 f10 f11 f27 f28))) arg23.view f23 16 le_rfl := rfl

attribute [local irreducible] kernelRun.sl.H28_51 in
set_option maxHeartbeats 2000000 in
theorem run_L22 :
    (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34).2.2.1 = L22 i (View.read (Elt F) arg7.view f7) (View.read (Elt F) arg13.view f13) (View.read (Elt F) arg12.view f12) (View.read (Elt F) arg28.view (View.writes arg28.view (Elt F) arg28.view.junk (kernelRun.sl.H28_51 i arg6 arg10 arg11 arg27 arg28 f6 f10 f11 f27 f28))) := rfl

attribute [local irreducible] kernelRun.sl.H28_51 in
set_option maxHeartbeats 2000000 in
theorem run_L19 :
    (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34).1 = L19 i (View.read (Elt F) arg7.view f7) (View.read (Elt F) arg13.view f13) (View.read (Elt F) arg12.view f12) (View.read (Elt F) arg28.view (View.writes arg28.view (Elt F) arg28.view.junk (kernelRun.sl.H28_51 i arg6 arg10 arg11 arg27 arg28 f6 f10 f11 f27 f28))) := rfl

attribute [local irreducible] kernelRun.sl.H28_51 in
set_option maxHeartbeats 2000000 in
theorem run_LH19 :
    (kernelRun.sl.H19_48 i arg6 arg7 arg10 arg11 arg12 arg13 arg27 arg28 f6 f7 f10 f11 f12 f13 f27 f28) = L19 i (View.read (Elt F) arg7.view f7) (View.read (Elt F) arg13.view f13) (View.read (Elt F) arg12.view f12) (View.read (Elt F) arg28.view (View.writes arg28.view (Elt F) arg28.view.junk (kernelRun.sl.H28_51 i arg6 arg10 arg11 arg27 arg28 f6 f10 f11 f27 f28))) := rfl

attribute [local irreducible] kernelRun.sl.H28_51 in
set_option maxHeartbeats 2000000 in
theorem run_LH30 :
    (kernelRun.sl.H30_16 i arg6 arg7 arg10 arg11 arg12 arg13 arg27 arg28 f6 f7 f10 f11 f12 f13 f27 f28) = L30 i (View.read (Elt F) arg7.view f7) (View.read (Elt F) arg13.view f13) (View.read (Elt F) arg12.view f12) (View.read (Elt F) arg28.view (View.writes arg28.view (Elt F) arg28.view.junk (kernelRun.sl.H28_51 i arg6 arg10 arg11 arg27 arg28 f6 f10 f11 f27 f28))) := rfl

attribute [local irreducible] kernelRun.sl.H30_16 in
set_option maxHeartbeats 2000000 in
theorem run_LH31 :
    (kernelRun.sl.H31_1 i arg4 arg5 arg6 arg7 arg10 arg11 arg12 arg13 arg27 arg28 arg30 f4 f5 f6 f7 f10 f11 f12 f13 f27 f28) = L31 (View.read (Elt F) arg4.view f4) (View.read (Elt F) arg5.view f5) (View.read (Elt F) arg30.view (View.writes arg30.view (Elt F) arg30.view.junk (kernelRun.sl.H30_16 i arg6 arg7 arg10 arg11 arg12 arg13 arg27 arg28 f6 f7 f10 f11 f12 f13 f27 f28))) := rfl

attribute [local irreducible] kernelRun.sl.H28_51 kernelRun.sl.H19_48 kernelRun.sl.H30_16 kernelRun.sl.H31_1 in
set_option maxHeartbeats 2000000 in
theorem run_L20 :
    (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34).2.1 = L20 i (View.read (Elt F) arg14.view f14) (View.read (Elt F) arg15.view f15) (View.read (Elt F) arg18.view f18) (View.read (Elt F) arg19.view (View.writes arg19.view (Elt F) arg19.view.junk (kernelRun.sl.H19_48 i arg6 arg7 arg10 arg11 arg12 arg13 arg27 arg28 f6 f7 f10 f11 f12 f13 f27 f28))) (View.read (Elt F) arg31.view (View.writes arg31.view (Elt F) arg31.view.junk (kernelRun.sl.H31_1 i arg4 arg5 arg6 arg7 arg10 arg11 arg12 arg13 arg27 arg28 arg30 f4 f5 f6 f7 f10 f11 f12 f13 f27 f28))) := rfl

attribute [local irreducible] kernelRun.sl.H19_48 kernelRun.sl.H30_16 kernelRun.sl.H31_1 kernelRun.sl.H28_51 kernelRun L19 L20 L28 L30 L31 View.read View.writes k0_pay446 cqT in
set_option maxHeartbeats 2000000 in
/-- The gate's tile, of the convolution and the codes that the same step writes. -/
theorem run_L20_of :
    (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34).2.1 = L20 i (View.read (Elt F) arg14.view f14) (View.read (Elt F) arg15.view f15) (View.read (Elt F) arg18.view f18) (View.read (Elt F) arg19.view (View.writes arg19.view (Elt F) f19 (L19 i (View.read (Elt F) arg7.view f7) (View.read (Elt F) arg13.view f13) (View.read (Elt F) arg12.view f12) (View.read (Elt F) arg28.view (View.writes arg28.view (Elt F) f28 (L28 i (View.read (Elt F) arg6.view f6) (View.read (Elt F) arg10.view f10) (View.read (Elt F) arg11.view f11) (View.read (Elt F) arg27.view f27) (View.read (Elt F) arg28.view f28))))))) (k0_pay446 (View.read (Elt F) arg4.view f4) (View.read (Elt F) arg5.view f5) (cqT i (View.read (Elt F) arg7.view f7) (View.read (Elt F) arg13.view f13) (View.read (Elt F) arg12.view f12) (View.read (Elt F) arg28.view (View.writes arg28.view (Elt F) f28 (L28 i (View.read (Elt F) arg6.view f6) (View.read (Elt F) arg10.view f10) (View.read (Elt F) arg11.view f11) (View.read (Elt F) arg27.view f27) (View.read (Elt F) arg28.view f28)))))) := by
  have hX : View.read (Elt F) arg28.view (View.writes arg28.view (Elt F) arg28.view.junk ((L28 i (View.read (Elt F) arg6.view f6) (View.read (Elt F) arg10.view f10) (View.read (Elt F) arg11.view f11) (View.read (Elt F) arg27.view f27) (View.read (Elt F) arg28.view f28)))) = View.read (Elt F) arg28.view (View.writes arg28.view (Elt F) f28 (L28 i (View.read (Elt F) arg6.view f6) (View.read (Elt F) arg10.view f10) (View.read (Elt F) arg11.view f11) (View.read (Elt F) arg27.view f27) (View.read (Elt F) arg28.view f28))) := read28_any i (View.read (Elt F) arg6.view f6) (View.read (Elt F) arg10.view f10) (View.read (Elt F) arg11.view f11) (View.read (Elt F) arg27.view f27) (View.read (Elt F) arg28.view f28) arg28.view arg28.view.junk f28
  have e19 : View.read (Elt F) arg19.view (View.writes arg19.view (Elt F) arg19.view.junk (kernelRun.sl.H19_48 i arg6 arg7 arg10 arg11 arg12 arg13 arg27 arg28 f6 f7 f10 f11 f12 f13 f27 f28)) = View.read (Elt F) arg19.view (View.writes arg19.view (Elt F) f19 (L19 i (View.read (Elt F) arg7.view f7) (View.read (Elt F) arg13.view f13) (View.read (Elt F) arg12.view f12) (View.read (Elt F) arg28.view (View.writes arg28.view (Elt F) f28 (L28 i (View.read (Elt F) arg6.view f6) (View.read (Elt F) arg10.view f10) (View.read (Elt F) arg11.view f11) (View.read (Elt F) arg27.view f27) (View.read (Elt F) arg28.view f28)))))) := by
    rw [run_LH19 i arg6 arg7 arg10 arg11 arg12 arg13 arg27 arg28 f6 f7 f10 f11 f12 f13 f27 f28, run_LH28, hX]
    exact read19_any i _ _ _ _ arg19.view arg19.view.junk f19
  have e30 : View.read (Elt F) arg30.view (View.writes arg30.view (Elt F) arg30.view.junk (kernelRun.sl.H30_16 i arg6 arg7 arg10 arg11 arg12 arg13 arg27 arg28 f6 f7 f10 f11 f12 f13 f27 f28)) = cqT i (View.read (Elt F) arg7.view f7) (View.read (Elt F) arg13.view f13) (View.read (Elt F) arg12.view f12) (View.read (Elt F) arg28.view (View.writes arg28.view (Elt F) f28 (L28 i (View.read (Elt F) arg6.view f6) (View.read (Elt F) arg10.view f10) (View.read (Elt F) arg11.view f11) (View.read (Elt F) arg27.view f27) (View.read (Elt F) arg28.view f28)))) := by
    rw [run_LH30 i arg6 arg7 arg10 arg11 arg12 arg13 arg27 arg28 f6 f7 f10 f11 f12 f13 f27 f28, run_LH28, hX]
    exact read30 i _ _ _ _ arg30.view arg30.view.junk
  have e31 : View.read (Elt F) arg31.view (View.writes arg31.view (Elt F) arg31.view.junk (kernelRun.sl.H31_1 i arg4 arg5 arg6 arg7 arg10 arg11 arg12 arg13 arg27 arg28 arg30 f4 f5 f6 f7 f10 f11 f12 f13 f27 f28)) = k0_pay446 (View.read (Elt F) arg4.view f4) (View.read (Elt F) arg5.view f5) (cqT i (View.read (Elt F) arg7.view f7) (View.read (Elt F) arg13.view f13) (View.read (Elt F) arg12.view f12) (View.read (Elt F) arg28.view (View.writes arg28.view (Elt F) f28 (L28 i (View.read (Elt F) arg6.view f6) (View.read (Elt F) arg10.view f10) (View.read (Elt F) arg11.view f11) (View.read (Elt F) arg27.view f27) (View.read (Elt F) arg28.view f28))))) := by
    rw [run_LH31 i arg4 arg5 arg6 arg7 arg10 arg11 arg12 arg13 arg27 arg28 arg30 f4 f5 f6 f7 f10 f11 f12 f13 f27 f28, e30]
    exact read31 _ _ _ arg31.view arg31.view.junk
  exact (run_L20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34).trans (congrArg₂ (fun A B => L20 i (View.read (Elt F) arg14.view f14) (View.read (Elt F) arg15.view f15) (View.read (Elt F) arg18.view f18) A B) e19 e31)

end

end Cert.LruIdeal.Hand

end
-- ==== Proof.LBodyI.lean ====
module

public import proofs.«01_k».proof.Proof.Gen.LruIdeal.Frame
public import proofs.«01_k».proof.Proof.Gen.LruIdeal.Skeleton
public import proofs.«01_k».proof.Proof.Gen.LruIdeal.Points
public import Idealize.ShloMosaic.Lib.Pipeline.Frame
public import Idealize.ShloMosaic.Lib.Pipeline.FrameBody
public import Idealize.ShloMosaic.Lib.VecWindow
public import Idealize.ShloMosaic.Lib.WritesUnit
public import Idealize.ShloMosaic.Lib.Pointwise
public import Idealize.ShloMosaic.Lib.Tactic
public import proofs.«01_k».proof.Proof.LOffI
public import proofs.«01_k».proof.Proof.LTileI
public import proofs.«01_k».proof.Proof.LStepI

@[expose] public section

set_option maxRecDepth 16384

noncomputable section

namespace Cert.LruIdeal.Hand

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]

variable (c : Dev nD) (i : grid0.Coords)
    (arg1 : Memref sig .tc .vmem S2048x5120 .bf16) (harg1 : arg1.IsWhole) (arg2 : Memref sig .tc .vmem S5120x384 .i8) (harg2 : arg2.IsWhole) (arg3 : Memref sig .tc .vmem S5120x384 .i8) (harg3 : arg3.IsWhole) (arg4 : Memref sig .tc .vmem S1x384x384 .i8) (harg4 : arg4.IsWhole) (arg5 : Memref sig .tc .vmem S1x384x384 .i8) (harg5 : arg5.IsWhole) (arg6 : Memref sig .tc .vmem S2048x128 .f32) (harg6 : arg6.IsWhole) (arg7 : Memref sig .tc .vmem S2048x128 .i32) (harg7 : arg7.IsWhole) (arg8 : Memref sig .tc .vmem S1x6912 .f32) (harg8 : arg8.IsWhole) (arg9 : Memref sig .tc .vmem S1x6912 .f32) (harg9 : arg9.IsWhole) (arg10 : Memref sig .tc .vmem S1x6912 .f32) (harg10 : arg10.IsWhole) (arg11 : Memref sig .tc .vmem S1x6912 .f32) (harg11 : arg11.IsWhole) (arg12 : Memref sig .tc .vmem S4x6912 .f32) (harg12 : arg12.IsWhole) (arg13 : Memref sig .tc .vmem S1x6912 .f32) (harg13 : arg13.IsWhole) (arg14 : Memref sig .tc .vmem S1x6912 .f32) (harg14 : arg14.IsWhole) (arg15 : Memref sig .tc .vmem S1x6912 .f32) (harg15 : arg15.IsWhole) (arg16 : Memref sig .tc .vmem S1x6912 .f32) (harg16 : arg16.IsWhole) (arg17 : Memref sig .tc .vmem S1x6912 .f32) (harg17 : arg17.IsWhole) (arg18 : Memref sig .tc .vmem S1x6912 .f32) (harg18 : arg18.IsWhole) (arg19 : Memref sig .tc .vmem S512x384 .f32) (harg19 : arg19.IsWhole) (arg20 : Memref sig .tc .vmem S512x384 .f32) (harg20 : arg20.IsWhole) (arg21 : Memref sig .tc .vmem S512x384 .f32) (harg21 : arg21.IsWhole) (arg22 : Memref sig .tc .vmem S512x384 .i8) (harg22 : arg22.IsWhole) (arg23 : Memref sig .tc .vmem S2048x18 .f32) (harg23 : arg23.IsWhole) (arg24 : Memref sig .tc .vmem S1x3x384 .f32) (harg24 : arg24.IsWhole) (arg25 : Memref sig .tc .vmem S2048x128 .f32) (harg25 : arg25.IsWhole) (arg26 : Memref sig .tc .vmem S1x8x384 .f32) (harg26 : arg26.IsWhole) (arg27 : Memref sig .tc .vmem S512x768 .f32) (harg27 : arg27.IsWhole) (arg28 : Memref sig .tc .vmem S3x520x128 .f32) (harg28 : arg28.IsWhole) (arg29 : Memref sig .tc .vmem S512x384 .f32) (harg29 : arg29.IsWhole) (arg30 : Memref sig .tc .vmem S512x384 .bf16) (harg30 : arg30.IsWhole) (arg31 : Memref sig .tc .vmem S512x768 .f32) (harg31 : arg31.IsWhole) (arg32 : Memref sig .tc .vmem S3x544x128 .f32) (harg32 : arg32.IsWhole) (arg33 : Memref sig .tc .vmem S3x544x128 .f32) (harg33 : arg33.IsWhole) (arg34 : Memref sig .tc .vmem S3x8x128 .f32) (harg34 : arg34.IsWhole)

set_option maxHeartbeats 16000000 in
/-- The body at point `i`: the inputs kept, and of the seven buffers the values are read from, what `Post` and `LaPost` say. -/
theorem run_body
    (x1 : S2048x5120.Idx → F .bf16) (x2 : S5120x384.Idx → BitVec 8) (x3 : S5120x384.Idx → BitVec 8) (x4 : S1x384x384.Idx → BitVec 8) (x5 : S1x384x384.Idx → BitVec 8) (x6 : S2048x128.Idx → F .f32) (x7 : S2048x128.Idx → BitVec 32) (x8 : S1x6912.Idx → F .f32) (x9 : S1x6912.Idx → F .f32) (x10 : S1x6912.Idx → F .f32) (x11 : S1x6912.Idx → F .f32) (x12 : S4x6912.Idx → F .f32) (x13 : S1x6912.Idx → F .f32) (x14 : S1x6912.Idx → F .f32) (x15 : S1x6912.Idx → F .f32) (x16 : S1x6912.Idx → F .f32) (x17 : S1x6912.Idx → F .f32) (x18 : S1x6912.Idx → F .f32) (Y19 : S512x384.Idx → F .f32) (Y20 : S512x384.Idx → F .f32) (Y21 : S512x384.Idx → F .f32) (Y22 : S512x384.Idx → BitVec 8) (Y23 : S2048x18.Idx → F .f32) (Y24 : S1x3x384.Idx → F .f32) (Y25 : S2048x128.Idx → F .f32) (Y26 : S1x8x384.Idx → F .f32) (Y27 : S512x768.Idx → F .f32) (Y28 : S3x520x128.Idx → F .f32) (Y29 : S512x384.Idx → F .f32) (Y30 : S512x384.Idx → F .bf16) (Y31 : S512x768.Idx → F .f32) (Y32 : S3x544x128.Idx → F .f32) (Y33 : S3x544x128.Idx → F .f32) (Y34 : S3x8x128.Idx → F .f32) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare Y19 ∗ owns (c : Thread nD τ) arg20 fullShare Y20 ∗ owns (c : Thread nD τ) arg21 fullShare Y21 ∗ owns (c : Thread nD τ) arg22 fullShare Y22 ∗ owns (c : Thread nD τ) arg23 fullShare Y23 ∗ owns (c : Thread nD τ) arg24 fullShare Y24 ∗ owns (c : Thread nD τ) arg25 fullShare Y25 ∗ owns (c : Thread nD τ) arg26 fullShare Y26 ∗ owns (c : Thread nD τ) arg27 fullShare Y27 ∗ owns (c : Thread nD τ) arg28 fullShare Y28 ∗ owns (c : Thread nD τ) arg29 fullShare Y29 ∗ owns (c : Thread nD τ) arg30 fullShare Y30 ∗ owns (c : Thread nD τ) arg31 fullShare Y31 ∗ owns (c : Thread nD τ) arg32 fullShare Y32 ∗ owns (c : Thread nD τ) arg33 fullShare Y33 ∗ owns (c : Thread nD τ) arg34 fullShare Y34 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg21 fullShare d) ∗ (∃ d, owns (c : Thread nD τ) arg25 fullShare d) ∗ (∃ d, owns (c : Thread nD τ) arg26 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ ∃ X19 X20 X22 X23 X24 X27 X28, owns (c : Thread nD τ) arg19 fullShare X19 ∗ owns (c : Thread nD τ) arg20 fullShare X20 ∗ owns (c : Thread nD τ) arg22 fullShare X22 ∗ owns (c : Thread nD τ) arg23 fullShare X23 ∗ owns (c : Thread nD τ) arg24 fullShare X24 ∗ owns (c : Thread nD τ) arg27 fullShare X27 ∗ owns (c : Thread nD τ) arg28 fullShare X28 ∗ ⌜Post i x1 x2 x3 x6 x7 x10 x11 x13 x12 Y27 Y28 X28 Y23 X23 X19 X22 X24 X27 ∧ LaPost i x7 x13 x12 X28 x4 x5 x14 x15 x18 X19 X20⌝) -∗ Q ⟨⟩))
      ⊢ wp frame (wpE (defs₀ (F := F)) Variants.none c none) Set.univ (cc0_rglru i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  have e28 := run_L28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34
  have e27 := run_L27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34
  have e24 := run_L24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34
  have e23 := run_L23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34
  have e22 := run_L22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34
  have e19 := run_L19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34
  have e20 := run_L20_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34
  have eH := run_LH28 i arg6 arg10 arg11 arg27 arg28 f6 f10 f11 f27 f28
  rw [eH] at e24 e23 e22 e19
  rw [read28_any i (View.read (Elt F) arg6.view f6) (View.read (Elt F) arg10.view f10) (View.read (Elt F) arg11.view f11) (View.read (Elt F) arg27.view f27) (View.read (Elt F) arg28.view f28) arg28.view arg28.view.junk f28] at e24 e23 e22 e19
  clear eH
  generalize kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 f1 f2 f3 f4 f5 f6 f7 f8 f9 f10 f11 f12 f13 f14 f15 f16 f17 f18 f19 f20 f21 f22 f23 f24 f25 f26 f27 f28 f29 f30 f31 f32 f33 f34 = K at e28 e27 e24 e23 e22 e20 e19
  obtain ⟨l19, l20, l22, l23, l24, l27, l28, hrun⟩ := K
  dsimp only at e28 e27 e24 e23 e22 e20 e19
  subst e28 e27 e24 e23 e22 e20 e19
  iapply (hrun Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iintro ⟨H1, H2, H3, H4, H5, H6, H7, H8, H9, H10, H11, H12, H13, H14, H15, H16, H17, H18, H19, H20, ⟨%g21, H21⟩, H22, H23, H24, ⟨%g25, H25⟩, ⟨%g26, H26⟩, H27, H28, ⟨%g29, H29⟩, ⟨%g30, H30⟩, ⟨%g31, H31⟩, ⟨%g32, H32⟩, ⟨%g33, H33⟩, ⟨%g34, H34⟩⟩
  iapply Hk
  isplitl [H1]
  · iexists f1; isplitr; swap; · iexact H1
    ipureintro; rfl
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H8]
  · iexists f8; isplitr; swap; · iexact H8
    ipureintro; rfl
  isplitl [H9]
  · iexists f9; isplitr; swap; · iexact H9
    ipureintro; rfl
  isplitl [H10]
  · iexists f10; isplitr; swap; · iexact H10
    ipureintro; rfl
  isplitl [H11]
  · iexists f11; isplitr; swap; · iexact H11
    ipureintro; rfl
  isplitl [H12]
  · iexists f12; isplitr; swap; · iexact H12
    ipureintro; rfl
  isplitl [H13]
  · iexists f13; isplitr; swap; · iexact H13
    ipureintro; rfl
  isplitl [H14]
  · iexists f14; isplitr; swap; · iexact H14
    ipureintro; rfl
  isplitl [H15]
  · iexists f15; isplitr; swap; · iexact H15
    ipureintro; rfl
  isplitl [H16]
  · iexists f16; isplitr; swap; · iexact H16
    ipureintro; rfl
  isplitl [H17]
  · iexists f17; isplitr; swap; · iexact H17
    ipureintro; rfl
  isplitl [H18]
  · iexists f18; isplitr; swap; · iexact H18
    ipureintro; rfl
  isplitl [H21]
  · iexists _; iexists g21; isplitr; swap; · iexact H21
    ipureintro; rfl
  isplitl [H25]
  · iexists _; iexists g25; isplitr; swap; · iexact H25
    ipureintro; rfl
  isplitl [H26]
  · iexists _; iexists g26; isplitr; swap; · iexact H26
    ipureintro; rfl
  isplitl [H29]
  · iexists _; iexists g29; isplitr; swap; · iexact H29
    ipureintro; rfl
  isplitl [H30]
  · iexists _; iexists g30; isplitr; swap; · iexact H30
    ipureintro; rfl
  isplitl [H31]
  · iexists _; iexists g31; isplitr; swap; · iexact H31
    ipureintro; rfl
  isplitl [H32]
  · iexists _; iexists g32; isplitr; swap; · iexact H32
    ipureintro; rfl
  isplitl [H33]
  · iexists _; iexists g33; isplitr; swap; · iexact H33
    ipureintro; rfl
  isplitl [H34]
  · iexists _; iexists g34; isplitr; swap; · iexact H34
    ipureintro; rfl
  iexists _; iexists _; iexists _; iexists _; iexists _; iexists _; iexists _
  isplitl [H19]
  · iexists _; isplitr; swap; · iexact H19
    ipureintro; rfl
  isplitl [H20]
  · iexists _; isplitr; swap; · iexact H20
    ipureintro; rfl
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; rfl
  isplitl [H27]
  · iexists _; isplitr; swap; · iexact H27
    ipureintro; rfl
  isplitl [H28]
  · iexists _; isplitr; swap; · iexact H28
    ipureintro; rfl
  ipureintro
  refine ⟨⟨?_, ?_, ?_, ?_, ?_, ?_, ?_, ?_⟩, ?_⟩
  · exact fun k r l => read28_new i (View.read (Elt F) arg6.view f6) (View.read (Elt F) arg10.view f10) (View.read (Elt F) arg11.view f11) (View.read (Elt F) arg27.view f27) (View.read (Elt F) arg28.view f28) arg28.view f28 k r l
  · exact fun k r l => read28_hist i (View.read (Elt F) arg6.view f6) (View.read (Elt F) arg10.view f10) (View.read (Elt F) arg11.view f11) (View.read (Elt F) arg27.view f27) (View.read (Elt F) arg28.view f28) arg28.view f28 k r l
  · exact read27 i (View.read (Elt F) arg1.view f1) (View.read (Elt F) arg2.view f2) (View.read (Elt F) arg3.view f3) arg27.view f27
  · exact fun r k l => read19 i (View.read (Elt F) arg7.view f7) (View.read (Elt F) arg13.view f13) (View.read (Elt F) arg12.view f12) _ arg19.view f19 r k l
  · exact fun r c => read22 i (View.read (Elt F) arg7.view f7) (View.read (Elt F) arg13.view f13) (View.read (Elt F) arg12.view f12) _ arg22.view f22 r c
  · intro g r h hg hh
    refine ((read23_aux i (View.read (Elt F) arg7.view f7) (View.read (Elt F) arg13.view f13) (View.read (Elt F) arg12.view f12) _ arg23.view f23 16 le_rfl).1 g r h hg (by omega)).trans ?_
    rw [pay180_at, hh]
    simp [Scalar.select]
  · intro g h hg
    by_cases hb : g.val < 512 * mT i ∨ 512 * mT i + 512 ≤ g.val
    · exact (read23_aux i (View.read (Elt F) arg7.view f7) (View.read (Elt F) arg13.view f13) (View.read (Elt F) arg12.view f12) _ arg23.view f23 16 le_rfl).2 g h (by omega)
    · refine ((read23_aux i (View.read (Elt F) arg7.view f7) (View.read (Elt F) arg13.view f13) (View.read (Elt F) arg12.view f12) _ arg23.view f23 16 le_rfl).1 g ⟨g.val - 512 * mT i, by omega⟩ h (by show g.val = 512 * mT i + (g.val - 512 * mT i); omega) (by show g.val - 512 * mT i < 32 * 16; omega)).trans ?_
      have hh : h.val ≠ hT i := by omega
      rw [pay180_at]
      simp [Scalar.select, hh]
  · exact fun j k l => read24 _ arg24.view f24 j k l
  · exact fun r k l => read20 i _ _ _ _ _ arg20.view f20 r k l

end Cert.LruIdeal.Hand

end
-- ==== Proof.LFrameI.lean ====
module

public import proofs.«01_k».proof.Proof.Gen.LruIdeal.Frame
public import proofs.«01_k».proof.Proof.Gen.LruIdeal.Skeleton
public import proofs.«01_k».proof.Proof.Gen.LruIdeal.Points
public import proofs.«01_k».proof.Proof.LTileI
public import proofs.«01_k».proof.Proof.LBodyI
public import proofs.«01_k».proof.Proof.LDataI
public import Idealize.ShloMosaic.Lib.Pipeline.Frame
public import Idealize.ShloMosaic.Lib.Pipeline.FrameBody
public import Idealize.ShloMosaic.Lib.Pipeline.ArrRel
public import Idealize.ShloMosaic.Lib.Tactic

@[expose] public section

set_option maxRecDepth 16384

noncomputable section

namespace Cert.LruIdeal.Hand

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The body at a point of the pipeline -/

theorem defs₀_row (t : Fin cfg0.N) : defs₀ (F := F) .tc cfg0.body (cfg0.bodyArgs t (cfg0.slots t)) = bodyAt0 t := by
  unfold defs₀; rw [Defs.onTc_tc]

theorem after_18 (c : Dev nD) (t : Fin cfg0.N) (Y X) (h : 1 ≤ t.val → X = xcB m c t) : (rdat m c).after 18 t Y X := by
  unfold rdat; rw [RDat.override_after_of_eq_some _ (R := fun t _ X => 1 ≤ t.val → X = xcB m c t) rfl]; exact h
theorem after_19 (c : Dev nD) (t : Fin cfg0.N) (Y X) (h : 1 ≤ t.val → X = laB m c t) : (rdat m c).after 19 t Y X := by
  unfold rdat; rw [RDat.override_after_of_eq_some _ (R := fun t _ X => 1 ≤ t.val → X = laB m c t) rfl]; exact h
theorem after_20 (c : Dev nD) (t : Fin cfg0.N) (Y X) : (rdat m c).after 20 t Y X := by
  unfold rdat; rw [RDat.override_after_of_eq_some _ (R := fun _ _ _ => True) rfl]; trivial
theorem after_21 (c : Dev nD) (t : Fin cfg0.N) (Y X) (h : 1 ≤ t.val → X = codeB m c t) : (rdat m c).after 21 t Y X := by
  unfold rdat; rw [RDat.override_after_of_eq_some _ (R := fun t _ X => 1 ≤ t.val → X = codeB m c t) rfl]; exact h
theorem after_22 (c : Dev nD) (t : Fin cfg0.N) (Y X) (h : Sc m c t.val Y → Sc m c (t.val + 1) X) : (rdat m c).after 22 t Y X := by
  unfold rdat; rw [RDat.override_after_of_eq_some _ (R := fun t Y X => Sc m c t.val Y → Sc m c (t.val + 1) X) rfl]; exact h
theorem after_23 (c : Dev nD) (t : Fin cfg0.N) (Y X) (h : 1 ≤ t.val → X = cstB m c t) : (rdat m c).after 23 t Y X := by
  unfold rdat; rw [RDat.override_after_of_eq_some _ (R := fun t _ X => 1 ≤ t.val → X = cstB m c t) rfl]; exact h
theorem after_24 (c : Dev nD) (t : Fin cfg0.N) (Y X) : (rdat m c).after 24 t Y X := by
  unfold rdat; rw [RDat.override_after_of_eq_some _ (R := fun _ _ _ => True) rfl]; trivial
theorem after_25 (c : Dev nD) (t : Fin cfg0.N) (Y X) : (rdat m c).after 25 t Y X := by
  unfold rdat; rw [RDat.override_after_of_eq_some _ (R := fun _ _ _ => True) rfl]; trivial

set_option maxHeartbeats 4000000 in
/-- The body's step at point `t`: from the invariant, the blocks and any contents of the output windows. -/
theorem sound_body (c : Dev nD) (t : Fin cfg0.N) (Y : (w : Fin cfg0.W) → (cfg0.win w).block.Idx → Elt F (cfg0.win w).elt)
    (h0 : Y 0 = iblk m c 0 t) (h1 : Y 1 = iblk m c 1 t) (h2 : Y 2 = iblk m c 2 t) (h3 : Y 3 = iblk m c 3 t) (h4 : Y 4 = iblk m c 4 t) (h5 : Y 5 = iblk m c 5 t) (h6 : Y 6 = iblk m c 6 t) (h7 : Y 7 = iblk m c 7 t) (h8 : Y 8 = iblk m c 8 t) (h9 : Y 9 = iblk m c 9 t) (h10 : Y 10 = iblk m c 10 t) (h11 : Y 11 = iblk m c 11 t) (h12 : Y 12 = iblk m c 12 t) (h13 : Y 13 = iblk m c 13 t) (h14 : Y 14 = iblk m c 14 t) (h15 : Y 15 = iblk m c 15 t) (h16 : Y 16 = iblk m c 16 t) (h17 : Y 17 = iblk m c 17 t) :
    iprop(Inv m c t.val ∗ (rdat m c).owesAt () t.castSucc ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9) ∗ owns (c : Thread nD τ) ((cfg0.win 10).stage (cfg0.slots t 10)) fullShare (Y 10) ∗ owns (c : Thread nD τ) ((cfg0.win 11).stage (cfg0.slots t 11)) fullShare (Y 11) ∗ owns (c : Thread nD τ) ((cfg0.win 12).stage (cfg0.slots t 12)) fullShare (Y 12) ∗ owns (c : Thread nD τ) ((cfg0.win 13).stage (cfg0.slots t 13)) fullShare (Y 13) ∗ owns (c : Thread nD τ) ((cfg0.win 14).stage (cfg0.slots t 14)) fullShare (Y 14) ∗ owns (c : Thread nD τ) ((cfg0.win 15).stage (cfg0.slots t 15)) fullShare (Y 15) ∗ owns (c : Thread nD τ) ((cfg0.win 16).stage (cfg0.slots t 16)) fullShare (Y 16) ∗ owns (c : Thread nD τ) ((cfg0.win 17).stage (cfg0.slots t 17)) fullShare (Y 17) ∗ owns (c : Thread nD τ) ((cfg0.win 18).stage (cfg0.slots t 18)) fullShare (Y 18) ∗ owns (c : Thread nD τ) ((cfg0.win 19).stage (cfg0.slots t 19)) fullShare (Y 19) ∗ owns (c : Thread nD τ) ((cfg0.win 20).stage (cfg0.slots t 20)) fullShare (Y 20) ∗ owns (c : Thread nD τ) ((cfg0.win 21).stage (cfg0.slots t 21)) fullShare (Y 21) ∗ owns (c : Thread nD τ) ((cfg0.win 22).stage (cfg0.slots t 22)) fullShare (Y 22) ∗ owns (c : Thread nD τ) ((cfg0.win 23).stage (cfg0.slots t 23)) fullShare (Y 23) ∗ owns (c : Thread nD τ) ((cfg0.win 24).stage (cfg0.slots t 24)) fullShare (Y 24) ∗ owns (c : Thread nD τ) ((cfg0.win 25).stage (cfg0.slots t 25)) fullShare (Y 25))
      ⊢ wp frame (wpE (defs₀ (F := F)) Variants.none c none) Set.univ (bodyAt0 t) (fun _ =>
        iprop(Inv m c (t.val + 1) ∗ (rdat m c).owesAt () t.castSucc ∗ (∃ X, ⌜(rdat m c).after 0 t (Y 0) X⌝ ∗ owns (c : Thread nD τ) ((cfg0.win 0).stage (cfg0.slots t 0)) fullShare X) ∗ (∃ X, ⌜(rdat m c).after 1 t (Y 1) X⌝ ∗ owns (c : Thread nD τ) ((cfg0.win 1).stage (cfg0.slots t 1)) fullShare X) ∗ (∃ X, ⌜(rdat m c).after 2 t (Y 2) X⌝ ∗ owns (c : Thread nD τ) ((cfg0.win 2).stage (cfg0.slots t 2)) fullShare X) ∗ (∃ X, ⌜(rdat m c).after 3 t (Y 3) X⌝ ∗ owns (c : Thread nD τ) ((cfg0.win 3).stage (cfg0.slots t 3)) fullShare X) ∗ (∃ X, ⌜(rdat m c).after 4 t (Y 4) X⌝ ∗ owns (c : Thread nD τ) ((cfg0.win 4).stage (cfg0.slots t 4)) fullShare X) ∗ (∃ X, ⌜(rdat m c).after 5 t (Y 5) X⌝ ∗ owns (c : Thread nD τ) ((cfg0.win 5).stage (cfg0.slots t 5)) fullShare X) ∗ (∃ X, ⌜(rdat m c).after 6 t (Y 6) X⌝ ∗ owns (c : Thread nD τ) ((cfg0.win 6).stage (cfg0.slots t 6)) fullShare X) ∗ (∃ X, ⌜(rdat m c).after 7 t (Y 7) X⌝ ∗ owns (c : Thread nD τ) ((cfg0.win 7).stage (cfg0.slots t 7)) fullShare X) ∗ (∃ X, ⌜(rdat m c).after 8 t (Y 8) X⌝ ∗ owns (c : Thread nD τ) ((cfg0.win 8).stage (cfg0.slots t 8)) fullShare X) ∗ (∃ X, ⌜(rdat m c).after 9 t (Y 9) X⌝ ∗ owns (c : Thread nD τ) ((cfg0.win 9).stage (cfg0.slots t 9)) fullShare X) ∗ (∃ X, ⌜(rdat m c).after 10 t (Y 10) X⌝ ∗ owns (c : Thread nD τ) ((cfg0.win 10).stage (cfg0.slots t 10)) fullShare X) ∗ (∃ X, ⌜(rdat m c).after 11 t (Y 11) X⌝ ∗ owns (c : Thread nD τ) ((cfg0.win 11).stage (cfg0.slots t 11)) fullShare X) ∗ (∃ X, ⌜(rdat m c).after 12 t (Y 12) X⌝ ∗ owns (c : Thread nD τ) ((cfg0.win 12).stage (cfg0.slots t 12)) fullShare X) ∗ (∃ X, ⌜(rdat m c).after 13 t (Y 13) X⌝ ∗ owns (c : Thread nD τ) ((cfg0.win 13).stage (cfg0.slots t 13)) fullShare X) ∗ (∃ X, ⌜(rdat m c).after 14 t (Y 14) X⌝ ∗ owns (c : Thread nD τ) ((cfg0.win 14).stage (cfg0.slots t 14)) fullShare X) ∗ (∃ X, ⌜(rdat m c).after 15 t (Y 15) X⌝ ∗ owns (c : Thread nD τ) ((cfg0.win 15).stage (cfg0.slots t 15)) fullShare X) ∗ (∃ X, ⌜(rdat m c).after 16 t (Y 16) X⌝ ∗ owns (c : Thread nD τ) ((cfg0.win 16).stage (cfg0.slots t 16)) fullShare X) ∗ (∃ X, ⌜(rdat m c).after 17 t (Y 17) X⌝ ∗ owns (c : Thread nD τ) ((cfg0.win 17).stage (cfg0.slots t 17)) fullShare X) ∗ (∃ X, ⌜(rdat m c).after 18 t (Y 18) X⌝ ∗ owns (c : Thread nD τ) ((cfg0.win 18).stage (cfg0.slots t 18)) fullShare X) ∗ (∃ X, ⌜(rdat m c).after 19 t (Y 19) X⌝ ∗ owns (c : Thread nD τ) ((cfg0.win 19).stage (cfg0.slots t 19)) fullShare X) ∗ (∃ X, ⌜(rdat m c).after 20 t (Y 20) X⌝ ∗ owns (c : Thread nD τ) ((cfg0.win 20).stage (cfg0.slots t 20)) fullShare X) ∗ (∃ X, ⌜(rdat m c).after 21 t (Y 21) X⌝ ∗ owns (c : Thread nD τ) ((cfg0.win 21).stage (cfg0.slots t 21)) fullShare X) ∗ (∃ X, ⌜(rdat m c).after 22 t (Y 22) X⌝ ∗ owns (c : Thread nD τ) ((cfg0.win 22).stage (cfg0.slots t 22)) fullShare X) ∗ (∃ X, ⌜(rdat m c).after 23 t (Y 23) X⌝ ∗ owns (c : Thread nD τ) ((cfg0.win 23).stage (cfg0.slots t 23)) fullShare X) ∗ (∃ X, ⌜(rdat m c).after 24 t (Y 24) X⌝ ∗ owns (c : Thread nD τ) ((cfg0.win 24).stage (cfg0.slots t 24)) fullShare X) ∗ (∃ X, ⌜(rdat m c).after 25 t (Y 25) X⌝ ∗ owns (c : Thread nD τ) ((cfg0.win 25).stage (cfg0.slots t 25)) fullShare X))) := by
  unfold bodyAt0 Inv
  rw [h0, h1, h2, h3, h4, h5, h6, h7, h8, h9, h10, h11, h12, h13, h14, h15, h16, h17]
  iintro ⟨⟨⟨%Y27, %Y28, S0, S1, %hS⟩, ⟨%s2, S2⟩, ⟨%s3, S3⟩, ⟨%s4, S4⟩, ⟨%s5, S5⟩, ⟨%s6, S6⟩, ⟨%s7, S7⟩, Hg⟩, HO, H0, H1, H2, H3, H4, H5, H6, H7, H8, H9, H10, H11, H12, H13, H14, H15, H16, H17, H18, H19, H20, H21, H22, H23, H24, H25⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    (bX m c t) (bWy m c t) (bWx m c t) (iblk m c 3 t) (iblk m c 4 t) (bTok m c t) (bPos m c t) (iblk m c 7 t) (iblk m c 8 t) (bSx m c t) (bBx m c t) (bCw m c t) (bCb m c t) (iblk m c 13 t) (iblk m c 14 t) (iblk m c 15 t) (iblk m c 16 t) (iblk m c 17 t) (Y 18) (Y 19) (Y 20) (Y 21) (Y 22) (Y 23) (Y 24) (Y 25) Y27 Y28 s2 s3 s4 s5 s6 s7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, H10, H11, H12, H13, H14, H15, H16, H17, ⟨%d21, H20⟩, ⟨%d25, H24⟩, ⟨%d26, H25⟩, ⟨%d29, S2⟩, ⟨%d30, S3⟩, ⟨%d31, S4⟩, ⟨%d32, S5⟩, ⟨%d33, S6⟩, ⟨%d34, S7⟩, ⟨%X19, %X20, %X22, %X23, %X24, %X27, %X28, H18, H19, H21, H22, H23, S0, S1, %hPL⟩⟩
  obtain ⟨hP, hL⟩ := hPL
  obtain ⟨hS', hX, hC, hR, hT'⟩ := post_step m c t hS hP
  have hLa := la_step m c t (fun h1 => (hS'.2 (by omega)).trans (by rw [show t.val + 1 - 1 = t.val from rfl, pt_val])) hX hL
  isplitl [S0 S1 S2 S3 S4 S5 S6 S7 Hg]
  · isplitl [S0 S1]
    · iexists X27; iexists X28
      isplitl [S0]; · iexact S0
      isplitl [S1]; · iexact S1
      ipureintro; exact hS'
    isplitl [S2]; · iexists d29; iexact S2
    isplitl [S3]; · iexists d30; iexact S3
    isplitl [S4]; · iexists d31; iexact S4
    isplitl [S5]; · iexists d32; iexact S5
    isplitl [S6]; · iexists d33; iexact S6
    isplitl [S7]; · iexists d34; iexact S7
    iexact Hg
  isplitl [HO]; · iexact HO
  isplitl [H0]
  · iexists (iblk m c 0 t); isplitr; swap; · iexact H0
    ipureintro; exact after_0 m c t _
  isplitl [H1]
  · iexists (iblk m c 1 t); isplitr; swap; · iexact H1
    ipureintro; exact after_1 m c t _
  isplitl [H2]
  · iexists (iblk m c 2 t); isplitr; swap; · iexact H2
    ipureintro; exact after_2 m c t _
  isplitl [H3]
  · iexists (iblk m c 3 t); isplitr; swap; · iexact H3
    ipureintro; exact after_3 m c t _
  isplitl [H4]
  · iexists (iblk m c 4 t); isplitr; swap; · iexact H4
    ipureintro; exact after_4 m c t _
  isplitl [H5]
  · iexists (iblk m c 5 t); isplitr; swap; · iexact H5
    ipureintro; exact after_5 m c t _
  isplitl [H6]
  · iexists (iblk m c 6 t); isplitr; swap; · iexact H6
    ipureintro; exact after_6 m c t _
  isplitl [H7]
  · iexists (iblk m c 7 t); isplitr; swap; · iexact H7
    ipureintro; exact after_7 m c t _
  isplitl [H8]
  · iexists (iblk m c 8 t); isplitr; swap; · iexact H8
    ipureintro; exact after_8 m c t _
  isplitl [H9]
  · iexists (iblk m c 9 t); isplitr; swap; · iexact H9
    ipureintro; exact after_9 m c t _
  isplitl [H10]
  · iexists (iblk m c 10 t); isplitr; swap; · iexact H10
    ipureintro; exact after_10 m c t _
  isplitl [H11]
  · iexists (iblk m c 11 t); isplitr; swap; · iexact H11
    ipureintro; exact after_11 m c t _
  isplitl [H12]
  · iexists (iblk m c 12 t); isplitr; swap; · iexact H12
    ipureintro; exact after_12 m c t _
  isplitl [H13]
  · iexists (iblk m c 13 t); isplitr; swap; · iexact H13
    ipureintro; exact after_13 m c t _
  isplitl [H14]
  · iexists (iblk m c 14 t); isplitr; swap; · iexact H14
    ipureintro; exact after_14 m c t _
  isplitl [H15]
  · iexists (iblk m c 15 t); isplitr; swap; · iexact H15
    ipureintro; exact after_15 m c t _
  isplitl [H16]
  · iexists (iblk m c 16 t); isplitr; swap; · iexact H16
    ipureintro; exact after_16 m c t _
  isplitl [H17]
  · iexists (iblk m c 17 t); isplitr; swap; · iexact H17
    ipureintro; exact after_17 m c t _
  isplitl [H18]
  · iexists X19; isplitr; swap; · iexact H18
    ipureintro; exact after_18 m c t _ _ hX
  isplitl [H19]
  · iexists X20; isplitr; swap; · iexact H19
    ipureintro; exact after_19 m c t _ _ hLa
  isplitl [H20]
  · iexists d21; isplitr; swap; · iexact H20
    ipureintro; exact after_20 m c t _ _
  isplitl [H21]
  · iexists X22; isplitr; swap; · iexact H21
    ipureintro; exact after_21 m c t _ _ hC
  isplitl [H22]
  · iexists X23; isplitr; swap; · iexact H22
    ipureintro; exact after_22 m c t _ _ hR
  isplitl [H23]
  · iexists X24; isplitr; swap; · iexact H23
    ipureintro; exact after_23 m c t _ _ hT'
  isplitl [H24]
  · iexists d25; isplitr; swap; · iexact H24
    ipureintro; exact after_24 m c t _ _
  iexists d26; isplitr; swap; · iexact H25
  ipureintro; exact after_25 m c t _ _

theorem body_obligation (c : Dev nD) : (rdat m c).BodyObligation (defs₀ (F := F)) Variants.none () Set.univ := fun t Y hY => by
  rw [bigSep_W0, bigSep_W0, defs₀_row]
  exact triple_restated (sound_body m c t Y (finds_0 m c t _ (hY 0)) (finds_1 m c t _ (hY 1)) (finds_2 m c t _ (hY 2)) (finds_3 m c t _ (hY 3)) (finds_4 m c t _ (hY 4)) (finds_5 m c t _ (hY 5)) (finds_6 m c t _ (hY 6)) (finds_7 m c t _ (hY 7)) (finds_8 m c t _ (hY 8)) (finds_9 m c t _ (hY 9)) (finds_10 m c t _ (hY 10)) (finds_11 m c t _ (hY 11)) (finds_12 m c t _ (hY 12)) (finds_13 m c t _ (hY 13)) (finds_14 m c t _ (hY 14)) (finds_15 m c t _ (hY 15)) (finds_16 m c t _ (hY 16)) (finds_17 m c t _ (hY 17))) rfl .rfl fun _ => .rfl

/-! ## The launch -/

theorem inv_in (c : Dev nD) : (Pipeline.ΦA spec0 c : sProp 𝕄) ⊢ Inv m c 0 := by
  unfold Pipeline.ΦA Inv
  rw [scopedRest0_eq]
  simp only [owns_whole]
  iintro ⟨⟨⟨%f0, S0⟩, ⟨%f1, S1⟩, ⟨%f2, S2⟩, ⟨%f3, S3⟩, ⟨%f4, S4⟩, ⟨%f5, S5⟩, ⟨%f6, S6⟩, ⟨%f7, S7⟩⟩, Hg⟩
  isplitl [S0 S1]
  · iexists f0; iexists f1
    isplitl [S0]; · iexact S0
    isplitl [S1]; · iexact S1
    ipureintro; exact ⟨fun h => absurd h (by omega), fun h => absurd h (by omega)⟩
  isplitl [S2]; · iexists f2; iexact S2
  isplitl [S3]; · iexists f3; iexact S3
  isplitl [S4]; · iexists f4; iexact S4
  isplitl [S5]; · iexists f5; iexact S5
  isplitl [S6]; · iexists f6; iexact S6
  isplitl [S7]; · iexists f7; iexact S7
  iexact Hg
theorem inv_out (c : Dev nD) (n : ℕ) : Inv m c n ⊢ (Pipeline.ΦA spec0 c : sProp 𝕄) := by
  unfold Pipeline.ΦA Inv
  rw [scopedRest0_eq]
  simp only [owns_whole]
  iintro ⟨⟨%f0, %f1, S0, S1, %h⟩, ⟨%f2, S2⟩, ⟨%f3, S3⟩, ⟨%f4, S4⟩, ⟨%f5, S5⟩, ⟨%f6, S6⟩, ⟨%f7, S7⟩, Hg⟩
  isplitl [S0 S1 S2 S3 S4 S5 S6 S7]
  · skip
    isplitl [S0]; · iexists f0; iexact S0
    isplitl [S1]; · iexists f1; iexact S1
    isplitl [S2]; · iexists f2; iexact S2
    isplitl [S3]; · iexists f3; iexact S3
    isplitl [S4]; · iexists f4; iexact S4
    isplitl [S5]; · iexists f5; iexact S5
    isplitl [S6]; · iexists f6; iexact S6
    iexists f7; iexact S7
  · iexact Hg

set_option backward.isDefEq.respectTransparency.types false in
/-- From any memory with zero counters every execution of @main ends, and in every final state the arrays hold what the proof
    data say and every counter is zero. -/
theorem run_main :
    θ_run defs (onTc (τ := τ) (main (F := F))) (s₀ m ρ)
      (fun r => RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c => (dat m c).share_full fun _ => rfl)
    (howed := fun _ _ => rfl) (V := V m) (hmain := hmain m Variants.none) (hA := dat_A m)
    (hin := inv_in m) (hout := fun c => inv_out m c _)

/-- The arguments end as they began. -/
theorem args_kept {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  ⟨(h.arr_in c 0 rfl).trans ((dat_A m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (h.arr_in c 1 rfl).trans ((dat_A m c 1).trans (V_main_arg3 m c)),
    (h.arr_in c 2 rfl).trans ((dat_A m c 2).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    (h.arr_in c 11 rfl).trans ((dat_A m c 11).trans (V_main_arg9 m c)),
    ((h c).2 main_arg10 (Pipeline.mem_restRefs_of main_arg10 (by decide) (by decide))).trans (V_main_arg10 m c),
    (h.arr_in c 3 rfl).trans ((dat_A m c 3).trans (V_main_arg11 m c)),
    (h.arr_in c 4 rfl).trans ((dat_A m c 4).trans (V_main_arg12 m c)),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c)⟩

end Cert.LruIdeal.Hand

end
-- ==== Proof.LWinI.lean ====
module

public import proofs.«01_k».proof.Proof.Gen.LruIdeal.Frame
public import proofs.«01_k».proof.Proof.Gen.LruIdeal.Skeleton
public import proofs.«01_k».proof.Proof.Gen.LruIdeal.Points
public import Idealize.ShloMosaic.Lib.Pipeline.Frame
public import Idealize.ShloMosaic.Lib.Pipeline.FrameBody
public import Idealize.ShloMosaic.Lib.Tactic
public import Idealize.ShloMosaic.Lib.VecWindow
public import Idealize.ShloMosaic.Lib.WritesUnit
public import Idealize.ShloMosaic.Lib.Pointwise
public import proofs.«01_k».proof.Proof.LTileI

public import proofs.«01_k».proof.Proof.LKerVal
public import proofs.«01_k».proof.Proof.LFrameI

/-!
  The arrays the kernel leaves.
-/

@[expose] public section

set_option maxRecDepth 16384

noncomputable section

namespace Cert.LruIdeal.Hand

open Cert.LruIdeal Cert.LruIdeal.Gen
open Idealize.ShloMosaic Idealize.ShloMosaic.TcCoe Idealize.ShloMosaic.Tactic
open Idealize.ShloMosaic.Pipeline (Cfg Dat RDat)
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

theorem fetch_out : ∀ t : Fin cfg0.N, (cfg0.win 22).fetch t = false := (by decide +kernel : ∀ t : Fin grid0.N, _)
theorem flush_18 : ∀ t : Fin cfg0.N, (cfg0.win 18).flush t = true → 1 ≤ t.val := (by decide +kernel : ∀ t : Fin grid0.N, _)
theorem flush_19 : ∀ t : Fin cfg0.N, (cfg0.win 19).flush t = true → 1 ≤ t.val := (by decide +kernel : ∀ t : Fin grid0.N, _)
theorem flush_21 : ∀ t : Fin cfg0.N, (cfg0.win 21).flush t = true → 1 ≤ t.val := (by decide +kernel : ∀ t : Fin grid0.N, _)
theorem flush_22 : ∀ t : Fin cfg0.N, t.val < 72 → (cfg0.win 22).flush t = false := (by decide +kernel : ∀ t : Fin grid0.N, _)
theorem flush_23 : ∀ t : Fin cfg0.N, (cfg0.win 23).flush t = true → 1 ≤ t.val ∧ (t.val - 1) % 4 % 2 = 1 := (by decide +kernel : ∀ t : Fin grid0.N, _)

/-- What the data say of the five output windows, read back. -/
theorem said_18 (c : Dev nD) (t : Fin cfg0.N) (Y X) (h : (rdat m c).after 18 t Y X) : 1 ≤ t.val → X = xcB m c t := by
  unfold rdat at h; rw [RDat.override_after_of_eq_some _ (R := fun t _ X => 1 ≤ t.val → X = xcB m c t) rfl] at h; exact h
theorem said_19 (c : Dev nD) (t : Fin cfg0.N) (Y X) (h : (rdat m c).after 19 t Y X) : 1 ≤ t.val → X = laB m c t := by
  unfold rdat at h; rw [RDat.override_after_of_eq_some _ (R := fun t _ X => 1 ≤ t.val → X = laB m c t) rfl] at h; exact h
theorem said_21 (c : Dev nD) (t : Fin cfg0.N) (Y X) (h : (rdat m c).after 21 t Y X) : 1 ≤ t.val → X = codeB m c t := by
  unfold rdat at h; rw [RDat.override_after_of_eq_some _ (R := fun t _ X => 1 ≤ t.val → X = codeB m c t) rfl] at h; exact h
theorem said_22 (c : Dev nD) (t : Fin cfg0.N) (Y X) (h : (rdat m c).after 22 t Y X) : Sc m c t.val Y → Sc m c (t.val + 1) X := by
  unfold rdat at h; rw [RDat.override_after_of_eq_some _ (R := fun t Y X => Sc m c t.val Y → Sc m c (t.val + 1) X) rfl] at h; exact h
theorem said_23 (c : Dev nD) (t : Fin cfg0.N) (Y X) (h : (rdat m c).after 23 t Y X) : 1 ≤ t.val → X = cstB m c t := by
  unfold rdat at h; rw [RDat.override_after_of_eq_some _ (R := fun t _ X => 1 ≤ t.val → X = cstB m c t) rfl] at h; exact h

theorem leaves_18 (c : Dev nD) (t : Fin cfg0.N) (X) (h : (rdat m c).Leaves 18 t X) : 1 ≤ t.val → X = xcB m c t := by
  obtain ⟨Y, _, hY⟩ := h
  exact said_18 m c t Y X hY
theorem leaves_19 (c : Dev nD) (t : Fin cfg0.N) (X) (h : (rdat m c).Leaves 19 t X) : 1 ≤ t.val → X = laB m c t := by
  obtain ⟨Y, _, hY⟩ := h
  exact said_19 m c t Y X hY
theorem leaves_21 (c : Dev nD) (t : Fin cfg0.N) (X) (h : (rdat m c).Leaves 21 t X) : 1 ≤ t.val → X = codeB m c t := by
  obtain ⟨Y, _, hY⟩ := h
  exact said_21 m c t Y X hY
theorem leaves_23 (c : Dev nD) (t : Fin cfg0.N) (X) (h : (rdat m c).Leaves 23 t X) : 1 ≤ t.val → X = cstB m c t := by
  obtain ⟨Y, _, hY⟩ := h
  exact said_23 m c t Y X hY
/-- The resident scales hold every tile's scales. -/
theorem leaves_22 (c : Dev nD) : ∀ n (hn : n < cfg0.N) (X), (rdat m c).Leaves 22 ⟨n, hn⟩ X → Sc m c (n + 1) X := by
  intro n
  induction n with
  | zero =>
    intro hn X h
    obtain ⟨Y, _, hY⟩ := h
    exact said_22 m c _ Y X hY fun u h1 hu => absurd hu (Nat.not_lt_zero _)
  | succ n ih =>
    intro hn X h
    obtain ⟨Y, hF, hY⟩ := h
    have hN : n + 1 < 73 := lt_of_lt_of_eq hn N_0
    refine said_22 m c _ Y X hY ?_
    have hL := ((rdat m c).finds_of_pos (fetch_out _) (by show n + 1 ≠ 0; omega) Y).mp hF
    have hfl := flush_22 ⟨n, by omega⟩ (by show n < 72; omega)
    rcases hL with hL | hL
    · exact absurd (hfl.symm.trans hL) Bool.false_ne_true
    · exact ih (by omega) Y hL

theorem st_lt (y : S2x3x6912.Idx) : (y 0).val * 1024 + (1021 + (y 1).val) < 2048 := by
  have h0 : (y 0).val < 2 := (y 0).isLt
  have h1 : (y 1).val < 3 := (y 1).isLt
  omega

/-! The five results, for exact data whose output windows hold what the body leaves. -/

section
variable (c : Dev nD) (d : Dat τ (Elt Ideal) Unit ℕ (UR sig nD τ) ℕ cfg0 c)

theorem arr_18 (h : ∀ t, (cfg0.win 18).flush t = true → d.after 18 t = xcB m c t) : d.arrAt 18 cfg0.N =
    fun y : S2048x6912.Idx => (conv m c (y 0) (y 1) : EReal) := by
  refine d.arrAt_eq_of_covers 18 _ (by decide +kernel) fun t hf y => ?_
  have h1 := flush_18 t hf
  rw [h t hf]
  blk_simp [idxO t]
  refine (congrArg _ (eq_ix2 y)).trans (xc_val m c t h1 (y 0) (y 1) _ _ ?_ ?_)
  · blk_simp [idxO t] <;> omega
  · blk_simp [idxO t] <;> omega
theorem arr_19 (h : ∀ t, (cfg0.win 19).flush t = true → d.after 19 t = laB m c t) : d.arrAt 19 cfg0.N =
    fun y : S2048x6912.Idx => (LruSpec.laA (conv m c) (gate m c) (gscale m c) (gbias m c) (decay m c) (y 0) (y 1) : EReal) := by
  refine d.arrAt_eq_of_covers 19 _ (by decide +kernel) fun t hf y => ?_
  have h1 := flush_19 t hf
  rw [h t hf]
  blk_simp [idxG t]
  refine (congrArg _ (eq_ix2 y)).trans (la_val m c t h1 (y 0) (y 1) _ _ ?_ ?_)
  · blk_simp [idxG t] <;> omega
  · blk_simp [idxG t] <;> omega
theorem arr_21 (h : ∀ t, (cfg0.win 21).flush t = true → d.after 21 t = codeB m c t) : d.arrAt 21 cfg0.N =
    fun y : S2048x6912.Idx => LruSpec.codeA (conv m c) (y 0) (y 1) := by
  refine d.arrAt_eq_of_covers 21 _ (by decide +kernel) fun t hf y => ?_
  have h1 := flush_21 t hf
  rw [h t hf]
  blk_simp [idxO t]
  refine (congrArg _ (eq_ix2 y)).trans (code_val m c t h1 (y 0) (y 1) _ _ ?_ ?_)
  · blk_simp [idxO t] <;> omega
  · blk_simp [idxO t] <;> omega
theorem arr_23 (h : ∀ t, (cfg0.win 23).flush t = true → d.after 23 t = cstB m c t) : d.arrAt 23 cfg0.N =
    fun y : S2x3x6912.Idx => (branch m c ⟨(y 0).val * 1024 + (1021 + (y 1).val), st_lt y⟩ (y 2) : EReal) := by
  refine d.arrAt_eq_of_covers 23 _ (by decide +kernel) fun t hf y => ?_
  have h1 := flush_23 t hf
  rw [h t hf]
  have hy : (y 0).val < 1 := (y 0).isLt
  have e0 : y = ix3 (0 : Fin 1) (y 1) (y 2) := by
    refine (eq_ix3 y).trans ?_
    exact congrArg (fun q => ix3 q (y 1) (y 2)) (Fin.ext (by show (y 0).val = 0; omega))
  blk_simp [idxO t]
  refine (congrArg _ e0).trans (cst_val m c t h1.1 h1.2 (y 1) (y 2) _ _ ?_ ?_)
  · blk_simp [idxO t] <;> omega
  · blk_simp [idxO t] <;> omega
theorem arr_22 (h : Sc m c 73 (d.after 22 (pt 72))) : d.arrAt 22 cfg0.N =
    fun y : S2048x18.Idx => (LruSpec.scA (conv m c) (y 0) (y 1) : EReal) := by
  refine d.arrAt_eq_of_after_last 22 (pt 72) (by decide +kernel) _ fun j => ?_
  blk_simp
  have h0 : (j 0).val < 2048 := (j 0).isLt
  have h1 : (j 1).val < 18 := (j 1).isLt
  have hp : (pt (4 * (j 1).val + (j 0).val / 512 + 1)).val = 4 * (j 1).val + (j 0).val / 512 + 1 := by
    show min (4 * (j 1).val + (j 0).val / 512 + 1) 72 = _
    omega
  refine (congrArg _ (eq_ix2 j)).trans ((h (4 * (j 1).val + (j 0).val / 512 + 1) (by omega) (by omega) (j 0) ⟨(j 0).val % 512, by omega⟩ (j 1) ?_ ?_).trans ?_)
  · show (j 0).val = 512 * ((4 * (j 1).val + (j 0).val / 512 + 1 - 1) % 4) + (j 0).val % 512
    omega
  · show (j 1).val = (4 * (j 1).val + (j 0).val / 512 + 1 - 1) / 4
    omega
  · refine sc_val m c _ (by rw [hp]; omega) _ (j 0) (j 1) ?_ ?_
    · rw [hp]
      show (j 0).val = 512 * ((4 * (j 1).val + (j 0).val / 512 + 1 - 1) % 4) + (j 0).val % 512
      omega
    · rw [hp]
      show (j 1).val = (4 * (j 1).val + (j 0).val / 512 + 1 - 1) / 4
      omega
end

/-- What a run leaves in the five results. -/
theorem results {r : PUnit × MemSt nD τ sig (Elt Ideal)} (h : RDat.FramePost (cfgs 0) (rdat m) (V m) r) (c : Dev nD) :
    r.2.mem ((c.tc : Thread nD τ).loc main_v14_0) = (fun y : S2048x6912.Idx => (conv m c (y 0) (y 1) : EReal))
      ∧ r.2.mem ((c.tc : Thread nD τ).loc main_v14_5) =
        (fun y : S2x3x6912.Idx => (branch m c ⟨(y 0).val * 1024 + (1021 + (y 1).val), st_lt y⟩ (y 2) : EReal))
      ∧ r.2.mem ((c.tc : Thread nD τ).loc main_v14_3) = (fun y : S2048x6912.Idx => LruSpec.codeA (conv m c) (y 0) (y 1))
      ∧ r.2.mem ((c.tc : Thread nD τ).loc main_v14_4) = (fun y : S2048x18.Idx => (LruSpec.scA (conv m c) (y 0) (y 1) : EReal))
      ∧ r.2.mem ((c.tc : Thread nD τ).loc main_v14_1) =
        (fun y : S2048x6912.Idx => (LruSpec.laA (conv m c) (gate m c) (gscale m c) (gbias m c) (decay m c) (y 0) (y 1) : EReal)) := by
  obtain ⟨after, hL, hA⟩ := h.exists_exact c
  refine ⟨(hA 18).trans (arr_18 m c _ fun t hf => ?_), (hA 23).trans (arr_23 m c _ fun t hf => ?_), (hA 21).trans (arr_21 m c _ fun t hf => ?_),
    (hA 22).trans (arr_22 m c _ ?_), (hA 19).trans (arr_19 m c _ fun t hf => ?_)⟩
  · exact leaves_18 m c t _ (hL 18 t hf) (flush_18 t hf)
  · exact leaves_23 m c t _ (hL 23 t hf) (flush_23 t hf).1
  · exact leaves_21 m c t _ (hL 21 t hf) (flush_21 t hf)
  · exact leaves_22 m c 72 (by rw [show cfg0.N = 73 from N_0]; omega) _ (hL 22 (pt 72) ((flush0_22 _).2 rfl))
  · exact leaves_19 m c t _ (hL 19 t hf) (flush_19 t hf)

end Cert.LruIdeal.Hand

end
-- ==== Proof.LRefPure.lean ====
module

public import proofs.«01_k».proof.Proof.Gen.LruReferenceIdeal.Frame
public import proofs.«01_k».proof.Proof.Gen.LruReferenceIdeal.Skeleton
public import proofs.«01_k».proof.Proof.Gen.LruReferenceIdeal.Points
public import Idealize.ShloMosaic.Lib.Pipeline.Frame
public import Idealize.ShloMosaic.Lib.Pipeline.FrameBody
public import Idealize.ShloMosaic.Lib.Tactic
public import Idealize.ShloMosaic.Lib.Pointwise

public import proofs.«01_k».proof.Proof.LSpec

/-!
  What the reference computes, index by index.
-/

@[expose] public section

set_option maxRecDepth 16384

noncomputable section

namespace Cert.LruReferenceIdeal.Hand

open Cert.LruReferenceIdeal Cert.LruReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Row `g` of the 2048 rows: its batch and its position. -/
abbrev rb (g : Fin 2048) : Fin 2 := ⟨g.val / 1024, by omega⟩
abbrev rs (g : Fin 2048) : Fin 1024 := ⟨g.val % 1024, by omega⟩
/-- The row at batch `b`, position `s`. -/
abbrev rg (b : Fin 2) (s : Fin 1024) : Fin 2048 := ⟨b.val * 1024 + s.val, by omega⟩

/-- The product of the rows with the weights. -/
def accOf (x : FVec Ideal S2048x5120 .bf16) (w : Vec Ideal S5120x6912 .i8) : FVec Ideal S2048x6912 .f32 :=
  matmul dot_S2048x5120_S5120x6912_S2048x6912_1_0_0_1_n_n none x (sitofp .bf16 w : FVec Ideal S5120x6912 .bf16) (constant S2048x6912 .f32 0x00000000#32)
theorem accOf_eq (x : FVec Ideal S2048x5120 .bf16) (w : Vec Ideal S5120x6912 .i8) (g : Fin 2048) (j : Fin 6912) :
    accOf x w (ix2 g j) = (∑ k, x (ix2 g k) * (((w (ix2 k j)).toInt : ℝ) : EReal) : EReal) := by
  pointwise [accOf]
  rfl
/-- The branch: the product `A`, scaled and with its bias. -/
def xbOf (A : FVec Ideal S2048x6912 .f32) (tok : FVec Ideal S2x1024 .f32) (sx bx : FVec Ideal S1x6912 .f32) : FVec Ideal S2x1024x6912 .f32 :=
  addf (mulf (mulf (shapeCast S2x1024x6912 A shapeCasts_S2048x6912_S2x1024x6912)
      (broadcastTo S2x1024x6912 (shapeCast S2x1024x1 tok shapeCasts_S2x1024_S2x1024x1) broadcasts_S2x1024x1_S2x1024x6912))
      (broadcastTo S2x1024x6912 (shapeCast S1x1x6912 (shapeCast S1x6912 sx shapeCasts_S1x6912_S1x6912) shapeCasts_S1x6912_S1x1x6912) broadcasts_S1x1x6912_S2x1024x6912))
      (broadcastTo S2x1024x6912 (shapeCast S1x1x6912 (shapeCast S1x6912 bx shapeCasts_S1x6912_S1x6912) shapeCasts_S1x6912_S1x1x6912) broadcasts_S1x1x6912_S2x1024x6912)
theorem pay2_fold (x : Vec Ideal S2048x5120 .bf16) (w : Vec Ideal S5120x6912 .i8) (tok : Vec Ideal S2x1024 .f32) (sx bx : Vec Ideal S1x6912 .f32) :
    k0_pay2 x w tok sx bx = xbOf (accOf x w) tok sx bx := rfl
theorem xbOf_eq (A : FVec Ideal S2048x6912 .f32) (tok : FVec Ideal S2x1024 .f32) (sx bx : FVec Ideal S1x6912 .f32) (b : Fin 2) (s : Fin 1024) (j : Fin 6912) :
    xbOf A tok sx bx (ix3 b s j) = (A (ix2 (rg b s) j) * tok (ix2 b s) * sx (ix2 0 j) + bx (ix2 0 j) : EReal) := by
  pointwise [xbOf]

/-- The branch one, two and three rows back. -/
def late1 (X : FVec Ideal S2x1024x6912 .f32) : FVec Ideal S2x1024x6912 .f32 :=
  concatenate S2x1024x6912 1 [⟨S2x1x6912, (broadcast S2x1x6912 (Scalar.ofBits .f32 0x00000000#32 : Ideal .f32) : FVec Ideal S2x1x6912 .f32)⟩,
    ⟨S2x1023x6912, extractStridedSlice S2x1023x6912 ![0, 0, 0] X slices_S2x1024x6912_o0_0_0_S2x1023x6912⟩] concatenates_S2x1x6912_S2x1023x6912_S2x1024x6912_d1
def late2 (X : FVec Ideal S2x1024x6912 .f32) : FVec Ideal S2x1024x6912 .f32 :=
  concatenate S2x1024x6912 1 [⟨S2x2x6912, (broadcast S2x2x6912 (Scalar.ofBits .f32 0x00000000#32 : Ideal .f32) : FVec Ideal S2x2x6912 .f32)⟩,
    ⟨S2x1022x6912, extractStridedSlice S2x1022x6912 ![0, 0, 0] X slices_S2x1024x6912_o0_0_0_S2x1022x6912⟩] concatenates_S2x2x6912_S2x1022x6912_S2x1024x6912_d1
def late3 (X : FVec Ideal S2x1024x6912 .f32) : FVec Ideal S2x1024x6912 .f32 :=
  concatenate S2x1024x6912 1 [⟨S2x3x6912, (broadcast S2x3x6912 (Scalar.ofBits .f32 0x00000000#32 : Ideal .f32) : FVec Ideal S2x3x6912 .f32)⟩,
    ⟨S2x1021x6912, extractStridedSlice S2x1021x6912 ![0, 0, 0] X slices_S2x1024x6912_o0_0_0_S2x1021x6912⟩] concatenates_S2x3x6912_S2x1021x6912_S2x1024x6912_d1
/-- A tap: the branch some rows back times its row of weights, where the position has reached `i`. -/
def tapOf (L : FVec Ideal S2x1024x6912 .f32) (pos : IVec S2x1024x1 32) (i : BitVec 32) (cw : FVec Ideal S1x6912 .f32) : FVec Ideal S2x1024x6912 .f32 :=
  select (broadcastTo S2x1024x6912 (shapeCast S2x1024x1 (cmpi .sge pos (broadcast S2x1024x1 i)) shapeCasts_S2x1024x1_S2x1024x1) broadcasts_S2x1024x1_S2x1024x6912)
    (mulf L (broadcastTo S2x1024x6912 (shapeCast S1x1x6912 cw shapeCasts_S1x6912_S1x1x6912) broadcasts_S1x1x6912_S2x1024x6912))
    (broadcast S2x1024x6912 (Scalar.ofBits .f32 0x00000000#32))
def cbOf (cb : FVec Ideal S1x6912 .f32) : FVec Ideal S2x1024x6912 .f32 :=
  broadcastTo S2x1024x6912 (shapeCast S1x1x6912 (shapeCast S1x6912 cb shapeCasts_S1x6912_S1x6912) shapeCasts_S1x6912_S1x1x6912) broadcasts_S1x1x6912_S2x1024x6912
theorem pay4_fold (x : Vec Ideal S2048x5120 .bf16) (w : Vec Ideal S5120x6912 .i8) (tok : Vec Ideal S2x1024 .f32) (sx bx : Vec Ideal S1x6912 .f32)
    (pos : Vec Ideal S2x1024 .i32) (cb c3 : Vec Ideal S1x6912 .f32) :
    k0_pay4 x w tok sx bx pos cb c3 = addf (cbOf cb) (tapOf (k0_pay2 x w tok sx bx) (k0_pay3 pos) 0#32 c3) := rfl
theorem pay5_fold (x : Vec Ideal S2048x5120 .bf16) (w : Vec Ideal S5120x6912 .i8) (tok : Vec Ideal S2x1024 .f32) (sx bx : Vec Ideal S1x6912 .f32) :
    k0_pay5 x w tok sx bx = late1 (k0_pay2 x w tok sx bx) := rfl
theorem pay6_fold (X : FVec Ideal S2x1024x6912 .f32) (pos : IVec S2x1024x1 32) (P L : FVec Ideal S2x1024x6912 .f32) (c2 c1 c0 : Vec Ideal S1x6912 .f32) :
    k0_pay6 X pos P L 1#32 c2 c1 c0 = addf (addf (addf P (tapOf L pos 1#32 c2)) (tapOf (late2 X) pos 2#32 c1)) (tapOf (late3 X) pos 3#32 c0) := rfl
theorem tapOf_eq (L : FVec Ideal S2x1024x6912 .f32) (pos : IVec S2x1024x1 32) (i : BitVec 32) (cw : FVec Ideal S1x6912 .f32) (b : Fin 2) (s : Fin 1024) (j : Fin 6912) :
    tapOf L pos i cw (ix3 b s j) = (if i.sle (pos (ix3 b s 0)) then L (ix3 b s j) * cw (ix2 0 j) else 0 : EReal) := by
  pointwise [tapOf]
  exact Cert.LruSpec.sel_sle _ _ _ _
theorem cbOf_eq (cb : FVec Ideal S1x6912 .f32) (b : Fin 2) (s : Fin 1024) (j : Fin 6912) : cbOf cb (ix3 b s j) = (cb (ix2 0 j) : EReal) := by
  pointwise [cbOf]
theorem late1_eq (X : FVec Ideal S2x1024x6912 .f32) (b : Fin 2) (s : Fin 1024) (j : Fin 6912) :
    late1 X (ix3 b s j) = (if s.val < 1 then 0 else X (ix3 b ⟨s.val - 1, by omega⟩ j) : EReal) := by
  pointwise [late1]
  rfl
theorem late2_eq (X : FVec Ideal S2x1024x6912 .f32) (b : Fin 2) (s : Fin 1024) (j : Fin 6912) :
    late2 X (ix3 b s j) = (if s.val < 2 then 0 else X (ix3 b ⟨s.val - 2, by omega⟩ j) : EReal) := by
  pointwise [late2]
  rfl
theorem late3_eq (X : FVec Ideal S2x1024x6912 .f32) (b : Fin 2) (s : Fin 1024) (j : Fin 6912) :
    late3 X (ix3 b s j) = (if s.val < 3 then 0 else X (ix3 b ⟨s.val - 3, by omega⟩ j) : EReal) := by
  pointwise [late3]
  rfl
theorem pay3_eq (pos : Vec Ideal S2x1024 .i32) (b : Fin 2) (s : Fin 1024) : k0_pay3 (F := Ideal) pos (ix3 b s 0) = pos (ix2 b s) := by
  pointwise [k0_pay3]

/-- The scales of the heads whose largest magnitudes are `M`. -/
def scaleOf (M : FVec Ideal S2x1024x18 .f32) : FVec Ideal S2x1024x18 .f32 :=
  select (cmpf .oeq M (broadcast S2x1024x18 (Scalar.ofBits .f32 0x00000000#32))) (broadcast S2x1024x18 (Scalar.ofBits .f32 0x3F800000#32))
    (divf M (broadcast S2x1024x18 (Scalar.ofBits .f32 0x42FE0000#32)))
theorem scaleOf_eq (M : FVec Ideal S2x1024x18 .f32) (b : Fin 2) (s : Fin 1024) (h : Fin 18) : scaleOf M (ix3 b s h) = Spec.scl (M (ix3 b s h)) := by
  pointwise [scaleOf]
  rfl
theorem red_eq (y : FVec Ideal S2x1024x18x384 .f32) (b : Fin 2) (s : Fin 1024) (h : Fin 18) :
    multiReduction (F := Ideal) .maximumf [3] S2x1024x18 (absf y) 0xFF800000#32 reduces_S2x1024x18x384_S2x1024x18 (.inl rfl) rfl (ix3 b s h) =
      Finset.fold max (Ideal.ofBits .f32 0xFF800000#32) (fun k => max (y (ix4 b s h k)) (-(y (ix4 b s h k)) : EReal)) Finset.univ := by
  pointwise
  rfl
/-- The heads apart. -/
def heads (X : FVec Ideal S2x1024x6912 .f32) : FVec Ideal S2x1024x18x384 .f32 := shapeCast S2x1024x18x384 X shapeCasts_S2x1024x6912_S2x1024x18x384
theorem heads_eq (X : FVec Ideal S2x1024x6912 .f32) (b : Fin 2) (s : Fin 1024) (h : Fin 18) (k : Fin 384) :
    heads X (ix4 b s h k) = X (ix3 b s ⟨h.val * 384 + k.val, by omega⟩) := by
  pointwise [heads]
def bigOf (X : FVec Ideal S2x1024x6912 .f32) : FVec Ideal S2x1024x18 .f32 :=
  multiReduction (F := Ideal) .maximumf [3] S2x1024x18 (absf (heads X)) 0xFF800000#32 reduces_S2x1024x18x384_S2x1024x18 (.inl rfl) rfl
theorem bigOf_eq (X : FVec Ideal S2x1024x6912 .f32) (b : Fin 2) (s : Fin 1024) (h : Fin 18) :
    bigOf X (ix3 b s h) = Finset.fold max (Ideal.ofBits .f32 0xFF800000#32) (fun k : Fin 384 => max (X (ix3 b s ⟨h.val * 384 + k.val, by omega⟩)) (-(X (ix3 b s ⟨h.val * 384 + k.val, by omega⟩)) : EReal)) Finset.univ := by
  unfold bigOf
  rw [red_eq]
  simp only [heads_eq]
/-- The codes of `H` at the scales `M`. -/
def codesOf (H : FVec Ideal S2x1024x18x384 .f32) (M : FVec Ideal S2x1024x18 .f32) : IVec S2x1024x18x384 8 :=
  fptosi 8 (minimumf (broadcast S2x1024x18x384 (Scalar.sitofp .f32 127#32)) (maximumf (broadcast S2x1024x18x384 (Scalar.sitofp .f32 4294967169#32))
    (roundeven (divf H (broadcastTo S2x1024x18x384 (shapeCast S2x1024x18x1 M shapeCasts_S2x1024x18_S2x1024x18x1) broadcasts_S2x1024x18x1_S2x1024x18x384)))))
theorem codesOf_eq (H : FVec Ideal S2x1024x18x384 .f32) (M : FVec Ideal S2x1024x18 .f32) (b : Fin 2) (s : Fin 1024) (h : Fin 18) (k : Fin 384) :
    codesOf H M (ix4 b s h k) = Spec.code (H (ix4 b s h k)) (M (ix3 b s h)) := by
  pointwise [codesOf]
  rfl
def flat (H : IVec S2x1024x18x384 8) : IVec S2048x6912 8 := shapeCast S2048x6912 H shapeCasts_S2x1024x18x384_S2048x6912
theorem flat_eq (H : IVec S2x1024x18x384 8) (g : Fin 2048) (j : Fin 6912) :
    flat H (ix2 g j) = H (ix4 (rb g) (rs g) (⟨j.val / 384, by omega⟩ : Fin 18) (⟨j.val % 384, by omega⟩ : Fin 384)) := by
  pointwise [flat]
theorem pay12_eq (X : FVec Ideal S2x1024x6912 .f32) (g : Fin 2048) (j : Fin 6912) : k0_pay12 X (ix2 g j) = X (ix3 (rb g) (rs g) j) := by
  pointwise [k0_pay12]
theorem pay13_eq (X : FVec Ideal S2x1024x6912 .f32) (b : Fin 2) (k : Fin 3) (j : Fin 6912) : k0_pay13 X (ix3 b k j) = X (ix3 b ⟨1021 + k.val, by omega⟩ j) := by
  pointwise [k0_pay13]
def flatS (M : FVec Ideal S2x1024x18 .f32) : FVec Ideal S2048x18 .f32 := shapeCast S2048x18 M shapeCasts_S2x1024x18_S2048x18
theorem flatS_eq (M : FVec Ideal S2x1024x18 .f32) (g : Fin 2048) (h : Fin 18) : flatS M (ix2 g h) = M (ix3 (rb g) (rs g) h) := by
  pointwise [flatS]
theorem pay8_fold (X : FVec Ideal S2x1024x6912 .f32) (pos : IVec S2x1024x1 32) (P L : FVec Ideal S2x1024x6912 .f32) (c2 c1 c0 : Vec Ideal S1x6912 .f32) :
    k0_pay8 X pos P L 1#32 c2 c1 c0 = bigOf (k0_pay6 X pos P L 1#32 c2 c1 c0) := rfl
theorem pay15_fold (X : FVec Ideal S2x1024x6912 .f32) (pos : IVec S2x1024x1 32) (P L : FVec Ideal S2x1024x6912 .f32) (c2 c1 c0 : Vec Ideal S1x6912 .f32) :
    k0_pay15 (k0_pay8 X pos P L 1#32 c2 c1 c0) (k0_pay9 X pos P L 1#32 c2 c1 c0) (Scalar.ofBits .f32 0x42FE0000#32) =
      flatS (scaleOf (bigOf (k0_pay6 X pos P L 1#32 c2 c1 c0))) := rfl
theorem pay14_fold (X : FVec Ideal S2x1024x6912 .f32) (pos : IVec S2x1024x1 32) (P L : FVec Ideal S2x1024x6912 .f32) (c2 c1 c0 : Vec Ideal S1x6912 .f32) :
    k0_pay14 (k0_pay7 X pos P L 1#32 c2 c1 c0) (k0_pay8 X pos P L 1#32 c2 c1 c0) (k0_pay9 X pos P L 1#32 c2 c1 c0) (Scalar.ofBits .f32 0x42FE0000#32) =
      flat (codesOf (heads (k0_pay6 X pos P L 1#32 c2 c1 c0)) (scaleOf (bigOf (k0_pay6 X pos P L 1#32 c2 c1 c0)))) := rfl

/-- The gate's product, head by head, and the rows' scales repeated along each head. -/
def prodOf (C : IVec S2x1024x18x384 8) (w : IVec S18x384x384 8) : FVec Ideal S2048x6912 .f32 :=
  shapeCast S2048x6912 (transpose S2048x18x384 [1, 0, 2] (matmul dot_S18x2048x384_S18x384x384_S18x2048x384_2_1_1_2_0_0 none
    (transpose S18x2048x384 [1, 0, 2] (shapeCast S2048x18x384 (sitofp .bf16 C : FVec Ideal S2x1024x18x384 .bf16) shapeCasts_S2x1024x18x384_S2048x18x384) transposes_S2048x18x384_p1_0_2_S18x2048x384)
    (sitofp .bf16 w : FVec Ideal S18x384x384 .bf16) (constant S18x2048x384 .f32 0x00000000#32)) transposes_S18x2048x384_p1_0_2_S2048x18x384) shapeCasts_S2048x18x384_S2048x6912
theorem prodOf_eq (C : IVec S2x1024x18x384 8) (w : IVec S18x384x384 8) (g : Fin 2048) (j : Fin 6912) :
    prodOf C w (ix2 g j) = (∑ k : Fin 384, (((C (ix4 (rb g) (rs g) (⟨j.val / 384, by omega⟩ : Fin 18) k)).toInt : ℝ) : EReal) *
      (((w (ix3 (⟨j.val / 384, by omega⟩ : Fin 18) k (⟨j.val % 384, Nat.mod_lt _ (by decide)⟩ : Fin 384))).toInt : ℝ) : EReal) : EReal) := by
  pointwise [prodOf]
  rfl
def rowsOf (M : FVec Ideal S2x1024x18 .f32) : FVec Ideal S2048x6912 .f32 :=
  shapeCast S2048x6912 (broadcastTo S2048x18x384 (shapeCast S2048x18x1 (shapeCast S2048x18x1 M shapeCasts_S2x1024x18_S2048x18x1) shapeCasts_S2048x18x1_S2048x18x1) broadcasts_S2048x18x1_S2048x18x384) shapeCasts_S2048x18x384_S2048x6912
theorem rowsOf_eq (M : FVec Ideal S2x1024x18 .f32) (g : Fin 2048) (j : Fin 6912) :
    rowsOf M (ix2 g j) = M (ix3 (rb g) (rs g) (⟨j.val / 384, by omega⟩ : Fin 18)) := by
  pointwise [rowsOf]
theorem pay16_fold (X : FVec Ideal S2x1024x6912 .f32) (pos : IVec S2x1024x1 32) (P L : FVec Ideal S2x1024x6912 .f32) (c2 c1 c0 : Vec Ideal S1x6912 .f32) (w : Vec Ideal S18x384x384 .i8) :
    k0_pay16 (k0_pay7 X pos P L 1#32 c2 c1 c0) (k0_pay8 X pos P L 1#32 c2 c1 c0) (k0_pay9 X pos P L 1#32 c2 c1 c0) (Scalar.ofBits .f32 0x42FE0000#32) w =
      mulf (prodOf (codesOf (heads (k0_pay6 X pos P L 1#32 c2 c1 c0)) (scaleOf (bigOf (k0_pay6 X pos P L 1#32 c2 c1 c0)))) w)
        (rowsOf (scaleOf (bigOf (k0_pay6 X pos P L 1#32 c2 c1 c0)))) := rfl
/-- The logarithm of the decay, from the scaled product. -/
theorem pay1_fold (G : FVec Ideal S2048x6912 .f32) (sa ba lam : FVec Ideal S1x6912 .f32) :
    k0_pay1 G (k0_pay17 sa) ba lam = mulf (mulf (broadcast S2048x6912 (Scalar.ofBits .f32 0xC1000000#32))
      (logistic (addf (mulf G (broadcastTo S2048x6912 (shapeCast S1x6912 sa shapeCasts_S1x6912_S1x6912) broadcasts_S1x6912_S2048x6912))
        (broadcastTo S2048x6912 (shapeCast S1x6912 ba shapeCasts_S1x6912_S1x6912) broadcasts_S1x6912_S2048x6912))))
      (broadcastTo S2048x6912 (LruSpec.spV (shapeCast S1x6912 lam shapeCasts_S1x6912_S1x6912)) broadcasts_S1x6912_S2048x6912) := rfl
theorem row_eq (v : FVec Ideal S1x6912 .f32) (g : Fin 2048) (j : Fin 6912) : broadcastTo S2048x6912 v broadcasts_S1x6912_S2048x6912 (ix2 g j) = v (ix2 0 j) := by
  pointwise
theorem cast_eq (v : FVec Ideal S1x6912 .f32) : shapeCast S1x6912 v shapeCasts_S1x6912_S1x6912 = v := by
  funext y
  rw [eq_ix2 y]
  pointwise
theorem pay1_eq (G : FVec Ideal S2048x6912 .f32) (sa ba lam : FVec Ideal S1x6912 .f32) (g : Fin 2048) (j : Fin 6912) :
    k0_pay1 G (k0_pay17 sa) ba lam (ix2 g j) =
      (Ideal.ofBits .f32 0xC1000000#32 * LruSpec.lgA (G (ix2 g j) * sa (ix2 0 j) + ba (ix2 0 j)) * LruSpec.spA (lam (ix2 0 j)) : EReal) := by
  rw [pay1_fold, cast_eq, cast_eq, cast_eq]
  show (Ideal.ofBits .f32 0xC1000000#32 * LruSpec.lgA (G (ix2 g j) * broadcastTo S2048x6912 sa broadcasts_S1x6912_S2048x6912 (ix2 g j) + broadcastTo S2048x6912 ba broadcasts_S1x6912_S2048x6912 (ix2 g j))
    * broadcastTo S2048x6912 (LruSpec.spV lam) broadcasts_S1x6912_S2048x6912 (ix2 g j) : EReal) = _
  rw [row_eq, row_eq, row_eq, LruSpec.spV_at]

end Cert.LruReferenceIdeal.Hand

end
-- ==== Proof.LRefI.lean ====
module

public import proofs.«01_k».proof.Proof.Gen.LruReferenceIdeal.Frame
public import proofs.«01_k».proof.Proof.Gen.LruReferenceIdeal.Skeleton
public import proofs.«01_k».proof.Proof.Gen.LruReferenceIdeal.Points
public import Idealize.ShloMosaic.Lib.Pipeline.Frame
public import Idealize.ShloMosaic.Lib.Pipeline.FrameBody
public import Idealize.ShloMosaic.Lib.Tactic
public import Idealize.ShloMosaic.Lib.Pointwise

public import proofs.«01_k».proof.Proof.LRefPure
public import Idealize.ShloMosaic.Lib.Pipeline.ValueKit
public import Idealize.ShloMosaic.Lib.Claim

/-!
  The arrays the reference leaves.
-/

@[expose] public section

set_option maxRecDepth 16384

noncomputable section

namespace Cert.LruReferenceIdeal.Hand

open Cert.LruReferenceIdeal Cert.LruReferenceIdeal.Gen
open Idealize.ShloMosaic Idealize.ShloMosaic.TcCoe Idealize.ShloMosaic.Tactic
open Idealize.ShloMosaic.Pipeline (Cfg Dat)
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

/-- What core `c` is given: the rows, their scales and positions, the weights, the columns' scales and biases, the taps and the taps' bias. -/
def rows (c : Dev nD) (g : Fin 2048) (k : Fin 5120) : EReal := (m ((c.tc : Thread nD τ).loc main_arg0) : S2048x5120.Idx → EReal) (ix2 g k)
def rscale (c : Dev nD) (g : Fin 2048) : EReal := (m ((c.tc : Thread nD τ).loc main_arg1) : S2x1024.Idx → EReal) (ix2 (rb g) (rs g))
def rpos (c : Dev nD) (g : Fin 2048) : BitVec 32 := (m ((c.tc : Thread nD τ).loc main_arg2) : S2x1024.Idx → BitVec 32) (ix2 (rb g) (rs g))
def wts (c : Dev nD) (k : Fin 5120) (j : Fin 6912) : BitVec 8 := (m ((c.tc : Thread nD τ).loc main_arg4) : S5120x6912.Idx → BitVec 8) (ix2 k j)
def cscale (c : Dev nD) (j : Fin 6912) : EReal := (m ((c.tc : Thread nD τ).loc main_arg6) : S6912.Idx → EReal) (ix1 j)
def cbias (c : Dev nD) (j : Fin 6912) : EReal := (m ((c.tc : Thread nD τ).loc main_arg8) : S6912.Idx → EReal) (ix1 j)
def taps (c : Dev nD) (i : Fin 4) (j : Fin 6912) : EReal := (m ((c.tc : Thread nD τ).loc main_arg9) : S4x6912.Idx → EReal) (ix2 i j)
def tbias (c : Dev nD) (j : Fin 6912) : EReal := (m ((c.tc : Thread nD τ).loc main_arg10) : S6912.Idx → EReal) (ix1 j)
/-- The gate's weights, their scales and biases, and the decay's parameter. -/
def gate (c : Dev nD) (h : Fin 18) (k o : Fin 384) : BitVec 8 := (m ((c.tc : Thread nD τ).loc main_arg11) : S18x384x384.Idx → BitVec 8) (ix3 h k o)
def gscale (c : Dev nD) (j : Fin 6912) : EReal := (m ((c.tc : Thread nD τ).loc main_arg13) : S18x384.Idx → EReal) (ix2 ⟨j.val / 384, by omega⟩ ⟨j.val % 384, Nat.mod_lt _ (by decide)⟩)
def gbias (c : Dev nD) (j : Fin 6912) : EReal := (m ((c.tc : Thread nD τ).loc main_arg15) : S18x384.Idx → EReal) (ix2 ⟨j.val / 384, by omega⟩ ⟨j.val % 384, Nat.mod_lt _ (by decide)⟩)
def decay (c : Dev nD) (j : Fin 6912) : EReal := (m ((c.tc : Thread nD τ).loc main_arg17) : S6912.Idx → EReal) (ix1 j)
/-- The branch and its convolution. -/
def branch (c : Dev nD) : Fin 2048 → Fin 6912 → EReal := LruSpec.xbA (rows m c) (wts m c) (rscale m c) (cscale m c) (cbias m c)
def conv (c : Dev nD) : Fin 2048 → Fin 6912 → EReal := LruSpec.xcA (branch m c) (rpos m c) (taps m c) (tbias m c)

theorem shapeCast_at (x : S6912.Idx → EReal) (j : Fin 6912) : shapeCast S1x6912 x shapeCasts_S6912_S1x6912 (ix2 (0 : Fin 1) j) = x (ix1 j) := by
  pointwise
theorem entry_v0 (c : Dev nD) (j : Fin 6912) : (V m c main_v0 : S1x6912.Idx → EReal) (ix2 (0 : Fin 1) j) = cscale m c j := by
  entry_read
  exact shapeCast_at (m (c, Proc.tc.devRef main_arg6) : S6912.Idx → EReal) j
theorem entry_v1 (c : Dev nD) (j : Fin 6912) : (V m c main_v1 : S1x6912.Idx → EReal) (ix2 (0 : Fin 1) j) = cbias m c j := by
  entry_read
  exact shapeCast_at (m (c, Proc.tc.devRef main_arg8) : S6912.Idx → EReal) j
theorem entry_v2 (c : Dev nD) (j : Fin 6912) : (V m c main_v2 : S1x6912.Idx → EReal) (ix2 (0 : Fin 1) j) = tbias m c j := by
  entry_read
  exact shapeCast_at (m (c, Proc.tc.devRef main_arg10) : S6912.Idx → EReal) j
theorem shapeCast_at2 (x : S18x384.Idx → EReal) (j : Fin 6912) : shapeCast S1x6912 x shapeCasts_S18x384_S1x6912 (ix2 (0 : Fin 1) j) =
    x (ix2 (⟨j.val / 384, by omega⟩ : Fin 18) (⟨j.val % 384, Nat.mod_lt _ (by decide)⟩ : Fin 384)) := by
  pointwise
theorem entry_v3 (c : Dev nD) (j : Fin 6912) : (V m c main_v3 : S1x6912.Idx → EReal) (ix2 (0 : Fin 1) j) = gscale m c j := by
  entry_read
  exact shapeCast_at2 (m (c, Proc.tc.devRef main_arg13) : S18x384.Idx → EReal) j
theorem entry_v4 (c : Dev nD) (j : Fin 6912) : (V m c main_v4 : S1x6912.Idx → EReal) (ix2 (0 : Fin 1) j) = gbias m c j := by
  entry_read
  exact shapeCast_at2 (m (c, Proc.tc.devRef main_arg15) : S18x384.Idx → EReal) j
theorem entry_v5 (c : Dev nD) (j : Fin 6912) : (V m c main_v5 : S1x6912.Idx → EReal) (ix2 (0 : Fin 1) j) = decay m c j := by
  entry_read
  exact shapeCast_at (m (c, Proc.tc.devRef main_arg17) : S6912.Idx → EReal) j
theorem entry_11 (c : Dev nD) : V m c main_arg11 = m ((c.tc : Thread nD τ).loc main_arg11) := by entry_read; rfl
theorem entry_0 (c : Dev nD) : V m c main_arg0 = m ((c.tc : Thread nD τ).loc main_arg0) := by entry_read; rfl
theorem entry_1 (c : Dev nD) : V m c main_arg1 = m ((c.tc : Thread nD τ).loc main_arg1) := by entry_read; rfl
theorem entry_2 (c : Dev nD) : V m c main_arg2 = m ((c.tc : Thread nD τ).loc main_arg2) := by entry_read; rfl
theorem entry_4 (c : Dev nD) : V m c main_arg4 = m ((c.tc : Thread nD τ).loc main_arg4) := by entry_read; rfl
theorem entry_9 (c : Dev nD) : V m c main_arg9 = m ((c.tc : Thread nD τ).loc main_arg9) := by entry_read; rfl
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)
theorem idx' : ∀ t : Fin cfg0.N, win0_8.index t = ![0, 0, 0] ∧ win0_9.index t = ![0, 0] ∧ win0_10.index t = ![0, 0] ∧ win0_11.index t = ![0, 0] :=
  (by decide +kernel : ∀ t : Fin grid0.N, _)
theorem blk8 (c : Dev nD) (t : Fin cfg0.N) (y : S18x384x384.Idx) : (iblk m c 8 t : S18x384x384.Idx → BitVec 8) y = (V m c main_arg11 : S18x384x384.Idx → BitVec 8) y := by
  blk_ext [iblk, idx' t]
theorem blk9 (c : Dev nD) (t : Fin cfg0.N) (y : S1x6912.Idx) : (iblk m c 9 t : S1x6912.Idx → EReal) y = (V m c main_v3 : S1x6912.Idx → EReal) y := by
  blk_ext [iblk, idx' t]
theorem blk10 (c : Dev nD) (t : Fin cfg0.N) (y : S1x6912.Idx) : (iblk m c 10 t : S1x6912.Idx → EReal) y = (V m c main_v4 : S1x6912.Idx → EReal) y := by
  blk_ext [iblk, idx' t]
theorem blk11 (c : Dev nD) (t : Fin cfg0.N) (y : S1x6912.Idx) : (iblk m c 11 t : S1x6912.Idx → EReal) y = (V m c main_v5 : S1x6912.Idx → EReal) y := by
  blk_ext [iblk, idx' t]
theorem blk0 (c : Dev nD) (t : Fin cfg0.N) (y : S2048x5120.Idx) : (iblk m c 0 t : S2048x5120.Idx → EReal) y = (V m c main_arg0 : S2048x5120.Idx → EReal) y := by
  blk_ext [iblk, idx t]
theorem blk1 (c : Dev nD) (t : Fin cfg0.N) (y : S2x1024.Idx) : (iblk m c 1 t : S2x1024.Idx → EReal) y = (V m c main_arg1 : S2x1024.Idx → EReal) y := by
  blk_ext [iblk, idx t]
theorem blk2 (c : Dev nD) (t : Fin cfg0.N) (y : S2x1024.Idx) : (iblk m c 2 t : S2x1024.Idx → BitVec 32) y = (V m c main_arg2 : S2x1024.Idx → BitVec 32) y := by
  blk_ext [iblk, idx t]
theorem blk3 (c : Dev nD) (t : Fin cfg0.N) (y : S5120x6912.Idx) : (iblk m c 3 t : S5120x6912.Idx → BitVec 8) y = (V m c main_arg4 : S5120x6912.Idx → BitVec 8) y := by
  blk_ext [iblk, idx t]
theorem blk4 (c : Dev nD) (t : Fin cfg0.N) (y : S1x6912.Idx) : (iblk m c 4 t : S1x6912.Idx → EReal) y = (V m c main_v0 : S1x6912.Idx → EReal) y := by
  blk_ext [iblk, idx t]
theorem blk5 (c : Dev nD) (t : Fin cfg0.N) (y : S1x6912.Idx) : (iblk m c 5 t : S1x6912.Idx → EReal) y = (V m c main_v1 : S1x6912.Idx → EReal) y := by
  blk_ext [iblk, idx t]
theorem blk6 (c : Dev nD) (t : Fin cfg0.N) (y : S4x6912.Idx) : (iblk m c 6 t : S4x6912.Idx → EReal) y = (V m c main_arg9 : S4x6912.Idx → EReal) y := by
  blk_ext [iblk, idx t]
theorem blk7 (c : Dev nD) (t : Fin cfg0.N) (y : S1x6912.Idx) : (iblk m c 7 t : S1x6912.Idx → EReal) y = (V m c main_v2 : S1x6912.Idx → EReal) y := by
  blk_ext [iblk, idx t]

theorem rb_rg (b : Fin 2) (s : Fin 1024) : rb (rg b s) = b := Fin.ext (by show (b.val * 1024 + s.val) / 1024 = b.val; omega)
theorem rs_rg (b : Fin 2) (s : Fin 1024) : rs (rg b s) = s := Fin.ext (by show (b.val * 1024 + s.val) % 1024 = s.val; omega)
theorem rg_rbs (g : Fin 2048) : rg (rb g) (rs g) = g := Fin.ext (by show g.val / 1024 * 1024 + g.val % 1024 = g.val; omega)

/-- The blocks are the whole arrays. -/
theorem rd0 (c : Dev nD) (t : Fin cfg0.N) (g : Fin 2048) (k : Fin 5120) : (iblk m c 0 t : S2048x5120.Idx → EReal) (ix2 g k) = rows m c g k := by rw [blk0, entry_0]; rfl
theorem rd1 (c : Dev nD) (t : Fin cfg0.N) (b : Fin 2) (s : Fin 1024) : (iblk m c 1 t : S2x1024.Idx → EReal) (ix2 b s) = rscale m c (rg b s) := by
  rw [blk1, entry_1]; unfold rscale; rw [rb_rg, rs_rg]
theorem rd2 (c : Dev nD) (t : Fin cfg0.N) (b : Fin 2) (s : Fin 1024) : (iblk m c 2 t : S2x1024.Idx → BitVec 32) (ix2 b s) = rpos m c (rg b s) := by
  rw [blk2, entry_2]; unfold rpos; rw [rb_rg, rs_rg]
theorem rd3 (c : Dev nD) (t : Fin cfg0.N) (k : Fin 5120) (j : Fin 6912) : (iblk m c 3 t : S5120x6912.Idx → BitVec 8) (ix2 k j) = wts m c k j := by rw [blk3, entry_4]; rfl
theorem rd4 (c : Dev nD) (t : Fin cfg0.N) (j : Fin 6912) : (iblk m c 4 t : S1x6912.Idx → EReal) (ix2 0 j) = cscale m c j := by rw [blk4, entry_v0]
theorem rd5 (c : Dev nD) (t : Fin cfg0.N) (j : Fin 6912) : (iblk m c 5 t : S1x6912.Idx → EReal) (ix2 0 j) = cbias m c j := by rw [blk5, entry_v1]
theorem rd6 (c : Dev nD) (t : Fin cfg0.N) (i : Fin 4) (j : Fin 6912) : (iblk m c 6 t : S4x6912.Idx → EReal) (ix2 i j) = taps m c i j := by rw [blk6, entry_9]; rfl
theorem rd7 (c : Dev nD) (t : Fin cfg0.N) (j : Fin 6912) : (iblk m c 7 t : S1x6912.Idx → EReal) (ix2 0 j) = tbias m c j := by rw [blk7, entry_v2]

/-- The loads of a body that reads whole arrays, and one row of the taps at a time. -/
theorem ld0 (c : Dev nD) (t : Fin cfg0.N) (g : Fin 2048) (k : Fin 5120) : (View.ld (iblk m c 0 t) r0_0 : S2048x5120.Idx → EReal) (ix2 g k) = rows m c g k := by
  exact (congrFun (View.ld_unit_lit (S := S2048x5120) _ (iblk m c 0 t) (by decide)) _).trans (rd0 m c t g k)
theorem ld1 (c : Dev nD) (t : Fin cfg0.N) (b : Fin 2) (s : Fin 1024) : (View.ld (iblk m c 1 t) r0_2 : S2x1024.Idx → EReal) (ix2 b s) = rscale m c (rg b s) := by
  exact (congrFun (View.ld_unit_lit (S := S2x1024) _ (iblk m c 1 t) (by decide)) _).trans (rd1 m c t b s)
theorem ld2 (c : Dev nD) (t : Fin cfg0.N) (b : Fin 2) (s : Fin 1024) : (View.ld (iblk m c 2 t) r0_2 : S2x1024.Idx → BitVec 32) (ix2 b s) = rpos m c (rg b s) := by
  exact (congrFun (View.ld_unit_lit (S := S2x1024) _ (iblk m c 2 t) (by decide)) _).trans (rd2 m c t b s)
theorem ld3 (c : Dev nD) (t : Fin cfg0.N) (k : Fin 5120) (j : Fin 6912) : (View.ld (iblk m c 3 t) r0_1 : S5120x6912.Idx → BitVec 8) (ix2 k j) = wts m c k j := by
  exact (congrFun (View.ld_unit_lit (S := S5120x6912) _ (iblk m c 3 t) (by decide)) _).trans (rd3 m c t k j)
theorem ld4 (c : Dev nD) (t : Fin cfg0.N) (j : Fin 6912) : (View.ld (iblk m c 4 t) r0_3 : S1x6912.Idx → EReal) (ix2 0 j) = cscale m c j := by
  exact (congrFun (View.ld_unit_lit (S := S1x6912) _ (iblk m c 4 t) (by decide)) _).trans (rd4 m c t j)
theorem ld5 (c : Dev nD) (t : Fin cfg0.N) (j : Fin 6912) : (View.ld (iblk m c 5 t) r0_3 : S1x6912.Idx → EReal) (ix2 0 j) = cbias m c j := by
  exact (congrFun (View.ld_unit_lit (S := S1x6912) _ (iblk m c 5 t) (by decide)) _).trans (rd5 m c t j)
theorem ld7 (c : Dev nD) (t : Fin cfg0.N) (j : Fin 6912) : (View.ld (iblk m c 7 t) r0_3 : S1x6912.Idx → EReal) (ix2 0 j) = tbias m c j := by
  exact (congrFun (View.ld_unit_lit (S := S1x6912) _ (iblk m c 7 t) (by decide)) _).trans (rd7 m c t j)
theorem ld_row (X : Vec Ideal S4x6912 .f32) (i : Fin 4) (inb) (j : Fin 6912) :
    (View.ld X (Rect.unit (s := S4x6912) ![i.val, 0] S1x6912.size inb) : S1x6912.Idx → EReal) (ix2 0 j) = X (ix2 i j) := by
  refine congrArg X (funext fun a => Fin.ext ?_)
  fin_cases a
  · show i.val + 1 * 0 = i.val; omega
  · show 0 + 1 * j.val = j.val; omega
theorem ld6_3 (c : Dev nD) (t : Fin cfg0.N) (j : Fin 6912) : (View.ld (iblk m c 6 t) r0_4 : S1x6912.Idx → EReal) (ix2 0 j) = taps m c 3 j :=
  (ld_row (iblk m c 6 t) 3 _ j).trans (rd6 m c t 3 j)
theorem ld6_2 (c : Dev nD) (t : Fin cfg0.N) (j : Fin 6912) : (View.ld (iblk m c 6 t) r0_5 : S1x6912.Idx → EReal) (ix2 0 j) = taps m c 2 j :=
  (ld_row (iblk m c 6 t) 2 _ j).trans (rd6 m c t 2 j)
theorem ld6_1 (c : Dev nD) (t : Fin cfg0.N) (j : Fin 6912) : (View.ld (iblk m c 6 t) r0_6 : S1x6912.Idx → EReal) (ix2 0 j) = taps m c 1 j :=
  (ld_row (iblk m c 6 t) 1 _ j).trans (rd6 m c t 1 j)
theorem ld6_0 (c : Dev nD) (t : Fin cfg0.N) (j : Fin 6912) : (View.ld (iblk m c 6 t) r0_7 : S1x6912.Idx → EReal) (ix2 0 j) = taps m c 0 j :=
  (ld_row (iblk m c 6 t) 0 _ j).trans (rd6 m c t 0 j)

/-- The branch at point `t`. -/
abbrev bP (c : Dev nD) (t : Fin cfg0.N) : FVec Ideal S2x1024x6912 .f32 :=
  k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
theorem bP_eq (c : Dev nD) (t : Fin cfg0.N) (b : Fin 2) (s : Fin 1024) (j : Fin 6912) : bP m c t (ix3 b s j) = branch m c (rg b s) j := by
  unfold bP k0_pay18
  rw [pay2_fold, xbOf_eq, accOf_eq]
  simp only [ld0, ld1, ld3, ld4, ld5]
  rfl
/-- The convolution at point `t`. -/
abbrev xP (c : Dev nD) (t : Fin cfg0.N) : FVec Ideal S2x1024x6912 .f32 :=
  k0_pay6 (k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    (k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    (k0_pay20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    (k0_pay21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    1#32 (View.ld (iblk m c 6 t) r0_5) (View.ld (iblk m c 6 t) r0_6) (View.ld (iblk m c 6 t) r0_7)
theorem late_val (c : Dev nD) (i : Fin 4) (b : Fin 2) (s : Fin 1024) (j : Fin 6912) :
    (if s.val < i.val then 0 else branch m c (rg b ⟨s.val - i.val, by omega⟩) j : EReal) = LruSpec.lateA (branch m c) i (rg b s) j := by
  unfold LruSpec.lateA
  have e : (rg b s).val % 1024 = s.val := by show (b.val * 1024 + s.val) % 1024 = s.val; omega
  rw [e]
  by_cases h : s.val < i.val
  · rw [if_pos h, if_pos h]
  · rw [if_neg h, if_neg h]
    refine congrArg (fun g => branch m c g j) (Fin.ext ?_)
    show b.val * 1024 + (s.val - i.val) = b.val * 1024 + s.val - i.val
    omega
theorem late_zero (c : Dev nD) (g : Fin 2048) (j : Fin 6912) : LruSpec.lateA (branch m c) 0 g j = branch m c g j := by
  unfold LruSpec.lateA
  exact if_neg (by show ¬ g.val % 1024 < 0; omega)
theorem xP_eq (c : Dev nD) (t : Fin cfg0.N) (b : Fin 2) (s : Fin 1024) (j : Fin 6912) : xP m c t (ix3 b s j) = conv m c (rg b s) j := by
  unfold xP
  rw [pay6_fold]
  have e16 : k0_pay20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) =
      addf (cbOf (View.ld (iblk m c 7 t) r0_3)) (tapOf (bP m c t) (k0_pay3 (View.ld (iblk m c 2 t) r0_2)) 0#32 (View.ld (iblk m c 6 t) r0_4)) := pay4_fold _ _ _ _ _ _ _ _
  have e17 : k0_pay21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = late1 (bP m c t) :=
    pay5_fold _ _ _ _ _
  have e15 : k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) =
    k0_pay3 (View.ld (iblk m c 2 t) r0_2) := rfl
  rw [e15, e16, e17]
  show (cbOf _ (ix3 b s j) + tapOf (bP m c t) _ 0#32 _ (ix3 b s j) + tapOf (late1 (bP m c t)) _ 1#32 _ (ix3 b s j) + tapOf (late2 (bP m c t)) _ 2#32 _ (ix3 b s j)
    + tapOf (late3 (bP m c t)) _ 3#32 _ (ix3 b s j) : EReal) = _
  rw [cbOf_eq, tapOf_eq, tapOf_eq, tapOf_eq, tapOf_eq, late1_eq, late2_eq, late3_eq, pay3_eq, ld2, ld7, ld6_3, ld6_2, ld6_1, ld6_0]
  simp only [bP_eq]
  have l1 := late_val m c 1 b s j
  have l2 := late_val m c 2 b s j
  have l3 := late_val m c 3 b s j
  have l0 := late_zero m c (rg b s) j
  unfold conv LruSpec.xcA LruSpec.tapA
  rw [l0, ← l1, ← l2, ← l3]
  simp only [← add_assoc]
  rfl

theorem final_12 (c : Dev nD) : (dats m 0 c).arrAt 12 cfg0.N = fun y : S2048x6912.Idx => (conv m c (y 0) (y 1) : EReal) := by
  refine (dats m 0 c).arrAt_eq_of_after_last 12 t0_0 (by decide +kernel) _ fun j => ?_
  blk_simp
  rw [after0_12]
  frame_out
  refine (congrArg _ (eq_ix2 j)).trans ((pay12_eq (xP m c t0_0) (j 0) (j 1)).trans ?_)
  exact (xP_eq m c t0_0 (rb (j 0)) (rs (j 0)) (j 1)).trans (congrArg (fun g => conv m c g (j 1)) (rg_rbs (j 0)))
theorem st_lt (y : S2x3x6912.Idx) : (y 0).val * 1024 + (1021 + (y 1).val) < 2048 := by
  have h0 : (y 0).val < 2 := (y 0).isLt
  have h1 : (y 1).val < 3 := (y 1).isLt
  omega
theorem final_13 (c : Dev nD) : (dats m 0 c).arrAt 13 cfg0.N = fun y : S2x3x6912.Idx => (branch m c ⟨(y 0).val * 1024 + (1021 + (y 1).val), st_lt y⟩ (y 2) : EReal) := by
  refine (dats m 0 c).arrAt_eq_of_after_last 13 t0_0 (by decide +kernel) _ fun j => ?_
  blk_simp
  rw [after0_13]
  frame_out
  refine (congrArg _ (eq_ix3 j)).trans ((pay13_eq (bP m c t0_0) (j 0) (j 1) (j 2)).trans ?_)
  exact bP_eq m c t0_0 _ _ _
theorem scale_val (c : Dev nD) (t : Fin cfg0.N) (b : Fin 2) (s : Fin 1024) (h : Fin 18) :
    scaleOf (bigOf (xP m c t)) (ix3 b s h) = LruSpec.scA (conv m c) (rg b s) h := by
  rw [scaleOf_eq, bigOf_eq]
  simp only [xP_eq]
  rfl
theorem point_14 (c : Dev nD) (t : Fin cfg0.N) (g : Fin 2048) (j : Fin 6912) :
    flat (codesOf (heads (xP m c t)) (scaleOf (bigOf (xP m c t)))) (ix2 g j) = LruSpec.codeA (conv m c) g j := by
  rw [flat_eq, codesOf_eq, heads_eq, scale_val, xP_eq, rg_rbs]
  unfold LruSpec.codeA
  refine congrArg (fun k => Spec.code (conv m c g k) _) (Fin.ext ?_)
  show j.val / 384 * 384 + j.val % 384 = j.val
  omega
theorem point_15 (c : Dev nD) (t : Fin cfg0.N) (g : Fin 2048) (h : Fin 18) :
    flatS (scaleOf (bigOf (xP m c t))) (ix2 g h) = LruSpec.scA (conv m c) g h := by
  rw [flatS_eq, scale_val, rg_rbs]
theorem final_14 (c : Dev nD) : (dats m 0 c).arrAt 14 cfg0.N = fun y : S2048x6912.Idx => LruSpec.codeA (conv m c) (y 0) (y 1) := by
  refine (dats m 0 c).arrAt_eq_of_after_last 14 t0_0 (by decide +kernel) _ fun j => ?_
  blk_simp
  rw [after0_14]
  frame_out
  refine (congrArg _ (eq_ix2 j)).trans ((congrFun (pay14_fold _ _ _ _ _ _ _) _).trans ?_)
  exact point_14 m c t0_0 (j 0) (j 1)
theorem final_15 (c : Dev nD) : (dats m 0 c).arrAt 15 cfg0.N = fun y : S2048x18.Idx => (LruSpec.scA (conv m c) (y 0) (y 1) : EReal) := by
  refine (dats m 0 c).arrAt_eq_of_after_last 15 t0_0 (by decide +kernel) _ fun j => ?_
  blk_simp
  rw [after0_15]
  frame_out
  refine (congrArg _ (eq_ix2 j)).trans ((congrFun (pay15_fold _ _ _ _ _ _ _) _).trans ?_)
  exact point_15 m c t0_0 (j 0) (j 1)
theorem code_at (c : Dev nD) (t : Fin cfg0.N) (g : Fin 2048) (h : Fin 18) (k : Fin 384) :
    codesOf (heads (xP m c t)) (scaleOf (bigOf (xP m c t))) (ix4 (rb g) (rs g) h k) = LruSpec.codeA (conv m c) g ⟨h.val * 384 + k.val, by omega⟩ := by
  rw [codesOf_eq, heads_eq, scale_val, xP_eq, rg_rbs]
  unfold LruSpec.codeA
  refine congrArg (fun z => Spec.code _ (LruSpec.scA (conv m c) g z)) (Fin.ext ?_)
  show h.val = (h.val * 384 + k.val) / 384
  omega
theorem mul_at {s : Shape} (a b : FVec Ideal s .f32) (y : s.Idx) : mulf a b y = (a y * b y : EReal) := rfl
theorem gate_at (c : Dev nD) (t : Fin cfg0.N) (h : Fin 18) (k o : Fin 384) : (iblk m c 8 t : S18x384x384.Idx → BitVec 8) (ix3 h k o) = gate m c h k o := by
  rw [blk8, entry_11]; rfl
theorem point_16 (c : Dev nD) (t : Fin cfg0.N) (g : Fin 2048) (j : Fin 6912) :
    k0_pay1 (mulf (prodOf (codesOf (heads (xP m c t)) (scaleOf (bigOf (xP m c t)))) (iblk m c 8 t)) (rowsOf (scaleOf (bigOf (xP m c t)))))
      (k0_pay17 (iblk m c 9 t)) (iblk m c 10 t) (iblk m c 11 t) (ix2 g j) =
    LruSpec.laA (conv m c) (gate m c) (gscale m c) (gbias m c) (decay m c) g j := by
  refine (pay1_eq _ _ _ _ g j).trans ?_
  rw [blk9, blk10, blk11, entry_v3, entry_v4, entry_v5, mul_at, prodOf_eq, rowsOf_eq, scale_val, rg_rbs]
  simp only [code_at, gate_at]
  unfold LruSpec.laA LruSpec.prodA
  rfl
theorem final_16 (c : Dev nD) : (dats m 0 c).arrAt 16 cfg0.N = fun y : S2048x6912.Idx =>
    (LruSpec.laA (conv m c) (gate m c) (gscale m c) (gbias m c) (decay m c) (y 0) (y 1) : EReal) := by
  refine (dats m 0 c).arrAt_eq_of_after_last 16 t0_0 (by decide +kernel) _ fun j => ?_
  blk_simp
  rw [after0_16]
  frame_out
  refine (congrArg _ (eq_ix2 j)).trans (Eq.trans ?_ (point_16 m c t0_0 (j 0) (j 1)))
  refine congrFun (congrArg (fun G => k0_pay1 G (k0_pay17 (iblk m c 9 t0_0)) (iblk m c 10 t0_0) (iblk m c 11 t0_0)) ?_) _
  refine (pay16_fold _ _ _ _ _ _ _ _).trans ?_
  rfl

end Cert.LruReferenceIdeal.Hand

end
-- ==== Proof.QBodyK.lean ====
module

public import proofs.«01_k».proof.Proof.Gen.Quant.Frame
public import proofs.«01_k».proof.Proof.Gen.Quant.Skeleton
public import proofs.«01_k».proof.Proof.Gen.Quant.Points
public import Idealize.ShloMosaic.Lib.Pipeline.Frame
public import Idealize.ShloMosaic.Lib.Pipeline.FrameBody
public import Idealize.ShloMosaic.Lib.Tactic
public import Idealize.ShloMosaic.Lib.VecWindow
public import Idealize.ShloMosaic.Lib.WritesUnit
public import Idealize.ShloMosaic.Lib.Pointwise

/-!
  One grid point of the input quantiser: what it writes, as functions of the block it reads.
-/

@[expose] public section

set_option maxRecDepth 16384

noncomputable section

namespace Cert.Quant.Hand

open Cert.Quant Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The tile functions -/

theorem inb_x (k : Fin 8) : ∀ a, (![32 * k.val, 0] : Fin 2 → ℕ) a + S32x5120.size a ≤ S256x5120.size a := by
  revert k; decide
theorem inb_s (k : Fin 8) : ∀ a, (![32 * k.val, 0] : Fin 2 → ℕ) a + S32x128.size a ≤ S256x128.size a := by
  revert k; decide
/-- Chunk `k` of a tile of 256 rows: its rows `32 k … 32 k + 31`. -/
def chX (x : S256x5120.Idx → F .bf16) (k : Fin 8) : S32x5120.Idx → F .bf16 :=
  VecWindow.window x ![32 * k.val, 0] S32x5120.size (inb_x k)
/-- The chunk a row of the tile lies in, and its row there. -/
abbrev kOf (r : Fin 256) : Fin 8 := ⟨r.val / 32, by omega⟩
abbrev rOf (r : Fin 256) : Fin 32 := ⟨r.val % 32, by omega⟩
/-- The code of row `r`, column `j` of the tile. -/
def codeT (x : S256x5120.Idx → F .bf16) (r : Fin 256) (j : Fin 5120) : BitVec 8 := k0_pay5 (chX x (kOf r)) (ix2 (rOf r) j)
/-- The scale of row `r` of the tile, repeated over the lanes `l`. -/
def sT (x : S256x5120.Idx → F .bf16) (r : Fin 256) (l : Fin 128) : F .f32 := k0_pay7 (chX x (kOf r)) (ix2 (rOf r) l)

/-- What a point leaves: the tile's codes in the output window, its scales in the resident scales. -/
structure Post (i : grid0.Coords) (x : S256x5120.Idx → F .bf16) (X3 : S256x5120.Idx → BitVec 8) (Y5 X5 : S2x1024.Idx → F .f32) : Prop where
  code : ∀ y : S256x5120.Idx, X3 y = codeT x (y 0) (y 1)
  sc_new : ∀ (y : S2x1024.Idx) (r : Fin 256), 1024 * (y 0).val + (y 1).val = 256 * (i 0).val + r.val → X5 y = sT x r (0 : Fin 128)
  sc_old : ∀ y : S2x1024.Idx, (1024 * (y 0).val + (y 1).val < 256 * (i 0).val ∨
      256 * (i 0).val + 256 ≤ 1024 * (y 0).val + (y 1).val) → X5 y = Y5 y

/-! ## The lists of writes the body makes, and what they leave -/

section Lists

variable {sp : Space}

def L3 (x : S256x5120.Idx → F .bf16) : List (View.Piece (Elt F) S256x5120 .i8) :=
  View.tilePieces (s := S256x5120) (e := .i8) (Val := Elt F) S32x5120.size
    (fun k : Fin 8 => ![32 * k.val, 0]) inb_x (fun k => k0_pay5 (chX x k)) 8 le_rfl
def L6 (x : S256x5120.Idx → F .bf16) : List (View.Piece (Elt F) S256x128 .f32) :=
  View.tilePieces (s := S256x128) (e := .f32) (Val := Elt F) S32x128.size
    (fun k : Fin 8 => ![32 * k.val, 0]) inb_s (fun k => k0_pay7 (chX x k)) 8 le_rfl

theorem read3 (x : S256x5120.Idx → F .bf16) (v : View sig .tc sp S256x5120 .i8) (f : v.ty.Contents (Elt F)) (y : S256x5120.Idx) :
    v.read (Elt F) (v.writes (Elt F) f (L3 x)) y = codeT x (y 0) (y 1) := by
  have hr' : (y 0).val < 256 := (y 0).isLt
  refine View.read_tilePieces v f _ _ _ _ 8 le_rfl y (kOf (y 0)) (kOf (y 0)).isLt (ix2 (rOf (y 0)) (y 1)) ?_ 0 ?_
  · intro a
    match a with
    | ⟨0, _⟩ => show (y 0).val = 32 * ((y 0).val / 32) + (y 0).val % 32; omega
    | ⟨1, _⟩ => show (y 1).val = 0 + (y 1).val; omega
  · intro k hk
    have hk' : k.val ≠ (y 0).val / 32 := fun h => hk (Fin.ext h)
    show (y 0).val < 32 * k.val ∨ 32 * k.val + 32 ≤ (y 0).val
    omega
theorem read6 (x : S256x5120.Idx → F .bf16) (v : View sig .tc sp S256x128 .f32) (f : v.ty.Contents (Elt F)) (r : Fin 256) (l : Fin 128) :
    v.read (Elt F) (v.writes (Elt F) f (L6 x)) (ix2 r l) = sT x r l := by
  have hr' := r.isLt
  refine View.read_tilePieces v f _ _ _ _ 8 le_rfl (ix2 r l) (kOf r) (kOf r).isLt (ix2 (rOf r) l) ?_ 0 ?_
  · intro a
    match a with
    | ⟨0, _⟩ => show r.val = 32 * (r.val / 32) + r.val % 32; omega
    | ⟨1, _⟩ => show l.val = 0 + l.val; omega
  · intro k hk
    have hk' : k.val ≠ r.val / 32 := fun h => hk (Fin.ext h)
    show r.val < 32 * k.val ∨ 32 * k.val + 32 ≤ r.val
    omega

/-- The row of scales written back: lane 0 of the rows of the repeated scales, transposed. -/
theorem pay56_apply (v : Vec F S256x128 .f32) (l : Fin 256) : k0_pay56 v (ix2 (0 : Fin 1) l) = v (ix2 l (0 : Fin 128)) := by
  unfold k0_pay56
  pointwise
theorem readCov6 (x : S256x5120.Idx → F .bf16) (v : View sig .tc sp S256x128 .f32) [∀ e, Nonempty (Elt F e)] (l : Fin 256) :
    k0_pay56 (v.readCov (L6 x) (Rect.unit (s := S256x128) ![0, 0] S256x128.size inb_S256x128_S256x128_0_0).toLoadRect) (ix2 (0 : Fin 1) l)
      = sT x l (0 : Fin 128) := by
  rw [pay56_apply]
  unfold View.readCov
  rw [View.readAt_full v _ inb_S256x128_S256x128_0_0]
  exact read6 x v _ l 0

theorem off1_eq : ∀ i : grid0.Coords, k0_cond1 i = 1#1 → k0_off1 i = ![(i 0).val / 4, 256 * ((i 0).val % 4)] := by decide +kernel
theorem off2_eq : ∀ i : grid0.Coords, k0_cond2 i = 1#1 → k0_off2 i = ![(i 0).val / 4, 256 * ((i 0).val % 4)] := by decide +kernel

variable (i : grid0.Coords) (v : View sig .tc sp S2x1024 .f32) (f : v.ty.Contents (Elt F)) (off : Fin 2 → ℕ)
  (hoff : off = ![(i 0).val / 4, 256 * ((i 0).val % 4)]) (inb : ∀ a, off a + S1x256.size a ≤ S2x1024.size a) (w : S1x256.Idx → F .f32)
include hoff

theorem read5_new (x : S256x5120.Idx → F .bf16) (hw : ∀ l : Fin 256, w (ix2 (0 : Fin 1) l) = sT x l (0 : Fin 128))
    (y : S2x1024.Idx) (r : Fin 256) (hy : 1024 * (y 0).val + (y 1).val = 256 * (i 0).val + r.val) :
    v.read (Elt F) (v.writes (Elt F) f [⟨Rect.unit off S1x256.size inb, w⟩]) y = sT x r (0 : Fin 128) := by
  have hr := r.isLt
  have hy1 : (y 1).val < 1024 := (y 1).isLt
  rw [View.read_writes_cons_unit_of_mem v f inb w [] y (ix2 (0 : Fin 1) r) hoff, hw]
  intro a
  match a with
  | ⟨0, _⟩ => show (y 0).val = (i 0).val / 4 + 0; omega
  | ⟨1, _⟩ => show (y 1).val = 256 * ((i 0).val % 4) + r.val; omega
theorem read5_old (y : S2x1024.Idx) (hy : 1024 * (y 0).val + (y 1).val < 256 * (i 0).val ∨
      256 * (i 0).val + 256 ≤ 1024 * (y 0).val + (y 1).val) :
    v.read (Elt F) (v.writes (Elt F) f [⟨Rect.unit off S1x256.size inb, w⟩]) y = v.read (Elt F) f y := by
  have hy1 : (y 1).val < 1024 := (y 1).isLt
  by_cases h0 : (y 0).val = (i 0).val / 4
  · refine View.read_writes_cons_unit_of_not_mem v f inb w [] y hoff 1 ?_
    show (y 1).val < 256 * ((i 0).val % 4) ∨ 256 * ((i 0).val % 4) + 256 ≤ (y 1).val
    omega
  · refine View.read_writes_cons_unit_of_not_mem v f inb w [] y hoff 0 ?_
    show (y 0).val < (i 0).val / 4 ∨ (i 0).val / 4 + 1 ≤ (y 0).val
    omega

end Lists

/-- The first four points serve the first batch, the others the second. -/
theorem cond_cases : ∀ i : grid0.Coords, (k0_cond1 i = 1#1 ∧ ¬ k0_cond2 i = 1#1 ∧ k0_cond3 i = 1#1 ∧ ¬ k0_cond4 i = 1#1)
    ∨ (¬ k0_cond1 i = 1#1 ∧ k0_cond2 i = 1#1 ∧ ¬ k0_cond3 i = 1#1 ∧ k0_cond4 i = 1#1) := by decide +kernel

variable [∀ e, Nonempty (Elt F e)]

set_option maxHeartbeats 4000000 in
/-- The body at one point. -/
theorem run_body (c : Dev nD) (i : grid0.Coords)
    (arg1 : Memref sig .tc .vmem S256x5120 .bf16) (harg1 : arg1.IsWhole) (arg2 : Memref sig .tc .vmem S2x1024 .i32) (harg2 : arg2.IsWhole) (arg3 : Memref sig .tc .vmem S256x5120 .i8) (harg3 : arg3.IsWhole) (arg4 : Memref sig .tc .vmem S256x5120 .bf16) (harg4 : arg4.IsWhole) (arg5 : Memref sig .tc .vmem S2x1024 .f32) (harg5 : arg5.IsWhole) (arg6 : Memref sig .tc .vmem S256x128 .f32) (harg6 : arg6.IsWhole) (arg7 : Memref sig .tc .vmem S256x128 .i32) (harg7 : arg7.IsWhole)
    (x1 : S256x5120.Idx → F .bf16) (x2 : S2x1024.Idx → BitVec 32) (Y3 : S256x5120.Idx → BitVec 8) (Y4 : S256x5120.Idx → F .bf16) (Y5 : S2x1024.Idx → F .f32) (Y6 : S256x128.Idx → F .f32) (Y7 : S256x128.Idx → BitVec 32) (K : PUnit → sProp 𝕄) :
    iprop(owns (c : Thread nD τ) arg1 fullShare x1 ∗ owns (c : Thread nD τ) arg2 fullShare x2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7
        ∗ (iprop(owns (c : Thread nD τ) arg1 fullShare x1 ∗ owns (c : Thread nD τ) arg2 fullShare x2 ∗ (∃ d, owns (c : Thread nD τ) arg4 fullShare d) ∗ (∃ d, owns (c : Thread nD τ) arg6 fullShare d) ∗ (∃ d, owns (c : Thread nD τ) arg7 fullShare d) ∗ (∃ X3 X5, owns (c : Thread nD τ) arg3 fullShare X3 ∗ owns (c : Thread nD τ) arg5 fullShare X5 ∗ ⌜Post i x1 X3 Y5 X5⌝)) -∗ K ⟨⟩))
      ⊢ wp frame (wpE (defs₀ (F := F)) Variants.none c none) Set.univ (cc0_quant_x i arg1 harg1 arg2 harg2 arg3 harg3 arg4 harg4 arg5 harg5 arg6 harg6 arg7 harg7) K := by
  simp only [cc0_quant_x_eq_skeleton]; unfold cc0_quant_x_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  rcases cond_cases i with ⟨h1, h2, h3, h4⟩ | ⟨h1, h2, h3, h4⟩
  all_goals
    sl_exec_parts (disch := first | exact h1 | exact h2 | exact h3 | exact h4)
    sl_step
    iapply Hk
    isplitl [H1]
    · iexists f1; isplitr; swap; · iexact H1
      ipureintro; rfl
    isplitl [H2]
    · iexists f2; isplitr; swap; · iexact H2
      ipureintro; rfl
    isplitl [H4]
    · iexists _; iexists _; isplitr; swap; · iexact H4
      ipureintro; rfl
    isplitl [H6]
    · iexists _; iexists _; isplitr; swap; · iexact H6
      ipureintro; rfl
    isplitl [H7]
    · iexists _; iexists _; isplitr; swap; · iexact H7
      ipureintro; rfl
    iexists _; iexists _
    isplitl [H3]
    · iexists _; isplitr; swap; · iexact H3
      ipureintro; rfl
    isplitl [H5]
    · iexists _; isplitr; swap; · iexact H5
      ipureintro; rfl
    ipureintro
    refine ⟨?_, ?_, ?_⟩
    · exact fun y => read3 (View.read (Elt F) arg1.view f1) arg3.view f3 y
    · first
        | exact fun y r hy => read5_new i arg5.view f5 (k0_off1 i) (off1_eq i h1) (k0_off1_inb i h1) _ (View.read (Elt F) arg1.view f1) (fun l => readCov6 (View.read (Elt F) arg1.view f1) arg6.view l) y r hy
        | exact fun y r hy => read5_new i arg5.view f5 (k0_off2 i) (off2_eq i h2) (k0_off2_inb i h2) _ (View.read (Elt F) arg1.view f1) (fun l => readCov6 (View.read (Elt F) arg1.view f1) arg6.view l) y r hy
    · first
        | exact fun y hy => read5_old i arg5.view f5 (k0_off1 i) (off1_eq i h1) (k0_off1_inb i h1) _ y hy
        | exact fun y hy => read5_old i arg5.view f5 (k0_off2 i) (off2_eq i h2) (k0_off2_inb i h2) _ y hy

end Cert.Quant.Hand

end
-- ==== Proof.QFrameK.lean ====
module

public import proofs.«01_k».proof.Proof.QBodyK
public import Idealize.ShloMosaic.Lib.Pipeline.Frame
public import Idealize.ShloMosaic.Lib.Pipeline.FrameBody
public import Idealize.ShloMosaic.Lib.Pipeline.ArrRel
public import Idealize.ShloMosaic.Lib.Tactic

/-!
  The input quantiser run over its grid: what is said of its windows, and that every run ends.
-/

@[expose] public section

set_option maxRecDepth 16384

noncomputable section

namespace Cert.Quant.Hand

open Cert.Quant Cert.Quant.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- The tile of rows at point `t`, and a point of the grid by its number, the number cut to the grid. -/
abbrev bX (c : Dev nD) (t : Fin grid0.N) : S256x5120.Idx → F .bf16 := iblk m c 0 t
abbrev pt (n : ℕ) : Fin grid0.N := ⟨min n 7, by rw [N_0]; omega⟩

/-- What the resident scales hold before point `n`: the scales of every tile so far. -/
def Sc (c : Dev nD) (n : ℕ) (X : S2x1024.Idx → F .f32) : Prop :=
  ∀ u : ℕ, u < n → ∀ (y : S2x1024.Idx) (r : Fin 256), 1024 * (y 0).val + (y 1).val = 256 * u + r.val →
    X y = sT (bX m c (pt u)) r (0 : Fin 128)
/-- The codes' tile of point `u`. -/
def codeB (c : Dev nD) (u : Fin grid0.N) : S256x5120.Idx → BitVec 8 := fun y => codeT (bX m c u) (y 0) (y 1)

theorem coords_eq : ∀ t : Fin grid0.N, (grid0.coords t 0).val = t.val := by decide +kernel

theorem sc_step (c : Dev nD) (t : Fin grid0.N) {X3 : S256x5120.Idx → BitVec 8} {Y5 X5 : S2x1024.Idx → F .f32}
    (h : Post (grid0.coords t) (bX m c t) X3 Y5 X5) (hY : Sc m c t.val Y5) : Sc m c (t.val + 1) X5 := by
  have e0 := coords_eq t
  have ht : t.val < 8 := lt_of_lt_of_eq t.isLt N_0
  intro u hu y r hy
  have := r.isLt
  by_cases hut : u = t.val
  · subst hut
    have e : pt t.val = t := Fin.ext (by show min t.val 7 = t.val; omega)
    rw [e]
    exact h.sc_new y r (by rw [e0]; omega)
  · rw [h.sc_old y (by rw [e0]; omega)]
    exact hY u (by omega) y r hy

/-! ## The proof data -/

/-- The two windows read are left as found. -/
def dat (c : Dev nD) : Dat τ (Elt F) Unit ℕ (UR sig nD τ) ℕ cfg0 c where
  A w := V m c (Pipeline.arrRef spec0 w)
  after w t := match w with
    | 0 => iblk m c 0 t | 1 => iblk m c 1 t
    | 2 => Dat.unnamed (cfg := cfg0) 2 t | 3 => Dat.unnamed (cfg := cfg0) 3 t | 4 => Dat.unnamed (cfg := cfg0) 4 t
    | 5 => Dat.unnamed (cfg := cfg0) 5 t | 6 => Dat.unnamed (cfg := cfg0) 6 t
    | ⟨_ + 7, h⟩ => absurd h (Nat.not_lt.2 (Nat.le_add_left _ _))
  Φ _ := Pipeline.ΦA spec0 c
  q _ := fullShare
  owed _ := 0
/-- What is said of the five windows written. -/
def ovr (c : Dev nD) : (w : Fin cfg0.W) → Option (Fin cfg0.N → (Y X : (cfg0.win w).block.Idx → Elt F (cfg0.win w).elt) → Prop)
  | 0 => none | 1 => none
  | 2 => some fun t _ X => X = codeB m c t
  | 3 => some fun _ _ _ => True
  | 4 => some fun t Y X => Sc m c t.val Y → Sc m c (t.val + 1) X
  | 5 => some fun _ _ _ => True
  | 6 => some fun _ _ _ => True
  | ⟨_ + 7, h⟩ => absurd h (Nat.not_lt.2 (Nat.le_add_left _ _))
def rdat (c : Dev nD) : RDat τ (Elt F) Unit ℕ (UR sig nD τ) ℕ cfg0 c := (dat m c).toR.override (ovr m c)

theorem dat_A (c : Dev nD) (w : Fin cfg0.W) : (dat m c).A w = V m c (Pipeline.arrRef spec0 w) := by dsimp only [dat]
theorem dat_after_0 (c : Dev nD) (t : Fin cfg0.N) : (dat m c).after 0 t = iblk m c 0 t := by dsimp only [dat]
theorem dat_after_1 (c : Dev nD) (t : Fin cfg0.N) : (dat m c).after 1 t = iblk m c 1 t := by dsimp only [dat]

/-- What the body finds in a window it reads is the window's block. -/
theorem finds_0 (c : Dev nD) (t : Fin cfg0.N) (Y) (h : (rdat m c).Finds 0 t Y) : Y = iblk m c 0 t := by
  obtain ⟨d, rfl⟩ := (dat m c).toR_finds 0 t Y (((dat m c).toR.override_finds rfl t Y).mp h)
  exact before0_0_of m (dat m c) (dat_A m c 0) (dat_after_0 m c) t d
theorem finds_1 (c : Dev nD) (t : Fin cfg0.N) (Y) (h : (rdat m c).Finds 1 t Y) : Y = iblk m c 1 t := by
  obtain ⟨d, rfl⟩ := (dat m c).toR_finds 1 t Y (((dat m c).toR.override_finds rfl t Y).mp h)
  exact before0_1_of m (dat m c) (dat_A m c 1) (dat_after_1 m c) t d

/-- What the data say of each window. -/
theorem after_0 (c : Dev nD) (t : Fin cfg0.N) (Y) : (rdat m c).after 0 t Y (iblk m c 0 t) := by
  unfold rdat; rw [RDat.override_after_of_eq_none _ rfl]; exact (dat_after_0 m c t).symm
theorem after_1 (c : Dev nD) (t : Fin cfg0.N) (Y) : (rdat m c).after 1 t Y (iblk m c 1 t) := by
  unfold rdat; rw [RDat.override_after_of_eq_none _ rfl]; exact (dat_after_1 m c t).symm
theorem after_2 (c : Dev nD) (t : Fin cfg0.N) (Y X) : (rdat m c).after 2 t Y X ↔ X = codeB m c t := by
  unfold rdat; rw [RDat.override_after_of_eq_some _ (R := fun t _ X => X = codeB m c t) rfl]
theorem after_3 (c : Dev nD) (t : Fin cfg0.N) (Y X) : (rdat m c).after 3 t Y X := by
  unfold rdat; rw [RDat.override_after_of_eq_some _ (R := fun _ _ _ => True) rfl]; trivial
theorem after_4 (c : Dev nD) (t : Fin cfg0.N) (Y X) : (rdat m c).after 4 t Y X ↔ (Sc m c t.val Y → Sc m c (t.val + 1) X) := by
  unfold rdat; rw [RDat.override_after_of_eq_some _ (R := fun t Y X => Sc m c t.val Y → Sc m c (t.val + 1) X) rfl]
theorem after_5 (c : Dev nD) (t : Fin cfg0.N) (Y X) : (rdat m c).after 5 t Y X := by
  unfold rdat; rw [RDat.override_after_of_eq_some _ (R := fun _ _ _ => True) rfl]; trivial
theorem after_6 (c : Dev nD) (t : Fin cfg0.N) (Y X) : (rdat m c).after 6 t Y X := by
  unfold rdat; rw [RDat.override_after_of_eq_some _ (R := fun _ _ _ => True) rfl]; trivial

/-! ## The body at a point of the pipeline -/

theorem defs₀_row (t : Fin cfg0.N) : defs₀ (F := F) .tc cfg0.body (cfg0.bodyArgs t (cfg0.slots t)) = bodyAt0 t := by
  unfold defs₀; rw [Defs.onTc_tc]

/-- The buffer of window `w` at point `t` at contents `X`, and what the body leaves in it from `Y`. -/
abbrev own (c : Dev nD) (t : Fin cfg0.N) (w : Fin cfg0.W) (X : (cfg0.win w).block.Idx → Elt F (cfg0.win w).elt) : sProp 𝕄 :=
  owns (c : Thread nD τ) ((cfg0.win w).stage (cfg0.slots t w)) fullShare X
abbrev left (c : Dev nD) (t : Fin cfg0.N) (w : Fin cfg0.W) (Y : (cfg0.win w).block.Idx → Elt F (cfg0.win w).elt) : sProp 𝕄 :=
  iprop(∃ X, ⌜(rdat m c).after w t Y X⌝ ∗ own c t w X)

/-- The body's step at point `t`, from the blocks and any contents of the windows written. -/
theorem sound_body (c : Dev nD) (t : Fin cfg0.N) (Y : (w : Fin cfg0.W) → (cfg0.win w).block.Idx → Elt F (cfg0.win w).elt)
    (h0 : Y 0 = iblk m c 0 t) (h1 : Y 1 = iblk m c 1 t) :
    iprop(Pipeline.ΦA spec0 c ∗ (rdat m c).owesAt () t.castSucc ∗ own c t 0 (Y 0) ∗ own c t 1 (Y 1) ∗ own c t 2 (Y 2)
        ∗ own c t 3 (Y 3) ∗ own c t 4 (Y 4) ∗ own c t 5 (Y 5) ∗ own c t 6 (Y 6))
      ⊢ wp frame (wpE (defs₀ (F := F)) Variants.none c none) Set.univ (bodyAt0 t) (fun _ =>
        iprop(Pipeline.ΦA spec0 c ∗ (rdat m c).owesAt () t.castSucc ∗ left m c t 0 (Y 0) ∗ left m c t 1 (Y 1) ∗ left m c t 2 (Y 2)
          ∗ left m c t 3 (Y 3) ∗ left m c t 4 (Y 4) ∗ left m c t 5 (Y 5) ∗ left m c t 6 (Y 6))) := by
  unfold bodyAt0 left own
  rw [h0, h1]
  iintro ⟨HΦ, HO, H0, H1, H2, H3, H4, H5, H6⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (bX m c t) (iblk m c 1 t) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, ⟨%d3, H3⟩, ⟨%d5, H5⟩, ⟨%d6, H6⟩, ⟨%X3, %X5, H2, H4, %hP⟩⟩
  isplitl [HΦ]; · iexact HΦ
  isplitl [HO]; · iexact HO
  isplitl [H0]
  · iexists (iblk m c 0 t); isplitr; swap; · iexact H0
    ipureintro; exact after_0 m c t _
  isplitl [H1]
  · iexists (iblk m c 1 t); isplitr; swap; · iexact H1
    ipureintro; exact after_1 m c t _
  isplitl [H2]
  · iexists X3; isplitr; swap; · iexact H2
    ipureintro; exact (after_2 m c t _ _).2 (funext hP.code)
  isplitl [H3]
  · iexists d3; isplitr; swap; · iexact H3
    ipureintro; exact after_3 m c t _ _
  isplitl [H4]
  · iexists X5; isplitr; swap; · iexact H4
    ipureintro; exact (after_4 m c t _ _).2 (sc_step m c t hP)
  isplitl [H5]
  · iexists d5; isplitr; swap; · iexact H5
    ipureintro; exact after_5 m c t _ _
  iexists d6; isplitr; swap; · iexact H6
  ipureintro; exact after_6 m c t _ _

theorem body_obligation (c : Dev nD) : (rdat m c).BodyObligation (defs₀ (F := F)) Variants.none () Set.univ := fun t Y hY => by
  rw [bigSep_W0, bigSep_W0, defs₀_row]
  exact triple_restated (sound_body m c t Y (finds_0 m c t _ (hY 0)) (finds_1 m c t _ (hY 1))) rfl .rfl fun _ => .rfl

/-! ## The launch -/

set_option backward.isDefEq.respectTransparency.types false in
/-- From any memory with zero counters every execution of @main ends, and in every final state the arrays hold what the proof
    data say and every counter is zero. -/
theorem run_main :
    θ_run defs (onTc (τ := τ) (main (F := F))) (s₀ m ρ)
      (fun r => RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c => (dat m c).share_full fun _ => rfl)
    (howed := fun _ _ => rfl) (V := V m) (hmain := hmain m Variants.none) (hA := dat_A m)
    (hin := fun _ => .rfl) (hout := fun _ => .rfl)

/-- The arguments end as they began. -/
theorem args_kept {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    (h.arr_in c 1 rfl).trans ((dat_A m c 1).trans (V_main_arg1 m c))⟩

end Cert.Quant.Hand

end
-- ==== Proof.QBodyI.lean ====
module

public import proofs.«01_k».proof.Proof.Gen.QuantIdeal.Frame
public import proofs.«01_k».proof.Proof.Gen.QuantIdeal.Skeleton
public import proofs.«01_k».proof.Proof.Gen.QuantIdeal.Points
public import Idealize.ShloMosaic.Lib.Pipeline.Frame
public import Idealize.ShloMosaic.Lib.Pipeline.FrameBody
public import Idealize.ShloMosaic.Lib.Tactic
public import Idealize.ShloMosaic.Lib.VecWindow
public import Idealize.ShloMosaic.Lib.WritesUnit
public import Idealize.ShloMosaic.Lib.Pointwise

/-!
  One grid point of the input quantiser: what it writes, as functions of the block it reads.
-/

@[expose] public section

set_option maxRecDepth 16384

noncomputable section

namespace Cert.QuantIdeal.Hand

open Cert.QuantIdeal Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The tile functions -/

theorem inb_x (k : Fin 8) : ∀ a, (![32 * k.val, 0] : Fin 2 → ℕ) a + S32x5120.size a ≤ S256x5120.size a := by
  revert k; decide
theorem inb_s (k : Fin 8) : ∀ a, (![32 * k.val, 0] : Fin 2 → ℕ) a + S32x128.size a ≤ S256x128.size a := by
  revert k; decide
/-- Chunk `k` of a tile of 256 rows: its rows `32 k … 32 k + 31`. -/
def chX (x : S256x5120.Idx → F .bf16) (k : Fin 8) : S32x5120.Idx → F .bf16 :=
  VecWindow.window x ![32 * k.val, 0] S32x5120.size (inb_x k)
/-- The chunk a row of the tile lies in, and its row there. -/
abbrev kOf (r : Fin 256) : Fin 8 := ⟨r.val / 32, by omega⟩
abbrev rOf (r : Fin 256) : Fin 32 := ⟨r.val % 32, by omega⟩
/-- The code of row `r`, column `j` of the tile. -/
def codeT (x : S256x5120.Idx → F .bf16) (r : Fin 256) (j : Fin 5120) : BitVec 8 := k0_pay5 (chX x (kOf r)) (ix2 (rOf r) j)
/-- The scale of row `r` of the tile, repeated over the lanes `l`. -/
def sT (x : S256x5120.Idx → F .bf16) (r : Fin 256) (l : Fin 128) : F .f32 := k0_pay7 (chX x (kOf r)) (ix2 (rOf r) l)

/-- What a point leaves: the tile's codes in the output window, its scales in the resident scales. -/
structure Post (i : grid0.Coords) (x : S256x5120.Idx → F .bf16) (X3 : S256x5120.Idx → BitVec 8) (Y5 X5 : S2x1024.Idx → F .f32) : Prop where
  code : ∀ y : S256x5120.Idx, X3 y = codeT x (y 0) (y 1)
  sc_new : ∀ (y : S2x1024.Idx) (r : Fin 256), 1024 * (y 0).val + (y 1).val = 256 * (i 0).val + r.val → X5 y = sT x r (0 : Fin 128)
  sc_old : ∀ y : S2x1024.Idx, (1024 * (y 0).val + (y 1).val < 256 * (i 0).val ∨
      256 * (i 0).val + 256 ≤ 1024 * (y 0).val + (y 1).val) → X5 y = Y5 y

/-! ## The lists of writes the body makes, and what they leave -/

section Lists

variable {sp : Space}

def L3 (x : S256x5120.Idx → F .bf16) : List (View.Piece (Elt F) S256x5120 .i8) :=
  View.tilePieces (s := S256x5120) (e := .i8) (Val := Elt F) S32x5120.size
    (fun k : Fin 8 => ![32 * k.val, 0]) inb_x (fun k => k0_pay5 (chX x k)) 8 le_rfl
def L6 (x : S256x5120.Idx → F .bf16) : List (View.Piece (Elt F) S256x128 .f32) :=
  View.tilePieces (s := S256x128) (e := .f32) (Val := Elt F) S32x128.size
    (fun k : Fin 8 => ![32 * k.val, 0]) inb_s (fun k => k0_pay7 (chX x k)) 8 le_rfl

theorem read3 (x : S256x5120.Idx → F .bf16) (v : View sig .tc sp S256x5120 .i8) (f : v.ty.Contents (Elt F)) (y : S256x5120.Idx) :
    v.read (Elt F) (v.writes (Elt F) f (L3 x)) y = codeT x (y 0) (y 1) := by
  have hr' : (y 0).val < 256 := (y 0).isLt
  refine View.read_tilePieces v f _ _ _ _ 8 le_rfl y (kOf (y 0)) (kOf (y 0)).isLt (ix2 (rOf (y 0)) (y 1)) ?_ 0 ?_
  · intro a
    match a with
    | ⟨0, _⟩ => show (y 0).val = 32 * ((y 0).val / 32) + (y 0).val % 32; omega
    | ⟨1, _⟩ => show (y 1).val = 0 + (y 1).val; omega
  · intro k hk
    have hk' : k.val ≠ (y 0).val / 32 := fun h => hk (Fin.ext h)
    show (y 0).val < 32 * k.val ∨ 32 * k.val + 32 ≤ (y 0).val
    omega
theorem read6 (x : S256x5120.Idx → F .bf16) (v : View sig .tc sp S256x128 .f32) (f : v.ty.Contents (Elt F)) (r : Fin 256) (l : Fin 128) :
    v.read (Elt F) (v.writes (Elt F) f (L6 x)) (ix2 r l) = sT x r l := by
  have hr' := r.isLt
  refine View.read_tilePieces v f _ _ _ _ 8 le_rfl (ix2 r l) (kOf r) (kOf r).isLt (ix2 (rOf r) l) ?_ 0 ?_
  · intro a
    match a with
    | ⟨0, _⟩ => show r.val = 32 * (r.val / 32) + r.val % 32; omega
    | ⟨1, _⟩ => show l.val = 0 + l.val; omega
  · intro k hk
    have hk' : k.val ≠ r.val / 32 := fun h => hk (Fin.ext h)
    show r.val < 32 * k.val ∨ 32 * k.val + 32 ≤ r.val
    omega

/-- The row of scales written back: lane 0 of the rows of the repeated scales, transposed. -/
theorem pay56_apply (v : Vec F S256x128 .f32) (l : Fin 256) : k0_pay56 v (ix2 (0 : Fin 1) l) = v (ix2 l (0 : Fin 128)) := by
  unfold k0_pay56
  pointwise
theorem readCov6 (x : S256x5120.Idx → F .bf16) (v : View sig .tc sp S256x128 .f32) [∀ e, Nonempty (Elt F e)] (l : Fin 256) :
    k0_pay56 (v.readCov (L6 x) (Rect.unit (s := S256x128) ![0, 0] S256x128.size inb_S256x128_S256x128_0_0).toLoadRect) (ix2 (0 : Fin 1) l)
      = sT x l (0 : Fin 128) := by
  rw [pay56_apply]
  unfold View.readCov
  rw [View.readAt_full v _ inb_S256x128_S256x128_0_0]
  exact read6 x v _ l 0

theorem off1_eq : ∀ i : grid0.Coords, k0_cond1 i = 1#1 → k0_off1 i = ![(i 0).val / 4, 256 * ((i 0).val % 4)] := by decide +kernel
theorem off2_eq : ∀ i : grid0.Coords, k0_cond2 i = 1#1 → k0_off2 i = ![(i 0).val / 4, 256 * ((i 0).val % 4)] := by decide +kernel

variable (i : grid0.Coords) (v : View sig .tc sp S2x1024 .f32) (f : v.ty.Contents (Elt F)) (off : Fin 2 → ℕ)
  (hoff : off = ![(i 0).val / 4, 256 * ((i 0).val % 4)]) (inb : ∀ a, off a + S1x256.size a ≤ S2x1024.size a) (w : S1x256.Idx → F .f32)
include hoff

theorem read5_new (x : S256x5120.Idx → F .bf16) (hw : ∀ l : Fin 256, w (ix2 (0 : Fin 1) l) = sT x l (0 : Fin 128))
    (y : S2x1024.Idx) (r : Fin 256) (hy : 1024 * (y 0).val + (y 1).val = 256 * (i 0).val + r.val) :
    v.read (Elt F) (v.writes (Elt F) f [⟨Rect.unit off S1x256.size inb, w⟩]) y = sT x r (0 : Fin 128) := by
  have hr := r.isLt
  have hy1 : (y 1).val < 1024 := (y 1).isLt
  rw [View.read_writes_cons_unit_of_mem v f inb w [] y (ix2 (0 : Fin 1) r) hoff, hw]
  intro a
  match a with
  | ⟨0, _⟩ => show (y 0).val = (i 0).val / 4 + 0; omega
  | ⟨1, _⟩ => show (y 1).val = 256 * ((i 0).val % 4) + r.val; omega
theorem read5_old (y : S2x1024.Idx) (hy : 1024 * (y 0).val + (y 1).val < 256 * (i 0).val ∨
      256 * (i 0).val + 256 ≤ 1024 * (y 0).val + (y 1).val) :
    v.read (Elt F) (v.writes (Elt F) f [⟨Rect.unit off S1x256.size inb, w⟩]) y = v.read (Elt F) f y := by
  have hy1 : (y 1).val < 1024 := (y 1).isLt
  by_cases h0 : (y 0).val = (i 0).val / 4
  · refine View.read_writes_cons_unit_of_not_mem v f inb w [] y hoff 1 ?_
    show (y 1).val < 256 * ((i 0).val % 4) ∨ 256 * ((i 0).val % 4) + 256 ≤ (y 1).val
    omega
  · refine View.read_writes_cons_unit_of_not_mem v f inb w [] y hoff 0 ?_
    show (y 0).val < (i 0).val / 4 ∨ (i 0).val / 4 + 1 ≤ (y 0).val
    omega

end Lists

/-- The first four points serve the first batch, the others the second. -/
theorem cond_cases : ∀ i : grid0.Coords, (k0_cond1 i = 1#1 ∧ ¬ k0_cond2 i = 1#1 ∧ k0_cond3 i = 1#1 ∧ ¬ k0_cond4 i = 1#1)
    ∨ (¬ k0_cond1 i = 1#1 ∧ k0_cond2 i = 1#1 ∧ ¬ k0_cond3 i = 1#1 ∧ k0_cond4 i = 1#1) := by decide +kernel

variable [∀ e, Nonempty (Elt F e)]

set_option maxHeartbeats 4000000 in
/-- The body at one point. -/
theorem run_body (c : Dev nD) (i : grid0.Coords)
    (arg1 : Memref sig .tc .vmem S256x5120 .bf16) (harg1 : arg1.IsWhole) (arg2 : Memref sig .tc .vmem S2x1024 .i32) (harg2 : arg2.IsWhole) (arg3 : Memref sig .tc .vmem S256x5120 .i8) (harg3 : arg3.IsWhole) (arg4 : Memref sig .tc .vmem S256x5120 .bf16) (harg4 : arg4.IsWhole) (arg5 : Memref sig .tc .vmem S2x1024 .f32) (harg5 : arg5.IsWhole) (arg6 : Memref sig .tc .vmem S256x128 .f32) (harg6 : arg6.IsWhole) (arg7 : Memref sig .tc .vmem S256x128 .i32) (harg7 : arg7.IsWhole)
    (x1 : S256x5120.Idx → F .bf16) (x2 : S2x1024.Idx → BitVec 32) (Y3 : S256x5120.Idx → BitVec 8) (Y4 : S256x5120.Idx → F .bf16) (Y5 : S2x1024.Idx → F .f32) (Y6 : S256x128.Idx → F .f32) (Y7 : S256x128.Idx → BitVec 32) (K : PUnit → sProp 𝕄) :
    iprop(owns (c : Thread nD τ) arg1 fullShare x1 ∗ owns (c : Thread nD τ) arg2 fullShare x2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7
        ∗ (iprop(owns (c : Thread nD τ) arg1 fullShare x1 ∗ owns (c : Thread nD τ) arg2 fullShare x2 ∗ (∃ d, owns (c : Thread nD τ) arg4 fullShare d) ∗ (∃ d, owns (c : Thread nD τ) arg6 fullShare d) ∗ (∃ d, owns (c : Thread nD τ) arg7 fullShare d) ∗ (∃ X3 X5, owns (c : Thread nD τ) arg3 fullShare X3 ∗ owns (c : Thread nD τ) arg5 fullShare X5 ∗ ⌜Post i x1 X3 Y5 X5⌝)) -∗ K ⟨⟩))
      ⊢ wp frame (wpE (defs₀ (F := F)) Variants.none c none) Set.univ (cc0_quant_x i arg1 harg1 arg2 harg2 arg3 harg3 arg4 harg4 arg5 harg5 arg6 harg6 arg7 harg7) K := by
  simp only [cc0_quant_x_eq_skeleton]; unfold cc0_quant_x_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  rcases cond_cases i with ⟨h1, h2, h3, h4⟩ | ⟨h1, h2, h3, h4⟩
  all_goals
    sl_exec_parts (disch := first | exact h1 | exact h2 | exact h3 | exact h4)
    sl_step
    iapply Hk
    isplitl [H1]
    · iexists f1; isplitr; swap; · iexact H1
      ipureintro; rfl
    isplitl [H2]
    · iexists f2; isplitr; swap; · iexact H2
      ipureintro; rfl
    isplitl [H4]
    · iexists _; iexists _; isplitr; swap; · iexact H4
      ipureintro; rfl
    isplitl [H6]
    · iexists _; iexists _; isplitr; swap; · iexact H6
      ipureintro; rfl
    isplitl [H7]
    · iexists _; iexists _; isplitr; swap; · iexact H7
      ipureintro; rfl
    iexists _; iexists _
    isplitl [H3]
    · iexists _; isplitr; swap; · iexact H3
      ipureintro; rfl
    isplitl [H5]
    · iexists _; isplitr; swap; · iexact H5
      ipureintro; rfl
    ipureintro
    refine ⟨?_, ?_, ?_⟩
    · exact fun y => read3 (View.read (Elt F) arg1.view f1) arg3.view f3 y
    · first
        | exact fun y r hy => read5_new i arg5.view f5 (k0_off1 i) (off1_eq i h1) (k0_off1_inb i h1) _ (View.read (Elt F) arg1.view f1) (fun l => readCov6 (View.read (Elt F) arg1.view f1) arg6.view l) y r hy
        | exact fun y r hy => read5_new i arg5.view f5 (k0_off2 i) (off2_eq i h2) (k0_off2_inb i h2) _ (View.read (Elt F) arg1.view f1) (fun l => readCov6 (View.read (Elt F) arg1.view f1) arg6.view l) y r hy
    · first
        | exact fun y hy => read5_old i arg5.view f5 (k0_off1 i) (off1_eq i h1) (k0_off1_inb i h1) _ y hy
        | exact fun y hy => read5_old i arg5.view f5 (k0_off2 i) (off2_eq i h2) (k0_off2_inb i h2) _ y hy

end Cert.QuantIdeal.Hand

end
-- ==== Proof.QFrameI.lean ====
module

public import proofs.«01_k».proof.Proof.QBodyI
public import Idealize.ShloMosaic.Lib.Pipeline.Frame
public import Idealize.ShloMosaic.Lib.Pipeline.FrameBody
public import Idealize.ShloMosaic.Lib.Pipeline.ArrRel
public import Idealize.ShloMosaic.Lib.Tactic

/-!
  The input quantiser run over its grid: what is said of its windows, and that every run ends.
-/

@[expose] public section

set_option maxRecDepth 16384

noncomputable section

namespace Cert.QuantIdeal.Hand

open Cert.QuantIdeal Cert.QuantIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat RDat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- The tile of rows at point `t`, and a point of the grid by its number, the number cut to the grid. -/
abbrev bX (c : Dev nD) (t : Fin grid0.N) : S256x5120.Idx → F .bf16 := iblk m c 0 t
abbrev pt (n : ℕ) : Fin grid0.N := ⟨min n 7, by rw [N_0]; omega⟩

/-- What the resident scales hold before point `n`: the scales of every tile so far. -/
def Sc (c : Dev nD) (n : ℕ) (X : S2x1024.Idx → F .f32) : Prop :=
  ∀ u : ℕ, u < n → ∀ (y : S2x1024.Idx) (r : Fin 256), 1024 * (y 0).val + (y 1).val = 256 * u + r.val →
    X y = sT (bX m c (pt u)) r (0 : Fin 128)
/-- The codes' tile of point `u`. -/
def codeB (c : Dev nD) (u : Fin grid0.N) : S256x5120.Idx → BitVec 8 := fun y => codeT (bX m c u) (y 0) (y 1)

theorem coords_eq : ∀ t : Fin grid0.N, (grid0.coords t 0).val = t.val := by decide +kernel

theorem sc_step (c : Dev nD) (t : Fin grid0.N) {X3 : S256x5120.Idx → BitVec 8} {Y5 X5 : S2x1024.Idx → F .f32}
    (h : Post (grid0.coords t) (bX m c t) X3 Y5 X5) (hY : Sc m c t.val Y5) : Sc m c (t.val + 1) X5 := by
  have e0 := coords_eq t
  have ht : t.val < 8 := lt_of_lt_of_eq t.isLt N_0
  intro u hu y r hy
  have := r.isLt
  by_cases hut : u = t.val
  · subst hut
    have e : pt t.val = t := Fin.ext (by show min t.val 7 = t.val; omega)
    rw [e]
    exact h.sc_new y r (by rw [e0]; omega)
  · rw [h.sc_old y (by rw [e0]; omega)]
    exact hY u (by omega) y r hy

/-! ## The proof data -/

/-- The two windows read are left as found. -/
def dat (c : Dev nD) : Dat τ (Elt F) Unit ℕ (UR sig nD τ) ℕ cfg0 c where
  A w := V m c (Pipeline.arrRef spec0 w)
  after w t := match w with
    | 0 => iblk m c 0 t | 1 => iblk m c 1 t
    | 2 => Dat.unnamed (cfg := cfg0) 2 t | 3 => Dat.unnamed (cfg := cfg0) 3 t | 4 => Dat.unnamed (cfg := cfg0) 4 t
    | 5 => Dat.unnamed (cfg := cfg0) 5 t | 6 => Dat.unnamed (cfg := cfg0) 6 t
    | ⟨_ + 7, h⟩ => absurd h (Nat.not_lt.2 (Nat.le_add_left _ _))
  Φ _ := Pipeline.ΦA spec0 c
  q _ := fullShare
  owed _ := 0
/-- What is said of the five windows written. -/
def ovr (c : Dev nD) : (w : Fin cfg0.W) → Option (Fin cfg0.N → (Y X : (cfg0.win w).block.Idx → Elt F (cfg0.win w).elt) → Prop)
  | 0 => none | 1 => none
  | 2 => some fun t _ X => X = codeB m c t
  | 3 => some fun _ _ _ => True
  | 4 => some fun t Y X => Sc m c t.val Y → Sc m c (t.val + 1) X
  | 5 => some fun _ _ _ => True
  | 6 => some fun _ _ _ => True
  | ⟨_ + 7, h⟩ => absurd h (Nat.not_lt.2 (Nat.le_add_left _ _))
def rdat (c : Dev nD) : RDat τ (Elt F) Unit ℕ (UR sig nD τ) ℕ cfg0 c := (dat m c).toR.override (ovr m c)

theorem dat_A (c : Dev nD) (w : Fin cfg0.W) : (dat m c).A w = V m c (Pipeline.arrRef spec0 w) := by dsimp only [dat]
theorem dat_after_0 (c : Dev nD) (t : Fin cfg0.N) : (dat m c).after 0 t = iblk m c 0 t := by dsimp only [dat]
theorem dat_after_1 (c : Dev nD) (t : Fin cfg0.N) : (dat m c).after 1 t = iblk m c 1 t := by dsimp only [dat]

/-- What the body finds in a window it reads is the window's block. -/
theorem finds_0 (c : Dev nD) (t : Fin cfg0.N) (Y) (h : (rdat m c).Finds 0 t Y) : Y = iblk m c 0 t := by
  obtain ⟨d, rfl⟩ := (dat m c).toR_finds 0 t Y (((dat m c).toR.override_finds rfl t Y).mp h)
  exact before0_0_of m (dat m c) (dat_A m c 0) (dat_after_0 m c) t d
theorem finds_1 (c : Dev nD) (t : Fin cfg0.N) (Y) (h : (rdat m c).Finds 1 t Y) : Y = iblk m c 1 t := by
  obtain ⟨d, rfl⟩ := (dat m c).toR_finds 1 t Y (((dat m c).toR.override_finds rfl t Y).mp h)
  exact before0_1_of m (dat m c) (dat_A m c 1) (dat_after_1 m c) t d

/-- What the data say of each window. -/
theorem after_0 (c : Dev nD) (t : Fin cfg0.N) (Y) : (rdat m c).after 0 t Y (iblk m c 0 t) := by
  unfold rdat; rw [RDat.override_after_of_eq_none _ rfl]; exact (dat_after_0 m c t).symm
theorem after_1 (c : Dev nD) (t : Fin cfg0.N) (Y) : (rdat m c).after 1 t Y (iblk m c 1 t) := by
  unfold rdat; rw [RDat.override_after_of_eq_none _ rfl]; exact (dat_after_1 m c t).symm
theorem after_2 (c : Dev nD) (t : Fin cfg0.N) (Y X) : (rdat m c).after 2 t Y X ↔ X = codeB m c t := by
  unfold rdat; rw [RDat.override_after_of_eq_some _ (R := fun t _ X => X = codeB m c t) rfl]
theorem after_3 (c : Dev nD) (t : Fin cfg0.N) (Y X) : (rdat m c).after 3 t Y X := by
  unfold rdat; rw [RDat.override_after_of_eq_some _ (R := fun _ _ _ => True) rfl]; trivial
theorem after_4 (c : Dev nD) (t : Fin cfg0.N) (Y X) : (rdat m c).after 4 t Y X ↔ (Sc m c t.val Y → Sc m c (t.val + 1) X) := by
  unfold rdat; rw [RDat.override_after_of_eq_some _ (R := fun t Y X => Sc m c t.val Y → Sc m c (t.val + 1) X) rfl]
theorem after_5 (c : Dev nD) (t : Fin cfg0.N) (Y X) : (rdat m c).after 5 t Y X := by
  unfold rdat; rw [RDat.override_after_of_eq_some _ (R := fun _ _ _ => True) rfl]; trivial
theorem after_6 (c : Dev nD) (t : Fin cfg0.N) (Y X) : (rdat m c).after 6 t Y X := by
  unfold rdat; rw [RDat.override_after_of_eq_some _ (R := fun _ _ _ => True) rfl]; trivial

/-! ## The body at a point of the pipeline -/

theorem defs₀_row (t : Fin cfg0.N) : defs₀ (F := F) .tc cfg0.body (cfg0.bodyArgs t (cfg0.slots t)) = bodyAt0 t := by
  unfold defs₀; rw [Defs.onTc_tc]

/-- The buffer of window `w` at point `t` at contents `X`, and what the body leaves in it from `Y`. -/
abbrev own (c : Dev nD) (t : Fin cfg0.N) (w : Fin cfg0.W) (X : (cfg0.win w).block.Idx → Elt F (cfg0.win w).elt) : sProp 𝕄 :=
  owns (c : Thread nD τ) ((cfg0.win w).stage (cfg0.slots t w)) fullShare X
abbrev left (c : Dev nD) (t : Fin cfg0.N) (w : Fin cfg0.W) (Y : (cfg0.win w).block.Idx → Elt F (cfg0.win w).elt) : sProp 𝕄 :=
  iprop(∃ X, ⌜(rdat m c).after w t Y X⌝ ∗ own c t w X)

/-- The body's step at point `t`, from the blocks and any contents of the windows written. -/
theorem sound_body (c : Dev nD) (t : Fin cfg0.N) (Y : (w : Fin cfg0.W) → (cfg0.win w).block.Idx → Elt F (cfg0.win w).elt)
    (h0 : Y 0 = iblk m c 0 t) (h1 : Y 1 = iblk m c 1 t) :
    iprop(Pipeline.ΦA spec0 c ∗ (rdat m c).owesAt () t.castSucc ∗ own c t 0 (Y 0) ∗ own c t 1 (Y 1) ∗ own c t 2 (Y 2)
        ∗ own c t 3 (Y 3) ∗ own c t 4 (Y 4) ∗ own c t 5 (Y 5) ∗ own c t 6 (Y 6))
      ⊢ wp frame (wpE (defs₀ (F := F)) Variants.none c none) Set.univ (bodyAt0 t) (fun _ =>
        iprop(Pipeline.ΦA spec0 c ∗ (rdat m c).owesAt () t.castSucc ∗ left m c t 0 (Y 0) ∗ left m c t 1 (Y 1) ∗ left m c t 2 (Y 2)
          ∗ left m c t 3 (Y 3) ∗ left m c t 4 (Y 4) ∗ left m c t 5 (Y 5) ∗ left m c t 6 (Y 6))) := by
  unfold bodyAt0 left own
  rw [h0, h1]
  iintro ⟨HΦ, HO, H0, H1, H2, H3, H4, H5, H6⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (bX m c t) (iblk m c 1 t) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, ⟨%d3, H3⟩, ⟨%d5, H5⟩, ⟨%d6, H6⟩, ⟨%X3, %X5, H2, H4, %hP⟩⟩
  isplitl [HΦ]; · iexact HΦ
  isplitl [HO]; · iexact HO
  isplitl [H0]
  · iexists (iblk m c 0 t); isplitr; swap; · iexact H0
    ipureintro; exact after_0 m c t _
  isplitl [H1]
  · iexists (iblk m c 1 t); isplitr; swap; · iexact H1
    ipureintro; exact after_1 m c t _
  isplitl [H2]
  · iexists X3; isplitr; swap; · iexact H2
    ipureintro; exact (after_2 m c t _ _).2 (funext hP.code)
  isplitl [H3]
  · iexists d3; isplitr; swap; · iexact H3
    ipureintro; exact after_3 m c t _ _
  isplitl [H4]
  · iexists X5; isplitr; swap; · iexact H4
    ipureintro; exact (after_4 m c t _ _).2 (sc_step m c t hP)
  isplitl [H5]
  · iexists d5; isplitr; swap; · iexact H5
    ipureintro; exact after_5 m c t _ _
  iexists d6; isplitr; swap; · iexact H6
  ipureintro; exact after_6 m c t _ _

theorem body_obligation (c : Dev nD) : (rdat m c).BodyObligation (defs₀ (F := F)) Variants.none () Set.univ := fun t Y hY => by
  rw [bigSep_W0, bigSep_W0, defs₀_row]
  exact triple_restated (sound_body m c t Y (finds_0 m c t _ (hY 0)) (finds_1 m c t _ (hY 1))) rfl .rfl fun _ => .rfl

/-! ## The launch -/

set_option backward.isDefEq.respectTransparency.types false in
/-- From any memory with zero counters every execution of @main ends, and in every final state the arrays hold what the proof
    data say and every counter is zero. -/
theorem run_main :
    θ_run defs (onTc (τ := τ) (main (F := F))) (s₀ m ρ)
      (fun r => RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c => (dat m c).share_full fun _ => rfl)
    (howed := fun _ _ => rfl) (V := V m) (hmain := hmain m Variants.none) (hA := dat_A m)
    (hin := fun _ => .rfl) (hout := fun _ => .rfl)

/-- The arguments end as they began. -/
theorem args_kept {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    (h.arr_in c 1 rfl).trans ((dat_A m c 1).trans (V_main_arg1 m c))⟩

end Cert.QuantIdeal.Hand

end
-- ==== Proof.QSpec.lean ====
module

public import proofs.«01_k».proof.Proof.Spec

/-!
  The scale of a row of 5120 numbers, over the extended reals.
-/

@[expose] public section

noncomputable section

namespace Cert.Spec

open Idealize.ShloMosaic

/-- The scale of a row of 5120 numbers. -/
def xScale (f : Fin 5120 → EReal) : EReal :=
  scl (Finset.fold max (Ideal.ofBits .f32 0xFF800000#32) (fun k => max (f k) (-(f k))) Finset.univ)
/-- The codes of the rows. -/
def xCode (x : Fin 2048 → Fin 5120 → EReal) (g : Fin 2048) (j : Fin 5120) : BitVec 8 := code (x g j) (xScale (x g))

end Cert.Spec

end
-- ==== Proof.QWinI.lean ====
module

public import proofs.«01_k».proof.Proof.QFrameI
public import Idealize.ShloMosaic.Lib.Pipeline.ValueKit
public import Idealize.ShloMosaic.Lib.Claim
public import Idealize.ShloMosaic.Lib.Pointwise
public import proofs.«01_k».proof.Proof.QSpec

/-!
  What the input quantiser leaves in its two results, over the extended reals.
-/

@[expose] public section

set_option maxRecDepth 16384

noncomputable section

namespace Cert.QuantIdeal.Hand

open Cert.QuantIdeal Cert.QuantIdeal.Gen
open Idealize.ShloMosaic Idealize.ShloMosaic.TcCoe Idealize.ShloMosaic.Tactic
open Idealize.ShloMosaic.Pipeline (Cfg Dat RDat)
open Idealize.SL Idealize.SL.RA Idealize.SL.BI
open scoped Idealize.SL.BI
open Idealize.SL.BI.BIBase Idealize.SL.BI.Laws Idealize.SL.ProofMode Idealize.SL.Sem

/-! ## The tile functions, index by index -/

theorem chX_at (x : S256x5120.Idx → EReal) (r : Fin 256) (l : Fin 5120) : chX (F := Ideal) x (kOf r) (ix2 (rOf r) l) = x (ix2 r l) := by
  unfold chX VecWindow.window
  refine congrArg x (funext fun a => Fin.ext ?_)
  fin_cases a
  · show 32 * (r.val / 32) + 1 * (r.val % 32) = r.val
    omega
  · show 0 + 1 * l.val = l.val
    omega
/-- The code of a row's number. -/
theorem codeT_eq (x : S256x5120.Idx → EReal) (r : Fin 256) (j : Fin 5120) :
    codeT (F := Ideal) x r j = Spec.code (x (ix2 r j)) (Spec.xScale fun k => x (ix2 r k)) := by
  simp only [← chX_at x]
  unfold codeT k0_pay5 k0_pay4 k0_pay3 k0_pay2
  generalize chX (F := Ideal) x (kOf r) = a
  pointwise
  rfl
/-- The scale of a row. -/
theorem sT_eq (x : S256x5120.Idx → EReal) (r : Fin 256) (l : Fin 128) :
    sT (F := Ideal) x r l = Spec.xScale fun k => x (ix2 r k) := by
  simp only [← chX_at x]
  unfold sT k0_pay7 k0_pay3 k0_pay2
  generalize chX (F := Ideal) x (kOf r) = a
  pointwise
  rfl

variable (m : (ℓ : Loc nD τ sig) → Buf (Elt Ideal) ℓ) (ρ : Dev nD → PrngReg)

/-- Row `g` of the 2048 rows: its batch and its position; and the rows of core `c`. -/
abbrev rb (g : Fin 2048) : Fin 2 := ⟨g.val / 1024, by omega⟩
abbrev rs (g : Fin 2048) : Fin 1024 := ⟨g.val % 1024, by omega⟩
def rows (c : Dev nD) (g : Fin 2048) (k : Fin 5120) : EReal :=
  (m ((c.tc : Thread nD τ).loc main_arg0) : S2x1024x5120.Idx → EReal) (ix3 (rb g) (rs g) k)

theorem cast_at (x : S2x1024x5120.Idx → EReal) (g : Fin 2048) (k : Fin 5120) :
    shapeCast S2048x5120 x shapeCasts_S2x1024x5120_S2048x5120 (ix2 g k) = x (ix3 (rb g) (rs g) k) := by
  pointwise
theorem entry_x (c : Dev nD) (g : Fin 2048) (k : Fin 5120) : (V m c main_v0 : S2048x5120.Idx → EReal) (ix2 g k) = rows m c g k := by
  entry_read
  exact cast_at (m (c, Proc.tc.devRef main_arg0) : S2x1024x5120.Idx → EReal) g k
theorem idxI : ∀ t : Fin cfg0.N, win0_0.index t = ![t.val, 0] ∧ win0_2.index t = ![t.val, 0] ∧ win0_4.index t = ![0, 0] :=
  (by decide +kernel : ∀ t : Fin grid0.N, _)
theorem lt8 (t : Fin cfg0.N) : t.val < 8 := lt_of_lt_of_eq t.isLt N_0
theorem bX_at (c : Dev nD) (t : Fin cfg0.N) (r : Fin 256) (k : Fin 5120) :
    bX m c t (ix2 r k) = rows m c ⟨256 * t.val + r.val, by have := lt8 t; omega⟩ k := by
  rw [← entry_x]
  blk_ext [bX, iblk, idxI t]
theorem bX_eq (c : Dev nD) (t : Fin cfg0.N) (r : Fin 256) (k : Fin 5120) (g : Fin 2048) (hg : g.val = 256 * t.val + r.val) :
    bX m c t (ix2 r k) = rows m c g k :=
  (bX_at m c t r k).trans (congrArg (fun g => rows m c g k) (Fin.ext hg.symm))
/-- The scales and the codes of a tile. -/
theorem sT_at (c : Dev nD) (t : Fin cfg0.N) (r : Fin 256) (l : Fin 128) (g : Fin 2048) (hg : g.val = 256 * t.val + r.val) :
    sT (F := Ideal) (bX m c t) r l = Spec.xScale (rows m c g) :=
  (sT_eq _ r l).trans (congrArg Spec.xScale (funext fun k => bX_eq m c t r k g hg))
theorem codeT_at (c : Dev nD) (t : Fin cfg0.N) (r : Fin 256) (k : Fin 5120) (g : Fin 2048) (hg : g.val = 256 * t.val + r.val) :
    codeT (F := Ideal) (bX m c t) r k = Spec.xCode (rows m c) g k := by
  refine (codeT_eq _ r k).trans ?_
  rw [show (fun k => bX m c t (ix2 r k)) = rows m c g from funext fun k => bX_eq m c t r k g hg]
  exact congrArg (fun x => Spec.code x _) (bX_eq m c t r k g hg)

/-! ## The windows written -/

theorem fetch_4 : ∀ t : Fin cfg0.N, (cfg0.win 4).fetch t = false := (by decide +kernel : ∀ t : Fin grid0.N, _)
theorem flush_4 : ∀ t : Fin cfg0.N, t.val < 7 → (cfg0.win 4).flush t = false := (by decide +kernel : ∀ t : Fin grid0.N, _)

/-- The resident scales hold every tile's scales. -/
theorem leaves_4 (c : Dev nD) : ∀ n (hn : n < cfg0.N) (X), (rdat m c).Leaves 4 ⟨n, hn⟩ X → Sc m c (n + 1) X := by
  intro n
  induction n with
  | zero =>
    intro hn X h
    obtain ⟨Y, _, hY⟩ := h
    exact (after_4 m c _ Y X).1 hY fun u hu => absurd hu (Nat.not_lt_zero _)
  | succ n ih =>
    intro hn X h
    obtain ⟨Y, hF, hY⟩ := h
    have hN : n + 1 < 8 := lt_of_lt_of_eq hn N_0
    refine (after_4 m c _ Y X).1 hY ?_
    have hL := ((rdat m c).finds_of_pos (fetch_4 _) (by show n + 1 ≠ 0; omega) Y).mp hF
    have hfl := flush_4 ⟨n, by omega⟩ (by show n < 7; omega)
    rcases hL with hL | hL
    · exact absurd (hfl.symm.trans hL) Bool.false_ne_true
    · exact ih (by omega) Y hL

theorem row_lt (y : S2x1024.Idx) : 1024 * (y 0).val + (y 1).val < 2048 := by
  have h0 : (y 0).val < 2 := (y 0).isLt
  have h1 : (y 1).val < 1024 := (y 1).isLt
  omega

section
variable (c : Dev nD) (d : Dat τ (Elt Ideal) Unit ℕ (UR sig nD τ) ℕ cfg0 c)

theorem arr_2 (h : ∀ t, (cfg0.win 2).flush t = true → d.after 2 t = codeB m c t) : d.arrAt 2 cfg0.N =
    fun y : S2048x5120.Idx => Spec.xCode (rows m c) (y 0) (y 1) := by
  refine d.arrAt_eq_of_covers 2 _ (by decide +kernel) fun t hf y => ?_
  rw [h t hf]
  blk_simp [idxI t]
  refine (codeT_at m c t (y 0) (y 1) ((win0_2.blk t).view.emb y 0) ?_).trans (congrArg (Spec.xCode (rows m c) _) (Fin.ext ?_))
  · blk_simp [idxI t] <;> omega
  · blk_simp [idxI t] <;> omega
theorem arr_4 (h : Sc m c 8 (d.after 4 (pt 7))) : d.arrAt 4 cfg0.N =
    fun y : S2x1024.Idx => (Spec.xScale (rows m c ⟨1024 * (y 0).val + (y 1).val, row_lt y⟩) : EReal) := by
  refine d.arrAt_eq_of_after_last 4 (pt 7) (by decide +kernel) _ fun j => ?_
  blk_simp
  have hr := row_lt j
  refine (h ((1024 * (j 0).val + (j 1).val) / 256) (by omega) j ⟨(1024 * (j 0).val + (j 1).val) % 256, by omega⟩ (Nat.div_add_mod _ _).symm).trans ?_
  refine sT_at m c _ _ _ _ ?_
  show _ = 256 * min ((1024 * (j 0).val + (j 1).val) / 256) 7 + (1024 * (j 0).val + (j 1).val) % 256
  simp only
  omega
end

/-- What a run leaves in the two results. -/
theorem results {r : PUnit × MemSt nD τ sig (Elt Ideal)} (h : RDat.FramePost (cfgs 0) (rdat m) (V m) r) (c : Dev nD) :
    r.2.mem ((c.tc : Thread nD τ).loc main_v1_0) = (fun y : S2048x5120.Idx => Spec.xCode (rows m c) (y 0) (y 1))
      ∧ r.2.mem ((c.tc : Thread nD τ).loc main_v1_2) =
        (fun y : S2x1024.Idx => (Spec.xScale (rows m c ⟨1024 * (y 0).val + (y 1).val, row_lt y⟩) : EReal)) := by
  obtain ⟨after, hL, hA⟩ := h.exists_exact c
  refine ⟨(hA 2).trans (arr_2 m c _ fun t hf => ?_), (hA 4).trans (arr_4 m c _ ?_)⟩
  · obtain ⟨Y, _, hY⟩ := hL 2 t hf
    exact (after_2 m c t Y _).1 hY
  · exact leaves_4 m c 7 (by rw [show cfg0.N = 8 from N_0]; omega) _ (hL 4 (pt 7) ((flush0_4 _).2 rfl))

end Cert.QuantIdeal.Hand

end
-- ==== Proof.QRefI.lean ====
module

public import proofs.«01_k».proof.Proof.Gen.QuantReferenceIdeal.Frame
public import proofs.«01_k».proof.Proof.Gen.QuantReferenceIdeal.Skeleton
public import proofs.«01_k».proof.Proof.Gen.QuantReferenceIdeal.Points
public import Idealize.ShloMosaic.Lib.Pipeline.Frame
public import Idealize.ShloMosaic.Lib.Pipeline.FrameBody
public import Idealize.ShloMosaic.Lib.Pipeline.ValueKit
public import Idealize.ShloMosaic.Lib.Claim
public import Idealize.ShloMosaic.Lib.Tactic
public import Idealize.ShloMosaic.Lib.Pointwise
public import proofs.«01_k».proof.Proof.QSpec

/-!
  What the reference of the input quantiser computes, index by index, and the arrays it leaves.
-/

@[expose] public section

set_option maxRecDepth 16384

noncomputable section

namespace Cert.QuantReferenceIdeal.Hand

open Cert.QuantReferenceIdeal Cert.QuantReferenceIdeal.Gen
open Idealize.ShloMosaic Idealize.ShloMosaic.TcCoe Idealize.ShloMosaic.Tactic
open Idealize.ShloMosaic.Pipeline (Cfg Dat)
open Idealize.SL Idealize.SL.RA Idealize.SL.BI
open scoped Idealize.SL.BI
open Idealize.SL.BI.BIBase Idealize.SL.BI.Laws Idealize.SL.ProofMode Idealize.SL.Sem

/-- The scales of the rows whose largest magnitudes are `M`. -/
def scaleOf (M : FVec Ideal S2x1024 .f32) : FVec Ideal S2x1024 .f32 :=
  select (cmpf .oeq M (broadcast S2x1024 (Scalar.ofBits .f32 0x00000000#32))) (broadcast S2x1024 (Scalar.ofBits .f32 0x3F800000#32))
    (divf M (broadcast S2x1024 (Scalar.ofBits .f32 0x42FE0000#32)))
theorem pay2_fold (x : Vec Ideal S2x1024x5120 .bf16) : k0_pay2 x =
    scaleOf (multiReduction .maximumf [2] S2x1024 (absf (k0_pay1 x)) 0xFF800000#32 reduces_S2x1024x5120_S2x1024 (.inl rfl) rfl) := rfl
theorem scaleOf_eq (M : FVec Ideal S2x1024 .f32) (b : Fin 2) (s : Fin 1024) : scaleOf M (ix2 b s) = Spec.scl (M (ix2 b s)) := by
  pointwise [scaleOf]
  rfl
theorem red_eq (y : FVec Ideal S2x1024x5120 .f32) (b : Fin 2) (s : Fin 1024) :
    multiReduction (F := Ideal) .maximumf [2] S2x1024 y 0xFF800000#32 reduces_S2x1024x5120_S2x1024 (.inl rfl) rfl (ix2 b s) =
      Finset.fold max (Ideal.ofBits .f32 0xFF800000#32) (fun k => y (ix3 b s k)) Finset.univ := by
  pointwise
/-- The scales of the rows. -/
theorem pay2_eq (x : Vec Ideal S2x1024x5120 .bf16) (b : Fin 2) (s : Fin 1024) :
    k0_pay2 x (ix2 b s) = Spec.xScale fun k => x (ix3 b s k) := by
  rw [pay2_fold, scaleOf_eq, red_eq]
  rfl

/-- The codes of the rows `x` whose scales are `M`. -/
def codesOf (x : FVec Ideal S2x1024x5120 .f32) (M : FVec Ideal S2x1024 .f32) : IVec S2x1024x5120 8 :=
  fptosi 8 (minimumf (broadcast S2x1024x5120 (Scalar.sitofp .f32 127#32)) (maximumf (broadcast S2x1024x5120 (Scalar.sitofp .f32 4294967169#32))
    (roundeven (divf x (broadcastTo S2x1024x5120 (shapeCast S2x1024x1 M shapeCasts_S2x1024_S2x1024x1) broadcasts_S2x1024x1_S2x1024x5120)))))
theorem pay3_fold (x : Vec Ideal S2x1024x5120 .bf16) :
    k0_pay3 x = shapeCast S2048x5120 (codesOf (k0_pay1 x) (k0_pay2 x)) shapeCasts_S2x1024x5120_S2048x5120 := rfl
theorem codesOf_eq (x : FVec Ideal S2x1024x5120 .f32) (M : FVec Ideal S2x1024 .f32) (b : Fin 2) (s : Fin 1024) (j : Fin 5120) :
    codesOf x M (ix3 b s j) = Spec.code (x (ix3 b s j)) (M (ix2 b s)) := by
  pointwise [codesOf]
  rfl

/-- Row `g` of the 2048 rows: its batch and its position. -/
abbrev rb (g : Fin 2048) : Fin 2 := ⟨g.val / 1024, by omega⟩
abbrev rs (g : Fin 2048) : Fin 1024 := ⟨g.val % 1024, by omega⟩

theorem cast_at (q : IVec S2x1024x5120 8) (g : Fin 2048) (j : Fin 5120) :
    shapeCast S2048x5120 q shapeCasts_S2x1024x5120_S2048x5120 (ix2 g j) = q (ix3 (rb g) (rs g) j) := by
  pointwise
/-- The codes, row by row. -/
theorem pay3_eq (x : Vec Ideal S2x1024x5120 .bf16) (g : Fin 2048) (j : Fin 5120) :
    k0_pay3 x (ix2 g j) = Spec.code (x (ix3 (rb g) (rs g) j)) (Spec.xScale fun k => x (ix3 (rb g) (rs g) k)) := by
  rw [pay3_fold, cast_at, codesOf_eq, pay2_eq]
  rfl

theorem row_lt (y : S2x1024.Idx) : 1024 * (y 0).val + (y 1).val < 2048 := by
  have h0 : (y 0).val < 2 := (y 0).isLt
  have h1 : (y 1).val < 1024 := (y 1).isLt
  omega

variable (m : (ℓ : Loc nD τ sig) → Buf (Elt Ideal) ℓ) (ρ : Dev nD → PrngReg)

/-- The rows of core `c`. -/
def rows (c : Dev nD) (g : Fin 2048) (k : Fin 5120) : EReal :=
  (m ((c.tc : Thread nD τ).loc main_arg0) : S2x1024x5120.Idx → EReal) (ix3 (rb g) (rs g) k)

theorem entry_0 (c : Dev nD) : V m c main_arg0 = m ((c.tc : Thread nD τ).loc main_arg0) := by
  entry_read
  rfl
theorem idx : ∀ t : Fin cfg0.N, win0_0.index t = ![0, 0, 0] := (by decide +kernel : ∀ t : Fin grid0.N, _)
theorem blk0 (c : Dev nD) (t : Fin cfg0.N) (y : S2x1024x5120.Idx) : (iblk m c 0 t : S2x1024x5120.Idx → EReal) y = (V m c main_arg0 : S2x1024x5120.Idx → EReal) y := by
  blk_ext [iblk, idx t]
theorem rd0 (c : Dev nD) (t : Fin cfg0.N) (g : Fin 2048) (k : Fin 5120) :
    (iblk m c 0 t : S2x1024x5120.Idx → EReal) (ix3 (rb g) (rs g) k) = rows m c g k := by rw [blk0, entry_0]; rfl
theorem rd0' (c : Dev nD) (t : Fin cfg0.N) (b : Fin 2) (s : Fin 1024) (k : Fin 5120) :
    (iblk m c 0 t : S2x1024x5120.Idx → EReal) (ix3 b s k) = rows m c ⟨1024 * b.val + s.val, by omega⟩ k := by
  rw [← rd0 m c t]
  congr 2 <;> apply Fin.ext <;> simp only <;> omega
theorem point_1 (c : Dev nD) (t : Fin cfg0.N) (g : Fin 2048) (j : Fin 5120) :
    k0_pay3 (iblk m c 0 t) (ix2 g j) = Spec.xCode (rows m c) g j := by
  rw [pay3_eq]
  simp only [rd0]
  rfl
theorem point_2 (c : Dev nD) (t : Fin cfg0.N) (b : Fin 2) (s : Fin 1024) :
    k0_pay2 (iblk m c 0 t) (ix2 b s) = Spec.xScale (rows m c ⟨1024 * b.val + s.val, by omega⟩) := by
  rw [pay2_eq]
  simp only [rd0']

/-- The codes the reference leaves. -/
theorem final_1 (c : Dev nD) : (dats m 0 c).arrAt 1 cfg0.N = fun y : S2048x5120.Idx => Spec.xCode (rows m c) (y 0) (y 1) := by
  refine (dats m 0 c).arrAt_eq_of_after_last 1 t0_0 (by decide +kernel) _ fun j => ?_
  blk_simp
  rw [after0_1]
  frame_out
  exact (congrArg _ (eq_ix2 j)).trans (point_1 m c t0_0 (j 0) (j 1))
/-- The scales the reference leaves. -/
theorem final_2 (c : Dev nD) : (dats m 0 c).arrAt 2 cfg0.N =
    fun y : S2x1024.Idx => (Spec.xScale (rows m c ⟨1024 * (y 0).val + (y 1).val, row_lt y⟩) : EReal) := by
  refine (dats m 0 c).arrAt_eq_of_after_last 2 t0_0 (by decide +kernel) _ fun j => ?_
  blk_simp
  rw [after0_2]
  frame_out
  exact (congrArg _ (eq_ix2 j)).trans (point_2 m c t0_0 (j 0) (j 1))

end Cert.QuantReferenceIdeal.Hand

end
-- ==== Proof.lean ====
module

public import proofs.«01_k».proof.Defs
public import proofs.«01_k».proof.Proof.FrameK
public import proofs.«01_k».proof.Proof.WinI
public import proofs.«01_k».proof.Proof.RefI
public import proofs.«01_k».proof.Proof.LFrameK
public import proofs.«01_k».proof.Proof.LWinI
public import proofs.«01_k».proof.Proof.LRefI
public import proofs.«01_k».proof.Proof.QFrameK
public import proofs.«01_k».proof.Proof.QWinI
public import proofs.«01_k».proof.Proof.QRefI
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantReferenceIdeal
public import proofs.«01_k».proof.Proof.Gen.QuantReferenceIdeal.Skeleton
public import proofs.«01_k».proof.Proof.Gen.QuantReferenceIdeal.Launch
public import proofs.«01_k».proof.Proof.Gen.QuantReferenceIdeal.Points
public import proofs.«01_k».proof.Proof.Gen.QuantReferenceIdeal.Frame
public import proofs.«01_k».proof.Proof.Gen.Lru
public import proofs.«01_k».proof.Proof.Gen.Lru.Skeleton
public import proofs.«01_k».proof.Proof.Gen.Lru.Launch
public import proofs.«01_k».proof.Proof.Gen.Lru.Points
public import proofs.«01_k».proof.Proof.Gen.Lru.Frame
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Frame
public import proofs.«01_k».proof.Proof.Gen.LruReferenceIdeal
public import proofs.«01_k».proof.Proof.Gen.LruReferenceIdeal.Skeleton
public import proofs.«01_k».proof.Proof.Gen.LruReferenceIdeal.Launch
public import proofs.«01_k».proof.Proof.Gen.LruReferenceIdeal.Points
public import proofs.«01_k».proof.Proof.Gen.LruReferenceIdeal.Frame
public import Idealize.ShloMosaic.Adequacy
public import Idealize.ShloMosaic.Init
public import Idealize.ShloMosaic.Lib.Claim

@[expose] public section

noncomputable section

namespace Cert.Proof

open Idealize.ShloMosaic Idealize.SL.Sem

/-- The printed kernel runs, leaves its arguments and every counter at zero. -/
theorem quiet_K : quiescent_Kernel (hKernel := Cert.Kernel.Gen.facts) := fun m ρ _ =>
  (θ_run _ _ _).mono (fun _ h => ⟨fun c => Cert.Kernel.Hand.args_kept m h.1 c, h.2⟩) (Cert.Kernel.Hand.run_main m ρ)

/-- So does the kernel at the ideal reading. -/
theorem quiet_I : quiescent_KernelIdeal (hKernelIdeal := Cert.KernelIdeal.Gen.facts) := fun m ρ _ =>
  (θ_run _ _ _).mono (fun _ h => ⟨fun c => Cert.KernelIdeal.Hand.args_kept m h.1 c, h.2⟩) (Cert.KernelIdeal.Hand.run_main m ρ)

/-- And the reference. -/
theorem quiet_R : quiescent_ReferenceIdeal (hReferenceIdeal := Cert.ReferenceIdeal.Gen.facts) := fun m ρ _ =>
  Cert.ReferenceIdeal.Gen.frame m ρ

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The three results, as functions of the kernel's memory at the start. -/
def v0 (c : Dev Cert.KernelIdeal.nD) : Buf (Elt Ideal) ((c.tc : Thread Cert.KernelIdeal.nD Cert.KernelIdeal.τ).loc Cert.KernelIdeal.main_v6_0) :=
  fun y : Cert.KernelIdeal.S2048x5120.Idx => (Spec.outA (Cert.KernelIdeal.Hand.rows m c) (Cert.KernelIdeal.Hand.wts m c)
    (Cert.KernelIdeal.Hand.cscale m c) (Cert.KernelIdeal.Hand.cbias m c) (y 0) (y 1) : EReal)
def v1 (c : Dev Cert.KernelIdeal.nD) : Buf (Elt Ideal) ((c.tc : Thread Cert.KernelIdeal.nD Cert.KernelIdeal.τ).loc Cert.KernelIdeal.main_v6_1) :=
  fun y : Cert.KernelIdeal.S2048x6912.Idx => Spec.codesA (Cert.KernelIdeal.Hand.rows m c) (y 0) (y 1)
def v2 (c : Dev Cert.KernelIdeal.nD) : Buf (Elt Ideal) ((c.tc : Thread Cert.KernelIdeal.nD Cert.KernelIdeal.τ).loc Cert.KernelIdeal.main_v6_2) :=
  fun y : Cert.KernelIdeal.S2x1024.Idx => (Spec.rowScale (Cert.KernelIdeal.Hand.rows m c
    ⟨1024 * (y 0).val + (y 1).val, Cert.KernelIdeal.Hand.row_lt y⟩) : EReal)

theorem rows_eq (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Hand.rows m' c = Cert.KernelIdeal.Hand.rows m c := by
  funext g k
  exact congrFun h _
theorem wts_eq (c : Dev Cert.KernelIdeal.nD)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Hand.wts m' c = Cert.KernelIdeal.Hand.wts m c := by
  funext k j
  exact congrFun h _
theorem cscale_eq (c : Dev Cert.KernelIdeal.nD)
    (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Hand.cscale m' c = Cert.KernelIdeal.Hand.cscale m c := by
  funext j
  exact congrFun h _
theorem cbias_eq (c : Dev Cert.KernelIdeal.nD)
    (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Hand.cbias m' c = Cert.KernelIdeal.Hand.cbias m c := by
  funext j
  exact congrFun h _
end

/-- From equal arguments the kernel and the reference, at the ideal reading, end with equal results. -/
theorem equal : algebraic_KernelIdeal_ReferenceIdeal (hKernelIdeal := Cert.KernelIdeal.Gen.facts) (hReferenceIdeal := Cert.ReferenceIdeal.Gen.facts) := by
  intro m ρ m' ρ' _ hag
  refine ⟨v0 m, v1 m, v2 m, ?_, ?_⟩
  · refine (θ_run _ _ _).mono (fun r h c => ?_) (Cert.KernelIdeal.Hand.run_main m ρ)
    obtain ⟨e0, e1, e2⟩ := Cert.KernelIdeal.Hand.results m h.1 c
    exact ⟨e0, e1, e2, Cert.KernelIdeal.Hand.args_kept m h.1 c⟩
  · refine (θ_run _ _ _).mono (fun r h c => ?_) (θ_run_and (Cert.ReferenceIdeal.Gen.run_main m' ρ') (Cert.ReferenceIdeal.Gen.unchanged m' ρ'))
    obtain ⟨a0, a1, a2, a3, -⟩ := hag c
    have er := rows_eq m m' c a0
    have ew := wts_eq m m' c a1
    have es := cscale_eq m m' c a2
    have eb := cbias_eq m m' c a3
    refine ⟨((h.1 c).1 4).trans ((Cert.ReferenceIdeal.Hand.final_4 m' c).trans ?_), ((h.1 c).1 5).trans ((Cert.ReferenceIdeal.Hand.final_5 m' c).trans ?_),
      ((h.1 c).1 6).trans ((Cert.ReferenceIdeal.Hand.final_6 m' c).trans ?_), h.2 c⟩
    · rw [er, ew, es, eb]; rfl
    · rw [er]; rfl
    · rw [er]; rfl

/-! ## The gated recurrence -/

/-- The printed kernel runs, leaves its arguments and every counter at zero. -/
theorem quiet_LK : quiescent_Lru (hLru := Cert.Lru.Gen.facts) := fun m ρ _ =>
  (θ_run _ _ _).mono (fun _ h => ⟨fun c => Cert.Lru.Hand.args_kept m h.1 c, h.2⟩) (Cert.Lru.Hand.run_main m ρ)

/-- So does the kernel at the ideal reading. -/
theorem quiet_LI : quiescent_LruIdeal (hLruIdeal := Cert.LruIdeal.Gen.facts) := fun m ρ _ =>
  (θ_run _ _ _).mono (fun _ h => ⟨fun c => Cert.LruIdeal.Hand.args_kept m h.1 c, h.2⟩) (Cert.LruIdeal.Hand.run_main m ρ)

/-- And the reference. -/
theorem quiet_LR : quiescent_LruReferenceIdeal (hLruReferenceIdeal := Cert.LruReferenceIdeal.Gen.facts) := fun m ρ _ =>
  Cert.LruReferenceIdeal.Gen.frame m ρ

section
variable (m : (ℓ : Loc Cert.LruIdeal.nD Cert.LruIdeal.τ Cert.LruIdeal.sig) → Buf (Elt Ideal) ℓ)
variable (m' : (ℓ : Loc Cert.LruReferenceIdeal.nD Cert.LruReferenceIdeal.τ Cert.LruReferenceIdeal.sig) → Buf (Elt Ideal) ℓ)

/-- The five results, as functions of the kernel's memory at the start. -/
def w0 (c : Dev Cert.LruIdeal.nD) : Buf (Elt Ideal) ((c.tc : Thread Cert.LruIdeal.nD Cert.LruIdeal.τ).loc Cert.LruIdeal.main_v14_0) :=
  fun y : Cert.LruIdeal.S2048x6912.Idx => (Cert.LruIdeal.Hand.conv m c (y 0) (y 1) : EReal)
def w1 (c : Dev Cert.LruIdeal.nD) : Buf (Elt Ideal) ((c.tc : Thread Cert.LruIdeal.nD Cert.LruIdeal.τ).loc Cert.LruIdeal.main_v14_5) :=
  fun y : Cert.LruIdeal.S2x3x6912.Idx => (Cert.LruIdeal.Hand.branch m c ⟨(y 0).val * 1024 + (1021 + (y 1).val), Cert.LruIdeal.Hand.st_lt y⟩ (y 2) : EReal)
def w2 (c : Dev Cert.LruIdeal.nD) : Buf (Elt Ideal) ((c.tc : Thread Cert.LruIdeal.nD Cert.LruIdeal.τ).loc Cert.LruIdeal.main_v14_3) :=
  fun y : Cert.LruIdeal.S2048x6912.Idx => LruSpec.codeA (Cert.LruIdeal.Hand.conv m c) (y 0) (y 1)
def w3 (c : Dev Cert.LruIdeal.nD) : Buf (Elt Ideal) ((c.tc : Thread Cert.LruIdeal.nD Cert.LruIdeal.τ).loc Cert.LruIdeal.main_v14_4) :=
  fun y : Cert.LruIdeal.S2048x18.Idx => (LruSpec.scA (Cert.LruIdeal.Hand.conv m c) (y 0) (y 1) : EReal)

def w4 (c : Dev Cert.LruIdeal.nD) : Buf (Elt Ideal) ((c.tc : Thread Cert.LruIdeal.nD Cert.LruIdeal.τ).loc Cert.LruIdeal.main_v14_1) :=
  fun y : Cert.LruIdeal.S2048x6912.Idx => (LruSpec.laA (Cert.LruIdeal.Hand.conv m c) (Cert.LruIdeal.Hand.gate m c) (Cert.LruIdeal.Hand.gscale m c)
    (Cert.LruIdeal.Hand.gbias m c) (Cert.LruIdeal.Hand.decay m c) (y 0) (y 1) : EReal)

/-- Equal arguments: an equal branch and an equal convolution. -/
theorem branch_eq (c : Dev Cert.LruIdeal.nD)
    (h0 : m' ((c.tc : Thread Cert.LruReferenceIdeal.nD Cert.LruReferenceIdeal.τ).loc Cert.LruReferenceIdeal.main_arg0) = m ((c.tc : Thread Cert.LruIdeal.nD Cert.LruIdeal.τ).loc Cert.LruIdeal.main_arg0))
    (h1 : m' ((c.tc : Thread Cert.LruReferenceIdeal.nD Cert.LruReferenceIdeal.τ).loc Cert.LruReferenceIdeal.main_arg1) = m ((c.tc : Thread Cert.LruIdeal.nD Cert.LruIdeal.τ).loc Cert.LruIdeal.main_arg1))
    (h4 : m' ((c.tc : Thread Cert.LruReferenceIdeal.nD Cert.LruReferenceIdeal.τ).loc Cert.LruReferenceIdeal.main_arg4) = m ((c.tc : Thread Cert.LruIdeal.nD Cert.LruIdeal.τ).loc Cert.LruIdeal.main_arg4))
    (h6 : m' ((c.tc : Thread Cert.LruReferenceIdeal.nD Cert.LruReferenceIdeal.τ).loc Cert.LruReferenceIdeal.main_arg6) = m ((c.tc : Thread Cert.LruIdeal.nD Cert.LruIdeal.τ).loc Cert.LruIdeal.main_arg6))
    (h8 : m' ((c.tc : Thread Cert.LruReferenceIdeal.nD Cert.LruReferenceIdeal.τ).loc Cert.LruReferenceIdeal.main_arg8) = m ((c.tc : Thread Cert.LruIdeal.nD Cert.LruIdeal.τ).loc Cert.LruIdeal.main_arg8)) :
    Cert.LruReferenceIdeal.Hand.branch m' c = Cert.LruIdeal.Hand.branch m c := by
  have e0 : Cert.LruReferenceIdeal.Hand.rows m' c = Cert.LruIdeal.Hand.rows m c := by funext g k; exact congrFun h0 _
  have e1 : Cert.LruReferenceIdeal.Hand.rscale m' c = Cert.LruIdeal.Hand.rscale m c := by funext g; exact congrFun h1 _
  have e4 : Cert.LruReferenceIdeal.Hand.wts m' c = Cert.LruIdeal.Hand.wts m c := by funext k j; exact congrFun h4 _
  have e6 : Cert.LruReferenceIdeal.Hand.cscale m' c = Cert.LruIdeal.Hand.cscale m c := by funext j; exact congrFun h6 _
  have e8 : Cert.LruReferenceIdeal.Hand.cbias m' c = Cert.LruIdeal.Hand.cbias m c := by funext j; exact congrFun h8 _
  unfold Cert.LruReferenceIdeal.Hand.branch
  rw [e0, e1, e4, e6, e8]
  rfl
theorem conv_eq (c : Dev Cert.LruIdeal.nD) (hb : Cert.LruReferenceIdeal.Hand.branch m' c = Cert.LruIdeal.Hand.branch m c)
    (h2 : m' ((c.tc : Thread Cert.LruReferenceIdeal.nD Cert.LruReferenceIdeal.τ).loc Cert.LruReferenceIdeal.main_arg2) = m ((c.tc : Thread Cert.LruIdeal.nD Cert.LruIdeal.τ).loc Cert.LruIdeal.main_arg2))
    (h9 : m' ((c.tc : Thread Cert.LruReferenceIdeal.nD Cert.LruReferenceIdeal.τ).loc Cert.LruReferenceIdeal.main_arg9) = m ((c.tc : Thread Cert.LruIdeal.nD Cert.LruIdeal.τ).loc Cert.LruIdeal.main_arg9))
    (h10 : m' ((c.tc : Thread Cert.LruReferenceIdeal.nD Cert.LruReferenceIdeal.τ).loc Cert.LruReferenceIdeal.main_arg10) = m ((c.tc : Thread Cert.LruIdeal.nD Cert.LruIdeal.τ).loc Cert.LruIdeal.main_arg10)) :
    Cert.LruReferenceIdeal.Hand.conv m' c = Cert.LruIdeal.Hand.conv m c := by
  have e2 : Cert.LruReferenceIdeal.Hand.rpos m' c = Cert.LruIdeal.Hand.rpos m c := by funext g; exact congrFun h2 _
  have e9 : Cert.LruReferenceIdeal.Hand.taps m' c = Cert.LruIdeal.Hand.taps m c := by funext i j; exact congrFun h9 _
  have e10 : Cert.LruReferenceIdeal.Hand.tbias m' c = Cert.LruIdeal.Hand.tbias m c := by funext j; exact congrFun h10 _
  unfold Cert.LruReferenceIdeal.Hand.conv
  rw [hb, e2, e9, e10]
  rfl
end

/-- From equal arguments the kernel and the reference, at the ideal reading, end with equal results. -/
theorem equal_lru : algebraic_LruIdeal_LruReferenceIdeal (hLruIdeal := Cert.LruIdeal.Gen.facts) (hLruReferenceIdeal := Cert.LruReferenceIdeal.Gen.facts) := by
  intro m ρ m' ρ' _ hag
  refine ⟨w0 m, w1 m, w2 m, w3 m, w4 m, ?_, ?_⟩
  · refine (θ_run _ _ _).mono (fun r h c => ?_) (Cert.LruIdeal.Hand.run_main m ρ)
    obtain ⟨e0, e1, e2, e3, e4⟩ := Cert.LruIdeal.Hand.results m h.1 c
    exact ⟨e0, e1, e2, e3, e4, Cert.LruIdeal.Hand.args_kept m h.1 c⟩
  · refine (θ_run _ _ _).mono (fun r h c => ?_) (θ_run_and (Cert.LruReferenceIdeal.Gen.run_main m' ρ') (Cert.LruReferenceIdeal.Gen.unchanged m' ρ'))
    obtain ⟨a0, a1, a2, -, a4, -, a6, -, a8, a9, a10, a11, -, a13, -, a15, -, a17⟩ := hag c
    have eb := branch_eq m m' c a0 a1 a4 a6 a8
    have ec := conv_eq m m' c eb a2 a9 a10
    have eg : Cert.LruReferenceIdeal.Hand.gate m' c = Cert.LruIdeal.Hand.gate m c := by funext h k o; exact congrFun a11 _
    have es : Cert.LruReferenceIdeal.Hand.gscale m' c = Cert.LruIdeal.Hand.gscale m c := by funext j; exact congrFun a13 _
    have ei : Cert.LruReferenceIdeal.Hand.gbias m' c = Cert.LruIdeal.Hand.gbias m c := by funext j; exact congrFun a15 _
    have ed : Cert.LruReferenceIdeal.Hand.decay m' c = Cert.LruIdeal.Hand.decay m c := by funext j; exact congrFun a17 _
    refine ⟨((h.1 c).1 12).trans ((Cert.LruReferenceIdeal.Hand.final_12 m' c).trans ?_), ((h.1 c).1 13).trans ((Cert.LruReferenceIdeal.Hand.final_13 m' c).trans ?_),
      ((h.1 c).1 14).trans ((Cert.LruReferenceIdeal.Hand.final_14 m' c).trans ?_), ((h.1 c).1 15).trans ((Cert.LruReferenceIdeal.Hand.final_15 m' c).trans ?_),
      ((h.1 c).1 16).trans ((Cert.LruReferenceIdeal.Hand.final_16 m' c).trans ?_), h.2 c⟩
    · rw [ec]; rfl
    · rw [eb]; rfl
    · rw [ec]; rfl
    · rw [ec]; rfl
    · rw [ec, eg, es, ei, ed]; rfl

/-! ## The input quantiser -/

/-- The printed kernel runs, leaves its arguments and every counter at zero. -/
theorem quiet_QK : quiescent_Quant (hQuant := Cert.Quant.Gen.facts) := fun m ρ _ =>
  (θ_run _ _ _).mono (fun _ h => ⟨fun c => Cert.Quant.Hand.args_kept m h.1 c, h.2⟩) (Cert.Quant.Hand.run_main m ρ)

/-- So does the kernel at the ideal reading. -/
theorem quiet_QI : quiescent_QuantIdeal (hQuantIdeal := Cert.QuantIdeal.Gen.facts) := fun m ρ _ =>
  (θ_run _ _ _).mono (fun _ h => ⟨fun c => Cert.QuantIdeal.Hand.args_kept m h.1 c, h.2⟩) (Cert.QuantIdeal.Hand.run_main m ρ)

/-- And the reference. -/
theorem quiet_QR : quiescent_QuantReferenceIdeal (hQuantReferenceIdeal := Cert.QuantReferenceIdeal.Gen.facts) := fun m ρ _ =>
  Cert.QuantReferenceIdeal.Gen.frame m ρ

section
variable (m : (ℓ : Loc Cert.QuantIdeal.nD Cert.QuantIdeal.τ Cert.QuantIdeal.sig) → Buf (Elt Ideal) ℓ)

/-- The two results, as functions of the kernel's memory at the start. -/
def x0 (c : Dev Cert.QuantIdeal.nD) : Buf (Elt Ideal) ((c.tc : Thread Cert.QuantIdeal.nD Cert.QuantIdeal.τ).loc Cert.QuantIdeal.main_v1_0) :=
  fun y : Cert.QuantIdeal.S2048x5120.Idx => Spec.xCode (Cert.QuantIdeal.Hand.rows m c) (y 0) (y 1)
def x1 (c : Dev Cert.QuantIdeal.nD) : Buf (Elt Ideal) ((c.tc : Thread Cert.QuantIdeal.nD Cert.QuantIdeal.τ).loc Cert.QuantIdeal.main_v1_2) :=
  fun y : Cert.QuantIdeal.S2x1024.Idx => (Spec.xScale (Cert.QuantIdeal.Hand.rows m c
    ⟨1024 * (y 0).val + (y 1).val, Cert.QuantIdeal.Hand.row_lt y⟩) : EReal)
end

/-- From equal arguments the kernel and the reference, at the ideal reading, end with equal results. -/
theorem equal_quant : algebraic_QuantIdeal_QuantReferenceIdeal (hQuantIdeal := Cert.QuantIdeal.Gen.facts) (hQuantReferenceIdeal := Cert.QuantReferenceIdeal.Gen.facts) := by
  intro m ρ m' ρ' _ hag
  refine ⟨x0 m, x1 m, ?_, ?_⟩
  · refine (θ_run _ _ _).mono (fun r h c => ?_) (Cert.QuantIdeal.Hand.run_main m ρ)
    obtain ⟨e0, e1⟩ := Cert.QuantIdeal.Hand.results m h.1 c
    exact ⟨e0, e1, Cert.QuantIdeal.Hand.args_kept m h.1 c⟩
  · refine (θ_run _ _ _).mono (fun r h c => ?_) (θ_run_and (Cert.QuantReferenceIdeal.Gen.run_main m' ρ') (Cert.QuantReferenceIdeal.Gen.unchanged m' ρ'))
    obtain ⟨a0, -⟩ := hag c
    have er : Cert.QuantReferenceIdeal.Hand.rows m' c = Cert.QuantIdeal.Hand.rows m c := by funext g k; exact congrFun a0 _
    refine ⟨((h.1 c).1 1).trans ((Cert.QuantReferenceIdeal.Hand.final_1 m' c).trans ?_),
      ((h.1 c).1 2).trans ((Cert.QuantReferenceIdeal.Hand.final_2 m' c).trans ?_), h.2 c⟩
    · rw [er]; rfl
    · rw [er]; rfl

theorem claim : Cert.Claim :=
  ⟨Cert.Kernel.Gen.facts, Cert.KernelIdeal.Gen.facts, Cert.ReferenceIdeal.Gen.facts, Cert.Lru.Gen.facts, Cert.LruIdeal.Gen.facts,
    Cert.LruReferenceIdeal.Gen.facts, Cert.Quant.Gen.facts, Cert.QuantIdeal.Gen.facts, Cert.QuantReferenceIdeal.Gen.facts,
    quiet_K, quiet_I, quiet_R, quiet_LK, quiet_LI, quiet_LR, quiet_QK, quiet_QI, quiet_QR,
    trivial, equal, trivial, equal_lru, trivial, equal_quant⟩

end Cert.Proof

end
